-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutReferenceIdeal (m : (ℓ : Loc Cert.MixoutReferenceIdeal.nD Cert.MixoutReferenceIdeal.τ Cert.MixoutReferenceIdeal.sig) → Buf (Elt Ideal) ℓ) : Prop :=
  True

def Pre_Peerq (m : (ℓ : Loc Cert.Peerq.nD Cert.Peerq.τ Cert.Peerq.sig) → Buf (Elt Bits) ℓ) : Prop :=
  True

def Pre_PeerqIdeal (m : (ℓ : Loc Cert.PeerqIdeal.nD Cert.PeerqIdeal.τ Cert.PeerqIdeal.sig) → Buf (Elt Ideal) ℓ) : Prop :=
  True

def Pre_PeerqReferenceIdeal (m : (ℓ : Loc Cert.PeerqReferenceIdeal.nD Cert.PeerqReferenceIdeal.τ Cert.PeerqReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Dsa (m : (ℓ : Loc Cert.Dsa.nD Cert.Dsa.τ Cert.Dsa.sig) → Buf (Elt Bits) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_scores_above [hPre_scores_above : Cert.Pre_scores_above.Facts] (m : (ℓ : Loc Cert.RouteIdeal.nD Cert.RouteIdeal.τ Cert.RouteIdeal.sig) → Buf (Elt Ideal) ℓ) : Prop :=
  ∀ c : Dev Cert.RouteIdeal.nD,
    (Cert.Pre_scores_above.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1))) = (fun _ => 1#1)

def Pre_RouteReferenceIdeal (m : (ℓ : Loc Cert.RouteReferenceIdeal.nD Cert.RouteReferenceIdeal.τ Cert.RouteReferenceIdeal.sig) → Buf (Elt Ideal) ℓ) : Prop :=
  True

def Pre_RouteReferenceIdeal_scores_above [hPre_scores_above : Cert.Pre_scores_above.Facts] (m : (ℓ : Loc Cert.RouteReferenceIdeal.nD Cert.RouteReferenceIdeal.τ Cert.RouteReferenceIdeal.sig) → Buf (Elt Ideal) ℓ) : Prop :=
  ∀ c : Dev Cert.RouteReferenceIdeal.nD,
    (Cert.Pre_scores_above.fn (F := Ideal) (m ((c.tc : Thread Cert.RouteReferenceIdeal.nD Cert.RouteReferenceIdeal.τ).loc Cert.RouteReferenceIdeal.main_arg0)) (m ((c.tc : Thread Cert.RouteReferenceIdeal.nD Cert.RouteReferenceIdeal.τ).loc Cert.RouteReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4))
      ∧ r.2.sem = fun _ => 0)

def quiescent_MixoutReferenceIdeal [hMixoutReferenceIdeal : Cert.MixoutReferenceIdeal.Facts] : Prop :=
  ∀ (m : (ℓ : Loc Cert.MixoutReferenceIdeal.nD Cert.MixoutReferenceIdeal.τ Cert.MixoutReferenceIdeal.sig) → Buf (Elt Ideal) ℓ) (g : Dev Cert.MixoutReferenceIdeal.nD → PrngReg), Pre_MixoutReferenceIdeal m →
    θ_run (Cert.MixoutReferenceIdeal.defs (F := Ideal)) (onTc (τ := Cert.MixoutReferenceIdeal.τ) (Cert.MixoutReferenceIdeal.main (F := Ideal))) ⟨m, fun _ => 0, g⟩ (fun r => (∀ c : Dev Cert.MixoutReferenceIdeal.nD,
      r.2.mem ((c.tc : Thread Cert.MixoutReferenceIdeal.nD Cert.MixoutReferenceIdeal.τ).loc Cert.MixoutReferenceIdeal.main_arg0) = m ((c.tc : Thread Cert.MixoutReferenceIdeal.nD Cert.MixoutReferenceIdeal.τ).loc Cert.MixoutReferenceIdeal.main_arg0)
      ∧ r.2.mem ((c.tc : Thread Cert.MixoutReferenceIdeal.nD Cert.MixoutReferenceIdeal.τ).loc Cert.MixoutReferenceIdeal.main_arg1) = m ((c.tc : Thread Cert.MixoutReferenceIdeal.nD Cert.MixoutReferenceIdeal.τ).loc Cert.MixoutReferenceIdeal.main_arg1)
      ∧ r.2.mem ((c.tc : Thread Cert.MixoutReferenceIdeal.nD Cert.MixoutReferenceIdeal.τ).loc Cert.MixoutReferenceIdeal.main_arg2) = m ((c.tc : Thread Cert.MixoutReferenceIdeal.nD Cert.MixoutReferenceIdeal.τ).loc Cert.MixoutReferenceIdeal.main_arg2)
      ∧ r.2.mem ((c.tc : Thread Cert.MixoutReferenceIdeal.nD Cert.MixoutReferenceIdeal.τ).loc Cert.MixoutReferenceIdeal.main_arg3) = m ((c.tc : Thread Cert.MixoutReferenceIdeal.nD Cert.MixoutReferenceIdeal.τ).loc Cert.MixoutReferenceIdeal.main_arg3)
      ∧ r.2.mem ((c.tc : Thread Cert.MixoutReferenceIdeal.nD Cert.MixoutReferenceIdeal.τ).loc Cert.MixoutReferenceIdeal.main_arg4) = m ((c.tc : Thread Cert.MixoutReferenceIdeal.nD Cert.MixoutReferenceIdeal.τ).loc Cert.MixoutReferenceIdeal.main_arg4))
      ∧ r.2.sem = fun _ => 0)

def quiescent_Peerq [hPeerq : Cert.Peerq.Facts] : Prop :=
  ∀ (m : (ℓ : Loc Cert.Peerq.nD Cert.Peerq.τ Cert.Peerq.sig) → Buf (Elt Bits) ℓ) (g : Dev Cert.Peerq.nD → PrngReg), Pre_Peerq m →
    θ_run (Cert.Peerq.defs (F := Bits)) (onTc (τ := Cert.Peerq.τ) (Cert.Peerq.main (F := Bits))) ⟨m, fun _ => 0, g⟩ (fun r => (∀ c : Dev Cert.Peerq.nD,
      r.2.mem ((c.tc : Thread Cert.Peerq.nD Cert.Peerq.τ).loc Cert.Peerq.main_arg0) = m ((c.tc : Thread Cert.Peerq.nD Cert.Peerq.τ).loc Cert.Peerq.main_arg0)
      ∧ r.2.mem ((c.tc : Thread Cert.Peerq.nD Cert.Peerq.τ).loc Cert.Peerq.main_arg1) = m ((c.tc : Thread Cert.Peerq.nD Cert.Peerq.τ).loc Cert.Peerq.main_arg1)
      ∧ r.2.mem ((c.tc : Thread Cert.Peerq.nD Cert.Peerq.τ).loc Cert.Peerq.main_arg2) = m ((c.tc : Thread Cert.Peerq.nD Cert.Peerq.τ).loc Cert.Peerq.main_arg2)
      ∧ r.2.mem ((c.tc : Thread Cert.Peerq.nD Cert.Peerq.τ).loc Cert.Peerq.main_arg3) = m ((c.tc : Thread Cert.Peerq.nD Cert.Peerq.τ).loc Cert.Peerq.main_arg3)
      ∧ r.2.mem ((c.tc : Thread Cert.Peerq.nD Cert.Peerq.τ).loc Cert.Peerq.main_arg4) = m ((c.tc : Thread Cert.Peerq.nD Cert.Peerq.τ).loc Cert.Peerq.main_arg4))
      ∧ r.2.sem = fun _ => 0)

def quiescent_PeerqIdeal [hPeerqIdeal : Cert.PeerqIdeal.Facts] : Prop :=
  ∀ (m : (ℓ : Loc Cert.PeerqIdeal.nD Cert.PeerqIdeal.τ Cert.PeerqIdeal.sig) → Buf (Elt Ideal) ℓ) (g : Dev Cert.PeerqIdeal.nD → PrngReg), Pre_PeerqIdeal m →
    θ_run (Cert.PeerqIdeal.defs (F := Ideal)) (onTc (τ := Cert.PeerqIdeal.τ) (Cert.PeerqIdeal.main (F := Ideal))) ⟨m, fun _ => 0, g⟩ (fun r => (∀ c : Dev Cert.PeerqIdeal.nD,
      r.2.mem ((c.tc : Thread Cert.PeerqIdeal.nD Cert.PeerqIdeal.τ).loc Cert.PeerqIdeal.main_arg0) = m ((c.tc : Thread Cert.PeerqIdeal.nD Cert.PeerqIdeal.τ).loc Cert.PeerqIdeal.main_arg0)
      ∧ r.2.mem ((c.tc : Thread Cert.PeerqIdeal.nD Cert.PeerqIdeal.τ).loc Cert.PeerqIdeal.main_arg1) = m ((c.tc : Thread Cert.PeerqIdeal.nD Cert.PeerqIdeal.τ).loc Cert.PeerqIdeal.main_arg1)
      ∧ r.2.mem ((c.tc : Thread Cert.PeerqIdeal.nD Cert.PeerqIdeal.τ).loc Cert.PeerqIdeal.main_arg2) = m ((c.tc : Thread Cert.PeerqIdeal.nD Cert.PeerqIdeal.τ).loc Cert.PeerqIdeal.main_arg2)
      ∧ r.2.mem ((c.tc : Thread Cert.PeerqIdeal.nD Cert.PeerqIdeal.τ).loc Cert.PeerqIdeal.main_arg3) = m ((c.tc : Thread Cert.PeerqIdeal.nD Cert.PeerqIdeal.τ).loc Cert.PeerqIdeal.main_arg3)
      ∧ r.2.mem ((c.tc : Thread Cert.PeerqIdeal.nD Cert.PeerqIdeal.τ).loc Cert.PeerqIdeal.main_arg4) = m ((c.tc : Thread Cert.PeerqIdeal.nD Cert.PeerqIdeal.τ).loc Cert.PeerqIdeal.main_arg4))
      ∧ r.2.sem = fun _ => 0)

def quiescent_PeerqReferenceIdeal [hPeerqReferenceIdeal : Cert.PeerqReferenceIdeal.Facts] : Prop :=
  ∀ (m : (ℓ : Loc Cert.PeerqReferenceIdeal.nD Cert.PeerqReferenceIdeal.τ Cert.PeerqReferenceIdeal.sig) → Buf (Elt Ideal) ℓ) (g : Dev Cert.PeerqReferenceIdeal.nD → PrngReg), Pre_PeerqReferenceIdeal m →
    θ_run (Cert.PeerqReferenceIdeal.defs (F := Ideal)) (onTc (τ := Cert.PeerqReferenceIdeal.τ) (Cert.PeerqReferenceIdeal.main (F := Ideal))) ⟨m, fun _ => 0, g⟩ (fun r => (∀ c : Dev Cert.PeerqReferenceIdeal.nD,
      r.2.mem ((c.tc : Thread Cert.PeerqReferenceIdeal.nD Cert.PeerqReferenceIdeal.τ).loc Cert.PeerqReferenceIdeal.main_arg0) = m ((c.tc : Thread Cert.PeerqReferenceIdeal.nD Cert.PeerqReferenceIdeal.τ).loc Cert.PeerqReferenceIdeal.main_arg0)
      ∧ r.2.mem ((c.tc : Thread Cert.PeerqReferenceIdeal.nD Cert.PeerqReferenceIdeal.τ).loc Cert.PeerqReferenceIdeal.main_arg1) = m ((c.tc : Thread Cert.PeerqReferenceIdeal.nD Cert.PeerqReferenceIdeal.τ).loc Cert.PeerqReferenceIdeal.main_arg1)
      ∧ r.2.mem ((c.tc : Thread Cert.PeerqReferenceIdeal.nD Cert.PeerqReferenceIdeal.τ).loc Cert.PeerqReferenceIdeal.main_arg2) = m ((c.tc : Thread Cert.PeerqReferenceIdeal.nD Cert.PeerqReferenceIdeal.τ).loc Cert.PeerqReferenceIdeal.main_arg2)
      ∧ r.2.mem ((c.tc : Thread Cert.PeerqReferenceIdeal.nD Cert.PeerqReferenceIdeal.τ).loc Cert.PeerqReferenceIdeal.main_arg3) = m ((c.tc : Thread Cert.PeerqReferenceIdeal.nD Cert.PeerqReferenceIdeal.τ).loc Cert.PeerqReferenceIdeal.main_arg3)
      ∧ r.2.mem ((c.tc : Thread Cert.PeerqReferenceIdeal.nD Cert.PeerqReferenceIdeal.τ).loc Cert.PeerqReferenceIdeal.main_arg4) = m ((c.tc : Thread Cert.PeerqReferenceIdeal.nD Cert.PeerqReferenceIdeal.τ).loc Cert.PeerqReferenceIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5)
      ∧ r.2.mem ((c.tc : Thread Cert.Dsa.nD Cert.Dsa.τ).loc Cert.Dsa.main_arg6) = m ((c.tc : Thread Cert.Dsa.nD Cert.Dsa.τ).loc Cert.Dsa.main_arg6))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteIdeal_pre_scores_above [hRouteIdeal : Cert.RouteIdeal.Facts] [hPre_scores_above : Cert.Pre_scores_above.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_scores_above m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1))
      ∧ r.2.sem = fun _ => 0)

def quiescent_RouteReferenceIdeal_pre_scores_above [hRouteReferenceIdeal : Cert.RouteReferenceIdeal.Facts] [hPre_scores_above : Cert.Pre_scores_above.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal_scores_above m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v14)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v14) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v27) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Mixout_MixoutIdeal : Prop :=
  True

def algebraic_MixoutIdeal_MixoutReferenceIdeal [hMixoutIdeal : Cert.MixoutIdeal.Facts] [hMixoutReferenceIdeal : Cert.MixoutReferenceIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutReferenceIdeal.nD Cert.MixoutReferenceIdeal.τ Cert.MixoutReferenceIdeal.sig) → Buf (Elt Ideal) ℓ) (g' : Dev Cert.MixoutReferenceIdeal.nD → PrngReg), Pre_MixoutIdeal m →
    (∀ c : Dev Cert.MixoutIdeal.nD,
      m' ((c.tc : Thread Cert.MixoutReferenceIdeal.nD Cert.MixoutReferenceIdeal.τ).loc Cert.MixoutReferenceIdeal.main_arg0) = m ((c.tc : Thread Cert.MixoutIdeal.nD Cert.MixoutIdeal.τ).loc Cert.MixoutIdeal.main_arg0)
      ∧ m' ((c.tc : Thread Cert.MixoutReferenceIdeal.nD Cert.MixoutReferenceIdeal.τ).loc Cert.MixoutReferenceIdeal.main_arg1) = m ((c.tc : Thread Cert.MixoutIdeal.nD Cert.MixoutIdeal.τ).loc Cert.MixoutIdeal.main_arg1)
      ∧ m' ((c.tc : Thread Cert.MixoutReferenceIdeal.nD Cert.MixoutReferenceIdeal.τ).loc Cert.MixoutReferenceIdeal.main_arg2) = m ((c.tc : Thread Cert.MixoutIdeal.nD Cert.MixoutIdeal.τ).loc Cert.MixoutIdeal.main_arg2)
      ∧ m' ((c.tc : Thread Cert.MixoutReferenceIdeal.nD Cert.MixoutReferenceIdeal.τ).loc Cert.MixoutReferenceIdeal.main_arg3) = m ((c.tc : Thread Cert.MixoutIdeal.nD Cert.MixoutIdeal.τ).loc Cert.MixoutIdeal.main_arg3)
      ∧ m' ((c.tc : Thread Cert.MixoutReferenceIdeal.nD Cert.MixoutReferenceIdeal.τ).loc Cert.MixoutReferenceIdeal.main_arg4) = m ((c.tc : Thread Cert.MixoutIdeal.nD Cert.MixoutIdeal.τ).loc Cert.MixoutIdeal.main_arg4)) →
    ∃ (v0 : (c : Dev Cert.MixoutIdeal.nD) → Buf (Elt Ideal) ((c.tc : Thread Cert.MixoutIdeal.nD Cert.MixoutIdeal.τ).loc Cert.MixoutIdeal.main_v3)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v3) = v0 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4))
      ∧ θ_run (Cert.MixoutReferenceIdeal.defs (F := Ideal)) (onTc (τ := Cert.MixoutReferenceIdeal.τ) (Cert.MixoutReferenceIdeal.main (F := Ideal))) ⟨m', fun _ => 0, g'⟩ (fun r => ∀ c : Dev Cert.MixoutReferenceIdeal.nD,
          r.2.mem ((c.tc : Thread Cert.MixoutReferenceIdeal.nD Cert.MixoutReferenceIdeal.τ).loc Cert.MixoutReferenceIdeal.main_v20) = v0 c
          ∧ r.2.mem ((c.tc : Thread Cert.MixoutReferenceIdeal.nD Cert.MixoutReferenceIdeal.τ).loc Cert.MixoutReferenceIdeal.main_arg0) = m' ((c.tc : Thread Cert.MixoutReferenceIdeal.nD Cert.MixoutReferenceIdeal.τ).loc Cert.MixoutReferenceIdeal.main_arg0)
          ∧ r.2.mem ((c.tc : Thread Cert.MixoutReferenceIdeal.nD Cert.MixoutReferenceIdeal.τ).loc Cert.MixoutReferenceIdeal.main_arg1) = m' ((c.tc : Thread Cert.MixoutReferenceIdeal.nD Cert.MixoutReferenceIdeal.τ).loc Cert.MixoutReferenceIdeal.main_arg1)
          ∧ r.2.mem ((c.tc : Thread Cert.MixoutReferenceIdeal.nD Cert.MixoutReferenceIdeal.τ).loc Cert.MixoutReferenceIdeal.main_arg2) = m' ((c.tc : Thread Cert.MixoutReferenceIdeal.nD Cert.MixoutReferenceIdeal.τ).loc Cert.MixoutReferenceIdeal.main_arg2)
          ∧ r.2.mem ((c.tc : Thread Cert.MixoutReferenceIdeal.nD Cert.MixoutReferenceIdeal.τ).loc Cert.MixoutReferenceIdeal.main_arg3) = m' ((c.tc : Thread Cert.MixoutReferenceIdeal.nD Cert.MixoutReferenceIdeal.τ).loc Cert.MixoutReferenceIdeal.main_arg3)
          ∧ r.2.mem ((c.tc : Thread Cert.MixoutReferenceIdeal.nD Cert.MixoutReferenceIdeal.τ).loc Cert.MixoutReferenceIdeal.main_arg4) = m' ((c.tc : Thread Cert.MixoutReferenceIdeal.nD Cert.MixoutReferenceIdeal.τ).loc Cert.MixoutReferenceIdeal.main_arg4))

def preserves_Peerq_PeerqIdeal : Prop :=
  True

def algebraic_PeerqIdeal_PeerqReferenceIdeal [hPeerqIdeal : Cert.PeerqIdeal.Facts] [hPeerqReferenceIdeal : Cert.PeerqReferenceIdeal.Facts] : Prop :=
  ∀ (m : (ℓ : Loc Cert.PeerqIdeal.nD Cert.PeerqIdeal.τ Cert.PeerqIdeal.sig) → Buf (Elt Ideal) ℓ) (g : Dev Cert.PeerqIdeal.nD → PrngReg)
    (m' : (ℓ : Loc Cert.PeerqReferenceIdeal.nD Cert.PeerqReferenceIdeal.τ Cert.PeerqReferenceIdeal.sig) → Buf (Elt Ideal) ℓ) (g' : Dev Cert.PeerqReferenceIdeal.nD → PrngReg), Pre_PeerqIdeal m →
    (∀ c : Dev Cert.PeerqIdeal.nD,
      m' ((c.tc : Thread Cert.PeerqReferenceIdeal.nD Cert.PeerqReferenceIdeal.τ).loc Cert.PeerqReferenceIdeal.main_arg0) = m ((c.tc : Thread Cert.PeerqIdeal.nD Cert.PeerqIdeal.τ).loc Cert.PeerqIdeal.main_arg0)
      ∧ m' ((c.tc : Thread Cert.PeerqReferenceIdeal.nD Cert.PeerqReferenceIdeal.τ).loc Cert.PeerqReferenceIdeal.main_arg1) = m ((c.tc : Thread Cert.PeerqIdeal.nD Cert.PeerqIdeal.τ).loc Cert.PeerqIdeal.main_arg1)
      ∧ m' ((c.tc : Thread Cert.PeerqReferenceIdeal.nD Cert.PeerqReferenceIdeal.τ).loc Cert.PeerqReferenceIdeal.main_arg2) = m ((c.tc : Thread Cert.PeerqIdeal.nD Cert.PeerqIdeal.τ).loc Cert.PeerqIdeal.main_arg2)
      ∧ m' ((c.tc : Thread Cert.PeerqReferenceIdeal.nD Cert.PeerqReferenceIdeal.τ).loc Cert.PeerqReferenceIdeal.main_arg3) = m ((c.tc : Thread Cert.PeerqIdeal.nD Cert.PeerqIdeal.τ).loc Cert.PeerqIdeal.main_arg3)
      ∧ m' ((c.tc : Thread Cert.PeerqReferenceIdeal.nD Cert.PeerqReferenceIdeal.τ).loc Cert.PeerqReferenceIdeal.main_arg4) = m ((c.tc : Thread Cert.PeerqIdeal.nD Cert.PeerqIdeal.τ).loc Cert.PeerqIdeal.main_arg4)) →
    ∃ (v0 : (c : Dev Cert.PeerqIdeal.nD) → Buf (Elt Ideal) ((c.tc : Thread Cert.PeerqIdeal.nD Cert.PeerqIdeal.τ).loc Cert.PeerqIdeal.main_v8_0)) (v1 : (c : Dev Cert.PeerqIdeal.nD) → Buf (Elt Ideal) ((c.tc : Thread Cert.PeerqIdeal.nD Cert.PeerqIdeal.τ).loc Cert.PeerqIdeal.main_v8_1)) (v2 : (c : Dev Cert.PeerqIdeal.nD) → Buf (Elt Ideal) ((c.tc : Thread Cert.PeerqIdeal.nD Cert.PeerqIdeal.τ).loc Cert.PeerqIdeal.main_v8_2)),
      θ_run (Cert.PeerqIdeal.defs (F := Ideal)) (onTc (τ := Cert.PeerqIdeal.τ) (Cert.PeerqIdeal.main (F := Ideal))) ⟨m, fun _ => 0, g⟩ (fun r => ∀ c : Dev Cert.PeerqIdeal.nD,
          r.2.mem ((c.tc : Thread Cert.PeerqIdeal.nD Cert.PeerqIdeal.τ).loc Cert.PeerqIdeal.main_v8_0) = v0 c
          ∧ r.2.mem ((c.tc : Thread Cert.PeerqIdeal.nD Cert.PeerqIdeal.τ).loc Cert.PeerqIdeal.main_v8_1) = v1 c
          ∧ r.2.mem ((c.tc : Thread Cert.PeerqIdeal.nD Cert.PeerqIdeal.τ).loc Cert.PeerqIdeal.main_v8_2) = v2 c
          ∧ r.2.mem ((c.tc : Thread Cert.PeerqIdeal.nD Cert.PeerqIdeal.τ).loc Cert.PeerqIdeal.main_arg0) = m ((c.tc : Thread Cert.PeerqIdeal.nD Cert.PeerqIdeal.τ).loc Cert.PeerqIdeal.main_arg0)
          ∧ r.2.mem ((c.tc : Thread Cert.PeerqIdeal.nD Cert.PeerqIdeal.τ).loc Cert.PeerqIdeal.main_arg1) = m ((c.tc : Thread Cert.PeerqIdeal.nD Cert.PeerqIdeal.τ).loc Cert.PeerqIdeal.main_arg1)
          ∧ r.2.mem ((c.tc : Thread Cert.PeerqIdeal.nD Cert.PeerqIdeal.τ).loc Cert.PeerqIdeal.main_arg2) = m ((c.tc : Thread Cert.PeerqIdeal.nD Cert.PeerqIdeal.τ).loc Cert.PeerqIdeal.main_arg2)
          ∧ r.2.mem ((c.tc : Thread Cert.PeerqIdeal.nD Cert.PeerqIdeal.τ).loc Cert.PeerqIdeal.main_arg3) = m ((c.tc : Thread Cert.PeerqIdeal.nD Cert.PeerqIdeal.τ).loc Cert.PeerqIdeal.main_arg3)
          ∧ r.2.mem ((c.tc : Thread Cert.PeerqIdeal.nD Cert.PeerqIdeal.τ).loc Cert.PeerqIdeal.main_arg4) = m ((c.tc : Thread Cert.PeerqIdeal.nD Cert.PeerqIdeal.τ).loc Cert.PeerqIdeal.main_arg4))
      ∧ θ_run (Cert.PeerqReferenceIdeal.defs (F := Ideal)) (onTc (τ := Cert.PeerqReferenceIdeal.τ) (Cert.PeerqReferenceIdeal.main (F := Ideal))) ⟨m', fun _ => 0, g'⟩ (fun r => ∀ c : Dev Cert.PeerqReferenceIdeal.nD,
          r.2.mem ((c.tc : Thread Cert.PeerqReferenceIdeal.nD Cert.PeerqReferenceIdeal.τ).loc Cert.PeerqReferenceIdeal.main_v13) = v0 c
          ∧ r.2.mem ((c.tc : Thread Cert.PeerqReferenceIdeal.nD Cert.PeerqReferenceIdeal.τ).loc Cert.PeerqReferenceIdeal.main_v23) = v1 c
          ∧ r.2.mem ((c.tc : Thread Cert.PeerqReferenceIdeal.nD Cert.PeerqReferenceIdeal.τ).loc Cert.PeerqReferenceIdeal.main_v24) = v2 c
          ∧ r.2.mem ((c.tc : Thread Cert.PeerqReferenceIdeal.nD Cert.PeerqReferenceIdeal.τ).loc Cert.PeerqReferenceIdeal.main_arg0) = m' ((c.tc : Thread Cert.PeerqReferenceIdeal.nD Cert.PeerqReferenceIdeal.τ).loc Cert.PeerqReferenceIdeal.main_arg0)
          ∧ r.2.mem ((c.tc : Thread Cert.PeerqReferenceIdeal.nD Cert.PeerqReferenceIdeal.τ).loc Cert.PeerqReferenceIdeal.main_arg1) = m' ((c.tc : Thread Cert.PeerqReferenceIdeal.nD Cert.PeerqReferenceIdeal.τ).loc Cert.PeerqReferenceIdeal.main_arg1)
          ∧ r.2.mem ((c.tc : Thread Cert.PeerqReferenceIdeal.nD Cert.PeerqReferenceIdeal.τ).loc Cert.PeerqReferenceIdeal.main_arg2) = m' ((c.tc : Thread Cert.PeerqReferenceIdeal.nD Cert.PeerqReferenceIdeal.τ).loc Cert.PeerqReferenceIdeal.main_arg2)
          ∧ r.2.mem ((c.tc : Thread Cert.PeerqReferenceIdeal.nD Cert.PeerqReferenceIdeal.τ).loc Cert.PeerqReferenceIdeal.main_arg3) = m' ((c.tc : Thread Cert.PeerqReferenceIdeal.nD Cert.PeerqReferenceIdeal.τ).loc Cert.PeerqReferenceIdeal.main_arg3)
          ∧ r.2.mem ((c.tc : Thread Cert.PeerqReferenceIdeal.nD Cert.PeerqReferenceIdeal.τ).loc Cert.PeerqReferenceIdeal.main_arg4) = m' ((c.tc : Thread Cert.PeerqReferenceIdeal.nD Cert.PeerqReferenceIdeal.τ).loc Cert.PeerqReferenceIdeal.main_arg4))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v6_0)) (v1 : (c : Dev Cert.PrepIdeal.nD) → Buf (Elt Ideal) ((c.tc : Thread Cert.PrepIdeal.nD Cert.PrepIdeal.τ).loc Cert.PrepIdeal.main_v6_1)) (v2 : (c : Dev Cert.PrepIdeal.nD) → Buf (Elt Ideal) ((c.tc : Thread Cert.PrepIdeal.nD Cert.PrepIdeal.τ).loc Cert.PrepIdeal.main_v6_2)) (v3 : (c : Dev Cert.PrepIdeal.nD) → Buf (Elt Ideal) ((c.tc : Thread Cert.PrepIdeal.nD Cert.PrepIdeal.τ).loc Cert.PrepIdeal.main_v6_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v6_0) = v0 c
          ∧ r.2.mem ((c.tc : Thread Cert.PrepIdeal.nD Cert.PrepIdeal.τ).loc Cert.PrepIdeal.main_v6_1) = v1 c
          ∧ r.2.mem ((c.tc : Thread Cert.PrepIdeal.nD Cert.PrepIdeal.τ).loc Cert.PrepIdeal.main_v6_2) = v2 c
          ∧ r.2.mem ((c.tc : Thread Cert.PrepIdeal.nD Cert.PrepIdeal.τ).loc Cert.PrepIdeal.main_v6_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v57) = v0 c
          ∧ r.2.mem ((c.tc : Thread Cert.PrepReferenceIdeal.nD Cert.PrepReferenceIdeal.τ).loc Cert.PrepReferenceIdeal.main_v58) = v1 c
          ∧ r.2.mem ((c.tc : Thread Cert.PrepReferenceIdeal.nD Cert.PrepReferenceIdeal.τ).loc Cert.PrepReferenceIdeal.main_v59) = v2 c
          ∧ r.2.mem ((c.tc : Thread Cert.PrepReferenceIdeal.nD Cert.PrepReferenceIdeal.τ).loc Cert.PrepReferenceIdeal.main_v61) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3))

def preserves_Route_RouteIdeal : Prop :=
  True

def algebraic_RouteIdeal_RouteReferenceIdeal_pre_scores_above [hRouteIdeal : Cert.RouteIdeal.Facts] [hRouteReferenceIdeal : Cert.RouteReferenceIdeal.Facts] [hPre_scores_above : Cert.Pre_scores_above.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal_scores_above m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)) →
    ∃ (v0 : (c : Dev Cert.RouteIdeal.nD) → Buf (Elt Ideal) ((c.tc : Thread Cert.RouteIdeal.nD Cert.RouteIdeal.τ).loc Cert.RouteIdeal.main_v0_0)) (v1 : (c : Dev Cert.RouteIdeal.nD) → Buf (Elt Ideal) ((c.tc : Thread Cert.RouteIdeal.nD Cert.RouteIdeal.τ).loc Cert.RouteIdeal.main_v0_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v0_0) = v0 c
          ∧ r.2.mem ((c.tc : Thread Cert.RouteIdeal.nD Cert.RouteIdeal.τ).loc Cert.RouteIdeal.main_v0_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v31) = v0 c
          ∧ r.2.mem ((c.tc : Thread Cert.RouteReferenceIdeal.nD Cert.RouteReferenceIdeal.τ).loc Cert.RouteReferenceIdeal.main_v33) = v1 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hMixout : Cert.Mixout.Facts) (hMixoutIdeal : Cert.MixoutIdeal.Facts) (hMixoutReferenceIdeal : Cert.MixoutReferenceIdeal.Facts) (hPeerq : Cert.Peerq.Facts) (hPeerqIdeal : Cert.PeerqIdeal.Facts) (hPeerqReferenceIdeal : Cert.PeerqReferenceIdeal.Facts) (hPrep : Cert.Prep.Facts) (hPrepIdeal : Cert.PrepIdeal.Facts) (hPrepReferenceIdeal : Cert.PrepReferenceIdeal.Facts) (hDsa : Cert.Dsa.Facts) (hRoute : Cert.Route.Facts) (hRouteIdeal : Cert.RouteIdeal.Facts) (hRouteReferenceIdeal : Cert.RouteReferenceIdeal.Facts) (hPre_scores_above : Cert.Pre_scores_above.Facts),
    quiescent_Kernel (hKernel := hKernel)
    ∧ quiescent_KernelIdeal (hKernelIdeal := hKernelIdeal)
    ∧ quiescent_ReferenceIdeal (hReferenceIdeal := hReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Mixout (hMixout := hMixout)
    ∧ quiescent_MixoutIdeal (hMixoutIdeal := hMixoutIdeal)
    ∧ quiescent_MixoutReferenceIdeal (hMixoutReferenceIdeal := hMixoutReferenceIdeal)
    ∧ quiescent_Peerq (hPeerq := hPeerq)
    ∧ quiescent_PeerqIdeal (hPeerqIdeal := hPeerqIdeal)
    ∧ quiescent_PeerqReferenceIdeal (hPeerqReferenceIdeal := hPeerqReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Dsa (hDsa := hDsa)
    ∧ quiescent_Route (hRoute := hRoute)
    ∧ quiescent_RouteIdeal (hRouteIdeal := hRouteIdeal)
    ∧ quiescent_RouteIdeal_pre_scores_above (hRouteIdeal := hRouteIdeal) (hPre_scores_above := hPre_scores_above)
    ∧ quiescent_RouteReferenceIdeal (hRouteReferenceIdeal := hRouteReferenceIdeal)
    ∧ quiescent_RouteReferenceIdeal_pre_scores_above (hRouteReferenceIdeal := hRouteReferenceIdeal) (hPre_scores_above := hPre_scores_above)
    ∧ preserves_Kernel_KernelIdeal
    ∧ algebraic_KernelIdeal_ReferenceIdeal (hKernelIdeal := hKernelIdeal) (hReferenceIdeal := hReferenceIdeal)
    ∧ preserves_Inproj_InprojIdeal
    ∧ algebraic_InprojIdeal_InprojReferenceIdeal (hInprojIdeal := hInprojIdeal) (hInprojReferenceIdeal := hInprojReferenceIdeal)
    ∧ preserves_Mixout_MixoutIdeal
    ∧ algebraic_MixoutIdeal_MixoutReferenceIdeal (hMixoutIdeal := hMixoutIdeal) (hMixoutReferenceIdeal := hMixoutReferenceIdeal)
    ∧ preserves_Peerq_PeerqIdeal
    ∧ algebraic_PeerqIdeal_PeerqReferenceIdeal (hPeerqIdeal := hPeerqIdeal) (hPeerqReferenceIdeal := hPeerqReferenceIdeal)
    ∧ preserves_Prep_PrepIdeal
    ∧ algebraic_PrepIdeal_PrepReferenceIdeal (hPrepIdeal := hPrepIdeal) (hPrepReferenceIdeal := hPrepReferenceIdeal)
    ∧ preserves_Route_RouteIdeal
    ∧ algebraic_RouteIdeal_RouteReferenceIdeal_pre_scores_above (hRouteIdeal := hRouteIdeal) (hRouteReferenceIdeal := hRouteReferenceIdeal) (hPre_scores_above := hPre_scores_above)
-- ==== Pre_scores_above.lean ====
abbrev S8x128x32768 : Shape := ⟨3, ![8, 128, 32768]⟩
abbrev S_ : Shape := ⟨0, ![]⟩

class Facts : Prop where
  bcast_S_S8x128x32768 : S_.BroadcastsInDim S8x128x32768 (![] : Fin 0 → Fin S8x128x32768.rank)

variable [Facts]

def fn {F : FTy → Type} [FloatOps F] (main_arg0 : FVec F S8x128x32768 .f32) (main_arg1 : FVec F S8x128x32768 .f32) : IVec S8x128x32768 1 :=
  let main_cst : FVec F S_ .f32 := constant S_ .f32 0xFF800000#32
  let main_v0 : FVec F S8x128x32768 .f32 := broadcastInDim S8x128x32768 ![] bcast_S_S8x128x32768 main_cst
  let main_v1 : IVec S8x128x32768 1 := cmpf .ogt main_arg0 main_v0
  let main_cst_0 : FVec F S_ .f32 := constant S_ .f32 0xFF800000#32
  let main_v2 : FVec F S8x128x32768 .f32 := broadcastInDim S8x128x32768 ![] bcast_S_S8x128x32768 main_cst_0
  let main_v3 : IVec S8x128x32768 1 := cmpf .ogt main_arg1 main_v2
  let main_v4 : IVec S8x128x32768 1 := andi main_v1 main_v3
  main_v4
-- ==== Kernel.lean ====
abbrev S32768x9984 : Shape := ⟨2, ![32768, 9984]⟩
abbrev S1x4x2048 : Shape := ⟨3, ![1, 4, 2048]⟩
abbrev S1x2048 : Shape := ⟨2, ![1, 2048]⟩
abbrev S1x16x128x128 : Shape := ⟨4, ![1, 16, 128, 128]⟩
abbrev S4x2048 : Shape := ⟨2, ![4, 2048]⟩
abbrev S2048 : Shape := ⟨1, ![2048]⟩
abbrev S16x128x128 : Shape := ⟨3, ![16, 128, 128]⟩
abbrev S32768x2048 : Shape := ⟨2, ![32768, 2048]⟩
abbrev S512x128 : Shape := ⟨2, ![512, 128]⟩
abbrev S4x128 : Shape := ⟨2, ![4, 128]⟩
abbrev S1x128 : Shape := ⟨2, ![1, 128]⟩
abbrev S1x128x128 : Shape := ⟨3, ![1, 128, 128]⟩
abbrev S8x128 : Shape := ⟨2, ![8, 128]⟩
abbrev S504x128 : Shape := ⟨2, ![504, 128]⟩
abbrev S128x128 : Shape := ⟨2, ![128, 128]⟩

abbrev nBuf : Space → Nat
  | .hbm => 22
  | .vmem => 20
  | .smem => 0
  | _ => 0

abbrev bufTy : (tb : Table) → Fin (tcTables nBuf tb) → BufTy
  | .hbm, ⟨0, _⟩ => ⟨S32768x9984, .f32⟩
  | .hbm, ⟨1, _⟩ => ⟨S1x4x2048, .f32⟩
  | .hbm, ⟨2, _⟩ => ⟨S1x2048, .f32⟩
  | .hbm, ⟨3, _⟩ => ⟨S1x16x128x128, .f32⟩
  | .hbm, ⟨4, _⟩ => ⟨S1x2048, .f32⟩
  | .hbm, ⟨5, _⟩ => ⟨S1x16x128x128, .f32⟩
  | .hbm, ⟨6, _⟩ => ⟨S1x2048, .f32⟩
  | .hbm, ⟨7, _⟩ => ⟨S1x2048, .f32⟩
  | .hbm, ⟨8, _⟩ => ⟨S4x2048, .f32⟩
  | .hbm, ⟨9, _⟩ => ⟨S2048, .f32⟩
  | .hbm, ⟨10, _⟩ => ⟨S1x2048, .f32⟩
  | .hbm, ⟨11, _⟩ => ⟨S16x128x128, .f32⟩
  | .hbm, ⟨12, _⟩ => ⟨S16x128x128, .bf16⟩
  | .hbm, ⟨13, _⟩ => ⟨S2048, .f32⟩
  | .hbm, ⟨14, _⟩ => ⟨S1x2048, .f32⟩
  | .hbm, ⟨15, _⟩ => ⟨S16x128x128, .f32⟩
  | .hbm, ⟨16, _⟩ => ⟨S16x128x128, .bf16⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S32768x2048, .f32⟩
  | .local _ .vmem, ⟨0, _⟩ => ⟨S512x128, .f32⟩
  | .local _ .vmem, ⟨1, _⟩ => ⟨S512x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S1x128x128, .bf16⟩
  | .local _ .vmem, ⟨7, _⟩ => ⟨S1x128x128, .bf16⟩
  | .local _ .vmem, ⟨8, _⟩ => ⟨S1x128, .f32⟩
  | .local _ .vmem, ⟨9, _⟩ => ⟨S1x128, .f32⟩
  | .local _ .vmem, ⟨10, _⟩ => ⟨S1x128x128, .bf16⟩
  | .local _ .vmem, ⟨11, _⟩ => ⟨S1x128x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S512x128, .f32⟩
  | .local _ .vmem, ⟨17, _⟩ => ⟨S512x128, .f32⟩
  | .local _ .vmem, ⟨18, _⟩ => ⟨S8x128, .f32⟩
  | .local _ .vmem, ⟨19, _⟩ => ⟨S1x128, .f32⟩
  | _, _ => ⟨S32768x9984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 16, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S32768x9984 : Shape := ⟨2, ![32768, 9984]⟩
abbrev S1x4x2048 : Shape := ⟨3, ![1, 4, 2048]⟩
abbrev S1x2048 : Shape := ⟨2, ![1, 2048]⟩
abbrev S1x16x128x128 : Shape := ⟨4, ![1, 16, 128, 128]⟩
abbrev S32768x2048 : Shape := ⟨2, ![32768, 2048]⟩
abbrev S4x8192x2048 : Shape := ⟨3, ![4, 8192, 2048]⟩
abbrev S4x2048 : Shape := ⟨2, ![4, 2048]⟩
abbrev S2048 : Shape := ⟨1, ![2048]⟩
abbrev S_ : Shape := ⟨0, ![]⟩
abbrev S4x8195x2048 : Shape := ⟨3, ![4, 8195, 2048]⟩
abbrev S1x1x2048 : Shape := ⟨3, ![1, 1, 2048]⟩
abbrev S16x128x128 : Shape := ⟨3, ![16, 128, 128]⟩
abbrev S4x8192x16x128 : Shape := ⟨4, ![4, 8192, 16, 128]⟩
abbrev S16x128x4x8192 : Shape := ⟨4, ![16, 128, 4, 8192]⟩
abbrev S8192x4x2048 : Shape := ⟨3, ![8192, 4, 2048]⟩

abbrev nBuf : Space → Nat
  | .hbm => 141
  | .vmem => 0
  | .smem => 0
  | _ => 0

abbrev hbmTy0_0 (i : Nat) : BufTy := match i % 128 with
  | 0 => ⟨S32768x9984, .f32⟩
  | 1 => ⟨S1x4x2048, .f32⟩
  | 2 => ⟨S1x2048, .f32⟩
  | 3 => ⟨S1x16x128x128, .f32⟩
  | 4 => ⟨S1x2048, .f32⟩
  | 5 => ⟨S1x16x128x128, .f32⟩
  | 6 => ⟨S1x2048, .f32⟩
  | 7 => ⟨S1x2048, .f32⟩
  | 8 => ⟨S32768x2048, .f32⟩
  | 9 => ⟨S4x8192x2048, .f32⟩
  | 10 => ⟨S4x2048, .f32⟩
  | 11 => ⟨S2048, .f32⟩
  | 12 => ⟨S_, .i32⟩
  | 13 => ⟨S_, .f32⟩
  | 14 => ⟨S4x8195x2048, .f32⟩
  | 15 => ⟨S4x8192x2048, .f32⟩
  | 16 => ⟨S1x2048, .f32⟩
  | 17 => ⟨S2048, .f32⟩
  | 18 => ⟨S1x1x2048, .f32⟩
  | 19 => ⟨S4x8192x2048, .f32⟩
  | 20 => ⟨S4x8192x2048, .f32⟩
  | 21 => ⟨S1x1x2048, .f32⟩
  | 22 => ⟨S4x8192x2048, .f32⟩
  | 23 => ⟨S4x8192x2048, .f32⟩
  | 24 => ⟨S4x8192x2048, .f32⟩
  | 25 => ⟨S1x2048, .f32⟩
  | 26 => ⟨S2048, .f32⟩
  | 27 => ⟨S1x1x2048, .f32⟩
  | 28 => ⟨S4x8192x2048, .f32⟩
  | 29 => ⟨S4x8192x2048, .f32⟩
  | 30 => ⟨S4x8192x2048, .f32⟩
  | 31 => ⟨S4x8192x2048, .f32⟩
  | 32 => ⟨S1x2048, .f32⟩
  | 33 => ⟨S2048, .f32⟩
  | 34 => ⟨S1x1x2048, .f32⟩
  | 35 => ⟨S4x8192x2048, .f32⟩
  | 36 => ⟨S4x8192x2048, .f32⟩
  | 37 => ⟨S4x8192x2048, .f32⟩
  | 38 => ⟨S4x8192x2048, .f32⟩
  | 39 => ⟨S1x2048, .f32⟩
  | 40 => ⟨S2048, .f32⟩
  | 41 => ⟨S1x1x2048, .f32⟩
  | 42 => ⟨S4x8192x2048, .f32⟩
  | 43 => ⟨S4x8192x2048, .f32⟩
  | 44 => ⟨S4x8192x2048, .f32⟩
  | 45 => ⟨S16x128x128, .f32⟩
  | 46 => ⟨S2048, .f32⟩
  | 47 => ⟨S16x128x128, .f32⟩
  | 48 => ⟨S2048, .f32⟩
  | 49 => ⟨S2048, .f32⟩
  | 50 => ⟨S4x8192x16x128, .f32⟩
  | 51 => ⟨S16x128x4x8192, .f32⟩
  | 52 => ⟨S4x8192x16x128, .f32⟩
  | 53 => ⟨S4x8192x2048, .f32⟩
  | 54 => ⟨S1x1x2048, .f32⟩
  | 55 => ⟨S4x8192x2048, .f32⟩
  | 56 => ⟨S4x8192x2048, .f32⟩
  | 57 => ⟨S4x8192x2048, .f32⟩
  | 58 => ⟨S4x8192x2048, .f32⟩
  | 59 => ⟨S_, .f32⟩
  | 60 => ⟨S4x8192x2048, .f32⟩
  | 61 => ⟨S4x8192x2048, .f32⟩
  | 62 => ⟨S_, .f32⟩
  | 63 => ⟨S4x8192x2048, .f32⟩
  | 64 => ⟨S4x8192x2048, .f32⟩
  | 65 => ⟨S16x128x4x8192, .f32⟩
  | 66 => ⟨S4x8192x16x128, .f32⟩
  | 67 => ⟨S4x8192x2048, .f32⟩
  | 68 => ⟨S1x1x2048, .f32⟩
  | 69 => ⟨S4x8192x2048, .f32⟩
  | 70 => ⟨S4x8192x2048, .f32⟩
  | 71 => ⟨S4x8192x2048, .f32⟩
  | 72 => ⟨S4x8192x2048, .f32⟩
  | 73 => ⟨S_, .f32⟩
  | 74 => ⟨S4x8192x2048, .f32⟩
  | 75 => ⟨S4x8192x2048, .f32⟩
  | 76 => ⟨S_, .f32⟩
  | 77 => ⟨S4x8192x2048, .f32⟩
  | 78 => ⟨S4x8192x2048, .f32⟩
  | 79 => ⟨S_, .f32⟩
  | 80 => ⟨S4x8192x2048, .f32⟩
  | 81 => ⟨S4x8192x2048, .f32⟩
  | 82 => ⟨S2048, .f32⟩
  | 83 => ⟨S_, .f32⟩
  | 84 => ⟨S2048, .f32⟩
  | 85 => ⟨S2048, .f32⟩
  | 86 => ⟨S2048, .f32⟩
  | 87 => ⟨S2048, .f32⟩
  | 88 => ⟨S2048, .i1⟩
  | 89 => ⟨S2048, .f32⟩
  | 90 => ⟨S2048, .f32⟩
  | 91 => ⟨S2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S1x1x2048, .f32⟩
  | 98 => ⟨S4x8192x2048, .f32⟩
  | 99 => ⟨S4x8192x2048, .f32⟩
  | 100 => ⟨S4x8192x2048, .f32⟩
  | 101 => ⟨S_, .f32⟩
  | 102 => ⟨S4x8192x2048, .f32⟩
  | 103 => ⟨S4x8192x2048, .f32⟩
  | 104 => ⟨S4x8192x2048, .f32⟩
  | 105 => ⟨S4x8192x2048, .f32⟩
  | 106 => ⟨S4x8192x2048, .f32⟩
  | 107 => ⟨S4x8192x2048, .f32⟩
  | 108 => ⟨S4x8192x2048, .f32⟩
  | 109 => ⟨S_, .f32⟩
  | 110 => ⟨S4x2048, .f32⟩
  | 111 => ⟨S8192x4x2048, .f32⟩
  | 112 => ⟨S8192x4x2048, .f32⟩
  | 113 => ⟨S_, .f32⟩
  | 114 => ⟨S8192x4x2048, .f32⟩
  | 115 => ⟨S_, .i32⟩
  | 116 => ⟨S8192x4x2048, .f32⟩
  | 117 => ⟨S8192x4x2048, .f32⟩
  | 118 => ⟨S_, .i32⟩
  | 119 => ⟨S4x2048, .f32⟩
  | 120 => ⟨S8192x4x2048, .f32⟩
  | 121 => ⟨S_, .i32⟩
  | 122 => ⟨S_, .i1⟩
  | 123 => ⟨S_, .i32⟩
  | 124 => ⟨S_, .i32⟩
  | 125 => ⟨S1x4x2048, .f32⟩
  | 126 => ⟨S4x2048, .f32⟩
  | 127 => ⟨S_, .i32⟩
  | _ => ⟨S32768x9984, .f32⟩

abbrev hbmTy0_1 (i : Nat) : BufTy := match i % 128 with
  | 0 => ⟨S_, .i32⟩
  | 1 => ⟨S1x4x2048, .f32⟩
  | 2 => ⟨S4x2048, .f32⟩
  | 3 => ⟨S4x2048, .f32⟩
  | 4 => ⟨S4x2048, .f32⟩
  | 5 => ⟨S1x4x2048, .f32⟩
  | 6 => ⟨S_, .i32⟩
  | 7 => ⟨S_, .i32⟩
  | 8 => ⟨S8192x4x2048, .f32⟩
  | 9 => ⟨S_, .i32⟩
  | 10 => ⟨S_, .i32⟩
  | 11 => ⟨S4x8192x2048, .f32⟩
  | 12 => ⟨S32768x2048, .f32⟩
  | _ => ⟨S32768x9984, .f32⟩

abbrev hbmTy (i : Nat) : BufTy := match i / 128 with
  | 0 => hbmTy0_0 i
  | 1 => hbmTy0_1 i
  | _ => ⟨S32768x9984, .f32⟩

abbrev bufTy : (tb : Table) → Fin (tcTables nBuf tb) → BufTy
  | .hbm, ⟨i, _⟩ => hbmTy i
  | _, _ => ⟨S32768x9984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst : Ref sig .tc := ⟨.hbm, 59, rfl⟩
abbrev main_v49 : Ref sig .tc := ⟨.hbm, 60, rfl⟩
abbrev main_v50 : Ref sig .tc := ⟨.hbm, 61, rfl⟩
abbrev main_cst_0 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_1 : Ref sig .tc := ⟨.hbm, 73, rfl⟩
abbrev main_v61 : Ref sig .tc := ⟨.hbm, 74, rfl⟩
abbrev main_v62 : Ref sig .tc := ⟨.hbm, 75, rfl⟩
abbrev main_cst_2 : Ref sig .tc := ⟨.hbm, 76, rfl⟩
abbrev main_v63 : Ref sig .tc := ⟨.hbm, 77, rfl⟩
abbrev main_v64 : Ref sig .tc := ⟨.hbm, 78, rfl⟩
abbrev main_cst_3 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_4 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_5 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_6 : Ref sig .tc := ⟨.hbm, 113, rfl⟩
abbrev main_v83 : Ref sig .tc := ⟨.hbm, 114, rfl⟩
abbrev main_c_7 : Ref sig .tc := ⟨.hbm, 115, rfl⟩
abbrev main_v84_0 : Ref sig .tc := ⟨.hbm, 116, rfl⟩
abbrev main_v84_1 : Ref sig .tc := ⟨.hbm, 117, rfl⟩
abbrev main_v84_2 : Ref sig .tc := ⟨.hbm, 118, rfl⟩
abbrev main_v84_3 : Ref sig .tc := ⟨.hbm, 119, rfl⟩
abbrev main_v84_4 : Ref sig .tc := ⟨.hbm, 120, rfl⟩
abbrev main_while0c_c_12 : Ref sig .tc := ⟨.hbm, 121, rfl⟩
abbrev main_while0c_v87 : Ref sig .tc := ⟨.hbm, 122, rfl⟩
abbrev main_while0b_call2_c : Ref sig .tc := ⟨.hbm, 123, rfl⟩
abbrev main_while0b_call2_c_0 : Ref sig .tc := ⟨.hbm, 124, rfl⟩
abbrev main_while0b_call2_v0 : Ref sig .tc := ⟨.hbm, 125, rfl⟩
abbrev main_while0b_v87 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_call3_v0 : Ref sig .tc := ⟨.hbm, 129, rfl⟩
abbrev main_while0b_v88 : Ref sig .tc := ⟨.hbm, 130, rfl⟩
abbrev main_while0b_v89 : Ref sig .tc := ⟨.hbm, 131, rfl⟩
abbrev main_while0b_v90 : Ref sig .tc := ⟨.hbm, 132, rfl⟩
abbrev main_while0b_call4_v0 : Ref sig .tc := ⟨.hbm, 133, rfl⟩
abbrev main_while0b_call4_c : Ref sig .tc := ⟨.hbm, 134, rfl⟩
abbrev main_while0b_call4_c_0 : Ref sig .tc := ⟨.hbm, 135, rfl⟩
abbrev main_while0b_v91 : Ref sig .tc := ⟨.hbm, 136, rfl⟩
abbrev main_while0b_c_12 : Ref sig .tc := ⟨.hbm, 137, rfl⟩
abbrev main_while0b_v92 : Ref sig .tc := ⟨.hbm, 138, rfl⟩
abbrev main_v85 : Ref sig .tc := ⟨.hbm, 139, rfl⟩
abbrev main_v86 : Ref sig .tc := ⟨.hbm, 140, rfl⟩

abbrev nD : Nat := 1
abbrev τ : Topo := Topo.v7x

variable {F : FTy → Type} [FloatOps F]

abbrev main_while0_count : Scf.Loop 32 := ⟨0#32, 8192#32, 1#32⟩
-- ==== Inproj.lean ====
abbrev S4x8192x2048 : Shape := ⟨3, ![4, 8192, 2048]⟩
abbrev S1x2048 : Shape := ⟨2, ![1, 2048]⟩
abbrev S1x2048x9808 : Shape := ⟨3, ![1, 2048, 9808]⟩
abbrev S32768x2048 : Shape := ⟨2, ![32768, 2048]⟩
abbrev S2048 : Shape := ⟨1, ![2048]⟩
abbrev S2048x9808 : Shape := ⟨2, ![2048, 9808]⟩
abbrev S2048x4096 : Shape := ⟨2, ![2048, 4096]⟩
abbrev S2048x512 : Shape := ⟨2, ![2048, 512]⟩
abbrev S2048x1024 : Shape := ⟨2, ![2048, 1024]⟩
abbrev S2048x64 : Shape := ⟨2, ![2048, 64]⟩
abbrev S2048x16 : Shape := ⟨2, ![2048, 16]⟩
abbrev S_ : Shape := ⟨0, ![]⟩
abbrev S2048x112 : Shape := ⟨2, ![2048, 112]⟩
abbrev S2048x9984 : Shape := ⟨2, ![2048, 9984]⟩
abbrev S32768x9984 : Shape := ⟨2, ![32768, 9984]⟩
abbrev S1024x2048 : Shape := ⟨2, ![1024, 2048]⟩
abbrev S2048x1664 : Shape := ⟨2, ![2048, 1664]⟩
abbrev S1024x1664 : Shape := ⟨2, ![1024, 1664]⟩
abbrev S1024 : Shape := ⟨1, ![1024]⟩
abbrev S1024x1 : Shape := ⟨2, ![1024, 1]⟩

abbrev nBuf : Space → Nat
  | .hbm => 20
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x9808, .f32⟩
  | .hbm, ⟨3, _⟩ => ⟨S32768x2048, .f32⟩
  | .hbm, ⟨4, _⟩ => ⟨S2048, .f32⟩
  | .hbm, ⟨5, _⟩ => ⟨S1x2048, .f32⟩
  | .hbm, ⟨6, _⟩ => ⟨S2048x9808, .f32⟩
  | .hbm, ⟨7, _⟩ => ⟨S2048x4096, .f32⟩
  | .hbm, ⟨8, _⟩ => ⟨S2048x512, .f32⟩
  | .hbm, ⟨9, _⟩ => ⟨S2048x1024, .f32⟩
  | .hbm, ⟨10, _⟩ => ⟨S2048x64, .f32⟩
  | .hbm, ⟨11, _⟩ => ⟨S2048x16, .f32⟩
  | .hbm, ⟨12, _⟩ => ⟨S2048x4096, .f32⟩
  | .hbm, ⟨13, _⟩ => ⟨S_, .f32⟩
  | .hbm, ⟨14, _⟩ => ⟨S2048x64, .f32⟩
  | .hbm, ⟨15, _⟩ => ⟨S_, .f32⟩
  | .hbm, ⟨16, _⟩ => ⟨S2048x112, .f32⟩
  | .hbm, ⟨17, _⟩ => ⟨S2048x9984, .f32⟩
  | .hbm, ⟨18, _⟩ => ⟨S2048x9984, .bf16⟩
  | .hbm, ⟨19, _⟩ => ⟨S32768x9984, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S1024x1664, .f32⟩
  | .local _ .vmem, ⟨6, _⟩ => ⟨S1024x1664, .f32⟩
  | .local _ .vmem, ⟨7, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojReferenceIdeal.lean ====
abbrev S4x8192x2048 : Shape := ⟨3, ![4, 8192, 2048]⟩
abbrev S1x2048 : Shape := ⟨2, ![1, 2048]⟩
abbrev S1x2048x9808 : Shape := ⟨3, ![1, 2048, 9808]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S2048x9808 : Shape := ⟨2, ![2048, 9808]⟩
abbrev S4x8192x9808 : Shape := ⟨3, ![4, 8192, 9808]⟩
abbrev S4x8192x512 : Shape := ⟨3, ![4, 8192, 512]⟩
abbrev S4x8192x1024 : Shape := ⟨3, ![4, 8192, 1024]⟩
abbrev S4x8192x64 : Shape := ⟨3, ![4, 8192, 64]⟩
abbrev S4x8192x16 : Shape := ⟨3, ![4, 8192, 16]⟩
abbrev S4x8192x112 : Shape := ⟨3, ![4, 8192, 112]⟩
abbrev S4x8192x9984 : Shape := ⟨3, ![4, 8192, 9984]⟩
abbrev S32768x9984 : Shape := ⟨2, ![32768, 9984]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x9808, .f32⟩
  | .hbm, ⟨3, _⟩ => ⟨S2048, .f32⟩
  | .hbm, ⟨4, _⟩ => ⟨S4x8192x2048, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x2048, .f32⟩
  | .hbm, ⟨16, _⟩ => ⟨S4x8192x2048, .f32⟩
  | .hbm, ⟨17, _⟩ => ⟨S1x1x2048, .f32⟩
  | .hbm, ⟨18, _⟩ => ⟨S4x8192x2048, .f32⟩
  | .hbm, ⟨19, _⟩ => ⟨S4x8192x2048, .f32⟩
  | .hbm, ⟨20, _⟩ => ⟨S2048x9808, .f32⟩
  | .hbm, ⟨21, _⟩ => ⟨S4x8192x9808, .f32⟩
  | .hbm, ⟨22, _⟩ => ⟨S4x8192x2048, .f32⟩
  | .hbm, ⟨23, _⟩ => ⟨S4x8192x2048, .f32⟩
  | .hbm, ⟨24, _⟩ => ⟨S4x8192x512, .f32⟩
  | .hbm, ⟨25, _⟩ => ⟨S4x8192x1024, .f32⟩
  | .hbm, ⟨26, _⟩ => ⟨S4x8192x64, .f32⟩
  | .hbm, ⟨27, _⟩ => ⟨S4x8192x16, .f32⟩
  | .hbm, ⟨28, _⟩ => ⟨S4x8192x2048, .f32⟩
  | .hbm, ⟨29, _⟩ => ⟨S4x8192x2048, .f32⟩
  | .hbm, ⟨30, _⟩ => ⟨S_, .f32⟩
  | .hbm, ⟨31, _⟩ => ⟨S4x8192x64, .f32⟩
  | .hbm, ⟨32, _⟩ => ⟨S_, .f32⟩
  | .hbm, ⟨33, _⟩ => ⟨S4x8192x112, .f32⟩
  | .hbm, ⟨34, _⟩ => ⟨S4x8192x9984, .f32⟩
  | .hbm, ⟨35, _⟩ => ⟨S32768x9984, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Mixout.lean ====
abbrev S32768x9984 : Shape := ⟨2, ![32768, 9984]⟩
abbrev S32768x2048 : Shape := ⟨2, ![32768, 2048]⟩
abbrev S4x8192x2048 : Shape := ⟨3, ![4, 8192, 2048]⟩
abbrev S1x2048x2048 : Shape := ⟨3, ![1, 2048, 2048]⟩
abbrev S2048x2048 : Shape := ⟨2, ![2048, 2048]⟩
abbrev S256x2048 : Shape := ⟨2, ![256, 2048]⟩

abbrev nBuf : Space → Nat
  | .hbm => 9
  | .vmem => 13
  | .smem => 0
  | _ => 0

abbrev bufTy : (tb : Table) → Fin (tcTables nBuf tb) → BufTy
  | .hbm, ⟨0, _⟩ => ⟨S32768x9984, .f32⟩
  | .hbm, ⟨1, _⟩ => ⟨S32768x2048, .f32⟩
  | .hbm, ⟨2, _⟩ => ⟨S32768x2048, .f32⟩
  | .hbm, ⟨3, _⟩ => ⟨S4x8192x2048, .f32⟩
  | .hbm, ⟨4, _⟩ => ⟨S1x2048x2048, .f32⟩
  | .hbm, ⟨5, _⟩ => ⟨S32768x2048, .f32⟩
  | .hbm, ⟨6, _⟩ => ⟨S2048x2048, .f32⟩
  | .hbm, ⟨7, _⟩ => ⟨S2048x2048, .bf16⟩
  | .hbm, ⟨8, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | _, _ => ⟨S32768x9984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixoutReferenceIdeal.lean ====
abbrev S32768x9984 : Shape := ⟨2, ![32768, 9984]⟩
abbrev S32768x2048 : Shape := ⟨2, ![32768, 2048]⟩
abbrev S4x8192x2048 : Shape := ⟨3, ![4, 8192, 2048]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32768x9984, .f32⟩
  | .hbm, ⟨1, _⟩ => ⟨S32768x2048, .f32⟩
  | .hbm, ⟨2, _⟩ => ⟨S32768x2048, .f32⟩
  | .hbm, ⟨3, _⟩ => ⟨S4x8192x2048, .f32⟩
  | .hbm, ⟨4, _⟩ => ⟨S1x2048x2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S2048x2048, .f32⟩
  | .hbm, ⟨28, _⟩ => ⟨S32768x2048, .f32⟩
  | .hbm, ⟨29, _⟩ => ⟨S32768x2048, .f32⟩
  | _, _ => ⟨S32768x9984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Peerq.lean ====
abbrev S32768x2048 : Shape := ⟨2, ![32768, 2048]⟩
abbrev S1x2048 : Shape := ⟨2, ![1, 2048]⟩
abbrev S1x2048x2048 : Shape := ⟨3, ![1, 2048, 2048]⟩
abbrev S1x128x128 : Shape := ⟨3, ![1, 128, 128]⟩
abbrev S2048 : Shape := ⟨1, ![2048]⟩
abbrev S2048x2048 : Shape := ⟨2, ![2048, 2048]⟩
abbrev S128x128 : Shape := ⟨2, ![128, 128]⟩
abbrev S8x128x32768 : Shape := ⟨3, ![8, 128, 32768]⟩
abbrev S256x2048 : Shape := ⟨2, ![256, 2048]⟩
abbrev S8x128x256 : Shape := ⟨3, ![8, 128, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 16
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x2048, .f32⟩
  | .hbm, ⟨3, _⟩ => ⟨S1x128x128, .f32⟩
  | .hbm, ⟨4, _⟩ => ⟨S1x128x128, .f32⟩
  | .hbm, ⟨5, _⟩ => ⟨S2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S128x128, .f32⟩
  | .hbm, ⟨10, _⟩ => ⟨S128x128, .bf16⟩
  | .hbm, ⟨11, _⟩ => ⟨S128x128, .f32⟩
  | .hbm, ⟨12, _⟩ => ⟨S128x128, .bf16⟩
  | .hbm, ⟨13, _⟩ => ⟨S32768x2048, .f32⟩
  | .hbm, ⟨14, _⟩ => ⟨S8x128x32768, .f32⟩
  | .hbm, ⟨15, _⟩ => ⟨S8x128x32768, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S128x128, .bf16⟩
  | .local _ .vmem, ⟨5, _⟩ => ⟨S128x128, .bf16⟩
  | .local _ .vmem, ⟨6, _⟩ => ⟨S256x2048, .f32⟩
  | .local _ .vmem, ⟨7, _⟩ => ⟨S256x2048, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PeerqReferenceIdeal.lean ====
abbrev S32768x2048 : Shape := ⟨2, ![32768, 2048]⟩
abbrev S1x2048 : Shape := ⟨2, ![1, 2048]⟩
abbrev S1x2048x2048 : Shape := ⟨3, ![1, 2048, 2048]⟩
abbrev S1x128x128 : Shape := ⟨3, ![1, 128, 128]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x2048 : Shape := ⟨2, ![2048, 2048]⟩
abbrev S32768x8x256 : Shape := ⟨3, ![32768, 8, 256]⟩
abbrev S32768x8x128 : Shape := ⟨3, ![32768, 8, 128]⟩
abbrev S128x128 : Shape := ⟨2, ![128, 128]⟩
abbrev S8x128x32768 : Shape := ⟨3, ![8, 128, 32768]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x2048, .f32⟩
  | .hbm, ⟨3, _⟩ => ⟨S1x128x128, .f32⟩
  | .hbm, ⟨4, _⟩ => ⟨S1x128x128, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S2048x2048, .f32⟩
  | .hbm, ⟨23, _⟩ => ⟨S32768x2048, .f32⟩
  | .hbm, ⟨24, _⟩ => ⟨S32768x8x256, .f32⟩
  | .hbm, ⟨25, _⟩ => ⟨S32768x8x128, .f32⟩
  | .hbm, ⟨26, _⟩ => ⟨S128x128, .f32⟩
  | .hbm, ⟨27, _⟩ => ⟨S32768x8x128, .f32⟩
  | .hbm, ⟨28, _⟩ => ⟨S32768x8x128, .f32⟩
  | .hbm, ⟨29, _⟩ => ⟨S128x128, .f32⟩
  | .hbm, ⟨30, _⟩ => ⟨S32768x8x128, .f32⟩
  | .hbm, ⟨31, _⟩ => ⟨S8x128x32768, .f32⟩
  | .hbm, ⟨32, _⟩ => ⟨S8x128x32768, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Prep.lean ====
abbrev S32768x9984 : Shape := ⟨2, ![32768, 9984]⟩
abbrev S1x512 : Shape := ⟨2, ![1, 512]⟩
abbrev S1x64 : Shape := ⟨2, ![1, 64]⟩
abbrev S512 : Shape := ⟨1, ![512]⟩
abbrev S64 : Shape := ⟨1, ![64]⟩
abbrev S32768x512 : Shape := ⟨2, ![32768, 512]⟩
abbrev S4x528x8192 : Shape := ⟨3, ![4, 528, 8192]⟩
abbrev S32768x64 : Shape := ⟨2, ![32768, 64]⟩
abbrev S4x16x8192 : Shape := ⟨3, ![4, 16, 8192]⟩
abbrev S512x512 : Shape := ⟨2, ![512, 512]⟩
abbrev S512x128 : Shape := ⟨2, ![512, 128]⟩
abbrev S1x528x512 : Shape := ⟨3, ![1, 528, 512]⟩
abbrev S512x64 : Shape := ⟨2, ![512, 64]⟩
abbrev S1x16x512 : Shape := ⟨3, ![1, 16, 512]⟩
abbrev S512x1 : Shape := ⟨2, ![512, 1]⟩
abbrev S1x512x512 : Shape := ⟨3, ![1, 512, 512]⟩
abbrev S16x512 : Shape := ⟨2, ![16, 512]⟩
abbrev S128x512 : Shape := ⟨2, ![128, 512]⟩

abbrev nBuf : Space → Nat
  | .hbm => 14
  | .vmem => 17
  | .smem => 0
  | _ => 0

abbrev bufTy : (tb : Table) → Fin (tcTables nBuf tb) → BufTy
  | .hbm, ⟨0, _⟩ => ⟨S32768x9984, .f32⟩
  | .hbm, ⟨1, _⟩ => ⟨S1x512, .f32⟩
  | .hbm, ⟨2, _⟩ => ⟨S1x64, .f32⟩
  | .hbm, ⟨3, _⟩ => ⟨S1x64, .f32⟩
  | .hbm, ⟨4, _⟩ => ⟨S512, .f32⟩
  | .hbm, ⟨5, _⟩ => ⟨S1x512, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S32768x512, .bf16⟩
  | .hbm, ⟨11, _⟩ => ⟨S4x528x8192, .bf16⟩
  | .hbm, ⟨12, _⟩ => ⟨S32768x64, .bf16⟩
  | .hbm, ⟨13, _⟩ => ⟨S4x16x8192, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x64, .f32⟩
  | .local _ .vmem, ⟨8, _⟩ => ⟨S1x64, .f32⟩
  | .local _ .vmem, ⟨9, _⟩ => ⟨S512x512, .bf16⟩
  | .local _ .vmem, ⟨10, _⟩ => ⟨S512x512, .bf16⟩
  | .local _ .vmem, ⟨11, _⟩ => ⟨S1x528x512, .bf16⟩
  | .local _ .vmem, ⟨12, _⟩ => ⟨S1x528x512, .bf16⟩
  | .local _ .vmem, ⟨13, _⟩ => ⟨S512x64, .bf16⟩
  | .local _ .vmem, ⟨14, _⟩ => ⟨S512x64, .bf16⟩
  | .local _ .vmem, ⟨15, _⟩ => ⟨S1x16x512, .f32⟩
  | .local _ .vmem, ⟨16, _⟩ => ⟨S1x16x512, .f32⟩
  | _, _ => ⟨S32768x9984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c18_i32 : BitVec 32 := 18#32
  let c0_i32 : BitVec 32 := 0#32
  ![v1.toNat, c18_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c76_i32 : BitVec 32 := 76#32
  let c0_i32 : BitVec 32 := 0#32
  ![v1.toNat, c76_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c77_i32 : BitVec 32 := 77#32
  let c0_i32 : BitVec 32 := 0#32
  ![v1.toNat, c77_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x528x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PrepReferenceIdeal.lean ====
abbrev S32768x9984 : Shape := ⟨2, ![32768, 9984]⟩
abbrev S1x512 : Shape := ⟨2, ![1, 512]⟩
abbrev S1x64 : Shape := ⟨2, ![1, 64]⟩
abbrev S32768x512 : Shape := ⟨2, ![32768, 512]⟩
abbrev S512 : Shape := ⟨1, ![512]⟩
abbrev S_ : Shape := ⟨0, ![]⟩
abbrev S32768 : Shape := ⟨1, ![32768]⟩
abbrev S32768x1 : Shape := ⟨2, ![32768, 1]⟩
abbrev S32768x64 : Shape := ⟨2, ![32768, 64]⟩
abbrev S64 : Shape := ⟨1, ![64]⟩
abbrev S32768x16 : Shape := ⟨2, ![32768, 16]⟩
abbrev S16 : Shape := ⟨1, ![16]⟩
abbrev S1x16x1 : Shape := ⟨3, ![1, 16, 1]⟩
abbrev S4x16x8192 : Shape := ⟨3, ![4, 16, 8192]⟩
abbrev S4x8192x512 : Shape := ⟨3, ![4, 8192, 512]⟩
abbrev S4x512x8192 : Shape := ⟨3, ![4, 512, 8192]⟩
abbrev S4x528x8192 : Shape := ⟨3, ![4, 528, 8192]⟩
abbrev S4x8192x16 : Shape := ⟨3, ![4, 8192, 16]⟩

abbrev nBuf : Space → Nat
  | .hbm => 81
  | .vmem => 0
  | .smem => 0
  | _ => 0

abbrev bufTy : (tb : Table) → Fin (tcTables nBuf tb) → BufTy
  | .hbm, ⟨0, _⟩ => ⟨S32768x9984, .f32⟩
  | .hbm, ⟨1, _⟩ => ⟨S1x512, .f32⟩
  | .hbm, ⟨2, _⟩ => ⟨S1x64, .f32⟩
  | .hbm, ⟨3, _⟩ => ⟨S1x64, .f32⟩
  | .hbm, ⟨4, _⟩ => ⟨S32768x512, .f32⟩
  | .hbm, ⟨5, _⟩ => ⟨S512, .f32⟩
  | .hbm, ⟨6, _⟩ => ⟨S32768x512, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x512, .f32⟩
  | .hbm, ⟨18, _⟩ => ⟨S32768x512, .f32⟩
  | .hbm, ⟨19, _⟩ => ⟨S1x512, .f32⟩
  | .hbm, ⟨20, _⟩ => ⟨S32768x512, .f32⟩
  | .hbm, ⟨21, _⟩ => ⟨S32768x512, .f32⟩
  | .hbm, ⟨22, _⟩ => ⟨S32768x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x64, .f32⟩
  | .hbm, ⟨32, _⟩ => ⟨S32768x64, .f32⟩
  | .hbm, ⟨33, _⟩ => ⟨S32768x64, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x64, .f32⟩
  | .hbm, ⟨41, _⟩ => ⟨S32768x64, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x64, .f32⟩
  | .hbm, ⟨47, _⟩ => ⟨S32768x64, .f32⟩
  | .hbm, ⟨48, _⟩ => ⟨S1x64, .f32⟩
  | .hbm, ⟨49, _⟩ => ⟨S32768x64, .f32⟩
  | .hbm, ⟨50, _⟩ => ⟨S32768x64, .f32⟩
  | .hbm, ⟨51, _⟩ => ⟨S1x64, .f32⟩
  | .hbm, ⟨52, _⟩ => ⟨S32768x64, .f32⟩
  | .hbm, ⟨53, _⟩ => ⟨S32768x64, .f32⟩
  | .hbm, ⟨54, _⟩ => ⟨S32768x16, .f32⟩
  | .hbm, ⟨55, _⟩ => ⟨S_, .f32⟩
  | .hbm, ⟨56, _⟩ => ⟨S32768x16, .f32⟩
  | .hbm, ⟨57, _⟩ => ⟨S32768x16, .f32⟩
  | .hbm, ⟨58, _⟩ => ⟨S_, .f32⟩
  | .hbm, ⟨59, _⟩ => ⟨S32768x16, .f32⟩
  | .hbm, ⟨60, _⟩ => ⟨S32768x16, .f32⟩
  | .hbm, ⟨61, _⟩ => ⟨S16, .i32⟩
  | .hbm, ⟨62, _⟩ => ⟨S_, .i32⟩
  | .hbm, ⟨63, _⟩ => ⟨S16, .i32⟩
  | .hbm, ⟨64, _⟩ => ⟨S16, .i1⟩
  | .hbm, ⟨65, _⟩ => ⟨S1x16x1, .i1⟩
  | .hbm, ⟨66, _⟩ => ⟨S4x16x8192, .i1⟩
  | .hbm, ⟨67, _⟩ => ⟨S4x8192x512, .f32⟩
  | .hbm, ⟨68, _⟩ => ⟨S4x512x8192, .f32⟩
  | .hbm, ⟨69, _⟩ => ⟨S_, .f32⟩
  | .hbm, ⟨70, _⟩ => ⟨S_, .f32⟩
  | .hbm, ⟨71, _⟩ => ⟨S4x16x8192, .f32⟩
  | .hbm, ⟨72, _⟩ => ⟨S4x16x8192, .f32⟩
  | .hbm, ⟨73, _⟩ => ⟨S4x16x8192, .f32⟩
  | .hbm, ⟨74, _⟩ => ⟨S4x16x8192, .f32⟩
  | .hbm, ⟨75, _⟩ => ⟨S4x528x8192, .f32⟩
  | .hbm, ⟨76, _⟩ => ⟨S32768x512, .bf16⟩
  | .hbm, ⟨77, _⟩ => ⟨S4x528x8192, .bf16⟩
  | .hbm, ⟨78, _⟩ => ⟨S32768x64, .bf16⟩
  | .hbm, ⟨79, _⟩ => ⟨S4x8192x16, .f32⟩
  | .hbm, ⟨80, _⟩ => ⟨S4x16x8192, .f32⟩
  | _, _ => ⟨S32768x9984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_cst_10 : Ref sig .tc := ⟨.hbm, 70, rfl⟩
abbrev main_call0_v0 : Ref sig .tc := ⟨.hbm, 71, rfl⟩
abbrev main_call0_v1 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Dsa.lean ====
abbrev S32768x9984 : Shape := ⟨2, ![32768, 9984]⟩
abbrev S4x16x8192 : Shape := ⟨3, ![4, 16, 8192]⟩
abbrev S32768x64 : Shape := ⟨2, ![32768, 64]⟩
abbrev S32768x512 : Shape := ⟨2, ![32768, 512]⟩
abbrev S4x528x8192 : Shape := ⟨3, ![4, 528, 8192]⟩
abbrev S1x16x512x128 : Shape := ⟨4, ![1, 16, 512, 128]⟩
abbrev S16x512x128 : Shape := ⟨3, ![16, 512, 128]⟩
abbrev S16x128x512 : Shape := ⟨3, ![16, 128, 512]⟩
abbrev S4x8192x64 : Shape := ⟨3, ![4, 8192, 64]⟩
abbrev S4x8192x512 : Shape := ⟨3, ![4, 8192, 512]⟩
abbrev S32768x2048 : Shape := ⟨2, ![32768, 2048]⟩
abbrev S128x2048 : Shape := ⟨2, ![128, 2048]⟩
abbrev S128x1024 : Shape := ⟨2, ![128, 1024]⟩
abbrev S1x16x128 : Shape := ⟨3, ![1, 16, 128]⟩
abbrev S1x8192x64 : Shape := ⟨3, ![1, 8192, 64]⟩
abbrev S1x8192x512 : Shape := ⟨3, ![1, 8192, 512]⟩
abbrev S1x528x8192 : Shape := ⟨3, ![1, 528, 8192]⟩
abbrev S8192x128 : Shape := ⟨2, ![8192, 128]⟩
abbrev S64x2048 : Shape := ⟨2, ![64, 2048]⟩
abbrev S512x2048 : Shape := ⟨2, ![512, 2048]⟩
abbrev S528x2048 : Shape := ⟨2, ![528, 2048]⟩
abbrev S1x2048 : Shape := ⟨2, ![1, 2048]⟩
abbrev S128x128 : Shape := ⟨2, ![128, 128]⟩
abbrev S1x512x128 : Shape := ⟨3, ![1, 512, 128]⟩
abbrev S512x128 : Shape := ⟨2, ![512, 128]⟩
abbrev S64x64 : Shape := ⟨2, ![64, 64]⟩
abbrev S128x64 : Shape := ⟨2, ![128, 64]⟩
abbrev S64x128 : Shape := ⟨2, ![64, 128]⟩
abbrev S1x512x64 : Shape := ⟨3, ![1, 512, 64]⟩
abbrev S512x64 : Shape := ⟨2, ![512, 64]⟩
abbrev S1x1x128 : Shape := ⟨3, ![1, 1, 128]⟩
abbrev S1x128 : Shape := ⟨2, ![1, 128]⟩
abbrev S8x64x128 : Shape := ⟨3, ![8, 64, 128]⟩
abbrev S128 : Shape := ⟨1, ![128]⟩
abbrev S1x512x512 : Shape := ⟨3, ![1, 512, 512]⟩
abbrev S512x512 : Shape := ⟨2, ![512, 512]⟩
abbrev S1x528x512 : Shape := ⟨3, ![1, 528, 512]⟩
abbrev S528x512 : Shape := ⟨2, ![528, 512]⟩
abbrev S1x128x512 : Shape := ⟨3, ![1, 128, 512]⟩
abbrev S128x512 : Shape := ⟨2, ![128, 512]⟩

abbrev nBuf : Space → Nat
  | .hbm => 15
  | .vmem => 20
  | .smem => 0
  | _ => 0

abbrev bufTy : (tb : Table) → Fin (tcTables nBuf tb) → BufTy
  | .hbm, ⟨0, _⟩ => ⟨S32768x9984, .f32⟩
  | .hbm, ⟨1, _⟩ => ⟨S4x16x8192, .f32⟩
  | .hbm, ⟨2, _⟩ => ⟨S32768x64, .bf16⟩
  | .hbm, ⟨3, _⟩ => ⟨S32768x512, .bf16⟩
  | .hbm, ⟨4, _⟩ => ⟨S4x528x8192, .bf16⟩
  | .hbm, ⟨5, _⟩ => ⟨S1x16x512x128, .f32⟩
  | .hbm, ⟨6, _⟩ => ⟨S1x16x512x128, .f32⟩
  | .hbm, ⟨7, _⟩ => ⟨S16x512x128, .f32⟩
  | .hbm, ⟨8, _⟩ => ⟨S16x512x128, .bf16⟩
  | .hbm, ⟨9, _⟩ => ⟨S16x512x128, .f32⟩
  | .hbm, ⟨10, _⟩ => ⟨S16x128x512, .f32⟩
  | .hbm, ⟨11, _⟩ => ⟨S16x128x512, .bf16⟩
  | .hbm, ⟨12, _⟩ => ⟨S4x8192x64, .bf16⟩
  | .hbm, ⟨13, _⟩ => ⟨S4x8192x512, .bf16⟩
  | .hbm, ⟨14, _⟩ => ⟨S32768x2048, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S1x16x128, .f32⟩
  | .local _ .vmem, ⟨5, _⟩ => ⟨S1x16x128, .f32⟩
  | .local _ .vmem, ⟨6, _⟩ => ⟨S1x8192x64, .bf16⟩
  | .local _ .vmem, ⟨7, _⟩ => ⟨S1x8192x512, .bf16⟩
  | .local _ .vmem, ⟨8, _⟩ => ⟨S1x528x8192, .bf16⟩
  | .local _ .vmem, ⟨9, _⟩ => ⟨S16x512x128, .bf16⟩
  | .local _ .vmem, ⟨10, _⟩ => ⟨S16x128x512, .bf16⟩
  | .local _ .vmem, ⟨11, _⟩ => ⟨S128x2048, .f32⟩
  | .local _ .vmem, ⟨12, _⟩ => ⟨S128x2048, .f32⟩
  | .local _ .vmem, ⟨13, _⟩ => ⟨S8192x128, .i32⟩
  | .local _ .vmem, ⟨14, _⟩ => ⟨S64x2048, .bf16⟩
  | .local _ .vmem, ⟨15, _⟩ => ⟨S512x2048, .bf16⟩
  | .local _ .vmem, ⟨16, _⟩ => ⟨S528x2048, .f32⟩
  | .local _ .vmem, ⟨17, _⟩ => ⟨S1x2048, .f32⟩
  | .local _ .vmem, ⟨18, _⟩ => ⟨S1x2048, .f32⟩
  | .local _ .vmem, ⟨19, _⟩ => ⟨S512x2048, .bf16⟩
  | _, _ => ⟨S32768x9984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [BitOps F]

abbrev grid0 : Pipeline.Grid := ⟨2, ![4, 64], ![false, false]⟩

@[reducible] def k0_t1_loop (i : grid0.Coords) : Scf.Loop 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v320 : BitVec 32 := Scalar.subi v20 c0_i32_194
  let c1_i32_195 : BitVec 32 := 1#32
  let v322 : BitVec 32 := Scalar.divsi v320 c1_i32_195
  let v323 : BitVec 32 := Scalar.muli v322 c1_i32_195
  let v324 : BitVec 32 := Scalar.addi c0_i32_194 v323
  let c1_i32_196 : BitVec 32 := 1#32
  ⟨c0_i32_194, v324, c1_i32_196⟩
def k0_mult1 (i : grid0.Coords) (k0_t1 : Fin (k0_t1_loop i).trips) : BitVec 32 :=
  let c0_i32_194 : BitVec 32 := 0#32
  let c1_i32_196 : BitVec 32 := 1#32
  let arg18 : BitVec 32 := Scf.iv c0_i32_194 c1_i32_196 k0_t1
  let c512_i32_344 : BitVec 32 := 512#32
  let v508 : BitVec 32 := Scalar.muli arg18 c512_i32_344
  v508
def k0_off1 (i : grid0.Coords) (k0_t1 : Fin (k0_t1_loop i).trips) : Fin 3 → Nat :=
  let c0_345 : Index := 0#32
  let c0_i32_194 : BitVec 32 := 0#32
  let c1_i32_196 : BitVec 32 := 1#32
  let arg18 : BitVec 32 := Scf.iv c0_i32_194 c1_i32_196 k0_t1
  let c512_i32_344 : BitVec 32 := 512#32
  let v508 : BitVec 32 := Scalar.muli arg18 c512_i32_344
  let v509 : BitVec 32 := v508
  let v510 : Index := Scalar.indexCast v509
  let c0_346 : Index := 0#32
  ![0, v510.toNat, 0]
def k0_off2 (i : grid0.Coords) (k0_t1 : Fin (k0_t1_loop i).trips) : Fin 2 → Nat :=
  let c0_i32_194 : BitVec 32 := 0#32
  let c1_i32_196 : BitVec 32 := 1#32
  let arg18 : BitVec 32 := Scf.iv c0_i32_194 c1_i32_196 k0_t1
  let c512_i32_344 : BitVec 32 := 512#32
  let v508 : BitVec 32 := Scalar.muli arg18 c512_i32_344
  let v509 : BitVec 32 := v508
  let v655 : Index := Scalar.indexCast v509
  let c0_416 : Index := 0#32
  ![v655.toNat, 0]
@[reducible] def k0_t2_loop (i : grid0.Coords) : Scf.Loop 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v320 : BitVec 32 := Scalar.subi v20 c0_i32_194
  let c1_i32_195 : BitVec 32 := 1#32
  let v322 : BitVec 32 := Scalar.divsi v320 c1_i32_195
  let v323 : BitVec 32 := Scalar.muli v322 c1_i32_195
  let v324 : BitVec 32 := Scalar.addi c0_i32_194 v323
  let v321 : BitVec 32 := Scalar.addi c0_i32_194 v320
  let c1_i32_197 : BitVec 32 := 1#32
  ⟨v324, v321, c1_i32_197⟩
def k0_mult2 (i : grid0.Coords) (k0_t2 : Fin (k0_t2_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v320 : BitVec 32 := Scalar.subi v20 c0_i32_194
  let c1_i32_195 : BitVec 32 := 1#32
  let v322 : BitVec 32 := Scalar.divsi v320 c1_i32_195
  let v323 : BitVec 32 := Scalar.muli v322 c1_i32_195
  let v324 : BitVec 32 := Scalar.addi c0_i32_194 v323
  let c1_i32_197 : BitVec 32 := 1#32
  let arg18 : BitVec 32 := Scf.iv v324 c1_i32_197 k0_t2
  let c512_i32_344 : BitVec 32 := 512#32
  let v508 : BitVec 32 := Scalar.muli arg18 c512_i32_344
  v508
def k0_off3 (i : grid0.Coords) (k0_t2 : Fin (k0_t2_loop i).trips) : Fin 3 → Nat :=
  let c0_345 : Index := 0#32
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v320 : BitVec 32 := Scalar.subi v20 c0_i32_194
  let c1_i32_195 : BitVec 32 := 1#32
  let v322 : BitVec 32 := Scalar.divsi v320 c1_i32_195
  let v323 : BitVec 32 := Scalar.muli v322 c1_i32_195
  let v324 : BitVec 32 := Scalar.addi c0_i32_194 v323
  let c1_i32_197 : BitVec 32 := 1#32
  let arg18 : BitVec 32 := Scf.iv v324 c1_i32_197 k0_t2
  let c512_i32_344 : BitVec 32 := 512#32
  let v508 : BitVec 32 := Scalar.muli arg18 c512_i32_344
  let v509 : BitVec 32 := v508
  let v510 : Index := Scalar.indexCast v509
  let c0_346 : Index := 0#32
  ![0, v510.toNat, 0]
def k0_off4 (i : grid0.Coords) (k0_t2 : Fin (k0_t2_loop i).trips) : Fin 2 → Nat :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v320 : BitVec 32 := Scalar.subi v20 c0_i32_194
  let c1_i32_195 : BitVec 32 := 1#32
  let v322 : BitVec 32 := Scalar.divsi v320 c1_i32_195
  let v323 : BitVec 32 := Scalar.muli v322 c1_i32_195
  let v324 : BitVec 32 := Scalar.addi c0_i32_194 v323
  let c1_i32_197 : BitVec 32 := 1#32
  let arg18 : BitVec 32 := Scf.iv v324 c1_i32_197 k0_t2
  let c512_i32_344 : BitVec 32 := 512#32
  let v508 : BitVec 32 := Scalar.muli arg18 c512_i32_344
  let v509 : BitVec 32 := v508
  let v655 : Index := Scalar.indexCast v509
  let c0_416 : Index := 0#32
  ![v655.toNat, 0]
@[reducible] def k0_t3_loop : Scf.Loop 32 :=
  let c0_i32_199 : BitVec 32 := 0#32
  let c32_i32 : BitVec 32 := 32#32
  let v326 : BitVec 32 := Scalar.addi c0_i32_199 c32_i32
  let c1_i32_200 : BitVec 32 := 1#32
  ⟨c0_i32_199, v326, c1_i32_200⟩
@[reducible] def k0_t4_loop (i : grid0.Coords) : Scf.Loop 32 :=
  let c0_i32_347 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v515 : BitVec 32 := Scalar.subi v20 c0_i32_347
  let c1_i32_348 : BitVec 32 := 1#32
  let v517 : BitVec 32 := Scalar.divsi v515 c1_i32_348
  let v518 : BitVec 32 := Scalar.muli v517 c1_i32_348
  let v519 : BitVec 32 := Scalar.addi c0_i32_347 v518
  let c1_i32_349 : BitVec 32 := 1#32
  ⟨c0_i32_347, v519, c1_i32_349⟩
def k0_mult3 (i : grid0.Coords) (k0_t4 : Fin (k0_t4_loop i).trips) : BitVec 32 :=
  let c0_i32_347 : BitVec 32 := 0#32
  let c1_i32_349 : BitVec 32 := 1#32
  let arg20 : BitVec 32 := Scf.iv c0_i32_347 c1_i32_349 k0_t4
  let c512_i32_353 : BitVec 32 := 512#32
  let v527 : BitVec 32 := Scalar.muli arg20 c512_i32_353
  v527
def k0_off5 (i : grid0.Coords) (k0_t4 : Fin (k0_t4_loop i).trips) : Fin 2 → Nat :=
  let c0_i32_347 : BitVec 32 := 0#32
  let c1_i32_349 : BitVec 32 := 1#32
  let arg20 : BitVec 32 := Scf.iv c0_i32_347 c1_i32_349 k0_t4
  let c512_i32_353 : BitVec 32 := 512#32
  let v527 : BitVec 32 := Scalar.muli arg20 c512_i32_353
  let v528 : BitVec 32 := v527
  let v529 : Index := Scalar.indexCast v528
  let c0_354 : Index := 0#32
  ![v529.toNat, 0]
@[reducible] def k0_t5_loop (i : grid0.Coords) : Scf.Loop 32 :=
  let c0_i32_347 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v515 : BitVec 32 := Scalar.subi v20 c0_i32_347
  let c1_i32_348 : BitVec 32 := 1#32
  let v517 : BitVec 32 := Scalar.divsi v515 c1_i32_348
  let v518 : BitVec 32 := Scalar.muli v517 c1_i32_348
  let v519 : BitVec 32 := Scalar.addi c0_i32_347 v518
  let v516 : BitVec 32 := Scalar.addi c0_i32_347 v515
  let c1_i32_350 : BitVec 32 := 1#32
  ⟨v519, v516, c1_i32_350⟩
def k0_mult4 (i : grid0.Coords) (k0_t5 : Fin (k0_t5_loop i).trips) : BitVec 32 :=
  let c0_i32_347 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v515 : BitVec 32 := Scalar.subi v20 c0_i32_347
  let c1_i32_348 : BitVec 32 := 1#32
  let v517 : BitVec 32 := Scalar.divsi v515 c1_i32_348
  let v518 : BitVec 32 := Scalar.muli v517 c1_i32_348
  let v519 : BitVec 32 := Scalar.addi c0_i32_347 v518
  let c1_i32_350 : BitVec 32 := 1#32
  let arg20 : BitVec 32 := Scf.iv v519 c1_i32_350 k0_t5
  let c512_i32_353 : BitVec 32 := 512#32
  let v527 : BitVec 32 := Scalar.muli arg20 c512_i32_353
  v527
def k0_off6 (i : grid0.Coords) (k0_t5 : Fin (k0_t5_loop i).trips) : Fin 2 → Nat :=
  let c0_i32_347 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v515 : BitVec 32 := Scalar.subi v20 c0_i32_347
  let c1_i32_348 : BitVec 32 := 1#32
  let v517 : BitVec 32 := Scalar.divsi v515 c1_i32_348
  let v518 : BitVec 32 := Scalar.muli v517 c1_i32_348
  let v519 : BitVec 32 := Scalar.addi c0_i32_347 v518
  let c1_i32_350 : BitVec 32 := 1#32
  let arg20 : BitVec 32 := Scf.iv v519 c1_i32_350 k0_t5
  let c512_i32_353 : BitVec 32 := 512#32
  let v527 : BitVec 32 := Scalar.muli arg20 c512_i32_353
  let v528 : BitVec 32 := v527
  let v529 : Index := Scalar.indexCast v528
  let c0_354 : Index := 0#32
  ![v529.toNat, 0]
@[reducible] def k0_t6_loop (i : grid0.Coords) : Scf.Loop 32 :=
  let c0_i32_209 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v340 : BitVec 32 := Scalar.subi v20 c0_i32_209
  let c1_i32_210 : BitVec 32 := 1#32
  let v342 : BitVec 32 := Scalar.divsi v340 c1_i32_210
  let v343 : BitVec 32 := Scalar.muli v342 c1_i32_210
  let v344 : BitVec 32 := Scalar.addi c0_i32_209 v343
  let c1_i32_211 : BitVec 32 := 1#32
  ⟨c0_i32_209, v344, c1_i32_211⟩
def k0_mult5 (i : grid0.Coords) (k0_t6 : Fin (k0_t6_loop i).trips) : BitVec 32 :=
  let c0_i32_209 : BitVec 32 := 0#32
  let c1_i32_211 : BitVec 32 := 1#32
  let arg18 : BitVec 32 := Scf.iv c0_i32_209 c1_i32_211 k0_t6
  let c512_i32_344 : BitVec 32 := 512#32
  let v508 : BitVec 32 := Scalar.muli arg18 c512_i32_344
  v508
def k0_off7 (i : grid0.Coords) (k0_t6 : Fin (k0_t6_loop i).trips) : Fin 3 → Nat :=
  let c0_345 : Index := 0#32
  let c0_i32_209 : BitVec 32 := 0#32
  let c1_i32_211 : BitVec 32 := 1#32
  let arg18 : BitVec 32 := Scf.iv c0_i32_209 c1_i32_211 k0_t6
  let c512_i32_344 : BitVec 32 := 512#32
  let v508 : BitVec 32 := Scalar.muli arg18 c512_i32_344
  let v509 : BitVec 32 := v508
  let v510 : Index := Scalar.indexCast v509
  let c0_346 : Index := 0#32
  ![0, v510.toNat, 0]
def k0_off8 (i : grid0.Coords) (k0_t6 : Fin (k0_t6_loop i).trips) : Fin 2 → Nat :=
  let c0_i32_209 : BitVec 32 := 0#32
  let c1_i32_211 : BitVec 32 := 1#32
  let arg18 : BitVec 32 := Scf.iv c0_i32_209 c1_i32_211 k0_t6
  let c512_i32_344 : BitVec 32 := 512#32
  let v508 : BitVec 32 := Scalar.muli arg18 c512_i32_344
  let v509 : BitVec 32 := v508
  let v515 : Index := Scalar.indexCast v509
  let c0_350 : Index := 0#32
  ![v515.toNat, 0]
def k0_off9 (i : grid0.Coords) (k0_t6 : Fin (k0_t6_loop i).trips) : Fin 3 → Nat :=
  let c0_511 : Index := 0#32
  let c0_512 : Index := 0#32
  let c0_i32_209 : BitVec 32 := 0#32
  let c1_i32_211 : BitVec 32 := 1#32
  let arg18 : BitVec 32 := Scf.iv c0_i32_209 c1_i32_211 k0_t6
  let c512_i32_344 : BitVec 32 := 512#32
  let v508 : BitVec 32 := Scalar.muli arg18 c512_i32_344
  let v509 : BitVec 32 := v508
  let v871 : Index := Scalar.indexCast v509
  ![0, 0, v871.toNat]
@[reducible] def k0_t7_loop (i : grid0.Coords) : Scf.Loop 32 :=
  let c0_i32_209 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v340 : BitVec 32 := Scalar.subi v20 c0_i32_209
  let c1_i32_210 : BitVec 32 := 1#32
  let v342 : BitVec 32 := Scalar.divsi v340 c1_i32_210
  let v343 : BitVec 32 := Scalar.muli v342 c1_i32_210
  let v344 : BitVec 32 := Scalar.addi c0_i32_209 v343
  let v341 : BitVec 32 := Scalar.addi c0_i32_209 v340
  let c1_i32_212 : BitVec 32 := 1#32
  ⟨v344, v341, c1_i32_212⟩
def k0_mult6 (i : grid0.Coords) (k0_t7 : Fin (k0_t7_loop i).trips) : BitVec 32 :=
  let c0_i32_209 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v340 : BitVec 32 := Scalar.subi v20 c0_i32_209
  let c1_i32_210 : BitVec 32 := 1#32
  let v342 : BitVec 32 := Scalar.divsi v340 c1_i32_210
  let v343 : BitVec 32 := Scalar.muli v342 c1_i32_210
  let v344 : BitVec 32 := Scalar.addi c0_i32_209 v343
  let c1_i32_212 : BitVec 32 := 1#32
  let arg18 : BitVec 32 := Scf.iv v344 c1_i32_212 k0_t7
  let c512_i32_344 : BitVec 32 := 512#32
  let v508 : BitVec 32 := Scalar.muli arg18 c512_i32_344
  v508
def k0_off10 (i : grid0.Coords) (k0_t7 : Fin (k0_t7_loop i).trips) : Fin 3 → Nat :=
  let c0_345 : Index := 0#32
  let c0_i32_209 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v340 : BitVec 32 := Scalar.subi v20 c0_i32_209
  let c1_i32_210 : BitVec 32 := 1#32
  let v342 : BitVec 32 := Scalar.divsi v340 c1_i32_210
  let v343 : BitVec 32 := Scalar.muli v342 c1_i32_210
  let v344 : BitVec 32 := Scalar.addi c0_i32_209 v343
  let c1_i32_212 : BitVec 32 := 1#32
  let arg18 : BitVec 32 := Scf.iv v344 c1_i32_212 k0_t7
  let c512_i32_344 : BitVec 32 := 512#32
  let v508 : BitVec 32 := Scalar.muli arg18 c512_i32_344
  let v509 : BitVec 32 := v508
  let v510 : Index := Scalar.indexCast v509
  let c0_346 : Index := 0#32
  ![0, v510.toNat, 0]
def k0_off11 (i : grid0.Coords) (k0_t7 : Fin (k0_t7_loop i).trips) : Fin 2 → Nat :=
  let c0_i32_209 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v340 : BitVec 32 := Scalar.subi v20 c0_i32_209
  let c1_i32_210 : BitVec 32 := 1#32
  let v342 : BitVec 32 := Scalar.divsi v340 c1_i32_210
  let v343 : BitVec 32 := Scalar.muli v342 c1_i32_210
  let v344 : BitVec 32 := Scalar.addi c0_i32_209 v343
  let c1_i32_212 : BitVec 32 := 1#32
  let arg18 : BitVec 32 := Scf.iv v344 c1_i32_212 k0_t7
  let c512_i32_344 : BitVec 32 := 512#32
  let v508 : BitVec 32 := Scalar.muli arg18 c512_i32_344
  let v509 : BitVec 32 := v508
  let v515 : Index := Scalar.indexCast v509
  let c0_350 : Index := 0#32
  ![v515.toNat, 0]
def k0_off12 (i : grid0.Coords) (k0_t7 : Fin (k0_t7_loop i).trips) : Fin 3 → Nat :=
  let c0_511 : Index := 0#32
  let c0_512 : Index := 0#32
  let c0_i32_209 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v340 : BitVec 32 := Scalar.subi v20 c0_i32_209
  let c1_i32_210 : BitVec 32 := 1#32
  let v342 : BitVec 32 := Scalar.divsi v340 c1_i32_210
  let v343 : BitVec 32 := Scalar.muli v342 c1_i32_210
  let v344 : BitVec 32 := Scalar.addi c0_i32_209 v343
  let c1_i32_212 : BitVec 32 := 1#32
  let arg18 : BitVec 32 := Scf.iv v344 c1_i32_212 k0_t7
  let c512_i32_344 : BitVec 32 := 512#32
  let v508 : BitVec 32 := Scalar.muli arg18 c512_i32_344
  let v509 : BitVec 32 := v508
  let v871 : Index := Scalar.indexCast v509
  ![0, 0, v871.toNat]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c8_i32 : BitVec 32 := 8#32
  let c0_i32 : BitVec 32 := 0#32
  ![v1.toNat, c8_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8192x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x528x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S16x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Route.lean ====
abbrev S8x128x32768 : Shape := ⟨3, ![8, 128, 32768]⟩
abbrev S256x128x128 : Shape := ⟨3, ![256, 128, 128]⟩
abbrev S8x128x128 : Shape := ⟨3, ![8, 128, 128]⟩
abbrev S1x128x128 : Shape := ⟨3, ![1, 128, 128]⟩
abbrev S128x128 : Shape := ⟨2, ![128, 128]⟩
abbrev S8x128 : Shape := ⟨2, ![8, 128]⟩
abbrev S16x128 : Shape := ⟨2, ![16, 128]⟩
abbrev S80x128 : Shape := ⟨2, ![80, 128]⟩
abbrev S128 : Shape := ⟨1, ![128]⟩
abbrev S1x128 : Shape := ⟨2, ![1, 128]⟩
abbrev S1x16x128 : Shape := ⟨3, ![1, 16, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x128x32768, .f32⟩
  | .hbm, ⟨1, _⟩ => ⟨S8x128x32768, .f32⟩
  | .hbm, ⟨2, _⟩ => ⟨S256x128x128, .i32⟩
  | .hbm, ⟨3, _⟩ => ⟨S256x128x128, .f32⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S1x128x128, .i32⟩
  | .local _ .vmem, ⟨5, _⟩ => ⟨S1x128x128, .i32⟩
  | .local _ .vmem, ⟨6, _⟩ => ⟨S1x128x128, .f32⟩
  | .local _ .vmem, ⟨7, _⟩ => ⟨S1x128x128, .f32⟩
  | _, _ => ⟨S8x128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RouteReferenceIdeal.lean ====
abbrev S8x128x32768 : Shape := ⟨3, ![8, 128, 32768]⟩
abbrev S32768x8x128 : Shape := ⟨3, ![32768, 8, 128]⟩
abbrev S32768x8x16 : Shape := ⟨3, ![32768, 8, 16]⟩
abbrev S32768x8x16x1 : Shape := ⟨4, ![32768, 8, 16, 1]⟩
abbrev S32768x8x1x16 : Shape := ⟨4, ![32768, 8, 1, 16]⟩
abbrev S32768x8x16x16 : Shape := ⟨4, ![32768, 8, 16, 16]⟩
abbrev S32768x8x256 : Shape := ⟨3, ![32768, 8, 256]⟩
abbrev S_ : Shape := ⟨0, ![]⟩
abbrev S1 : Shape := ⟨1, ![1]⟩
abbrev S1x1x1x1 : Shape := ⟨4, ![1, 1, 1, 1]⟩
abbrev S32768x128 : Shape := ⟨2, ![32768, 128]⟩
abbrev S32768x8 : Shape := ⟨2, ![32768, 8]⟩
abbrev S32768x8x1 : Shape := ⟨3, ![32768, 8, 1]⟩
abbrev S256x128x128 : Shape := ⟨3, ![256, 128, 128]⟩

abbrev nBuf : Space → Nat
  | .hbm => 67
  | .vmem => 0
  | .smem => 0
  | _ => 0

abbrev bufTy : (tb : Table) → Fin (tcTables nBuf tb) → BufTy
  | .hbm, ⟨0, _⟩ => ⟨S8x128x32768, .f32⟩
  | .hbm, ⟨1, _⟩ => ⟨S8x128x32768, .f32⟩
  | .hbm, ⟨2, _⟩ => ⟨S32768x8x128, .f32⟩
  | .hbm, ⟨3, _⟩ => ⟨S32768x8x128, .f32⟩
  | .hbm, ⟨4, _⟩ => ⟨S32768x8x16, .f32⟩
  | .hbm, ⟨5, _⟩ => ⟨S32768x8x16, .i32⟩
  | .hbm, ⟨6, _⟩ => ⟨S32768x8x16, .f32⟩
  | .hbm, ⟨7, _⟩ => ⟨S32768x8x16, .i32⟩
  | .hbm, ⟨8, _⟩ => ⟨S32768x8x16x1, .f32⟩
  | .hbm, ⟨9, _⟩ => ⟨S32768x8x1x16, .f32⟩
  | .hbm, ⟨10, _⟩ => ⟨S32768x8x16x16, .f32⟩
  | .hbm, ⟨11, _⟩ => ⟨S32768x8x16x16, .f32⟩
  | .hbm, ⟨12, _⟩ => ⟨S32768x8x16x16, .f32⟩
  | .hbm, ⟨13, _⟩ => ⟨S32768x8x256, .f32⟩
  | .hbm, ⟨14, _⟩ => ⟨S32768x8x16x1, .i32⟩
  | .hbm, ⟨15, _⟩ => ⟨S_, .i32⟩
  | .hbm, ⟨16, _⟩ => ⟨S32768x8x16x1, .i32⟩
  | .hbm, ⟨17, _⟩ => ⟨S32768x8x16x1, .i32⟩
  | .hbm, ⟨18, _⟩ => ⟨S32768x8x1x16, .i32⟩
  | .hbm, ⟨19, _⟩ => ⟨S32768x8x16x16, .i32⟩
  | .hbm, ⟨20, _⟩ => ⟨S32768x8x16x16, .i32⟩
  | .hbm, ⟨21, _⟩ => ⟨S32768x8x16x16, .i32⟩
  | .hbm, ⟨22, _⟩ => ⟨S32768x8x256, .i32⟩
  | .hbm, ⟨23, _⟩ => ⟨S32768x8x16, .f32⟩
  | .hbm, ⟨24, _⟩ => ⟨S32768x8x16, .i32⟩
  | .hbm, ⟨25, _⟩ => ⟨S_, .i32⟩
  | .hbm, ⟨26, _⟩ => ⟨S32768x8x16, .i32⟩
  | .hbm, ⟨27, _⟩ => ⟨S32768x8x16, .i1⟩
  | .hbm, ⟨28, _⟩ => ⟨S_, .i32⟩
  | .hbm, ⟨29, _⟩ => ⟨S32768x8x16, .i32⟩
  | .hbm, ⟨30, _⟩ => ⟨S32768x8x16, .i32⟩
  | .hbm, ⟨31, _⟩ => ⟨S32768x8x16, .i32⟩
  | .hbm, ⟨32, _⟩ => ⟨S32768x8x16x1, .i32⟩
  | .hbm, ⟨33, _⟩ => ⟨S1, .i32⟩
  | .hbm, ⟨34, _⟩ => ⟨S_, .i32⟩
  | .hbm, ⟨35, _⟩ => ⟨S32768x8x16x1, .i32⟩
  | .hbm, ⟨36, _⟩ => ⟨S32768x8x16x1, .i1⟩
  | .hbm, ⟨37, _⟩ => ⟨S1x1x1x1, .i32⟩
  | .hbm, ⟨38, _⟩ => ⟨S32768x8x16x1, .i32⟩
  | .hbm, ⟨39, _⟩ => ⟨S32768x8x16x1, .i1⟩
  | .hbm, ⟨40, _⟩ => ⟨S32768x8x16x1, .i1⟩
  | .hbm, ⟨41, _⟩ => ⟨S_, .i1⟩
  | .hbm, ⟨42, _⟩ => ⟨S32768x8x16, .i1⟩
  | .hbm, ⟨43, _⟩ => ⟨S32768x8x16, .i32⟩
  | .hbm, ⟨44, _⟩ => ⟨S_, .i32⟩
  | .hbm, ⟨45, _⟩ => ⟨S32768x8x16, .i32⟩
  | .hbm, ⟨46, _⟩ => ⟨S32768x8x16, .i32⟩
  | .hbm, ⟨47, _⟩ => ⟨S32768x128, .i32⟩
  | .hbm, ⟨48, _⟩ => ⟨S_, .f32⟩
  | .hbm, ⟨49, _⟩ => ⟨S32768x8, .f32⟩
  | .hbm, ⟨50, _⟩ => ⟨S_, .f32⟩
  | .hbm, ⟨51, _⟩ => ⟨S32768x8, .f32⟩
  | .hbm, ⟨52, _⟩ => ⟨S32768x8, .f32⟩
  | .hbm, ⟨53, _⟩ => ⟨S32768x8x1, .f32⟩
  | .hbm, ⟨54, _⟩ => ⟨S32768x8x16, .f32⟩
  | .hbm, ⟨55, _⟩ => ⟨S32768x8x16, .f32⟩
  | .hbm, ⟨56, _⟩ => ⟨S32768x8x16, .f32⟩
  | .hbm, ⟨57, _⟩ => ⟨S_, .f32⟩
  | .hbm, ⟨58, _⟩ => ⟨S32768x8, .f32⟩
  | .hbm, ⟨59, _⟩ => ⟨S32768x8x1, .f32⟩
  | .hbm, ⟨60, _⟩ => ⟨S32768x8x16, .f32⟩
  | .hbm, ⟨61, _⟩ => ⟨S32768x8x16, .f32⟩
  | .hbm, ⟨62, _⟩ => ⟨S32768x128, .f32⟩
  | .hbm, ⟨63, _⟩ => ⟨S256x128x128, .i32⟩
  | .hbm, ⟨64, _⟩ => ⟨S256x128x128, .i32⟩
  | .hbm, ⟨65, _⟩ => ⟨S256x128x128, .f32⟩
  | .hbm, ⟨66, _⟩ => ⟨S256x128x128, .f32⟩
  | _, _ => ⟨S8x128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_values_0 : Ref sig .tc := ⟨.hbm, 6, rfl⟩
abbrev main_indices_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_values_2 : Ref sig .tc := ⟨.hbm, 23, rfl⟩
abbrev main_indices_3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_c_4 : Ref sig .tc := ⟨.hbm, 44, rfl⟩
abbrev main_call0_v14 : Ref sig .tc := ⟨.hbm, 45, rfl⟩
abbrev main_v16 : Ref sig .tc := ⟨.hbm, 46, rfl⟩
abbrev main_v17 : Ref sig .tc := ⟨.hbm, 47, rfl⟩
abbrev main_cst : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩

abbrev nD : Nat := 1
abbrev τ : Topo := Topo.v7x

variable {F : FTy → Type} [FloatOps F]
-- ==== Proof.DsaLoop.lean ====
/- The outer counted loop of the attention's threshold search: what it holds and that every trip of it runs. -/
module

public import proofs.«01_k».proof.Proof.Gen.Dsa.Loops

@[expose] public section

set_option maxRecDepth 16384

noncomputable section

namespace Cert.DsaLoop

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

set_option warn.classDefReducibility false in
/-- The search over the bits of the threshold only reads the sortable keys: before every trip the keys are as they were
    when the loop was entered, whatever threshold the loop carries. -/
@[sl_loop] def searchInv (𝒱 : Variants) (c : Dev nD) (bd : Option 𝒱.V) (E : Set ℕ) (i : grid0.Coords) (arg2 : Memref sig .tc .vmem S128x2048 .f32) (harg2 : arg2.IsWhole) (arg3 : Memref sig .tc .vmem S128x1024 .f32) (harg3 : arg3.IsWhole) (arg4 : Memref sig .tc .vmem S1x16x128 .f32) (harg4 : arg4.IsWhole) (arg5 : Memref sig .tc .vmem S1x8192x64 .bf16) (harg5 : arg5.IsWhole) (arg6 : Memref sig .tc .vmem S1x8192x512 .bf16) (harg6 : arg6.IsWhole) (arg7 : Memref sig .tc .vmem S1x528x8192 .bf16) (harg7 : arg7.IsWhole) (arg8 : Memref sig .tc .vmem S16x512x128 .bf16) (harg8 : arg8.IsWhole) (arg9 : Memref sig .tc .vmem S16x128x512 .bf16) (harg9 : arg9.IsWhole) (arg10 : Memref sig .tc .vmem S128x2048 .f32) (harg10 : arg10.IsWhole) (arg11 : Memref sig .tc .vmem S8192x128 .i32) (harg11 : arg11.IsWhole) (arg12 : Memref sig .tc .vmem S64x2048 .bf16) (harg12 : arg12.IsWhole) (arg13 : Memref sig .tc .vmem S512x2048 .bf16) (harg13 : arg13.IsWhole) (arg14 : Memref sig .tc .vmem S528x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S512x2048 .bf16) (harg17 : arg17.IsWhole) (v20 : BitVec 32) (v318 : IVec S512x128 32) (v319 : IVec S512x128 32) (c0_i32_194 : BitVec 32) (v324 : BitVec 32) (c1_i32_196 : BitVec 32) (X : BufTy.Contents (Elt F) arg11.view.ty) (init : IVec S1x128 32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v318 v319 c0_i32_194 v324 c1_i32_196 init where
  inv := fun _ _ => (iprop(arg11.view.loc (c : Thread nD τ) ↦[arg11.view.set]{fullShare} X) : sProp 𝕄)
  step k acc := by
    unfold k0_t3_body
    iintro H
    sl_exec
    sl_step
    iexact H

end Cert.DsaLoop

end
-- ==== Proof.DsaBody.lean ====
/- One grid point of the attention: the kernel's body runs from any contents of its buffers and leaves each at some contents. -/
module

public import proofs.«01_k».proof.Proof.DsaLoop

@[expose] public section

set_option maxRecDepth 16384

noncomputable section

namespace Cert.DsaBody

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

set_option maxHeartbeats 4000000 in
/-- The body of the attention runs to its end from any contents of the buffers it is handed: it stays inside them, and
    afterwards each is there at some contents. -/
theorem body_runs (c : Dev nD) (E : Set ℕ) (i : grid0.Coords) (arg2 : Memref sig .tc .vmem S128x2048 .f32) (harg2 : arg2.IsWhole) (arg3 : Memref sig .tc .vmem S128x1024 .f32) (harg3 : arg3.IsWhole) (arg4 : Memref sig .tc .vmem S1x16x128 .f32) (harg4 : arg4.IsWhole) (arg5 : Memref sig .tc .vmem S1x8192x64 .bf16) (harg5 : arg5.IsWhole) (arg6 : Memref sig .tc .vmem S1x8192x512 .bf16) (harg6 : arg6.IsWhole) (arg7 : Memref sig .tc .vmem S1x528x8192 .bf16) (harg7 : arg7.IsWhole) (arg8 : Memref sig .tc .vmem S16x512x128 .bf16) (harg8 : arg8.IsWhole) (arg9 : Memref sig .tc .vmem S16x128x512 .bf16) (harg9 : arg9.IsWhole) (arg10 : Memref sig .tc .vmem S128x2048 .f32) (harg10 : arg10.IsWhole) (arg11 : Memref sig .tc .vmem S8192x128 .i32) (harg11 : arg11.IsWhole) (arg12 : Memref sig .tc .vmem S64x2048 .bf16) (harg12 : arg12.IsWhole) (arg13 : Memref sig .tc .vmem S512x2048 .bf16) (harg13 : arg13.IsWhole) (arg14 : Memref sig .tc .vmem S528x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S512x2048 .bf16) (harg17 : arg17.IsWhole) :
    (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) : sProp 𝕄)
      ⊢ wp frame (wpE (defs₀ (F := F)) Variants.none (c : Thread nD τ) none) E (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))) := by
  simp only [cc0_dsa_eq_skeleton]; unfold cc0_dsa_skel
  simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩
  sl_exec
  sl_step
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  iexists _; iexists _; isplitr
  swap; · iexact H17
  ipureintro; rfl

end Cert.DsaBody

end
-- ==== Proof.DsaFrame.lean ====
/- The frame of the attention: from the run of one grid point to the run of the whole program. -/
module

public import proofs.«01_k».proof.Proof.DsaBody
public import proofs.«01_k».proof.Proof.Gen.Dsa.Frame

@[expose] public section

set_option maxRecDepth 16384

noncomputable section

namespace Cert.DsaFrame

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The data of the run: each array is what the program has in it when the grid is entered; nothing is said of what a point
    leaves in a staging buffer or in the scratch. -/
def loose (c : Dev nD) : Pipeline.RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- What the core carries from point to point: its seven scratch buffers at some contents, and its generator's register. -/
theorem carried_eq (c : Dev nD) :
    (Pipeline.ΦA spec0 c : sProp 𝕄) = iprop(iprop((∃ d, owns (c : Thread nD τ) (Memref.whole cc0_scratch0 : Memref sig .tc .vmem _ _) fullShare d) ∗ (∃ d, owns (c : Thread nD τ) (Memref.whole cc0_scratch1 : Memref sig .tc .vmem _ _) fullShare d) ∗ (∃ d, owns (c : Thread nD τ) (Memref.whole cc0_scratch2 : Memref sig .tc .vmem _ _) fullShare d) ∗ (∃ d, owns (c : Thread nD τ) (Memref.whole cc0_scratch3 : Memref sig .tc .vmem _ _) fullShare d) ∗ (∃ d, owns (c : Thread nD τ) (Memref.whole cc0_scratch4 : Memref sig .tc .vmem _ _) fullShare d) ∗ (∃ d, owns (c : Thread nD τ) (Memref.whole cc0_scratch5 : Memref sig .tc .vmem _ _) fullShare d) ∗ (∃ d, owns (c : Thread nD τ) (Memref.whole cc0_scratch6 : Memref sig .tc .vmem _ _) fullShare d)) ∗ (∃ r, prngReg c r)) := by
  unfold Pipeline.ΦA; rw [scopedRest0_eq]; simp only [owns_whole]; try rfl

/-- The program's row for the body at a point is the body on that point's staging buffers. -/
theorem row (t : Fin cfg0.N) :
    defs₀ (F := F) .tc cfg0.body (cfg0.bodyArgs t (cfg0.slots t)) = bodyAt0 t := by
  unfold defs₀; rw [Defs.onTc_tc]

/-- One point of the grid, from the staging buffers at any contents: it runs and hands every buffer back. -/
theorem point_runs (c : Dev nD) (t : Fin cfg0.N) (Y : (w : Fin cfg0.W) → (cfg0.win w).block.Idx → Elt F (cfg0.win w).elt) :
    (iprop((loose m c).Φ t.castSucc ∗ (loose m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8)) : sProp 𝕄)
      ⊢ wp frame (wpE (defs₀ (F := F)) Variants.none c none) Set.univ (bodyAt0 t) (fun _ =>
        iprop((loose m c).Φ t.succ ∗ (loose m c).owesAt () t.succ ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X))) := by
  rw [show (loose m c).owesAt () t.succ = (loose m c).owesAt () t.castSucc from rfl,
    show (loose m c).Φ t.castSucc = Pipeline.ΦA spec0 c from rfl, show (loose m c).Φ t.succ = Pipeline.ΦA spec0 c from rfl,
    carried_eq]
  unfold bodyAt0
  iintro ⟨⟨⟨S0, S1, S2, S3, S4, S5, S6⟩, Hg⟩, Ho, H0, H1, H2, H3, H4, H5, H6, H7, H8⟩
  iapply (wp_wand_r Idealize.ShloMosaic.frame (wpE (defs₀ (F := F)) Variants.none (c : Thread nD τ) none) Set.univ)
  isplitl [H0 H1 H2 H3 H4 H5 H6 H7 H8 S0 S1 S2 S3 S4 S5 S6]
  · iapply (DsaBody.body_runs (F := F) c Set.univ (grid0.coords t) _ _ _ _ _ _ _ _ _ _ _ _ _ _ _ _ _ _ _ _ _ _ _ _ _ _ _ _ _ _ _ _)
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [S0]; · iexact S0
    isplitl [S1]; · iexact S1
    isplitl [S2]; · iexact S2
    isplitl [S3]; · iexact S3
    isplitl [S4]; · iexact S4
    isplitl [S5]; · iexact S5
    iexact S6
  · iintro %_ ⟨⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, S0, S1, S2, S3, S4, S5, S6⟩
    isplitl [Hg S0 S1 S2 S3 S4 S5 S6]
    · isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      iexact Hg
    isplitl [Ho]; · iexact Ho
    isplitl [H0]
    · iexists _; isplitr; · ipureintro; trivial
      iexact H0
    isplitl [H1]
    · iexists _; isplitr; · ipureintro; trivial
      iexact H1
    isplitl [H2]
    · iexists _; isplitr; · ipureintro; trivial
      iexact H2
    isplitl [H3]
    · iexists _; isplitr; · ipureintro; trivial
      iexact H3
    isplitl [H4]
    · iexists _; isplitr; · ipureintro; trivial
      iexact H4
    isplitl [H5]
    · iexists _; isplitr; · ipureintro; trivial
      iexact H5
    isplitl [H6]
    · iexists _; isplitr; · ipureintro; trivial
      iexact H6
    isplitl [H7]
    · iexists _; isplitr; · ipureintro; trivial
      iexact H7
    iexists _; isplitr; · ipureintro; trivial
    iexact H8

/-- The body's obligation at every point, whatever the buffers hold. -/
theorem point_obligation (c : Dev nD) : (loose (F := F) m c).BodyObligation (defs₀ (F := F)) Variants.none () Set.univ :=
  fun t Y _ => by
    rw [bigSep_W0, bigSep_W0, row]
    exact triple_restated (point_runs m c t Y) rfl .rfl fun _ => .rfl

set_option backward.isDefEq.respectTransparency.types false in
/-- The whole program runs to its end with every counter at zero; every array that is only read, and every buffer the grid
    does not stage, is as the program had it when the grid was entered. -/
theorem program_runs : θ_run defs (onTc (τ := τ) (main (F := F))) (s₀ m ρ)
    (fun r => Pipeline.RDat.FramePost cfg0 (loose m) (V m) r ∧ r.2.sem = fun _ => 0) :=
  Pipeline.RDat.θ_run_frame_track_shared (Q' := _) cfgs (0 : Fin 1) launch₀0 defs₀ Variants.none (loose m) m ρ main
    (hbody := point_obligation m) (hq := fun _ _ _ => rfl) (howed := fun _ _ => rfl) (V := V m)
    (hmain := hmain m Variants.none) (hA := fun _ _ => rfl) (hin := fun _ => .rfl) (hout := fun _ => .rfl)

/-- The frame of the attention: the program ends, its seven arguments as they were and every semaphore counter at zero. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      (h.1.arr_in c 1 rfl).trans (V_main_arg0 m c),
      (h.1.arr_in c 2 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 5 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)
    (program_runs m ρ)

end Cert.DsaFrame

end
-- ==== Proof.Point.lean ====
/- What one grid point of the kernel leaves, as the payloads over the point's input blocks and the two carried
   scratch values: the block written, the last eight rows of the input block, the last row of the block written. -/
module

public import proofs.«01_k».proof.Proof.Gen.KernelIdeal.Value
public import Idealize.ShloMosaic.Lib.Tactic

@[expose] public section

set_option maxRecDepth 16384

noncomputable section

namespace Cert.KernelIdeal.Point

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row `k` of the four taps. -/
def tap0 (x1 : Vec F S4x128 .f32) : Vec F S1x128 .f32 :=
  View.ld x1 (Rect.unit (s := S4x128) ![0, 0] S1x128.size inb_S4x128_S1x128_0_0)
def tap1 (x1 : Vec F S4x128 .f32) : Vec F S1x128 .f32 :=
  View.ld x1 (Rect.unit (s := S4x128) ![1, 0] S1x128.size inb_S4x128_S1x128_1_0)
def tap2 (x1 : Vec F S4x128 .f32) : Vec F S1x128 .f32 :=
  View.ld x1 (Rect.unit (s := S4x128) ![2, 0] S1x128.size inb_S4x128_S1x128_2_0)
def tap3 (x1 : Vec F S4x128 .f32) : Vec F S1x128 .f32 :=
  View.ld x1 (Rect.unit (s := S4x128) ![3, 0] S1x128.size inb_S4x128_S1x128_3_0)

/-- The block after the four taps. -/
def conv (x0 : Vec F S512x128 .f32) (x1 : Vec F S4x128 .f32) (x2 : Vec F S1x128 .f32) (xp : Vec F S8x128 .f32) :
    FVec F S512x128 .f32 :=
  k0_pay7 x0 xp (iota .tc S8x128 32 [0] iota_S8x128_d0_w32) (k0_pay5 x0 xp x2 (tap3 x1) (tap2 x1)) (k0_pay6 x0 xp)
    (tap1 x1) (tap0 x1)

/-- The recurrence gate. -/
def gateR (x0 : Vec F S512x128 .f32) (x1 : Vec F S4x128 .f32) (x2 : Vec F S1x128 .f32) (xp : Vec F S8x128 .f32)
    (w : Vec F S1x128x128 .bf16) (b : Vec F S1x128 .f32) : FVec F S512x128 .f32 :=
  k0_pay10 x0 xp (iota .tc S8x128 32 [0] iota_S8x128_d0_w32) (k0_pay5 x0 xp x2 (tap3 x1) (tap2 x1)) (k0_pay6 x0 xp)
    (tap1 x1) (tap0 x1) w b

/-- The input gate. -/
def gateI (x0 : Vec F S512x128 .f32) (x1 : Vec F S4x128 .f32) (x2 : Vec F S1x128 .f32) (xp : Vec F S8x128 .f32)
    (w : Vec F S1x128x128 .bf16) (b : Vec F S1x128 .f32) : FVec F S512x128 .f32 :=
  k0_pay11 x0 xp (iota .tc S8x128 32 [0] iota_S8x128_d0_w32) (k0_pay5 x0 xp x2 (tap3 x1) (tap2 x1)) (k0_pay6 x0 xp)
    (tap1 x1) (tap0 x1) w b

/-- The scan of a block from the gates, the convolved block and the carried row. -/
def scanBlk (v52 v65 v73 : FVec F S512x128 .f32) (x7 xh : Vec F S1x128 .f32) : FVec F S512x128 .f32 :=
  k0_pay1 (iota .tc S512x128 32 [0] iota_S512x128_d0_w32)
    (k0_pay29 (iota .tc S512x128 32 [0] iota_S512x128_d0_w32) (k0_pay17 v52 v65 v73 x7) (k0_pay18 v65 x7) (k0_pay19 v65 x7))
    (k0_pay30 (iota .tc S512x128 32 [0] iota_S512x128_d0_w32) (k0_pay18 v65 x7) (k0_pay19 v65 x7))
    (k0_pay31 (iota .tc S512x128 32 [0] iota_S512x128_d0_w32) (k0_pay18 v65 x7) (k0_pay19 v65 x7)) xh

/-- The block a point writes, over its input blocks, the carried eight rows and the carried row. -/
def hBlk (x0 : Vec F S512x128 .f32) (x1 : Vec F S4x128 .f32) (x2 : Vec F S1x128 .f32) (x3 : Vec F S1x128x128 .bf16)
    (x4 : Vec F S1x128 .f32) (x5 : Vec F S1x128x128 .bf16) (x6 : Vec F S1x128 .f32) (x7 : Vec F S1x128 .f32)
    (xp : Vec F S8x128 .f32) (xh : Vec F S1x128 .f32) : FVec F S512x128 .f32 :=
  scanBlk (conv x0 x1 x2 xp) (gateR x0 x1 x2 xp x3 x4) (gateI x0 x1 x2 xp x5 x6) x7 xh

/-- The last row of a block. -/
def lastRow (h : FVec F S512x128 .f32) : FVec F S1x128 .f32 :=
  extractStridedSlice S1x128 ![511, 0] h slices_S512x128_o511_0_S1x128

/-- The carried eight rows at the first block: zeros. -/
abbrev zx : Vec F S8x128 .f32 := k0_pay3
/-- The carried row at the first block: zeros. -/
abbrev zh : Vec F S1x128 .f32 := k0_pay4

/-- The block the first point of a row writes. -/
theorem out0_A_8_eq (c : Dev nD) (i : grid0.Coords) (arg3 : Memref sig .tc .vmem S512x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S8x128 .f32) (harg12 : arg12.IsWhole) (arg13 : Memref sig .tc .vmem S1x128 .f32) (harg13 : arg13.IsWhole) (hc0 : cond0_0 i)
    (x0 : Vec F S512x128 .f32) (x1 : Vec F S4x128 .f32) (x2 : Vec F S1x128 .f32) (x3 : Vec F S1x128x128 .bf16) (x4 : Vec F S1x128 .f32) (x5 : Vec F S1x128x128 .bf16) (x6 : Vec F S1x128 .f32) (x7 : Vec F S1x128 .f32) :
    out0_A_8 c i arg3 harg3 arg4 harg4 arg5 harg5 arg6 harg6 arg7 harg7 arg8 harg8 arg9 harg9 arg10 harg10 arg11 harg11 arg12 harg12 arg13 harg13 hc0 x0 x1 x2 x3 x4 x5 x6 x7 = hBlk x0 x1 x2 x3 x4 x5 x6 x7 zx zh := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_cons_unit_zero (S := S512x128) hz2]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S8x128) hz2, View.ld_unit_zero (S := S1x128) hz2, View.ld_unit_zero (S := S1x128x128) hz3, View.readCov_unit_zero (S := S8x128) _ hz2, View.readCov_unit_zero (S := S1x128) _ hz2]
  rfl

/-- What the point leaves in the scratch carried to the next. -/
theorem sout0_A_0_eq (c : Dev nD) (i : grid0.Coords) (arg3 : Memref sig .tc .vmem S512x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S8x128 .f32) (harg12 : arg12.IsWhole) (arg13 : Memref sig .tc .vmem S1x128 .f32) (harg13 : arg13.IsWhole) (hc0 : cond0_0 i)
    (x0 : Vec F S512x128 .f32) (x1 : Vec F S4x128 .f32) (x2 : Vec F S1x128 .f32) (x3 : Vec F S1x128x128 .bf16) (x4 : Vec F S1x128 .f32) (x5 : Vec F S1x128x128 .bf16) (x6 : Vec F S1x128 .f32) (x7 : Vec F S1x128 .f32) :
    sout0_A_0 c i arg3 harg3 arg4 harg4 arg5 harg5 arg6 harg6 arg7 harg7 arg8 harg8 arg9 harg9 arg10 harg10 arg11 harg11 arg12 harg12 arg13 harg13 hc0 x0 x1 x2 x3 x4 x5 x6 x7 = k0_pay8 x0 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_cons_unit_zero (S := S8x128) hz2]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S8x128) hz2, View.ld_unit_zero (S := S1x128) hz2, View.ld_unit_zero (S := S1x128x128) hz3, View.readCov_unit_zero (S := S8x128) _ hz2, View.readCov_unit_zero (S := S1x128) _ hz2]

/-- What the point leaves in the scratch carried to the next. -/
theorem sout0_A_1_eq (c : Dev nD) (i : grid0.Coords) (arg3 : Memref sig .tc .vmem S512x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S8x128 .f32) (harg12 : arg12.IsWhole) (arg13 : Memref sig .tc .vmem S1x128 .f32) (harg13 : arg13.IsWhole) (hc0 : cond0_0 i)
    (x0 : Vec F S512x128 .f32) (x1 : Vec F S4x128 .f32) (x2 : Vec F S1x128 .f32) (x3 : Vec F S1x128x128 .bf16) (x4 : Vec F S1x128 .f32) (x5 : Vec F S1x128x128 .bf16) (x6 : Vec F S1x128 .f32) (x7 : Vec F S1x128 .f32) :
    sout0_A_1 c i arg3 harg3 arg4 harg4 arg5 harg5 arg6 harg6 arg7 harg7 arg8 harg8 arg9 harg9 arg10 harg10 arg11 harg11 arg12 harg12 arg13 harg13 hc0 x0 x1 x2 x3 x4 x5 x6 x7 = lastRow (hBlk x0 x1 x2 x3 x4 x5 x6 x7 zx zh) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_cons_unit_zero (S := S1x128) hz2]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S8x128) hz2, View.ld_unit_zero (S := S1x128) hz2, View.ld_unit_zero (S := S1x128x128) hz3, View.readCov_unit_zero (S := S8x128) _ hz2, View.readCov_unit_zero (S := S1x128) _ hz2]
  exact shapeCast_self _ _

/-- The block a later point of a row writes. -/
theorem out0_B_8_eq (c : Dev nD) (i : grid0.Coords) (arg3 : Memref sig .tc .vmem S512x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S8x128 .f32) (harg12 : arg12.IsWhole) (arg13 : Memref sig .tc .vmem S1x128 .f32) (harg13 : arg13.IsWhole) (hc0 : ¬cond0_0 i)
    (x0 : Vec F S512x128 .f32) (x1 : Vec F S4x128 .f32) (x2 : Vec F S1x128 .f32) (x3 : Vec F S1x128x128 .bf16) (x4 : Vec F S1x128 .f32) (x5 : Vec F S1x128x128 .bf16) (x6 : Vec F S1x128 .f32) (x7 : Vec F S1x128 .f32) (xs0 : Vec F S8x128 .f32) (xs1 : Vec F S1x128 .f32) :
    out0_B_8 c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1 = hBlk x0 x1 x2 x3 x4 x5 x6 x7 xs0 xs1 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1)]
  unfold kernelRun0_B
  dsimp only
  sl_unfold_words
  rw [View.canon_cons_unit_zero (S := S512x128) hz2]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S8x128) hz2, View.ld_unit_zero (S := S1x128) hz2, View.ld_unit_zero (S := S1x128x128) hz3, View.readCov_unit_zero (S := S8x128) _ hz2, View.readCov_unit_zero (S := S1x128) _ hz2]
  rfl

/-- What the point leaves in the scratch carried to the next. -/
theorem sout0_B_0_eq (c : Dev nD) (i : grid0.Coords) (arg3 : Memref sig .tc .vmem S512x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S8x128 .f32) (harg12 : arg12.IsWhole) (arg13 : Memref sig .tc .vmem S1x128 .f32) (harg13 : arg13.IsWhole) (hc0 : ¬cond0_0 i)
    (x0 : Vec F S512x128 .f32) (x1 : Vec F S4x128 .f32) (x2 : Vec F S1x128 .f32) (x3 : Vec F S1x128x128 .bf16) (x4 : Vec F S1x128 .f32) (x5 : Vec F S1x128x128 .bf16) (x6 : Vec F S1x128 .f32) (x7 : Vec F S1x128 .f32) (xs0 : Vec F S8x128 .f32) (xs1 : Vec F S1x128 .f32) :
    sout0_B_0 c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1 = k0_pay8 x0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1)]
  unfold kernelRun0_B
  dsimp only
  sl_unfold_words
  rw [View.canon_cons_unit_zero (S := S8x128) hz2]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S8x128) hz2, View.ld_unit_zero (S := S1x128) hz2, View.ld_unit_zero (S := S1x128x128) hz3, View.readCov_unit_zero (S := S8x128) _ hz2, View.readCov_unit_zero (S := S1x128) _ hz2]

/-- What the point leaves in the scratch carried to the next. -/
theorem sout0_B_1_eq (c : Dev nD) (i : grid0.Coords) (arg3 : Memref sig .tc .vmem S512x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S8x128 .f32) (harg12 : arg12.IsWhole) (arg13 : Memref sig .tc .vmem S1x128 .f32) (harg13 : arg13.IsWhole) (hc0 : ¬cond0_0 i)
    (x0 : Vec F S512x128 .f32) (x1 : Vec F S4x128 .f32) (x2 : Vec F S1x128 .f32) (x3 : Vec F S1x128x128 .bf16) (x4 : Vec F S1x128 .f32) (x5 : Vec F S1x128x128 .bf16) (x6 : Vec F S1x128 .f32) (x7 : Vec F S1x128 .f32) (xs0 : Vec F S8x128 .f32) (xs1 : Vec F S1x128 .f32) :
    sout0_B_1 c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1 = lastRow (hBlk x0 x1 x2 x3 x4 x5 x6 x7 xs0 xs1) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1)]
  unfold kernelRun0_B
  dsimp only
  sl_unfold_words
  rw [View.canon_cons_unit_zero (S := S1x128) hz2]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x128) hz2, View.ld_unit_zero (S := S8x128) hz2, View.ld_unit_zero (S := S1x128) hz2, View.ld_unit_zero (S := S1x128x128) hz3, View.readCov_unit_zero (S := S8x128) _ hz2, View.readCov_unit_zero (S := S1x128) _ hz2]
  exact shapeCast_self _ _

end Cert.KernelIdeal.Point

end
-- ==== Proof.Scan.lean ====
/- The doubling scan of a first-order recurrence against the recurrence itself, for one lane: the factors are
   nonnegative reals, the terms extended reals. -/
module

public import Mathlib.Data.EReal.Inv

@[expose] public section

noncomputable section

namespace Cert.Scan

/-- The recurrence `h ↦ a·h + u` after `n` steps from `h0`. -/
def rec (a u : ℕ → EReal) (h0 : EReal) : ℕ → EReal
  | 0 => h0
  | n + 1 => a n * rec a u h0 n + u n

/-- The recurrence depends on the first `n` factors and terms only. -/
theorem rec_congr {a a' u u' : ℕ → EReal} {h0 : EReal} : ∀ (n : ℕ), (∀ k < n, a k = a' k) → (∀ k < n, u k = u' k) →
    rec a u h0 n = rec a' u' h0 n
  | 0, _, _ => rfl
  | n + 1, ha, hu => by
    show a n * rec a u h0 n + u n = a' n * rec a' u' h0 n + u' n
    rw [ha n (Nat.lt_succ_self n), hu n (Nat.lt_succ_self n),
      rec_congr n (fun k hk => ha k (Nat.lt_succ_of_lt hk)) (fun k hk => hu k (Nat.lt_succ_of_lt hk))]

/-- Running on from what `m` steps left. -/
theorem rec_add (a u : ℕ → EReal) (h0 : EReal) (m : ℕ) : ∀ n,
    rec (fun k => a (m + k)) (fun k => u (m + k)) (rec a u h0 m) n = rec a u h0 (m + n)
  | 0 => rfl
  | n + 1 => by
    show a (m + n) * rec _ _ (rec a u h0 m) n + u (m + n) = a (m + n) * rec a u h0 (m + n) + u (m + n)
    rw [rec_add a u h0 m n]

variable (α : ℕ → ℝ) (u : ℕ → EReal)

/-- The product of the `n` factors that end at `r`. -/
def pr (r : ℕ) : ℕ → ℝ
  | 0 => 1
  | n + 1 => pr r n * α (r - n)

/-- What the `n` steps that end at `r` add. -/
def su (r : ℕ) : ℕ → EReal
  | 0 => 0
  | n + 1 => (pr α r n : EReal) * u (r - n) + su r n

theorem pr_nonneg (hα : ∀ k, 0 ≤ α k) (r : ℕ) : ∀ n, 0 ≤ pr α r n
  | 0 => zero_le_one
  | n + 1 => mul_nonneg (pr_nonneg hα r n) (hα _)

theorem pr_add (r n : ℕ) : ∀ m, pr α r (n + m) = pr α r n * pr α (r - n) m
  | 0 => by simp [pr]
  | m + 1 => by
    show pr α r (n + m) * α (r - (n + m)) = pr α r n * (pr α (r - n) m * α (r - n - m))
    rw [pr_add r n m, Nat.sub_sub, mul_assoc]

/-- A nonnegative real distributes over a sum of extended reals. -/
theorem coe_mul_add {x : ℝ} (hx : 0 ≤ x) (y z : EReal) : (x : EReal) * (y + z) = x * y + x * z :=
  EReal.left_distrib_of_nonneg_of_ne_top (by exact_mod_cast hx) (EReal.coe_ne_top x) y z

theorem su_add (hα : ∀ k, 0 ≤ α k) (r n : ℕ) : ∀ m,
    su α u r (n + m) = (pr α r n : EReal) * su α u (r - n) m + su α u r n
  | 0 => by simp [su]
  | m + 1 => by
    show (pr α r (n + m) : EReal) * u (r - (n + m)) + su α u r (n + m)
      = (pr α r n : EReal) * ((pr α (r - n) m : EReal) * u (r - n - m) + su α u (r - n) m) + su α u r n
    rw [su_add hα r n m, pr_add, coe_mul_add (pr_nonneg α hα r n), Nat.sub_sub, EReal.coe_mul, mul_assoc, add_assoc]

/-- One doubling step on the products. -/
theorem pr_double (r d : ℕ) : (if d ≤ r then pr α r (min d (r + 1)) * pr α (r - d) (min d (r - d + 1))
    else pr α r (min d (r + 1))) = pr α r (min (2 * d) (r + 1)) := by
  by_cases h : d ≤ r
  · rw [if_pos h, show min d (r + 1) = d by omega, ← pr_add, show d + min d (r - d + 1) = min (2 * d) (r + 1) by omega]
  · rw [if_neg h, show min d (r + 1) = min (2 * d) (r + 1) by omega]

/-- One doubling step on the sums. -/
theorem su_double (hα : ∀ k, 0 ≤ α k) (r d : ℕ) :
    (if d ≤ r then (pr α r (min d (r + 1)) : EReal) * su α u (r - d) (min d (r - d + 1)) + su α u r (min d (r + 1))
      else su α u r (min d (r + 1))) = su α u r (min (2 * d) (r + 1)) := by
  by_cases h : d ≤ r
  · rw [if_pos h, show min d (r + 1) = d by omega, ← su_add α u hα, show d + min d (r - d + 1) = min (2 * d) (r + 1) by omega]
  · rw [if_neg h, show min d (r + 1) = min (2 * d) (r + 1) by omega]

/-- The whole prefix's product and sum, on a starting value, are the recurrence. -/
theorem su_add_pr (hα : ∀ k, 0 ≤ α k) (h0 : EReal) : ∀ r,
    su α u r (r + 1) + (pr α r (r + 1) : EReal) * h0 = rec (fun k => (α k : EReal)) u h0 (r + 1)
  | 0 => by simp [su, pr, rec, add_comm]
  | r + 1 => by
    have hs : su α u (r + 1) (r + 2) = (α (r + 1) : EReal) * su α u r (r + 1) + u (r + 1) := by
      rw [show r + 2 = 1 + (r + 1) by omega, su_add α u hα]; simp [su, pr]
    have hp : (pr α (r + 1) (r + 2) : EReal) = (α (r + 1) : EReal) * pr α r (r + 1) := by
      rw [show r + 2 = 1 + (r + 1) by omega, pr_add]; simp [pr]
    show su α u (r + 1) (r + 2) + (pr α (r + 1) (r + 2) : EReal) * h0
      = (α (r + 1) : EReal) * rec (fun k => (α k : EReal)) u h0 (r + 1) + u (r + 1)
    rw [hs, hp, ← su_add_pr hα h0 r, coe_mul_add (hα _), mul_assoc, add_right_comm]

end Cert.Scan

end
-- ==== Proof.Scalars.lean ====
/- The scalar functions of the recurrence over the extended reals. -/
module

public import Idealize.ShloMosaic.Lib.Pointwise
public import Idealize.ShloMosaic.Lib.IdealHost

@[expose] public section

noncomputable section

namespace Cert.Scalars

open Idealize.ShloMosaic

/-- The constant minus eight, as printed. -/
abbrev c8 : EReal := Ideal.ofBits .f32 0xC1000000#32

theorem c8_eq : c8 = ((-8 : ℝ) : EReal) := by
  simp [c8, Ideal.ofBits, Ideal.ieee, -EReal.coe_mul, -EReal.coe_neg]
  norm_num

theorem two_eq : Ideal.ofBits .f32 0x40000000#32 = ((2 : ℝ) : EReal) := by
  simp [Ideal.ofBits, Ideal.ieee, -EReal.coe_mul]
  norm_num

/-- Softplus in the form that does not overflow. -/
def sp (n : EReal) : EReal := max n 0 + Ideal.log1p (Ideal.exp (-(max n (-n))))

/-- The logarithm of the decay. -/
def la (r n : EReal) : EReal := c8 * r * sp n

/-- The term the recurrence adds. -/
def un (l i x : EReal) : EReal := Ideal.sqrt (-(Ideal.exp (((2 : ℝ) : EReal) * l) - 1)) * (i * x)

theorem exp_nonneg : ∀ x : EReal, 0 ≤ Ideal.exp x
  | ⊥ => le_refl _
  | ⊤ => le_top
  | (r : ℝ) => by rw [Ideal.exp_coe]; exact_mod_cast (Real.exp_pos r).le

theorem log1p_nonneg : ∀ x : EReal, 0 ≤ x → 0 ≤ Ideal.log1p x
  | ⊥, h => absurd h (by simp)
  | ⊤, _ => by
    show 0 ≤ Ideal.log (1 + ⊤)
    rw [show (1 : EReal) + ⊤ = ⊤ by rfl]
    exact le_top
  | (r : ℝ), h => by
    have hr : 0 ≤ r := by exact_mod_cast h
    show 0 ≤ Ideal.log (1 + (r : EReal))
    rw [show (1 : EReal) + (r : EReal) = ((1 + r : ℝ) : EReal) by push_cast; rfl, Ideal.log_coe, if_neg (by linarith)]
    exact_mod_cast Real.log_nonneg (by linarith)

theorem sp_nonneg (n : EReal) : 0 ≤ sp n :=
  add_nonneg (le_max_right _ _) (log1p_nonneg _ (exp_nonneg _))

theorem logistic_real : ∀ z : EReal, ∃ x : ℝ, 0 ≤ x ∧ Ideal.logistic z = x
  | ⊥ => ⟨0, le_refl _, by simp⟩
  | ⊤ => ⟨1, zero_le_one, by simp⟩
  | (r : ℝ) => ⟨(1 + Real.exp (-r))⁻¹, by positivity, Ideal.logistic_coe ..⟩

/-- The decay's logarithm is not positive. -/
theorem la_nonpos (z n : EReal) : la (Ideal.logistic z) n ≤ 0 := by
  obtain ⟨x, hx, h⟩ := logistic_real z
  unfold la
  rw [h, c8_eq, ← EReal.coe_mul]
  exact mul_nonpos_of_nonpos_of_nonneg (by exact_mod_cast (by linarith : (-8 : ℝ) * x ≤ 0)) (sp_nonneg n)

theorem exp_real : ∀ l : EReal, l ≤ 0 → ∃ α : ℝ, 0 ≤ α ∧ Ideal.exp l = α
  | ⊥, _ => ⟨0, le_refl _, by simp⟩
  | ⊤, h => absurd h (by simp)
  | (r : ℝ), _ => ⟨Real.exp r, (Real.exp_pos r).le, Ideal.exp_coe ..⟩

/-- The decay is a nonnegative real. -/
theorem decay_real (z n : EReal) : ∃ α : ℝ, 0 ≤ α ∧ Ideal.exp (la (Ideal.logistic z) n) = α :=
  exp_real _ (la_nonpos z n)

/-- The kernel's form of the normalizer under the root: `-tanh l · (e^l·e^l + 1) = -(e^(2l) - 1)`. -/
theorem norm_eq : ∀ l : EReal, (0 - Ideal.tanh l) * (Ideal.exp l * Ideal.exp l + 1)
    = -(Ideal.exp (((2 : ℝ) : EReal) * l) - 1)
  | ⊥ => by
    rw [EReal.coe_mul_bot_of_pos (by norm_num : (0 : ℝ) < 2)]
    simp
  | ⊤ => by
    rw [EReal.coe_mul_top_of_pos (by norm_num : (0 : ℝ) < 2)]
    simp only [Ideal.tanh_top, Ideal.exp_top, EReal.top_mul_top]
    rw [show (⊤ : EReal) + 1 = ⊤ by rfl, show (⊤ : EReal) - 1 = ⊤ by rfl, zero_sub]
    simp
  | (r : ℝ) => by
    rw [← EReal.coe_mul, Ideal.tanh_coe, Ideal.exp_coe, Ideal.exp_coe]
    have h : (0 - Real.tanh r) * (Real.exp r * Real.exp r + 1) = -(Real.exp (2 * r) - 1) := by
      rw [Real.tanh_eq_sinh_div_cosh, Real.sinh_eq, Real.cosh_eq, Real.exp_neg, two_mul, Real.exp_add]
      have := Real.exp_pos r
      field_simp
      ring
    exact_mod_cast congrArg (fun x : ℝ => (x : EReal)) h

/-- The host's spelling of the logistic. -/
theorem logistic_eq (z : EReal) : Ideal.div 1 (1 + Ideal.exp (-z)) = Ideal.logistic z := rfl

end Cert.Scalars

end
-- ==== Proof.Rotate.lean ====
/- The two moves of rows inside a block, read at an index: the shift by a few rows with the carried rows in
   front, and one doubling step of the scan. -/
module

public import proofs.«01_k».proof.Proof.Point
public import proofs.«01_k».proof.Proof.Scan
public import proofs.«01_k».proof.Proof.Scalars
public import Idealize.ShloMosaic.Lib.KernelVsHost
public import Idealize.ShloMosaic.Lib.Pointwise

@[expose] public section

set_option maxRecDepth 16384

noncomputable section

namespace Cert.KernelIdeal.Rotate

open Cert.KernelIdeal Cert.KernelIdeal.Gen Idealize.ShloMosaic Idealize.ShloMosaic.TcCoe

/-- The row counter of a block. -/
abbrev io : IVec S512x128 32 := iota .tc S512x128 32 [0] iota_S512x128_d0_w32
/-- The row counter of the carried rows. -/
abbrev io8 : IVec S8x128 32 := iota .tc S8x128 32 [0] iota_S8x128_d0_w32

theorem io_apply (r : Fin 512) (l : Fin 128) : io (ix2 r l) = BitVec.ofNat 32 r.val := iota_single_apply ..
theorem io8_apply (r : Fin 8) (l : Fin 128) : io8 (ix2 r l) = BitVec.ofNat 32 r.val := iota_single_apply ..

theorem sel_one {α : Type} (a b : α) : Scalar.select 1#1 a b = a := rfl
theorem sel_zero {α : Type} (a b : α) : Scalar.select 0#1 a b = b := rfl

/-- A choice by a mask, read at an index. -/
theorem sel_apply {α : Type} {s : Shape} (c : IVec s 1) (a b : s.Idx → α) (i : s.Idx) :
    select c a b i = Scalar.select (c i) (a i) (b i) := rfl

/-- A block moved down by `sb` rows, read at an index: from row `s` on it is the row `s` above. -/
theorem rot_apply (sb : BitVec 32) (s : ℕ) (hsb : sb.toNat = s) (x : FVec Ideal S512x128 .f32) (r : Fin 512)
    (hs : s ≤ r.val) (l : Fin 128) :
    dynamicRotate 0 sb none x rotates_S512x128_d0 (ix2 r l) = x (ix2 ⟨r.val - s, by omega⟩ l) := by
  refine dynamicRotate_apply (s := S512x128) 0 sb x _ _ _ fun b => ?_
  have hr := r.isLt
  match b with
  | ⟨0, _⟩ =>
    show r.val - s = (r.val + 512 - sb.toNat % 512) % 512
    rw [hsb]; omega
  | ⟨1, _⟩ => rfl

/-- The carried rows moved down by `sb` rows, read above row `s`: what comes around the end. -/
theorem rot8_apply (sb : BitVec 32) (s : ℕ) (hsb : sb.toNat = s) (x : FVec Ideal S8x128 .f32) (r : Fin 8)
    (hs : r.val < s) (h8 : s < 8) (l : Fin 128) :
    dynamicRotate 0 sb none x rotates_S8x128_d0 (ix2 r l) = x (ix2 ⟨r.val + 8 - s, by omega⟩ l) := by
  refine dynamicRotate_apply (s := S8x128) 0 sb x _ _ _ fun b => ?_
  have hr := r.isLt
  match b with
  | ⟨0, _⟩ =>
    show r.val + 8 - s = (r.val + 8 - sb.toNat % 8) % 8
    rw [hsb]; omega
  | ⟨1, _⟩ => rfl

/-- The block moved down by `sb` rows with the carried rows in front, as the kernel spells it. -/
def shiftRows (sb : BitVec 32) (x : FVec Ideal S512x128 .f32) (xp : FVec Ideal S8x128 .f32) : FVec Ideal S512x128 .f32 :=
  concatenate S512x128 0
    [⟨S8x128, select (cmpi .slt io8 (broadcast S8x128 sb)) (dynamicRotate 0 sb none xp rotates_S8x128_d0)
      (extractStridedSlice S8x128 ![0, 0] (dynamicRotate 0 sb none x rotates_S512x128_d0) slices_S512x128_o0_0_S8x128)⟩,
     ⟨S504x128, extractStridedSlice S504x128 ![8, 0] (dynamicRotate 0 sb none x rotates_S512x128_d0) slices_S512x128_o8_0_S504x128⟩]
    concatenates_S8x128_S504x128_S512x128_d0

/-- Block and carried rows as one series `Z` from `t0` on: the shifted block is the series `s` earlier. -/
theorem shiftRows_apply (sb : BitVec 32) (s : ℕ) (hsb : sb.toNat = s) (h8 : s < 8)
    (hc : ∀ r : Fin 8, IntOp.cmpi .slt (BitVec.ofNat 32 r.val) sb = if r.val < s then 1#1 else 0#1)
    (x : FVec Ideal S512x128 .f32) (xp : FVec Ideal S8x128 .f32) (Z : ℕ → EReal) (t0 : ℕ) (l : Fin 128)
    (hx : ∀ r : Fin 512, x (ix2 r l) = Z (t0 + r.val + 8)) (hp : ∀ r : Fin 8, xp (ix2 r l) = Z (t0 + r.val))
    (r : Fin 512) : shiftRows sb x xp (ix2 r l) = Z (t0 + r.val + 8 - s) := by
  unfold shiftRows
  by_cases h : r.val < 8
  · refine (concatenate_pair_apply_left (t := S512x128) (s₁ := S8x128) (s₂ := S504x128) 0 _ _ _ (ix2 r l) rfl
      (ix2 ⟨r.val, h⟩ l) (fun b => by match b with | ⟨0, _⟩ => rfl | ⟨1, _⟩ => rfl)).trans ?_
    rw [sel_apply, cmpi_apply, io8_apply]
    show Scalar.select (IntOp.cmpi .slt (BitVec.ofNat 32 (⟨r.val, h⟩ : Fin 8).val) sb) _ _ = _
    rw [hc]
    by_cases hs : r.val < s
    · rw [if_pos hs, sel_one, rot8_apply sb s hsb xp ⟨r.val, h⟩ hs h8 l, hp]
      exact congrArg Z (by simp only; omega)
    · rw [if_neg hs, sel_zero]
      refine (extractStridedSlice_apply _ _ _ _ (ix2 r l) (fun b => by
        match b with
        | ⟨0, _⟩ => exact (Nat.zero_add _).symm
        | ⟨1, _⟩ => exact (Nat.zero_add _).symm)).trans ?_
      rw [rot_apply sb s hsb x r (by omega) l, hx]
      exact congrArg Z (by simp only; omega)
  · have hr := r.isLt
    refine (concatenate_pair_apply_right (t := S512x128) (s₁ := S8x128) (s₂ := S504x128) 0 _ _ _ (ix2 r l) rfl rfl
      (ix2 ⟨r.val - 8, by omega⟩ l) (fun b hb => by
        match b with
        | ⟨0, _⟩ => exact absurd rfl hb
        | ⟨1, _⟩ => rfl) (by show r.val - 8 + 8 = r.val; omega)).trans ?_
    refine (extractStridedSlice_apply _ _ _ _ (ix2 r l) (fun b => by
        match b with
        | ⟨0, _⟩ => show r.val = 8 + (r.val - 8); omega
        | ⟨1, _⟩ => exact (Nat.zero_add _).symm)).trans ?_
    rw [rot_apply sb s hsb x r (by omega) l, hx]
    exact congrArg Z (by simp only; omega)

/-- One doubling step on the factors. -/
def stepA (d : BitVec 32) (A : FVec Ideal S512x128 .f32) : FVec Ideal S512x128 .f32 :=
  select (cmpi .sge io (broadcast S512x128 d)) (mulf A (dynamicRotate 0 d none A rotates_S512x128_d0)) A

/-- One doubling step on the terms. -/
def stepU (d : BitVec 32) (A U : FVec Ideal S512x128 .f32) : FVec Ideal S512x128 .f32 :=
  select (cmpi .sge io (broadcast S512x128 d)) (addf (mulf A (dynamicRotate 0 d none U rotates_S512x128_d0)) U) U

/-- What a word counts as a step of the doubling. -/
def IsStep (w : BitVec 32) (d : ℕ) : Prop :=
  w.toNat = d ∧ ∀ r : Fin 512, IntOp.cmpi .sge (BitVec.ofNat 32 r.val) w = if d ≤ r.val then 1#1 else 0#1

/-- The factors after the steps below `d`: the products over the last `d` rows. -/
def InvA (α : ℕ → ℝ) (l : Fin 128) (d : ℕ) (A : FVec Ideal S512x128 .f32) : Prop :=
  ∀ r : Fin 512, A (ix2 r l) = ((Scan.pr α r.val (min d (r.val + 1)) : ℝ) : EReal)

/-- The terms after the steps below `d`: what the last `d` rows add. -/
def InvU (α : ℕ → ℝ) (u : ℕ → EReal) (l : Fin 128) (d : ℕ) (U : FVec Ideal S512x128 .f32) : Prop :=
  ∀ r : Fin 512, U (ix2 r l) = Scan.su α u r.val (min d (r.val + 1))

theorem stepA_inv (α : ℕ → ℝ) (l : Fin 128) (d : ℕ) (w : BitVec 32) (hw : IsStep w d) (A : FVec Ideal S512x128 .f32)
    (hA : InvA α l d A) : InvA α l (2 * d) (stepA w A) := by
  intro r
  unfold stepA
  rw [sel_apply, cmpi_apply, io_apply]
  show Scalar.select (IntOp.cmpi .sge (BitVec.ofNat 32 r.val) w) _ _ = _
  rw [hw.2, ← Scan.pr_double]
  by_cases h : d ≤ r.val
  · rw [if_pos h, if_pos h, sel_one]
    show A (ix2 r l) * dynamicRotate 0 w none A rotates_S512x128_d0 (ix2 r l) = _
    rw [rot_apply w d hw.1 A r h l, hA, hA, EReal.coe_mul]
  · rw [if_neg h, if_neg h, sel_zero, hA]

theorem stepU_inv (α : ℕ → ℝ) (u : ℕ → EReal) (hα : ∀ k, 0 ≤ α k) (l : Fin 128) (d : ℕ) (w : BitVec 32) (hw : IsStep w d)
    (A U : FVec Ideal S512x128 .f32) (hA : InvA α l d A) (hU : InvU α u l d U) : InvU α u l (2 * d) (stepU w A U) := by
  intro r
  unfold stepU
  rw [sel_apply, cmpi_apply, io_apply]
  show Scalar.select (IntOp.cmpi .sge (BitVec.ofNat 32 r.val) w) _ _ = _
  rw [hw.2, ← Scan.su_double α u hα]
  by_cases h : d ≤ r.val
  · rw [if_pos h, if_pos h, sel_one]
    show A (ix2 r l) * dynamicRotate 0 w none U rotates_S512x128_d0 (ix2 r l) + U (ix2 r l) = _
    rw [rot_apply w d hw.1 U r h l, hA, hU, hU]
  · rw [if_neg h, if_neg h, sel_zero, hU]

theorem step1 : IsStep 1#32 1 := ⟨rfl, by decide +kernel⟩
theorem step2 : IsStep 2#32 2 := ⟨rfl, by decide +kernel⟩
theorem step4 : IsStep 4#32 4 := ⟨rfl, by decide +kernel⟩
theorem step8 : IsStep 8#32 8 := ⟨rfl, by decide +kernel⟩
theorem step16 : IsStep 16#32 16 := ⟨rfl, by decide +kernel⟩
theorem step32 : IsStep 32#32 32 := ⟨rfl, by decide +kernel⟩
theorem step64 : IsStep 64#32 64 := ⟨rfl, by decide +kernel⟩
theorem step128 : IsStep 128#32 128 := ⟨rfl, by decide +kernel⟩
theorem step256 : IsStep 256#32 256 := ⟨rfl, by decide +kernel⟩

end Cert.KernelIdeal.Rotate

end
-- ==== Proof.Spec.lean ====
/- What both programs compute, as functions of the arguments over the extended reals: the four taps on the padded
   series, the two gates, the logarithm of the decay, and the recurrence. -/
module

public import proofs.«01_k».proof.Proof.Scan
public import proofs.«01_k».proof.Proof.Scalars

@[expose] public section

noncomputable section

namespace Cert.Spec

open Idealize.ShloMosaic
open scoped BigOperators

/-- The four taps on a series padded by eight entries in front. -/
def cvS (b : EReal) (w : Fin 4 → EReal) (Z : ℕ → EReal) (t : ℕ) : EReal :=
  (((b + w 3 * Z (t + 8)) + w 2 * Z (t + 7)) + w 1 * Z (t + 6)) + w 0 * Z (t + 5)

/-- The row of the flat array that holds step `t` of batch `b`. -/
def rowAt (b : Fin 4) (t : ℕ) (h : t < 8192) : Fin 32768 := ⟨b.val * 8192 + t, by omega⟩

/-- Channel `l` of block `n`. -/
def chan (n : Fin 16) (l : Fin 128) : Fin 2048 := ⟨n.val * 128 + l.val, by omega⟩

/-- A channel of the recurrence as a column of the projections. -/
def col (ch : Fin 2048) : Fin 9984 := ⟨ch.val, by omega⟩

variable (x : (⟨2, ![32768, 9984]⟩ : Shape).Idx → EReal) (cw : (⟨3, ![1, 4, 2048]⟩ : Shape).Idx → EReal)
  (cb : (⟨2, ![1, 2048]⟩ : Shape).Idx → EReal) (w : (⟨4, ![1, 16, 128, 128]⟩ : Shape).Idx → EReal)
  (bias : (⟨2, ![1, 2048]⟩ : Shape).Idx → EReal) (wa : (⟨4, ![1, 16, 128, 128]⟩ : Shape).Idx → EReal)
  (ba : (⟨2, ![1, 2048]⟩ : Shape).Idx → EReal) (wx : (⟨4, ![1, 16, 128, 128]⟩ : Shape).Idx → EReal)
  (bx : (⟨2, ![1, 2048]⟩ : Shape).Idx → EReal) (lam : (⟨2, ![1, 2048]⟩ : Shape).Idx → EReal)

/-- One channel of one batch as a series with eight zeros in front. -/
def series (b : Fin 4) (ch : Fin 2048) (k : ℕ) : EReal :=
  if h : 8 ≤ k ∧ k < 8200 then x (ix2 (rowAt b (k - 8) (by omega)) (col ch)) else 0

/-- The channel after the taps. -/
def xc (b : Fin 4) (ch : Fin 2048) (t : ℕ) : EReal :=
  cvS (cb (ix2 0 ch)) (fun k => cw (ix3 0 k ch)) (series x b ch) t

/-- A gate before its logistic function. -/
def pre (b : Fin 4) (n : Fin 16) (l : Fin 128) (t : ℕ) : EReal :=
  (∑ k : Fin 128, xc x cw cb b (chan n k) t * w (ix4 0 n k l)) + bias (ix2 0 (chan n l))

/-- The logarithm of the decay. -/
def ld (b : Fin 4) (n : Fin 16) (l : Fin 128) (t : ℕ) : EReal :=
  Scalars.la (Ideal.logistic (pre x cw cb wa ba b n l t)) (-(lam (ix2 0 (chan n l))))

/-- The decay. -/
def dec (b : Fin 4) (n : Fin 16) (l : Fin 128) (t : ℕ) : EReal := Ideal.exp (ld x cw cb wa ba lam b n l t)

/-- The term added at a step. -/
def add (b : Fin 4) (n : Fin 16) (l : Fin 128) (t : ℕ) : EReal :=
  Scalars.un (ld x cw cb wa ba lam b n l t) (Ideal.logistic (pre x cw cb wx bx b n l t)) (xc x cw cb b (chan n l) t)

/-- The state after `t` steps. -/
def state (b : Fin 4) (n : Fin 16) (l : Fin 128) (t : ℕ) : EReal :=
  Scan.rec (dec x cw cb wa ba lam b n l) (add x cw cb wa ba wx bx lam b n l) 0 t

/-- The whole result. -/
def out (j : (⟨2, ![32768, 2048]⟩ : Shape).Idx) : EReal :=
  state x cw cb wa ba wx bx lam ⟨(j 0).val / 8192, Nat.div_lt_of_lt_mul (j 0).isLt⟩ ⟨(j 1).val / 128, Nat.div_lt_of_lt_mul (j 1).isLt⟩
    ⟨(j 1).val % 128, Nat.mod_lt _ (by decide)⟩ ((j 0).val % 8192 + 1)

end Cert.Spec

end
-- ==== Proof.Block.lean ====
/- The block a grid point writes, read at an index over the extended reals: the taps as a sum over the series,
   the gates as logistic functions of a sum of products, the scan as the recurrence itself. -/
module

public import proofs.«01_k».proof.Proof.Rotate
public import proofs.«01_k».proof.Proof.Spec

@[expose] public section

set_option maxRecDepth 16384

noncomputable section

namespace Cert.KernelIdeal.Block

open Cert.KernelIdeal Cert.KernelIdeal.Gen Cert.KernelIdeal.Point Cert.KernelIdeal.Rotate Cert.Spec Idealize.ShloMosaic Idealize.ShloMosaic.TcCoe
open scoped BigOperators

theorem tap0_apply (x1 : Vec Ideal S4x128 .f32) (l : Fin 128) : tap0 x1 (ix2 0 l) = x1 (ix2 0 l) :=
  congrArg x1 (funext fun a => by match a with | ⟨0, _⟩ => rfl | ⟨1, _⟩ => exact Fin.ext (by show 0 + 1 * l.val = l.val; omega))
theorem tap1_apply (x1 : Vec Ideal S4x128 .f32) (l : Fin 128) : tap1 x1 (ix2 0 l) = x1 (ix2 1 l) :=
  congrArg x1 (funext fun a => by match a with | ⟨0, _⟩ => rfl | ⟨1, _⟩ => exact Fin.ext (by show 0 + 1 * l.val = l.val; omega))
theorem tap2_apply (x1 : Vec Ideal S4x128 .f32) (l : Fin 128) : tap2 x1 (ix2 0 l) = x1 (ix2 2 l) :=
  congrArg x1 (funext fun a => by match a with | ⟨0, _⟩ => rfl | ⟨1, _⟩ => exact Fin.ext (by show 0 + 1 * l.val = l.val; omega))
theorem tap3_apply (x1 : Vec Ideal S4x128 .f32) (l : Fin 128) : tap3 x1 (ix2 0 l) = x1 (ix2 3 l) :=
  congrArg x1 (funext fun a => by match a with | ⟨0, _⟩ => rfl | ⟨1, _⟩ => exact Fin.ext (by show 0 + 1 * l.val = l.val; omega))

/-- One row spread over the block. -/
theorem row_apply (v : FVec Ideal S1x128 .f32) (r : Fin 512) (l : Fin 128) :
    broadcastTo S512x128 v broadcasts_S1x128_S512x128 (ix2 r l) = v (ix2 0 l) := by
  pointwise []

/-- The convolved block with the three shifts named. -/
theorem conv_eq (x0 : Vec Ideal S512x128 .f32) (x1 : Vec Ideal S4x128 .f32) (x2 : Vec Ideal S1x128 .f32) (xp : Vec Ideal S8x128 .f32) :
    conv x0 x1 x2 xp =
      addf (addf (addf (addf (broadcastTo S512x128 x2 broadcasts_S1x128_S512x128)
        (mulf (broadcastTo S512x128 (tap3 x1) broadcasts_S1x128_S512x128) x0))
        (mulf (broadcastTo S512x128 (tap2 x1) broadcasts_S1x128_S512x128) (shiftRows 1#32 x0 xp)))
        (mulf (broadcastTo S512x128 (tap1 x1) broadcasts_S1x128_S512x128) (shiftRows 2#32 x0 xp)))
        (mulf (broadcastTo S512x128 (tap0 x1) broadcasts_S1x128_S512x128) (shiftRows 3#32 x0 xp)) := by
  unfold conv k0_pay7 k0_pay5 k0_pay6
  simp only [shapeCast_self]
  rfl

theorem conv_apply (x0 : Vec Ideal S512x128 .f32) (x1 : Vec Ideal S4x128 .f32) (x2 : Vec Ideal S1x128 .f32) (xp : Vec Ideal S8x128 .f32)
    (Z : ℕ → EReal) (t0 : ℕ) (l : Fin 128)
    (hx : ∀ r : Fin 512, x0 (ix2 r l) = Z (t0 + r.val + 8)) (hp : ∀ r : Fin 8, xp (ix2 r l) = Z (t0 + r.val)) (r : Fin 512) :
    conv x0 x1 x2 xp (ix2 r l) = cvS (x2 (ix2 0 l)) (fun k => x1 (ix2 k l)) Z (t0 + r.val) := by
  rw [conv_eq]
  show (((broadcastTo S512x128 x2 broadcasts_S1x128_S512x128 (ix2 r l)
      + broadcastTo S512x128 (tap3 x1) broadcasts_S1x128_S512x128 (ix2 r l) * x0 (ix2 r l))
      + broadcastTo S512x128 (tap2 x1) broadcasts_S1x128_S512x128 (ix2 r l) * shiftRows 1#32 x0 xp (ix2 r l))
      + broadcastTo S512x128 (tap1 x1) broadcasts_S1x128_S512x128 (ix2 r l) * shiftRows 2#32 x0 xp (ix2 r l))
      + broadcastTo S512x128 (tap0 x1) broadcasts_S1x128_S512x128 (ix2 r l) * shiftRows 3#32 x0 xp (ix2 r l) = _
  rw [row_apply, row_apply, row_apply, row_apply, row_apply, tap0_apply, tap1_apply, tap2_apply, tap3_apply,
    shiftRows_apply 1#32 1 rfl (by omega) (by decide +kernel) x0 xp Z t0 l hx hp,
    shiftRows_apply 2#32 2 rfl (by omega) (by decide +kernel) x0 xp Z t0 l hx hp,
    shiftRows_apply 3#32 3 rfl (by omega) (by decide +kernel) x0 xp Z t0 l hx hp, hx]
  rfl

/-- A gate as a function of the sum of products and the bias. -/
theorem gateR_apply (x0 : Vec Ideal S512x128 .f32) (x1 : Vec Ideal S4x128 .f32) (x2 : Vec Ideal S1x128 .f32) (xp : Vec Ideal S8x128 .f32)
    (w : Vec Ideal S1x128x128 .bf16) (b : Vec Ideal S1x128 .f32) (r : Fin 512) (l : Fin 128) :
    gateR x0 x1 x2 xp w b (ix2 r l)
      = Ideal.logistic ((∑ k : Fin 128, conv x0 x1 x2 xp (ix2 r k) * w (ix3 0 k l)) + b (ix2 0 l)) := by
  unfold gateR k0_pay10 k0_pay9
  rw [show k0_pay7 x0 xp (iota .tc S8x128 32 [0] iota_S8x128_d0_w32) (k0_pay5 x0 xp x2 (tap3 x1) (tap2 x1)) (k0_pay6 x0 xp)
    (tap1 x1) (tap0 x1) = conv x0 x1 x2 xp from rfl]
  generalize conv x0 x1 x2 xp = v
  pointwise []

theorem gateI_apply (x0 : Vec Ideal S512x128 .f32) (x1 : Vec Ideal S4x128 .f32) (x2 : Vec Ideal S1x128 .f32) (xp : Vec Ideal S8x128 .f32)
    (w : Vec Ideal S1x128x128 .bf16) (b : Vec Ideal S1x128 .f32) (r : Fin 512) (l : Fin 128) :
    gateI x0 x1 x2 xp w b (ix2 r l)
      = Ideal.logistic ((∑ k : Fin 128, conv x0 x1 x2 xp (ix2 r k) * w (ix3 0 k l)) + b (ix2 0 l)) :=
  gateR_apply x0 x1 x2 xp w b r l

/-- The logarithm of the decay, at an index. -/
theorem pay12_apply (v65 : FVec Ideal S512x128 .f32) (x7 : Vec Ideal S1x128 .f32) (r : Fin 512) (l : Fin 128) :
    k0_pay12 v65 x7 (ix2 r l) = Scalars.la (v65 (ix2 r l)) (-(x7 (ix2 0 l))) := by
  unfold k0_pay12 Scalars.la Scalars.sp
  pointwise [zero_sub]
  rfl

/-- The term the recurrence adds, as the kernel spells it. -/
def term (v52 v65 v73 : FVec Ideal S512x128 .f32) (x7 : Vec Ideal S1x128 .f32) : FVec Ideal S512x128 .f32 :=
  mulf (sqrt (mulf (subf (broadcast S512x128 (Scalar.ofBits .f32 0x00000000#32)) (tanh (k0_pay12 v65 x7)))
    (addf (mulf (k0_pay13 v65 x7) (k0_pay13 v65 x7)) (broadcast S512x128 (Scalar.ofBits .f32 0x3F800000#32))))) (mulf v73 v52)

theorem term_apply (v52 v65 v73 : FVec Ideal S512x128 .f32) (x7 : Vec Ideal S1x128 .f32) (r : Fin 512) (l : Fin 128) :
    term v52 v65 v73 x7 (ix2 r l)
      = Scalars.un (Scalars.la (v65 (ix2 r l)) (-(x7 (ix2 0 l)))) (v73 (ix2 r l)) (v52 (ix2 r l)) := by
  unfold Scalars.un
  rw [← Scalars.norm_eq, ← pay12_apply v65 x7 r l]
  unfold term k0_pay13
  generalize k0_pay12 v65 x7 = L
  pointwise []

/-- The scan of a block as nine doubling steps and the carried row. -/
theorem scanBlk_eq (v52 v65 v73 : FVec Ideal S512x128 .f32) (x7 xh : Vec Ideal S1x128 .f32) :
    scanBlk v52 v65 v73 x7 xh =
      (let A0 := k0_pay13 v65 x7
       let U0 := term v52 v65 v73 x7
       let A1 := stepA 1#32 A0
       let U1 := stepU 1#32 A0 U0
       let A2 := stepA 2#32 A1
       let U2 := stepU 2#32 A1 U1
       let A3 := stepA 4#32 A2
       let U3 := stepU 4#32 A2 U2
       let A4 := stepA 8#32 A3
       let U4 := stepU 8#32 A3 U3
       let A5 := stepA 16#32 A4
       let U5 := stepU 16#32 A4 U4
       let A6 := stepA 32#32 A5
       let U6 := stepU 32#32 A5 U5
       let A7 := stepA 64#32 A6
       let U7 := stepU 64#32 A6 U6
       let A8 := stepA 128#32 A7
       let U8 := stepU 128#32 A7 U7
       let A9 := stepA 256#32 A8
       let U9 := stepU 256#32 A8 U8
       addf U9 (mulf A9 (broadcastTo S512x128 xh broadcasts_S1x128_S512x128))) := rfl

/-- Row `r` of the scan of a block is the recurrence after `r + 1` steps from the carried row. -/
theorem scanBlk_apply (v52 v65 v73 : FVec Ideal S512x128 .f32) (x7 xh : Vec Ideal S1x128 .f32) (l : Fin 128)
    (z ι κ : ℕ → EReal) (h65 : ∀ r : Fin 512, v65 (ix2 r l) = Ideal.logistic (z r.val))
    (h73 : ∀ r : Fin 512, v73 (ix2 r l) = ι r.val) (h52 : ∀ r : Fin 512, v52 (ix2 r l) = κ r.val) (r : Fin 512) :
    scanBlk v52 v65 v73 x7 xh (ix2 r l)
      = Scan.rec (fun k => Ideal.exp (Scalars.la (Ideal.logistic (z k)) (-(x7 (ix2 0 l)))))
          (fun k => Scalars.un (Scalars.la (Ideal.logistic (z k)) (-(x7 (ix2 0 l)))) (ι k) (κ k)) (xh (ix2 0 l)) (r.val + 1) := by
  have hex : ∀ k, ∃ α : ℝ, 0 ≤ α ∧ Ideal.exp (Scalars.la (Ideal.logistic (z k)) (-(x7 (ix2 0 l)))) = α :=
    fun k => Scalars.decay_real _ _
  choose α hα hαe using hex
  rw [Scan.rec_congr (a' := fun k => (α k : EReal)) (u' := fun k => Scalars.un (Scalars.la (Ideal.logistic (z k)) (-(x7 (ix2 0 l)))) (ι k) (κ k))
    (r.val + 1) (fun k _ => hαe k) (fun _ _ => rfl)]
  generalize hu : (fun k => Scalars.un (Scalars.la (Ideal.logistic (z k)) (-(x7 (ix2 0 l)))) (ι k) (κ k)) = u
  have A0 : InvA α l 1 (k0_pay13 v65 x7) := fun r => by
    show Ideal.exp (k0_pay12 v65 x7 (ix2 r l)) = _
    rw [pay12_apply, h65, hαe, show min 1 (r.val + 1) = 1 by omega]
    simp [Scan.pr]
  have U0 : InvU α u l 1 (term v52 v65 v73 x7) := fun r => by
    rw [term_apply, h65, h73, h52, show min 1 (r.val + 1) = 1 by omega, ← hu]
    simp [Scan.su, Scan.pr]
  have A1 := stepA_inv α l 1 _ step1 _ A0
  have U1 := stepU_inv α u hα l 1 _ step1 _ _ A0 U0
  have A2 := stepA_inv α l 2 _ step2 _ A1
  have U2 := stepU_inv α u hα l 2 _ step2 _ _ A1 U1
  have A3 := stepA_inv α l 4 _ step4 _ A2
  have U3 := stepU_inv α u hα l 4 _ step4 _ _ A2 U2
  have A4 := stepA_inv α l 8 _ step8 _ A3
  have U4 := stepU_inv α u hα l 8 _ step8 _ _ A3 U3
  have A5 := stepA_inv α l 16 _ step16 _ A4
  have U5 := stepU_inv α u hα l 16 _ step16 _ _ A4 U4
  have A6 := stepA_inv α l 32 _ step32 _ A5
  have U6 := stepU_inv α u hα l 32 _ step32 _ _ A5 U5
  have A7 := stepA_inv α l 64 _ step64 _ A6
  have U7 := stepU_inv α u hα l 64 _ step64 _ _ A6 U6
  have A8 := stepA_inv α l 128 _ step128 _ A7
  have U8 := stepU_inv α u hα l 128 _ step128 _ _ A7 U7
  have A9 := stepA_inv α l 256 _ step256 _ A8 r
  have U9 := stepU_inv α u hα l 256 _ step256 _ _ A8 U8 r
  have hr := r.isLt
  rw [show min (2 * 256) (r.val + 1) = r.val + 1 by omega] at A9 U9
  rw [scanBlk_eq, ← Scan.su_add_pr α u hα]
  exact congrArg₂ (· + ·) U9 (congrArg₂ (· * ·) A9 (row_apply xh r l))

end Cert.KernelIdeal.Block

end
-- ==== Proof.Entry.lean ====
/- What the kernel's input blocks hold, as entries of the program's arguments. -/
module

public import proofs.«01_k».proof.Proof.Spec
public import proofs.«01_k».proof.Proof.Gen.KernelIdeal.Value
public import Idealize.ShloMosaic.Lib.StableHlo.Run
public import Idealize.ShloMosaic.Lib.Pointwise
public import Idealize.ShloMosaic.Lib.StableHlo.ReadAt

@[expose] public section

set_option maxRecDepth 16384

noncomputable section

namespace Cert.KernelIdeal.Entry

open Cert.KernelIdeal Cert.KernelIdeal.Gen Cert.Spec Idealize.ShloMosaic Idealize.ShloMosaic.TcCoe Idealize.SL.Sem
  Idealize.ShloMosaic.StableHlo

variable (m : (ℓ : Loc nD τ sig) → Buf (Elt Ideal) ℓ)

theorem V_v0 (c : Dev nD) : V m c main_v0 = shapeCast S4x2048 (m ((c : Thread nD τ).loc main_arg1)) shapeCasts_S1x4x2048_S4x2048 := by
  simp only [V]; after_results; rfl
theorem V_v2 (c : Dev nD) : V m c main_v2 = shapeCast S1x2048 (shapeCast S2048 (m ((c : Thread nD τ).loc main_arg2)) shapeCasts_S1x2048_S2048) shapeCasts_S2048_S1x2048 := by
  simp only [V]; after_results; rfl
theorem V_v4 (c : Dev nD) : V m c main_v4 = truncf (F := Ideal) .bf16 (shapeCast S16x128x128 (m ((c : Thread nD τ).loc main_arg3)) shapeCasts_S1x16x128x128_S16x128x128) bitsLt_bf16_f32 := by
  simp only [V]; after_results; rfl
theorem V_v6 (c : Dev nD) : V m c main_v6 = shapeCast S1x2048 (shapeCast S2048 (m ((c : Thread nD τ).loc main_arg4)) shapeCasts_S1x2048_S2048) shapeCasts_S2048_S1x2048 := by
  simp only [V]; after_results; rfl
theorem V_v8 (c : Dev nD) : V m c main_v8 = truncf (F := Ideal) .bf16 (shapeCast S16x128x128 (m ((c : Thread nD τ).loc main_arg5)) shapeCasts_S1x16x128x128_S16x128x128) bitsLt_bf16_f32 := by
  simp only [V]; after_results; rfl
theorem V_v10 (c : Dev nD) : V m c main_v10 = shapeCast S1x2048 (shapeCast S2048 (m ((c : Thread nD τ).loc main_arg6)) shapeCasts_S1x2048_S2048) shapeCasts_S2048_S1x2048 := by
  simp only [V]; after_results; rfl
theorem V_v12 (c : Dev nD) : V m c main_v12 = shapeCast S1x2048 (shapeCast S2048 (m ((c : Thread nD τ).loc main_arg7)) shapeCasts_S1x2048_S2048) shapeCasts_S2048_S1x2048 := by
  simp only [V]; after_results; rfl

/-- A row flattened and spread again is the row. -/
theorem row_again (v : (⟨2, ![1, 2048]⟩ : Shape).Idx → EReal) (j : Fin 2048) :
    shapeCast S1x2048 (shapeCast S2048 v shapeCasts_S1x2048_S2048) shapeCasts_S2048_S1x2048 (ix2 0 j) = v (ix2 0 j) := by
  pointwise []

/-- The taps without their leading axis. -/
theorem taps_apply (v : (⟨3, ![1, 4, 2048]⟩ : Shape).Idx → EReal) (k : Fin 4) (j : Fin 2048) :
    shapeCast S4x2048 v shapeCasts_S1x4x2048_S4x2048 (ix2 k j) = v (ix3 0 k j) := by
  pointwise []

/-- The gate's weights without their leading axis, narrowed. -/
theorem wts_apply (v : (⟨4, ![1, 16, 128, 128]⟩ : Shape).Idx → EReal) (n : Fin 16) (k l : Fin 128) :
    truncf (F := Ideal) .bf16 (shapeCast S16x128x128 v shapeCasts_S1x16x128x128_S16x128x128) bitsLt_bf16_f32 (ix3 n k l) = v (ix4 0 n k l) := by
  pointwise []

/-- The batch, the channel block and the time block of a grid point. -/
def tb (t : Fin cfg0.N) : Fin 4 := ⟨t.val / 256, by have h : t.val < 1024 := lt_of_lt_of_eq t.isLt N_0; omega⟩
def tn (t : Fin cfg0.N) : Fin 16 := ⟨t.val / 16 % 16, Nat.mod_lt _ (by decide)⟩
def tq (t : Fin cfg0.N) : Fin 16 := ⟨t.val % 16, Nat.mod_lt _ (by decide)⟩

theorem idx0 : ∀ t : Fin grid0.N, win0_0.index t 0 = t.val / 256 * 16 + t.val % 16 ∧ win0_0.index t 1 = t.val / 16 % 16 := by decide +kernel
theorem idx1 : ∀ t : Fin grid0.N, win0_1.index t 0 = 0 ∧ win0_1.index t 1 = t.val / 16 % 16 := by decide +kernel
theorem idx2 : ∀ t : Fin grid0.N, win0_2.index t 0 = 0 ∧ win0_2.index t 1 = t.val / 16 % 16 := by decide +kernel
theorem idx3 : ∀ t : Fin grid0.N, win0_3.index t 0 = t.val / 16 % 16 ∧ win0_3.index t 1 = 0 ∧ win0_3.index t 2 = 0 := by decide +kernel
theorem idx4 : ∀ t : Fin grid0.N, win0_4.index t 0 = 0 ∧ win0_4.index t 1 = t.val / 16 % 16 := by decide +kernel
theorem idx5 : ∀ t : Fin grid0.N, win0_5.index t 0 = t.val / 16 % 16 ∧ win0_5.index t 1 = 0 ∧ win0_5.index t 2 = 0 := by decide +kernel
theorem idx6 : ∀ t : Fin grid0.N, win0_6.index t 0 = 0 ∧ win0_6.index t 1 = t.val / 16 % 16 := by decide +kernel
theorem idx7 : ∀ t : Fin grid0.N, win0_7.index t 0 = 0 ∧ win0_7.index t 1 = t.val / 16 % 16 := by decide +kernel
theorem idx8 : ∀ t : Fin grid0.N, win0_8.index t 0 = t.val / 256 * 16 + t.val % 16 ∧ win0_8.index t 1 = t.val / 16 % 16 := by decide +kernel

/-- The arguments as arrays of extended reals. -/
abbrev a0 (c : Dev nD) : (⟨2, ![32768, 9984]⟩ : Shape).Idx → EReal := m ((c : Thread nD τ).loc main_arg0)
abbrev a1 (c : Dev nD) : (⟨3, ![1, 4, 2048]⟩ : Shape).Idx → EReal := m ((c : Thread nD τ).loc main_arg1)
abbrev a2 (c : Dev nD) : (⟨2, ![1, 2048]⟩ : Shape).Idx → EReal := m ((c : Thread nD τ).loc main_arg2)
abbrev a3 (c : Dev nD) : (⟨4, ![1, 16, 128, 128]⟩ : Shape).Idx → EReal := m ((c : Thread nD τ).loc main_arg3)
abbrev a4 (c : Dev nD) : (⟨2, ![1, 2048]⟩ : Shape).Idx → EReal := m ((c : Thread nD τ).loc main_arg4)
abbrev a5 (c : Dev nD) : (⟨4, ![1, 16, 128, 128]⟩ : Shape).Idx → EReal := m ((c : Thread nD τ).loc main_arg5)
abbrev a6 (c : Dev nD) : (⟨2, ![1, 2048]⟩ : Shape).Idx → EReal := m ((c : Thread nD τ).loc main_arg6)
abbrev a7 (c : Dev nD) : (⟨2, ![1, 2048]⟩ : Shape).Idx → EReal := m ((c : Thread nD τ).loc main_arg7)

theorem blk0 (c : Dev nD) (t : Fin cfg0.N) (r : Fin 512) (l : Fin 128) :
    (iblk m c 0 t : Vec Ideal S512x128 .f32) (ix2 r l) = series (a0 m c) (tb t) (chan (tn t) l) (512 * (tq t).val + r.val + 8) := by
  have hN : t.val < 1024 := lt_of_lt_of_eq t.isLt N_0
  unfold series
  rw [dif_pos (by have := (tq t).isLt; omega)]
  unfold iblk
  rw [View.read_apply]
  show V m c main_arg0 _ = _
  rw [V_main_arg0]
  refine congrArg (m ((c : Thread nD τ).loc main_arg0)) (funext fun a => Fin.ext ?_)
  match a with
  | ⟨0, _⟩ =>
    show win0_0.index t 0 * 512 + 1 * r.val = t.val / 256 * 8192 + (512 * (t.val % 16) + r.val + 8 - 8)
    rw [(idx0 t).1]; omega
  | ⟨1, _⟩ =>
    show win0_0.index t 1 * 128 + 1 * l.val = t.val / 16 % 16 * 128 + l.val
    rw [(idx0 t).2]; omega

theorem blk1 (c : Dev nD) (t : Fin cfg0.N) (k : Fin 4) (l : Fin 128) :
    (iblk m c 1 t : Vec Ideal S4x128 .f32) (ix2 k l) = a1 m c (ix3 0 k (chan (tn t) l)) := by
  refine Eq.trans ?_ (taps_apply (a1 m c) k (chan (tn t) l))
  unfold iblk
  rw [View.read_apply]
  show V m c main_v0 _ = _
  rw [V_v0]
  refine congrArg (shapeCast S4x2048 _ _) (funext fun a => Fin.ext ?_)
  match a with
  | ⟨0, _⟩ => show win0_1.index t 0 * 4 + 1 * k.val = k.val; rw [(idx1 t).1]; omega
  | ⟨1, _⟩ => show win0_1.index t 1 * 128 + 1 * l.val = t.val / 16 % 16 * 128 + l.val; rw [(idx1 t).2]; omega

theorem blk2 (c : Dev nD) (t : Fin cfg0.N) (l : Fin 128) :
    (iblk m c 2 t : Vec Ideal S1x128 .f32) (ix2 0 l) = a2 m c (ix2 0 (chan (tn t) l)) := by
  refine Eq.trans ?_ (row_again (a2 m c) (chan (tn t) l))
  unfold iblk
  rw [View.read_apply]
  show V m c main_v2 _ = _
  rw [V_v2]
  refine congrArg (shapeCast S1x2048 _ _) (funext fun a => Fin.ext ?_)
  match a with
  | ⟨0, _⟩ => show win0_2.index t 0 * 1 + 1 * 0 = 0; rw [(idx2 t).1]
  | ⟨1, _⟩ => show win0_2.index t 1 * 128 + 1 * l.val = t.val / 16 % 16 * 128 + l.val; rw [(idx2 t).2]; omega

theorem blk4 (c : Dev nD) (t : Fin cfg0.N) (l : Fin 128) :
    (iblk m c 4 t : Vec Ideal S1x128 .f32) (ix2 0 l) = a4 m c (ix2 0 (chan (tn t) l)) := by
  refine Eq.trans ?_ (row_again (a4 m c) (chan (tn t) l))
  unfold iblk
  rw [View.read_apply]
  show V m c main_v6 _ = _
  rw [V_v6]
  refine congrArg (shapeCast S1x2048 _ _) (funext fun a => Fin.ext ?_)
  match a with
  | ⟨0, _⟩ => show win0_4.index t 0 * 1 + 1 * 0 = 0; rw [(idx4 t).1]
  | ⟨1, _⟩ => show win0_4.index t 1 * 128 + 1 * l.val = t.val / 16 % 16 * 128 + l.val; rw [(idx4 t).2]; omega

theorem blk6 (c : Dev nD) (t : Fin cfg0.N) (l : Fin 128) :
    (iblk m c 6 t : Vec Ideal S1x128 .f32) (ix2 0 l) = a6 m c (ix2 0 (chan (tn t) l)) := by
  refine Eq.trans ?_ (row_again (a6 m c) (chan (tn t) l))
  unfold iblk
  rw [View.read_apply]
  show V m c main_v10 _ = _
  rw [V_v10]
  refine congrArg (shapeCast S1x2048 _ _) (funext fun a => Fin.ext ?_)
  match a with
  | ⟨0, _⟩ => show win0_6.index t 0 * 1 + 1 * 0 = 0; rw [(idx6 t).1]
  | ⟨1, _⟩ => show win0_6.index t 1 * 128 + 1 * l.val = t.val / 16 % 16 * 128 + l.val; rw [(idx6 t).2]; omega

theorem blk7 (c : Dev nD) (t : Fin cfg0.N) (l : Fin 128) :
    (iblk m c 7 t : Vec Ideal S1x128 .f32) (ix2 0 l) = a7 m c (ix2 0 (chan (tn t) l)) := by
  refine Eq.trans ?_ (row_again (a7 m c) (chan (tn t) l))
  unfold iblk
  rw [View.read_apply]
  show V m c main_v12 _ = _
  rw [V_v12]
  refine congrArg (shapeCast S1x2048 _ _) (funext fun a => Fin.ext ?_)
  match a with
  | ⟨0, _⟩ => show win0_7.index t 0 * 1 + 1 * 0 = 0; rw [(idx7 t).1]
  | ⟨1, _⟩ => show win0_7.index t 1 * 128 + 1 * l.val = t.val / 16 % 16 * 128 + l.val; rw [(idx7 t).2]; omega

theorem blk3 (c : Dev nD) (t : Fin cfg0.N) (k l : Fin 128) :
    (iblk m c 3 t : Vec Ideal S1x128x128 .bf16) (ix3 0 k l) = a3 m c (ix4 0 (tn t) k l) := by
  refine Eq.trans ?_ (wts_apply (a3 m c) (tn t) k l)
  unfold iblk
  rw [View.read_apply]
  show V m c main_v4 _ = _
  rw [V_v4]
  refine congrArg (truncf (F := Ideal) .bf16 _ _) (funext fun a => Fin.ext ?_)
  match a with
  | ⟨0, _⟩ => show win0_3.index t 0 * 1 + 1 * 0 = t.val / 16 % 16; rw [(idx3 t).1]; omega
  | ⟨1, _⟩ => show win0_3.index t 1 * 128 + 1 * k.val = k.val; rw [(idx3 t).2.1]; omega
  | ⟨2, _⟩ => show win0_3.index t 2 * 128 + 1 * l.val = l.val; rw [(idx3 t).2.2]; omega

theorem blk5 (c : Dev nD) (t : Fin cfg0.N) (k l : Fin 128) :
    (iblk m c 5 t : Vec Ideal S1x128x128 .bf16) (ix3 0 k l) = a5 m c (ix4 0 (tn t) k l) := by
  refine Eq.trans ?_ (wts_apply (a5 m c) (tn t) k l)
  unfold iblk
  rw [View.read_apply]
  show V m c main_v8 _ = _
  rw [V_v8]
  refine congrArg (truncf (F := Ideal) .bf16 _ _) (funext fun a => Fin.ext ?_)
  match a with
  | ⟨0, _⟩ => show win0_5.index t 0 * 1 + 1 * 0 = t.val / 16 % 16; rw [(idx5 t).1]; omega
  | ⟨1, _⟩ => show win0_5.index t 1 * 128 + 1 * k.val = k.val; rw [(idx5 t).2.1]; omega
  | ⟨2, _⟩ => show win0_5.index t 2 * 128 + 1 * l.val = l.val; rw [(idx5 t).2.2]; omega

end Cert.KernelIdeal.Entry

end
-- ==== Proof.Array.lean ====
/- The kernel's result array: by induction over the grid points each block written holds the states of the
   recurrence, so the array is the specification. -/
module

public import proofs.«01_k».proof.Proof.Block
public import proofs.«01_k».proof.Proof.Entry
public import Idealize.ShloMosaic.Lib.Pipeline.Value

@[expose] public section

set_option maxRecDepth 16384

noncomputable section

namespace Cert.KernelIdeal.Array

open Cert.KernelIdeal Cert.KernelIdeal.Gen Cert.KernelIdeal.Value Cert.KernelIdeal.Point Cert.KernelIdeal.Block
  Cert.KernelIdeal.Entry Cert.Spec Idealize.ShloMosaic Idealize.ShloMosaic.TcCoe Idealize.SL.Sem
open Idealize.ShloMosaic.Pipeline (Dat)

variable (m : (ℓ : Loc nD τ sig) → Buf (Elt Ideal) ℓ)

/-- The state of the recurrence over a device's arguments. -/
abbrev st (c : Dev nD) (b : Fin 4) (n : Fin 16) (l : Fin 128) (t : ℕ) : EReal :=
  state (a0 m c) (a1 m c) (a2 m c) (a3 m c) (a4 m c) (a5 m c) (a6 m c) (a7 m c) b n l t

/-- A channel's padded series over a device's arguments. -/
abbrev sr (c : Dev nD) (b : Fin 4) (n : Fin 16) (l : Fin 128) (k : ℕ) : EReal := series (a0 m c) b (chan n l) k

/-- The block of a point, when the carried rows are the series' and the carried row is the state before the block. -/
theorem hBlk_apply (c : Dev nD) (t : Fin cfg0.N) (xp : Vec Ideal S8x128 .f32) (xh : Vec Ideal S1x128 .f32)
    (hp : ∀ (l : Fin 128) (r : Fin 8), xp (ix2 r l) = sr m c (tb t) (tn t) l (512 * (tq t).val + r.val))
    (hh : ∀ l : Fin 128, xh (ix2 0 l) = st m c (tb t) (tn t) l (512 * (tq t).val)) (r : Fin 512) (l : Fin 128) :
    hBlk (iblk m c 0 t) (iblk m c 1 t) (iblk m c 2 t) (iblk m c 3 t) (iblk m c 4 t) (iblk m c 5 t) (iblk m c 6 t) (iblk m c 7 t) xp xh (ix2 r l)
      = st m c (tb t) (tn t) l (512 * (tq t).val + r.val + 1) := by
  have hcv : ∀ (r : Fin 512) (l : Fin 128), conv (iblk m c 0 t) (iblk m c 1 t) (iblk m c 2 t) xp (ix2 r l)
      = xc (a0 m c) (a1 m c) (a2 m c) (tb t) (chan (tn t) l) (512 * (tq t).val + r.val) := fun r l => by
    rw [conv_apply _ _ _ _ (series (a0 m c) (tb t) (chan (tn t) l)) (512 * (tq t).val) l (fun r => blk0 m c t r l) (hp l), blk2]
    unfold xc
    exact congrArg (fun w => cvS _ w _ _) (funext fun k => blk1 m c t k l)
  have hr : ∀ r : Fin 512, gateR (iblk m c 0 t) (iblk m c 1 t) (iblk m c 2 t) xp (iblk m c 3 t) (iblk m c 4 t) (ix2 r l)
      = Ideal.logistic (pre (a0 m c) (a1 m c) (a2 m c) (a3 m c) (a4 m c) (tb t) (tn t) l (512 * (tq t).val + r.val)) := fun r => by
    rw [gateR_apply, blk4]
    unfold pre
    simp only [hcv, blk3]
  have hi : ∀ r : Fin 512, gateI (iblk m c 0 t) (iblk m c 1 t) (iblk m c 2 t) xp (iblk m c 5 t) (iblk m c 6 t) (ix2 r l)
      = Ideal.logistic (pre (a0 m c) (a1 m c) (a2 m c) (a5 m c) (a6 m c) (tb t) (tn t) l (512 * (tq t).val + r.val)) := fun r => by
    rw [gateI_apply, blk6]
    unfold pre
    simp only [hcv, blk5]
  unfold hBlk
  rw [scanBlk_apply _ _ _ _ _ l
    (fun k => pre (a0 m c) (a1 m c) (a2 m c) (a3 m c) (a4 m c) (tb t) (tn t) l (512 * (tq t).val + k))
    (fun k => Ideal.logistic (pre (a0 m c) (a1 m c) (a2 m c) (a5 m c) (a6 m c) (tb t) (tn t) l (512 * (tq t).val + k)))
    (fun k => xc (a0 m c) (a1 m c) (a2 m c) (tb t) (chan (tn t) l) (512 * (tq t).val + k)) hr hi (fun r => hcv r l), blk7, hh]
  exact Scan.rec_add (dec (a0 m c) (a1 m c) (a2 m c) (a3 m c) (a4 m c) (a7 m c) (tb t) (tn t) l)
    (add (a0 m c) (a1 m c) (a2 m c) (a3 m c) (a4 m c) (a5 m c) (a6 m c) (a7 m c) (tb t) (tn t) l) 0 (512 * (tq t).val) (r.val + 1)

/-- The last eight rows of a block. -/
theorem tail_apply (x0 : Vec Ideal S512x128 .f32) (r : Fin 8) (l : Fin 128) :
    k0_pay8 x0 (ix2 r l) = x0 (ix2 ⟨504 + r.val, by omega⟩ l) := by
  unfold k0_pay8
  simp only [shapeCast_self]
  exact extractStridedSlice_apply _ _ _ _ (ix2 ⟨504 + r.val, by omega⟩ l) (fun b => by
    match b with
    | ⟨0, _⟩ => rfl
    | ⟨1, _⟩ => exact (Nat.zero_add _).symm)

/-- The last row of a block. -/
theorem lastRow_apply (h : FVec Ideal S512x128 .f32) (l : Fin 128) : lastRow h (ix2 0 l) = h (ix2 ⟨511, by omega⟩ l) := by
  unfold lastRow
  exact extractStridedSlice_apply _ _ _ _ (ix2 ⟨511, by omega⟩ l) (fun b => by
    match b with
    | ⟨0, _⟩ => rfl
    | ⟨1, _⟩ => exact (Nat.zero_add _).symm)

theorem zx_apply (r : Fin 8) (l : Fin 128) : (zx : Vec Ideal S8x128 .f32) (ix2 r l) = 0 := by
  unfold zx k0_pay3
  pointwise []
theorem zh_apply (l : Fin 128) : (zh : Vec Ideal S1x128 .f32) (ix2 0 l) = 0 := by
  unfold zh k0_pay4
  pointwise []

/-- What a point leaves: its block, the rows the next point's taps reach back to, the state the next starts from. -/
def Left (c : Dev nD) (t : Fin cfg0.N) : Prop :=
  (∀ (r : Fin 512) (l : Fin 128), (outsAt0 m c t.val t.isLt).1 (ix2 r l) = st m c (tb t) (tn t) l (512 * (tq t).val + r.val + 1))
  ∧ (∀ (l : Fin 128) (r : Fin 8), (outsAt0 m c t.val t.isLt).2.1 (ix2 r l) = sr m c (tb t) (tn t) l (512 * ((tq t).val + 1) + r.val))
  ∧ (∀ l : Fin 128, (outsAt0 m c t.val t.isLt).2.2 (ix2 0 l) = st m c (tb t) (tn t) l (512 * ((tq t).val + 1)))

theorem tail_sr (c : Dev nD) (t : Fin cfg0.N) (l : Fin 128) (r : Fin 8) :
    k0_pay8 (iblk m c 0 t : Vec Ideal S512x128 .f32) (ix2 r l) = sr m c (tb t) (tn t) l (512 * ((tq t).val + 1) + r.val) := by
  rw [tail_apply, blk0]
  exact congrArg (sr m c (tb t) (tn t) l) (by simp only; omega)

/-- A point that starts a batch's channel block starts from zeros. -/
theorem left_A (c : Dev nD) (t : Fin cfg0.N) (h0 : t.val % 16 = 0) : Left m c t := by
  have hq : (tq t).val = 0 := h0
  have hb := hBlk_apply m c t zx zh
    (fun l r => by
      rw [zx_apply]
      have hr := r.isLt
      have hk : ¬(8 ≤ 512 * (tq t).val + r.val ∧ 512 * (tq t).val + r.val < 8200) := by rw [hq]; omega
      unfold sr series
      rw [dif_neg hk])
    (fun l => by rw [zh_apply, hq]; rfl)
  unfold Left
  rw [outsAt0_A m c t h0]
  dsimp only
  rw [out0_A_8_eq, sout0_A_0_eq, sout0_A_1_eq]
  refine ⟨hb, tail_sr m c t, fun l => ?_⟩
  rw [lastRow_apply, hb]
  exact congrArg (st m c (tb t) (tn t) l) (by simp only; omega)

/-- A later point goes on from what the point before left. -/
theorem left_B (c : Dev nD) (t : Fin cfg0.N) (h0 : ¬t.val % 16 = 0)
    (ih : Left m c ⟨t.val - 1, Nat.lt_of_le_of_lt (Nat.sub_le _ _) t.isLt⟩) : Left m c t := by
  have hN : t.val < 1024 := lt_of_lt_of_eq t.isLt N_0
  obtain ⟨-, i1, i2⟩ := ih
  have eb : tb ⟨t.val - 1, Nat.lt_of_le_of_lt (Nat.sub_le _ _) t.isLt⟩ = tb t := Fin.ext (by show (t.val - 1) / 256 = t.val / 256; omega)
  have en : tn ⟨t.val - 1, Nat.lt_of_le_of_lt (Nat.sub_le _ _) t.isLt⟩ = tn t := Fin.ext (by show (t.val - 1) / 16 % 16 = t.val / 16 % 16; omega)
  have eq : (tq ⟨t.val - 1, Nat.lt_of_le_of_lt (Nat.sub_le _ _) t.isLt⟩).val + 1 = (tq t).val := by show (t.val - 1) % 16 + 1 = t.val % 16; omega
  rw [eb, en, eq] at i1 i2
  have hb := hBlk_apply m c t _ _ i1 i2
  unfold Left
  rw [outsAt0_B m c t h0]
  dsimp only
  rw [out0_B_8_eq, sout0_B_0_eq, sout0_B_1_eq]
  refine ⟨hb, tail_sr m c t, fun l => ?_⟩
  rw [lastRow_apply, hb]
  exact congrArg (st m c (tb t) (tn t) l) (by simp only; omega)

theorem left_all (c : Dev nD) : ∀ (n : ℕ) (h : n < cfg0.N), Left m c ⟨n, h⟩
  | 0, h => left_A m c ⟨0, h⟩ rfl
  | n + 1, h => by
    by_cases h0 : (n + 1) % 16 = 0
    · exact left_A m c ⟨n + 1, h⟩ h0
    · exact left_B m c ⟨n + 1, h⟩ h0 (left_all c n _)

/-- The specification over a device's arguments, as contents of the result array. -/
abbrev G (c : Dev nD) : Buf (Elt Ideal) ((c : Thread nD τ).loc main_v13) :=
  out (a0 m c) (a1 m c) (a2 m c) (a3 m c) (a4 m c) (a5 m c) (a6 m c) (a7 m c)

theorem flushed_eq (c : Dev nD) (t : Fin cfg0.N) (hf : (cfg0.win 8).flush t = true) :
    (dats m 0 c).flushed 8 t = ((cfg0.win 8).blk t).view.read (Elt Ideal) (G m c) := by
  have hN : t.val < 1024 := lt_of_lt_of_eq t.isLt N_0
  rw [flushed8]
  funext j
  rw [View.read_apply]
  show (outsAt0 m c t.val t.isLt).1 j = _
  have h0 : (j 0).val < 512 := (j 0).isLt
  have h1 : (j 1).val < 128 := (j 1).isLt
  have e := (left_all m c t.val t.isLt).1 ⟨(j 0).val, h0⟩ ⟨(j 1).val, h1⟩
  refine Eq.trans (congrArg _ ?_) (e.trans ?_)
  · funext a
    match a with
    | ⟨0, _⟩ => rfl
    | ⟨1, _⟩ => rfl
  · have k0 : ((((cfg0.win 8).blk t).view.emb j) 0).val = (t.val / 256 * 16 + t.val % 16) * 512 + (j 0).val := by
      show win0_8.index t 0 * 512 + 1 * (j 0).val = _
      rw [(idx8 t).1]; omega
    have k1 : ((((cfg0.win 8).blk t).view.emb j) 1).val = t.val / 16 % 16 * 128 + (j 1).val := by
      show win0_8.index t 1 * 128 + 1 * (j 1).val = _
      rw [(idx8 t).2]; omega
    show _ = out _ _ _ _ _ _ _ _ (((cfg0.win 8).blk t).view.emb j)
    unfold out
    have hst : ∀ (b b' : Fin 4) (n n' : Fin 16) (l l' : Fin 128) (k k' : ℕ), b.val = b'.val → n.val = n'.val → l.val = l'.val → k = k' →
        st m c b n l k = st m c b' n' l' k' := by
      intro b b' n n' l l' k k' hb hn hl hk
      rw [Fin.ext hb, Fin.ext hn, Fin.ext hl, hk]
    refine hst _ _ _ _ _ _ _ _ ?_ ?_ ?_ ?_
    · show t.val / 256 = ((((cfg0.win 8).blk t).view.emb j) 0).val / 8192
      rw [k0]; omega
    · show t.val / 16 % 16 = ((((cfg0.win 8).blk t).view.emb j) 1).val / 128
      rw [k1]; omega
    · show (j 1).val = ((((cfg0.win 8).blk t).view.emb j) 1).val % 128
      rw [k1]; omega
    · show 512 * (t.val % 16) + (j 0).val + 1 = ((((cfg0.win 8).blk t).view.emb j) 0).val % 8192 + 1
      rw [k0]; omega

/-- The result array is the specification. -/
theorem final (c : Dev nD) : (dats m 0 c).arrAt 8 cfg0.N = G m c :=
  (dats m 0 c).arrAt_eq_of_cover 8 (G m c) (flushed_eq m c) fun i => by
    have h0 : (i 0 : Nat) < 32768 := (i 0).isLt
    have h1 : (i 1 : Nat) < 2048 := (i 1).isLt
    let t : Fin cfg0.N := ⟨(i 0 : Nat) / 8192 * 256 + (i 1 : Nat) / 128 * 16 + (i 0 : Nat) / 512 % 16, by
      rw [show cfg0.N = 1024 from N_0]; omega⟩
    refine ⟨t, flush0_8 t, ?_⟩
    show i ∈ ((View.whole main_v13).slice (win0_8.rect t)).set
    rw [View.set_slice_whole, Rect.mem_set_unit]
    have e0 : win0_8.index t 0 = (i 0 : Nat) / 512 := by
      rw [(idx8 t).1]
      show ((i 0 : Nat) / 8192 * 256 + (i 1 : Nat) / 128 * 16 + (i 0 : Nat) / 512 % 16) / 256 * 16
        + ((i 0 : Nat) / 8192 * 256 + (i 1 : Nat) / 128 * 16 + (i 0 : Nat) / 512 % 16) % 16 = _
      omega
    have e1 : win0_8.index t 1 = (i 1 : Nat) / 128 := by
      rw [(idx8 t).2]
      show ((i 0 : Nat) / 8192 * 256 + (i 1 : Nat) / 128 * 16 + (i 0 : Nat) / 512 % 16) / 16 % 16 = _
      omega
    intro a
    match a with
    | ⟨0, _⟩ =>
      show win0_8.index t 0 * 512 ≤ (i 0 : Nat) ∧ (i 0 : Nat) < win0_8.index t 0 * 512 + 512
      rw [e0]; omega
    | ⟨1, _⟩ =>
      show win0_8.index t 1 * 128 ≤ (i 1 : Nat) ∧ (i 1 : Nat) < win0_8.index t 1 * 128 + 128
      rw [e1]; omega

end Cert.KernelIdeal.Array

end
-- ==== Proof.RefPre.lean ====
/- The reference's stretches before its loop, read at an index: each result as an expression in the entries of the
   buffers the stretch finds. -/
module

public import proofs.«01_k».proof.Proof.Spec
public import proofs.«01_k».proof.Proof.Gen.ReferenceIdeal.Run
public import Idealize.ShloMosaic.Lib.StableHlo.Run
public import Idealize.ShloMosaic.Lib.Pointwise
public import Idealize.ShloMosaic.Lib.StableHlo.ReadAt

@[expose] public section

set_option maxRecDepth 16384

noncomputable section

namespace Cert.ReferenceIdeal.Pre

open Cert.ReferenceIdeal Cert.ReferenceIdeal.Gen Cert.ReferenceIdeal.Value Cert.Spec Idealize.ShloMosaic Idealize.ShloMosaic.TcCoe
  Idealize.SL.Sem Idealize.ShloMosaic.StableHlo
open scoped BigOperators

variable (V : Valuation τ sig (Elt Ideal))

/-- The buffers the stretches hand on, as arrays of extended reals. -/
abbrev b1 : (⟨3, ![4, 8192, 2048]⟩ : Shape).Idx → EReal := V (Proc.devRef .tc main_v1)
abbrev b2 : (⟨2, ![4, 2048]⟩ : Shape).Idx → EReal := V (Proc.devRef .tc main_v2)
abbrev b3 : (⟨1, ![2048]⟩ : Shape).Idx → EReal := V (Proc.devRef .tc main_v3)
abbrev b4 : (⟨3, ![4, 8195, 2048]⟩ : Shape).Idx → EReal := V (Proc.devRef .tc main_v4)
abbrev b34 : (⟨3, ![4, 8192, 2048]⟩ : Shape).Idx → EReal := V (Proc.devRef .tc main_v34)
abbrev b52 : (⟨3, ![4, 8192, 2048]⟩ : Shape).Idx → EReal := V (Proc.devRef .tc main_v52)
abbrev b64 : (⟨3, ![4, 8192, 2048]⟩ : Shape).Idx → EReal := V (Proc.devRef .tc main_v64)
abbrev b66 : (⟨3, ![4, 8192, 2048]⟩ : Shape).Idx → EReal := V (Proc.devRef .tc main_v66)
abbrev b67 : (⟨1, ![2048]⟩ : Shape).Idx → EReal := V (Proc.devRef .tc main_v67)
abbrev b68 : (⟨1, ![2048]⟩ : Shape).Idx → EReal := V (Proc.devRef .tc main_v68)
abbrev b84_0 : (⟨3, ![8192, 4, 2048]⟩ : Shape).Idx → EReal := V (Proc.devRef .tc main_v84_0)
abbrev b84_1 : (⟨3, ![8192, 4, 2048]⟩ : Shape).Idx → EReal := V (Proc.devRef .tc main_v84_1)
abbrev b84_3 : (⟨2, ![4, 2048]⟩ : Shape).Idx → EReal := V (Proc.devRef .tc main_v84_3)
abbrev b84_4 : (⟨3, ![8192, 4, 2048]⟩ : Shape).Idx → EReal := V (Proc.devRef .tc main_v84_4)
abbrev arg0 : (⟨2, ![32768, 9984]⟩ : Shape).Idx → EReal := V (Proc.devRef .tc main_arg0)
abbrev arg1 : (⟨3, ![1, 4, 2048]⟩ : Shape).Idx → EReal := V (Proc.devRef .tc main_arg1)
abbrev arg2 : (⟨2, ![1, 2048]⟩ : Shape).Idx → EReal := V (Proc.devRef .tc main_arg2)
abbrev arg3 : (⟨4, ![1, 16, 128, 128]⟩ : Shape).Idx → EReal := V (Proc.devRef .tc main_arg3)
abbrev arg4 : (⟨2, ![1, 2048]⟩ : Shape).Idx → EReal := V (Proc.devRef .tc main_arg4)
abbrev arg5 : (⟨4, ![1, 16, 128, 128]⟩ : Shape).Idx → EReal := V (Proc.devRef .tc main_arg5)
abbrev arg6 : (⟨2, ![1, 2048]⟩ : Shape).Idx → EReal := V (Proc.devRef .tc main_arg6)
abbrev arg7 : (⟨2, ![1, 2048]⟩ : Shape).Idx → EReal := V (Proc.devRef .tc main_arg7)

/-- The reference's taps from the padded series it holds. -/
def taps (b : Fin 4) (t : Fin 8192) (ch : Fin 2048) : EReal :=
  b3 V (ix1 ch) + b4 V (ix3 b ⟨t.val, by omega⟩ ch) * b2 V (ix2 0 ch) + b4 V (ix3 b ⟨1 + t.val, by omega⟩ ch) * b2 V (ix2 1 ch)
    + b4 V (ix3 b ⟨2 + t.val, by omega⟩ ch) * b2 V (ix2 2 ch) + b4 V (ix3 b ⟨3 + t.val, by omega⟩ ch) * b2 V (ix2 3 ch)

/-- The split series. -/
theorem r1 (b : Fin 4) (t : Fin 8192) (ch : Fin 2048) : b1 (after hostOps0 V) (ix3 b t ch) = arg0 V (ix2 (rowAt b t.val t.isLt) (col ch)) := by
  unfold b1
  after_results
  pointwise []
  rfl

/-- The taps' weights. -/
theorem r2 (k : Fin 4) (ch : Fin 2048) : b2 (after hostOps0 V) (ix2 k ch) = arg1 V (ix3 0 k ch) := by
  unfold b2
  after_results
  pointwise []

/-- The taps' bias. -/
theorem r3 (ch : Fin 2048) : b3 (after hostOps0 V) (ix1 ch) = arg2 V (ix2 0 ch) := by
  unfold b3
  after_results
  pointwise []

/-- The padding value is zero. -/
theorem rc : (FloatOps.sitofp (F := Ideal) .f32 ((after hostOps0 V (Proc.devRef .tc main_c) : Vec Ideal S_ .i32) (Shape.Idx.first h_S_)) : EReal) = 0 := by
  have h : (after hostOps0 V (Proc.devRef .tc main_c) : Vec Ideal S_ .i32) = constantI S_ 32 0#32 := by
    after_results
  rw [h]
  show ((((0#32 : BitVec 32).toInt : ℤ) : ℝ) : EReal) = 0
  simp

/-- The padded series, the value at the padding left as it stands. -/
theorem r4 (b : Fin 4) (t : Fin 8195) (ch : Fin 2048) : b4 (after hostOps0_1 V) (ix3 b t ch)
    = if h : 3 ≤ t.val ∧ t.val - 3 < 8192 then b1 V (ix3 b ⟨t.val - 3, h.2⟩ ch)
      else FloatOps.sitofp (F := Ideal) .f32 ((V (Proc.devRef .tc main_c) : Vec Ideal S_ .i32) (Shape.Idx.first h_S_)) := by
  unfold b4
  after_results
  simp only [TRef.ofBuf, TRef.toBuf, cast_eq]
  pointwise []

/-- The taps. -/
theorem r34 (b : Fin 4) (t : Fin 8192) (ch : Fin 2048) : b34 (after hostOps0_2 V) (ix3 b t ch) = taps V b t ch := by
  unfold b34
  after_results
  pointwise []
  rfl

/-- A channel taken apart. -/
theorem chan_div (n : Fin 16) (l : Fin 128) (h : (chan n l).val / 128 < 16) : (⟨(chan n l).val / 128, h⟩ : Fin 16) = n := by
  refine Fin.ext ?_
  show (n.val * 128 + l.val) / 128 = n.val
  omega
theorem chan_mod (n : Fin 16) (l : Fin 128) (h : (chan n l).val % 128 < 128) : (⟨(chan n l).val % 128, h⟩ : Fin 128) = l := by
  refine Fin.ext ?_
  show (n.val * 128 + l.val) % 128 = l.val
  omega
theorem chan_put (n : Fin 16) (l k : Fin 128) (h : (chan n l).val / 128 * 128 + k.val < 2048) :
    (⟨(chan n l).val / 128 * 128 + k.val, h⟩ : Fin 2048) = chan n k := by
  refine Fin.ext ?_
  show (n.val * 128 + l.val) / 128 * 128 + k.val = n.val * 128 + k.val
  omega

/-- The recurrence gate. -/
theorem r52 (b : Fin 4) (t : Fin 8192) (n : Fin 16) (l : Fin 128) : b52 (after hostOps0_2 V) (ix3 b t (chan n l))
    = Ideal.logistic ((∑ k : Fin 128, taps V b t (chan n k) * arg3 V (ix4 0 n k l)) + arg4 V (ix2 0 (chan n l))) := by
  unfold b52
  after_results
  pointwise []
  simp only [chan_div, chan_mod, chan_put, Scalars.logistic_eq]
  unfold taps
  simp only [mul_comm (arg3 V _)]

/-- The input gate. -/
theorem r64 (b : Fin 4) (t : Fin 8192) (n : Fin 16) (l : Fin 128) : b64 (after hostOps0_2 V) (ix3 b t (chan n l))
    = Ideal.logistic ((∑ k : Fin 128, taps V b t (chan n k) * arg5 V (ix4 0 n k l)) + arg6 V (ix2 0 (chan n l))) := by
  unfold b64
  after_results
  pointwise []
  simp only [chan_div, chan_mod, chan_put, Scalars.logistic_eq]
  unfold taps
  simp only [mul_comm (arg5 V _)]

/-- The recurrence gate times the constant. -/
theorem r66 (b : Fin 4) (t : Fin 8192) (ch : Fin 2048) : b66 (after hostOps0_2 V) (ix3 b t ch) = Scalars.c8 * b52 (after hostOps0_2 V) (ix3 b t ch) := by
  unfold b66 b52
  after_results
  pointwise []

/-- The negated parameter. -/
theorem r67 (ch : Fin 2048) : b67 (after hostOps0_2 V) (ix1 ch) = -(arg7 V (ix2 0 ch)) := by
  unfold b67
  after_results
  pointwise []

/-- Its softplus. -/
theorem r68 (ch : Fin 2048) : b68 (after hostOps0_3 V) (ix1 ch) = Scalars.sp (b67 V (ix1 ch)) := by
  unfold b68
  after_results
  simp only [TRef.ofBuf, TRef.toBuf, cast_eq]
  pointwise []
  rw [if_neg (fun h => h rfl)]
  rfl

/-- The decays as the loop finds them. -/
theorem q0 (t : Fin 8192) (b : Fin 4) (ch : Fin 2048) : b84_0 (after hostOps0_4 V) (ix3 t b ch) = Ideal.exp (b66 V (ix3 b t ch) * b68 V (ix1 ch)) := by
  unfold b84_0
  after_results
  simp only [id]
  pointwise []

/-- The added terms as the loop finds them. -/
theorem q1 (t : Fin 8192) (b : Fin 4) (ch : Fin 2048) : b84_1 (after hostOps0_4 V) (ix3 t b ch)
    = Scalars.un (b66 V (ix3 b t ch) * b68 V (ix1 ch)) (b64 V (ix3 b t ch)) (b34 V (ix3 b t ch)) := by
  unfold b84_1
  after_results
  simp only [id]
  pointwise []
  unfold Scalars.un
  rw [← Scalars.two_eq]

/-- The state the loop starts from. -/
theorem q3 (b : Fin 4) (ch : Fin 2048) : b84_3 (after hostOps0_4 V) (ix2 b ch) = 0 := by
  unfold b84_3
  after_results
  simp only [id]
  pointwise []

end Cert.ReferenceIdeal.Pre

end
-- ==== Proof.RefStart.lean ====
/- The reference's stretches put one after the other: what its loop starts from, as the recurrence's decays and terms. -/
module

public import proofs.«01_k».proof.Proof.RefPre
public import proofs.«01_k».proof.Proof.Gen.ReferenceIdeal.Run
public import Idealize.ShloMosaic.Lib.StableHlo.Run
public import Idealize.ShloMosaic.Lib.Pointwise
public import Idealize.ShloMosaic.Lib.StableHlo.ReadAt

@[expose] public section

set_option maxRecDepth 16384

noncomputable section

namespace Cert.ReferenceIdeal.Start

open Cert.ReferenceIdeal Cert.ReferenceIdeal.Gen Cert.ReferenceIdeal.Value Cert.ReferenceIdeal.Pre Cert.Spec Idealize.ShloMosaic Idealize.ShloMosaic.TcCoe
  Idealize.SL.Sem Idealize.ShloMosaic.StableHlo
open scoped BigOperators

/-- A buffer a stretch does not write. -/
theorem keep (ops : List (HloOp τ sig (Elt Ideal))) (W : List (Ref sig .tc)) (V : Valuation τ sig (Elt Ideal))
    (hW : ops.Forall fun op => op.writes ⊆ (W.map (Proc.devRef (τ := τ) .tc)).toFinset) (r : Ref sig .tc)
    (h : r ∉ W) :
    after ops V (Proc.devRef .tc r) = V (Proc.devRef .tc r) :=
  after_of_writes_sub ops V hW h

variable (M : Valuation τ sig (Elt Ideal))

/-- The contents after each stretch. -/
def s0 : Valuation τ sig (Elt Ideal) := after hostOps0 M
def s1 : Valuation τ sig (Elt Ideal) := after hostOps0_1 (s0 M)
def s2 : Valuation τ sig (Elt Ideal) := after hostOps0_2 (s1 M)
def s3 : Valuation τ sig (Elt Ideal) := after hostOps0_3 (s2 M)
def s4 : Valuation τ sig (Elt Ideal) := after hostOps0_4 (s3 M)

/-- A buffer the first two stretches leave alone. -/
theorem keep01 (r : Ref sig .tc) (h0 : r ∉ hostOps0_W)
    (h1 : r ∉ hostOps0_1_W) :
    s1 M (Proc.devRef .tc r) = M (Proc.devRef .tc r) := by
  unfold s1 s0
  rw [keep hostOps0_1 hostOps0_1_W _ hostOps0_1_writes r h1, keep hostOps0 hostOps0_W _ hostOps0_writes r h0]

/-- The padded series in front of the taps. -/
theorem t4 (b : Fin 4) (t : Fin 8195) (ch : Fin 2048) : b4 (s1 M) (ix3 b t ch) = series (arg0 M) b ch (t.val + 5) := by
  unfold s1
  rw [r4]
  unfold series
  by_cases h : 3 ≤ t.val
  · rw [dif_pos ⟨h, by omega⟩, dif_pos (by omega)]
    unfold s0
    rw [r1]
    refine congrArg (fun q => arg0 M (ix2 q (col ch))) (Fin.ext ?_)
    show b.val * 8192 + (t.val - 3) = b.val * 8192 + (t.val + 5 - 8)
    omega
  · rw [dif_neg (by omega), dif_neg (by omega)]
    exact rc M

theorem t2 (k : Fin 4) (ch : Fin 2048) : b2 (s1 M) (ix2 k ch) = arg1 M (ix3 0 k ch) := by
  unfold s1 b2
  rw [keep hostOps0_1 hostOps0_1_W _ hostOps0_1_writes main_v2 (by decide +kernel)]
  exact r2 M k ch

theorem t3 (ch : Fin 2048) : b3 (s1 M) (ix1 ch) = arg2 M (ix2 0 ch) := by
  unfold s1 b3
  rw [keep hostOps0_1 hostOps0_1_W _ hostOps0_1_writes main_v3 (by decide +kernel)]
  exact r3 M ch

/-- The reference's taps are the taps on the padded series. -/
theorem taps_eq (b : Fin 4) (t : Fin 8192) (ch : Fin 2048) : taps (s1 M) b t ch = xc (arg0 M) (arg1 M) (arg2 M) b ch t.val := by
  unfold taps xc cvS
  rw [t4, t4, t4, t4, t2, t2, t2, t2, t3]
  dsimp only
  rw [show 1 + t.val + 5 = t.val + 6 by omega, show 2 + t.val + 5 = t.val + 7 by omega, show 3 + t.val + 5 = t.val + 8 by omega,
    mul_comm _ (arg1 M (ix3 0 0 ch)), mul_comm _ (arg1 M (ix3 0 1 ch)), mul_comm _ (arg1 M (ix3 0 2 ch)), mul_comm _ (arg1 M (ix3 0 3 ch))]
  abel

/-- The gates. -/
theorem t52 (b : Fin 4) (t : Fin 8192) (n : Fin 16) (l : Fin 128) : b52 (s2 M) (ix3 b t (chan n l))
    = Ideal.logistic (pre (arg0 M) (arg1 M) (arg2 M) (arg3 M) (arg4 M) b n l t.val) := by
  unfold s2
  rw [r52, show arg3 (s1 M) = arg3 M from keep01 M main_arg3 (by decide +kernel) (by decide +kernel),
    show arg4 (s1 M) = arg4 M from keep01 M main_arg4 (by decide +kernel) (by decide +kernel)]
  simp only [taps_eq]
  rfl
theorem t64 (b : Fin 4) (t : Fin 8192) (n : Fin 16) (l : Fin 128) : b64 (s2 M) (ix3 b t (chan n l))
    = Ideal.logistic (pre (arg0 M) (arg1 M) (arg2 M) (arg5 M) (arg6 M) b n l t.val) := by
  unfold s2
  rw [r64, show arg5 (s1 M) = arg5 M from keep01 M main_arg5 (by decide +kernel) (by decide +kernel),
    show arg6 (s1 M) = arg6 M from keep01 M main_arg6 (by decide +kernel) (by decide +kernel)]
  simp only [taps_eq]
  rfl
theorem t66 (b : Fin 4) (t : Fin 8192) (n : Fin 16) (l : Fin 128) : b66 (s2 M) (ix3 b t (chan n l))
    = Scalars.c8 * Ideal.logistic (pre (arg0 M) (arg1 M) (arg2 M) (arg3 M) (arg4 M) b n l t.val) := by
  rw [← t52]
  exact r66 (s1 M) b t (chan n l)
theorem t67 (ch : Fin 2048) : b67 (s2 M) (ix1 ch) = -(arg7 M (ix2 0 ch)) := by
  unfold s2
  rw [r67, show arg7 (s1 M) = arg7 M from keep01 M main_arg7 (by decide +kernel) (by decide +kernel)]
theorem t68 (ch : Fin 2048) : b68 (s3 M) (ix1 ch) = Scalars.sp (-(arg7 M (ix2 0 ch))) := by
  rw [← t67]
  exact r68 (s2 M) ch
theorem t34 (b : Fin 4) (t : Fin 8192) (ch : Fin 2048) : b34 (s2 M) (ix3 b t ch) = xc (arg0 M) (arg1 M) (arg2 M) b ch t.val := by
  rw [← taps_eq]
  exact r34 (s1 M) b t ch

/-- What the softplus stretch leaves alone. -/
theorem k66 : b66 (s3 M) = b66 (s2 M) := keep hostOps0_3 hostOps0_3_W _ hostOps0_3_writes main_v66 (by decide +kernel)
theorem k64 : b64 (s3 M) = b64 (s2 M) := keep hostOps0_3 hostOps0_3_W _ hostOps0_3_writes main_v64 (by decide +kernel)
theorem k34 : b34 (s3 M) = b34 (s2 M) := keep hostOps0_3 hostOps0_3_W _ hostOps0_3_writes main_v34 (by decide +kernel)

/-- The decays the loop starts from. -/
theorem u0 (t : Fin 8192) (b : Fin 4) (n : Fin 16) (l : Fin 128) : b84_0 (s4 M) (ix3 t b (chan n l))
    = dec (arg0 M) (arg1 M) (arg2 M) (arg3 M) (arg4 M) (arg7 M) b n l t.val := by
  unfold s4
  rw [q0, k66, t66, t68]
  rfl

/-- The terms the loop starts from. -/
theorem u1 (t : Fin 8192) (b : Fin 4) (n : Fin 16) (l : Fin 128) : b84_1 (s4 M) (ix3 t b (chan n l))
    = add (arg0 M) (arg1 M) (arg2 M) (arg3 M) (arg4 M) (arg5 M) (arg6 M) (arg7 M) b n l t.val := by
  unfold s4
  rw [q1, k66, k64, k34, t66, t68, t64, t34]
  rfl

/-- The state the loop starts from. -/
theorem u3 (b : Fin 4) (ch : Fin 2048) : b84_3 (s4 M) (ix2 b ch) = 0 := q3 _ b ch

end Cert.ReferenceIdeal.Start

end
-- ==== Proof.RefLoop.lean ====
/- The reference's loop: after `k` trips the state is the recurrence after `k` steps and the rows below `k` of its result
   hold the states. -/
module

public import proofs.«01_k».proof.Proof.RefStart
public import Idealize.ShloMosaic.Lib.WordCmp
public import proofs.«01_k».proof.Proof.Gen.ReferenceIdeal.Run
public import Idealize.ShloMosaic.Lib.StableHlo.Run
public import Idealize.ShloMosaic.Lib.Pointwise
public import Idealize.ShloMosaic.Lib.StableHlo.ReadAt

@[expose] public section

set_option maxRecDepth 16384

noncomputable section

namespace Cert.ReferenceIdeal.Loop

open Cert.ReferenceIdeal Cert.ReferenceIdeal.Gen Cert.ReferenceIdeal.Value Cert.ReferenceIdeal.Pre Cert.ReferenceIdeal.Start Cert.Spec Idealize.ShloMosaic Idealize.ShloMosaic.TcCoe
  Idealize.SL.Sem Idealize.ShloMosaic.StableHlo
open scoped BigOperators

/-- A small counter word as an integer. -/
theorem word (k : ℕ) (hk : k < 8192) : (BitVec.ofNat 32 k).toInt = (k : Int) := by
  rw [BitVec.toInt_eq_toNat_of_lt (by rw [BitVec.toNat_ofNat]; omega), BitVec.toNat_ofNat, Nat.mod_eq_of_lt (by omega)]

/-- A row of an array at a counter, in the shape the trip reads it. -/
theorem row_at (x : (⟨3, ![8192, 4, 2048]⟩ : Shape).Idx → EReal) (start : Fin 3 → Int) (k : Fin 8192)
    (e : ∀ a, start a = ((![k.val, 0, 0] : Fin 3 → ℕ) a : Int)) (b : Fin 4) (ch : Fin 2048) :
    shapeCast S4x2048 (Host.dynamicSlice S1x4x2048 x start sliceFits_S8192x4x2048_S1x4x2048) shapeCasts_S1x4x2048_S4x2048 (ix2 b ch)
      = x (ix3 k b ch) := by
  rw [WordCmp.dynamicSlice_eq_extract S1x4x2048 x start sliceFits_S8192x4x2048_S1x4x2048 ![k.val, 0, 0]
    ⟨rfl, fun a => by have := k.isLt; match a with
      | ⟨0, _⟩ => show k.val + 1 ≤ 8192; omega
      | ⟨1, _⟩ => show 0 + 4 ≤ 4; omega
      | ⟨2, _⟩ => show 0 + 2048 ≤ 2048; omega⟩ e]
  pointwise []

/-- An array with a row put at a counter. -/
theorem put_at (x : (⟨3, ![8192, 4, 2048]⟩ : Shape).Idx → EReal) (r : (⟨2, ![4, 2048]⟩ : Shape).Idx → EReal) (start : Fin 3 → Int)
    (k : Fin 8192) (e : ∀ a, start a = ((![k.val, 0, 0] : Fin 3 → ℕ) a : Int)) (t : Fin 8192) (b : Fin 4) (ch : Fin 2048) :
    Host.dynamicUpdateSlice x (broadcastInDim S1x4x2048 ![1, 2] bcast_S4x2048_S1x4x2048_1_2 r) start updateFits_S8192x4x2048_S1x4x2048 (ix3 t b ch)
      = if t = k then r (ix2 b ch) else x (ix3 t b ch) := by
  rw [WordCmp.dynamicUpdateSlice_eq_update x _ start updateFits_S8192x4x2048_S1x4x2048 ![k.val, 0, 0]
    ⟨rfl, fun a => by have := k.isLt; match a with
      | ⟨0, _⟩ => show k.val + 1 ≤ 8192; omega
      | ⟨1, _⟩ => show 0 + 4 ≤ 4; omega
      | ⟨2, _⟩ => show 0 + 2048 ≤ 2048; omega⟩ e]
  pointwise []
  by_cases h : t = k
  · rw [dif_pos (by subst h; omega), if_pos h]
  · rw [dif_neg (fun q => h (Fin.ext (by omega))), if_neg h]

/-- The trip's three starts at the counter. -/
theorem starts (W : Valuation τ sig (Elt Ideal)) (k : Fin 8192)
    (h : W (Proc.devRef .tc main_v84_2) = fun _ => BitVec.ofNat 32 k.val) (a : Fin 3) :
    (((![W (Proc.devRef .tc main_v84_2), constantI S_ 32 0#32, constantI S_ 32 0#32] : Fin 3 → (⟨S_, .i32⟩ : BufTy).Contents (Elt Ideal))) a (Shape.Idx.first h_S_)).toInt
      = ((![k.val, 0, 0] : Fin 3 → ℕ) a : Int) := by
  match a with
  | ⟨0, _⟩ =>
    show (W (Proc.devRef .tc main_v84_2) (Shape.Idx.first h_S_)).toInt = (k.val : Int)
    rw [h]
    exact word k.val k.isLt
  | ⟨1, _⟩ => rfl
  | ⟨2, _⟩ => rfl

/-- The new state of a trip. -/
theorem new_state (W : Valuation τ sig (Elt Ideal)) (k : Fin 8192)
    (h : W (Proc.devRef .tc main_v84_2) = fun _ => BitVec.ofNat 32 k.val) (b : Fin 4) (ch : Fin 2048) :
    (res_main_while0b_v90 W : (⟨2, ![4, 2048]⟩ : Shape).Idx → EReal) (ix2 b ch)
      = b84_0 W (ix3 k b ch) * b84_3 W (ix2 b ch) + b84_1 W (ix3 k b ch) := by
  rw [← row_at (b84_0 W) _ k (starts W k h) b ch, ← row_at (b84_1 W) _ k (starts W k h) b ch]
  rfl

/-- What the loop has after `k` trips: the decays and the terms as at its start, the counter, the states so far. -/
structure Inv (E : Valuation τ sig (Elt Ideal)) (a u : Fin 4 → Fin 2048 → ℕ → EReal) (k : ℕ) (W : Valuation τ sig (Elt Ideal)) : Prop where
  h0 : ∀ (t : Fin 8192) b ch, b84_0 W (ix3 t b ch) = a b ch t.val
  h1 : ∀ (t : Fin 8192) b ch, b84_1 W (ix3 t b ch) = u b ch t.val
  h2 : W (Proc.devRef .tc main_v84_2) = fun _ => BitVec.ofNat 32 k
  h3 : ∀ b ch, b84_3 W (ix2 b ch) = Scan.rec (a b ch) (u b ch) 0 k
  h4 : ∀ (t : Fin 8192) b ch, t.val < k → b84_4 W (ix3 t b ch) = Scan.rec (a b ch) (u b ch) 0 (t.val + 1)

/-- One trip. -/
theorem trip (E : Valuation τ sig (Elt Ideal)) (a u : Fin 4 → Fin 2048 → ℕ → EReal) (k : ℕ) (hk : k < 8192)
    (W : Valuation τ sig (Elt Ideal)) (h : Inv E a u k W) : Inv E a u (k + 1) (STEP W) := by
  have hn : ∀ b ch, (res_main_while0b_v90 W : (⟨2, ![4, 2048]⟩ : Shape).Idx → EReal) (ix2 b ch) = Scan.rec (a b ch) (u b ch) 0 (k + 1) := by
    intro b ch
    rw [new_state W ⟨k, hk⟩ h.h2 b ch, h.h0, h.h1, h.h3]
    rfl
  refine ⟨fun t b ch => ?_, fun t b ch => ?_, ?_, fun b ch => ?_, fun t b ch ht => ?_⟩
  · unfold b84_0
    rw [STEP_main_v84_0]
    exact h.h0 t b ch
  · unfold b84_1
    rw [STEP_main_v84_1]
    exact h.h1 t b ch
  · rw [STEP_main_v84_2]
    unfold step_main_v84_2
    rw [h.h2]
    funext _
    show BitVec.ofNat 32 k + 1#32 = BitVec.ofNat 32 (k + 1)
    rw [BitVec.ofNat_add]
  · unfold b84_3
    rw [STEP_main_v84_3]
    exact hn b ch
  · unfold b84_4
    rw [STEP_main_v84_4]
    refine Eq.trans (put_at (b84_4 W) _ _ ⟨k, hk⟩ (starts W ⟨k, hk⟩ h.h2) t b ch) ?_
    by_cases e : t = ⟨k, hk⟩
    · rw [if_pos e, hn b ch, show t.val = k from congrArg Fin.val e]
    · rw [if_neg e]
      exact h.h4 t b ch (by have : t.val ≠ k := fun q => e (Fin.ext q); omega)

/-- Every trip. -/
theorem trips (E : Valuation τ sig (Elt Ideal)) (a u : Fin 4 → Fin 2048 → ℕ → EReal) (h : Inv E a u 0 E) :
    ∀ k, k ≤ 8192 → Inv E a u k (STEP^[k] E)
  | 0, _ => h
  | k + 1, hk => by
    rw [Function.iterate_succ_apply']
    exact trip E a u k (by omega) _ (trips E a u h k (by omega))

/-- The result's rows are batches and steps. -/
theorem out_apply (W : Valuation τ sig (Elt Ideal)) (j : (⟨2, ![32768, 2048]⟩ : Shape).Idx) :
    (out_main_v86 W : (⟨2, ![32768, 2048]⟩ : Shape).Idx → EReal) j
      = b84_4 W (ix3 ⟨(j 0).val % 8192, Nat.mod_lt _ (by decide)⟩ ⟨(j 0).val / 8192, Nat.div_lt_of_lt_mul (j 0).isLt⟩ (j 1)) := by
  have e := eq_ix2 j
  generalize hr : j 0 = r at e ⊢
  generalize hc : j 1 = ch at e ⊢
  subst e
  unfold out_main_v86 b84_4
  pointwise []

variable (m : (ℓ : Loc nD τ sig) → Buf (Elt Ideal) ℓ)

/-- The loop starts from the five stretches on the launch's contents. -/
theorem entry_eq (c : Dev nD) : entryContents preI m c = s4 (launchContents m c) := by
  unfold s4 s3 s2 s1 s0
  simp only [entryContents, afterL_cons, afterL_nil]

/-- A channel in a block. -/
theorem chan_of (ch : Fin 2048) : ch = chan ⟨ch.val / 128, by omega⟩ ⟨ch.val % 128, by omega⟩ := by
  refine Fin.ext ?_
  show ch.val = ch.val / 128 * 128 + ch.val % 128
  omega

/-- What the reference's result holds. -/
theorem result (c : Dev nD) : (out_main_v86 (STEP^[8192] (entryContents preI m c)) : (⟨2, ![32768, 2048]⟩ : Shape).Idx → EReal)
    = Spec.out (arg0 (launchContents m c)) (arg1 (launchContents m c)) (arg2 (launchContents m c)) (arg3 (launchContents m c))
      (arg4 (launchContents m c)) (arg5 (launchContents m c)) (arg6 (launchContents m c)) (arg7 (launchContents m c)) := by
  have hE := ctr_entry m c
  rw [entry_eq] at hE ⊢
  generalize launchContents m c = M at hE ⊢
  have h : Inv (s4 M)
      (fun b ch => dec (arg0 M) (arg1 M) (arg2 M) (arg3 M) (arg4 M) (arg7 M) b ⟨ch.val / 128, by omega⟩ ⟨ch.val % 128, by omega⟩)
      (fun b ch => add (arg0 M) (arg1 M) (arg2 M) (arg3 M) (arg4 M) (arg5 M) (arg6 M) (arg7 M) b ⟨ch.val / 128, by omega⟩ ⟨ch.val % 128, by omega⟩)
      0 (s4 M) :=
    ⟨fun t b ch => by rw [← u0, ← chan_of], fun t b ch => by rw [← u1, ← chan_of], hE, fun b ch => u3 M b ch,
      fun t b ch ht => absurd ht (Nat.not_lt_zero _)⟩
  have hT := trips (s4 M) _ _ h 8192 (le_refl _)
  funext j
  exact (out_apply _ j).trans (hT.h4 _ _ _ (Nat.mod_lt _ (by decide)))

end Cert.ReferenceIdeal.Loop

end
-- ==== Proof.Equation.lean ====
/- The value claim of the recurrence: the kernel's result and the reference's are the same function of the arguments. -/
module

public import proofs.«01_k».proof.Defs
public import proofs.«01_k».proof.Proof.Array
public import proofs.«01_k».proof.Proof.RefLoop

@[expose] public section

noncomputable section

namespace Cert.Equation

open Idealize.ShloMosaic Idealize.SL.Sem Idealize.ShloMosaic.TcCoe Idealize.ShloMosaic.StableHlo

/-- The reference terminates and leaves its arguments as they were. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run m ρ)

/-- The recurrence depends on its arguments only. -/
theorem out_congr {x x' : (⟨2, ![32768, 9984]⟩ : Shape).Idx → EReal} {cw cw' : (⟨3, ![1, 4, 2048]⟩ : Shape).Idx → EReal}
    {cb cb' ba ba' bx bx' lam lam' : (⟨2, ![1, 2048]⟩ : Shape).Idx → EReal}
    {wa wa' wx wx' : (⟨4, ![1, 16, 128, 128]⟩ : Shape).Idx → EReal} (e0 : x' = x) (e1 : cw' = cw) (e2 : cb' = cb) (e3 : wa' = wa)
    (e4 : ba' = ba) (e5 : wx' = wx) (e6 : bx' = bx) (e7 : lam' = lam) :
    Spec.out x' cw' cb' wa' ba' wx' bx' lam' = Spec.out x cw cb wa ba wx bx lam := by
  subst e0 e1 e2 e3 e4 e5 e6 e7
  rfl

/-- From the same arguments the kernel and the reference leave the same array. -/
theorem value : Cert.algebraic_KernelIdeal_ReferenceIdeal (hKernelIdeal := Cert.KernelIdeal.Gen.facts) (hReferenceIdeal := Cert.ReferenceIdeal.Gen.facts) := by
  intro m ρ m' ρ' _ hag
  refine ⟨fun c => Cert.KernelIdeal.Array.G m c, ?_, ?_⟩
  · refine (θ_run _ _ _).mono (fun r h c => ?_) (Cert.KernelIdeal.Value.run_blocks m ρ)
    exact ⟨(h c).1.trans (Cert.KernelIdeal.Array.final m c), (h c).2⟩
  · refine (θ_run _ _ _).mono (fun r h c => ?_) (Cert.ReferenceIdeal.Value.run m' ρ')
    refine ⟨(h c).1.trans ((Cert.ReferenceIdeal.Loop.result m' c).trans ?_), (h c).2⟩
    obtain ⟨e0, e1, e2, e3, e4, e5, e6, e7⟩ := hag c
    unfold Cert.KernelIdeal.Array.G
    exact out_congr e0 e1 e2 e3 e4 e5 e6 e7

end Cert.Equation

end
-- ==== Proof.InprojPoint.lean ====
/- What one grid point of the input projection leaves: the normalised rows it keeps in scratch, and their product
   with the point's block of columns. -/
module

public import proofs.«01_k».proof.Proof.Gen.InprojIdeal.Value
public import Idealize.ShloMosaic.Lib.Tactic

@[expose] public section

set_option maxRecDepth 16384

noncomputable section

namespace Cert.InprojIdeal.Point

open Cert.InprojIdeal Cert.InprojIdeal.Gen Idealize.ShloMosaic Idealize.ShloMosaic.TcCoe Idealize.SL.Sem
open Idealize.ShloMosaic.Pipeline (Dat)

variable {F : FTy → Type} [FloatOps F]

/-- The zero offset of a whole-block access. -/
theorem off0 : (![0, 0] : Fin 2 → Nat) = fun _ => 0 := funext fun a => by fin_cases a <;> rfl

/-- The block a first point of a row of blocks writes. -/
theorem out0_A_3_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1664 .bf16) (harg4 : arg4.IsWhole) (arg5 : Memref sig .tc .vmem S1024x1664 .f32) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x1664 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1024x1664) off0]
  simp only [View.readAt_eq_ld, harg2.read_unread, harg3.read_unread, harg4.read_unread, harg5.read_unread, harg6.read_unread, View.ld_unit_zero (S := S1024x2048) off0, View.ld_unit_zero (S := S1x2048) off0, View.ld_unit_zero (S := S2048x1664) off0, View.readCov_unit_zero (S := S1024x2048) _ off0]

/-- The rows it keeps. -/
theorem sout0_A_0_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1664 .bf16) (harg4 : arg4.IsWhole) (arg5 : Memref sig .tc .vmem S1024x1664 .f32) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x1664 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_cons_unit_zero (S := S1024x2048) off0]
  simp only [View.readAt_eq_ld, harg2.read_unread, harg3.read_unread, harg4.read_unread, harg5.read_unread, harg6.read_unread, View.ld_unit_zero (S := S1024x2048) off0, View.ld_unit_zero (S := S1x2048) off0, View.ld_unit_zero (S := S2048x1664) off0, View.readCov_unit_zero (S := S1024x2048) _ off0]

/-- The block a later point writes, from the rows kept. -/
theorem out0_B_3_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1664 .bf16) (harg4 : arg4.IsWhole) (arg5 : Memref sig .tc .vmem S1024x1664 .f32) (harg5 : arg5.IsWhole) (arg6 : Memref sig .tc .vmem S1024x2048 .bf16) (harg6 : arg6.IsWhole) (hc0 : ¬cond0_0 i)
    (x0 : Vec F S1024x2048 .f32) (x1 : Vec F S1x2048 .f32) (x2 : Vec F S2048x1664 .bf16) (xs0 : Vec F S1024x2048 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_cons_unit_zero (S := S1024x1664) off0]
  simp only [View.readAt_eq_ld, harg2.read_unread, harg3.read_unread, harg4.read_unread, harg5.read_unread, harg6.read_unread, View.ld_unit_zero (S := S1024x2048) off0, View.ld_unit_zero (S := S1x2048) off0, View.ld_unit_zero (S := S2048x1664) off0, View.readCov_unit_zero (S := S1024x2048) _ off0]

end Cert.InprojIdeal.Point

end
-- ==== Proof.NormSpec.lean ====
/- What the calls around the recurrence compute over the extended reals: a row divided by the root of its mean square
   and scaled; the input projection with its columns regrouped; the gated output projection; the scores of the two
   halves of a query against the keys. -/
module

public import Idealize.ShloMosaic.Lib.Pointwise

@[expose] public section

noncomputable section

namespace Cert.NormSpec

open Idealize.ShloMosaic
open scoped BigOperators

/-- One over the root of a row's mean square plus the small constant. -/
def rinv (x : Fin 2048 → EReal) : EReal :=
  Ideal.rsqrt (Ideal.div (∑ k : Fin 2048, x k * x k) (Ideal.ofBits .f32 0x45000000#32) + Ideal.ofBits .f32 0x358637BD#32)

/-- An entry of the normalised row. -/
def nrm (x g : Fin 2048 → EReal) (k : Fin 2048) : EReal := x k * rinv x * g k

/-- The batch and the position of a row of the flattened series. -/
def rb (r : Fin 32768) : Fin 4 := ⟨r.val / 8192, by omega⟩
def rs (r : Fin 32768) : Fin 8192 := ⟨r.val % 8192, Nat.mod_lt _ (by decide)⟩

/-- An entry of the weights with their columns regrouped: the convolved input and the query, the two gates, the
    indexer's query, the compressed keys, the indexer's key and 64 zeros, the indexer's weights and 112 zeros. -/
def regroup (w : Fin 9808 → EReal) (j : ℕ) : EReal :=
  if h0 : j < 4096 then w ⟨j, by omega⟩
  else if h1 : j < 8192 then w ⟨j + 1616, by omega⟩
  else if h2 : j < 9216 then w ⟨j - 3584, by omega⟩
  else if h3 : j < 9728 then w ⟨j - 5120, by omega⟩
  else if h4 : j < 9792 then w ⟨j - 4096, by omega⟩
  else if h5 : j < 9856 then 0
  else if h6 : j < 9872 then w ⟨j - 4160, by omega⟩
  else 0

/-- Regrouping commutes with a weighted sum of rows of weights. -/
theorem regroup_sum (v : Fin 2048 → EReal) (w : Fin 2048 → Fin 9808 → EReal) (j : ℕ) :
    regroup (fun j => ∑ k : Fin 2048, v k * w k j) j = ∑ k : Fin 2048, v k * regroup (w k) j := by
  have hz : (0 : EReal) = ∑ k : Fin 2048, v k * 0 := by simp only [mul_zero, Finset.sum_const_zero]
  unfold regroup
  by_cases h0 : j < 4096
  · simp only [dif_pos h0]
  by_cases h1 : j < 8192
  · simp only [dif_neg h0, dif_pos h1]
  by_cases h2 : j < 9216
  · simp only [dif_neg h0, dif_neg h1, dif_pos h2]
  by_cases h3 : j < 9728
  · simp only [dif_neg h0, dif_neg h1, dif_neg h2, dif_pos h3]
  by_cases h4 : j < 9792
  · simp only [dif_neg h0, dif_neg h1, dif_neg h2, dif_neg h3, dif_pos h4]
  by_cases h5 : j < 9856
  · simp only [dif_neg h0, dif_neg h1, dif_neg h2, dif_neg h3, dif_neg h4, dif_pos h5]
    exact hz
  by_cases h6 : j < 9872
  · simp only [dif_neg h0, dif_neg h1, dif_neg h2, dif_neg h3, dif_neg h4, dif_neg h5, dif_pos h6]
  · simp only [dif_neg h0, dif_neg h1, dif_neg h2, dif_neg h3, dif_neg h4, dif_neg h5, dif_neg h6]
    exact hz

/-- The projection of a row of the series on a regrouped column. -/
def proj (x : (⟨3, ![4, 8192, 2048]⟩ : Shape).Idx → EReal) (g : (⟨2, ![1, 2048]⟩ : Shape).Idx → EReal)
    (w : (⟨3, ![1, 2048, 9808]⟩ : Shape).Idx → EReal) (i : (⟨2, ![32768, 9984]⟩ : Shape).Idx) : EReal :=
  ∑ k : Fin 2048, nrm (fun k => x (ix3 (rb (i 0)) (rs (i 0)) k)) (fun k => g (ix2 0 k)) k
    * regroup (fun j => w (ix3 0 k j)) (i 1).val

/-- The gated sum of the two branches. -/
def gated (p : (⟨2, ![32768, 9984]⟩ : Shape).Idx → EReal) (yr ya : (⟨2, ![32768, 2048]⟩ : Shape).Idx → EReal)
    (r : Fin 32768) (k : Fin 2048) : EReal :=
  Ideal.logistic (p (ix2 r ⟨4096 + k.val, by omega⟩)) * yr (ix2 r k)
    + Ideal.logistic (p (ix2 r ⟨6144 + k.val, by omega⟩)) * ya (ix2 r k)

/-- The series plus the projection of the gated sum. -/
def mix (p : (⟨2, ![32768, 9984]⟩ : Shape).Idx → EReal) (yr ya : (⟨2, ![32768, 2048]⟩ : Shape).Idx → EReal)
    (x : (⟨3, ![4, 8192, 2048]⟩ : Shape).Idx → EReal) (w : (⟨3, ![1, 2048, 2048]⟩ : Shape).Idx → EReal)
    (i : (⟨2, ![32768, 2048]⟩ : Shape).Idx) : EReal :=
  x (ix3 (rb (i 0)) (rs (i 0)) (i 1)) + ∑ k : Fin 2048, gated p yr ya (i 0) k * w (ix3 0 k (i 1))

/-- The normalised rows themselves. -/
def rows (x : (⟨2, ![32768, 2048]⟩ : Shape).Idx → EReal) (g : (⟨2, ![1, 2048]⟩ : Shape).Idx → EReal)
    (i : (⟨2, ![32768, 2048]⟩ : Shape).Idx) : EReal :=
  nrm (fun k => x (ix2 (i 0) k)) (fun k => g (ix2 0 k)) (i 1)

/-- An entry of a row's query. -/
def query (x : (⟨2, ![32768, 2048]⟩ : Shape).Idx → EReal) (g : (⟨2, ![1, 2048]⟩ : Shape).Idx → EReal)
    (w : (⟨3, ![1, 2048, 2048]⟩ : Shape).Idx → EReal) (r : Fin 32768) (j : Fin 2048) : EReal :=
  ∑ k : Fin 2048, nrm (fun k => x (ix2 r k)) (fun k => g (ix2 0 k)) k * w (ix3 0 k j)

/-- The scores of the keys against one half, starting at the given entry, of a head's query. -/
def scores (off : Fin 129) (q : Fin 32768 → Fin 2048 → EReal) (w : (⟨3, ![1, 128, 128]⟩ : Shape).Idx → EReal)
    (i : (⟨3, ![8, 128, 32768]⟩ : Shape).Idx) : EReal :=
  ∑ d : Fin 128, w (ix3 0 (i 1) d)
    * q (i 2) ⟨off.val + ((i 0).val * 256 + d.val), by have h : (i 0).val < 8 := (i 0).isLt; omega⟩

end Cert.NormSpec

end
-- ==== Proof.InprojArray.lean ====
/- The input projection's result array: every block written is the projection of its rows on its columns. -/
module

public import proofs.«01_k».proof.Proof.InprojPoint
public import proofs.«01_k».proof.Proof.NormSpec
public import Idealize.ShloMosaic.Lib.Pipeline.Value
public import Idealize.ShloMosaic.Lib.StableHlo.Run
public import Idealize.ShloMosaic.Lib.Pointwise
public import Idealize.ShloMosaic.Lib.StableHlo.ReadAt

@[expose] public section

set_option maxRecDepth 16384

noncomputable section

namespace Cert.InprojIdeal.Array

open Cert.InprojIdeal Cert.InprojIdeal.Gen Cert.InprojIdeal.Value Cert.InprojIdeal.Point Cert.NormSpec
  Idealize.ShloMosaic Idealize.ShloMosaic.TcCoe Idealize.SL.Sem Idealize.ShloMosaic.StableHlo
open Idealize.ShloMosaic.Pipeline (Dat)
open scoped BigOperators

variable (m : (ℓ : Loc nD τ sig) → Buf (Elt Ideal) ℓ)

/-- The arguments of a device, as arrays of extended reals. -/
abbrev a0 (c : Dev nD) : (⟨3, ![4, 8192, 2048]⟩ : Shape).Idx → EReal := m ((c : Thread nD τ).loc main_arg0)
abbrev a1 (c : Dev nD) : (⟨2, ![1, 2048]⟩ : Shape).Idx → EReal := m ((c : Thread nD τ).loc main_arg1)
abbrev a2 (c : Dev nD) : (⟨3, ![1, 2048, 9808]⟩ : Shape).Idx → EReal := m ((c : Thread nD τ).loc main_arg2)

/-- The rows a point keeps, at an index. -/
theorem pay1_apply (x0 : Vec Ideal S1024x2048 .f32) (x1 : Vec Ideal S1x2048 .f32) (r : Fin 1024) (k : Fin 2048) :
    k0_pay1 x0 x1 (ix2 r k) = nrm (fun k => x0 (ix2 r k)) (fun k => x1 (ix2 0 k)) k := by
  unfold k0_pay1
  pointwise []
  rfl

/-- The product with a block of columns, at an index. -/
theorem pay2_apply (v : Vec Ideal S1024x2048 .bf16) (w : Vec Ideal S2048x1664 .bf16) (r : Fin 1024) (l : Fin 1664) :
    k0_pay2 v w (ix2 r l) = ∑ k : Fin 2048, v (ix2 r k) * w (ix2 k l) := by
  unfold k0_pay2
  pointwise []

/-- The flattened series, the scales and the regrouped weights, as the operations before the call leave them. -/
abbrev b0 (c : Dev nD) : (⟨2, ![32768, 2048]⟩ : Shape).Idx → EReal := V m c main_v0
abbrev b2 (c : Dev nD) : (⟨2, ![1, 2048]⟩ : Shape).Idx → EReal := V m c main_v2
abbrev b13 (c : Dev nD) : (⟨2, ![2048, 9984]⟩ : Shape).Idx → EReal := V m c main_v13

theorem b0_apply (c : Dev nD) (r : Fin 32768) (k : Fin 2048) : b0 m c (ix2 r k) = a0 m c (ix3 (rb r) (rs r) k) := by
  unfold b0
  simp only [V]
  after_results
  pointwise []
  rfl

theorem b2_apply (c : Dev nD) (k : Fin 2048) : b2 m c (ix2 0 k) = a1 m c (ix2 0 k) := by
  unfold b2
  simp only [V]
  after_results
  pointwise []

/-- The weights with their columns regrouped, as the operations before the call build them. -/
def joined (w : FVec Ideal S2048x9808 .f32) : FVec Ideal S2048x9984 .f32 :=
  concatenate S2048x9984 1 [⟨S2048x4096, extractStridedSlice S2048x4096 ![0, 0] w slices_S2048x9808_S2048x4096_0_0⟩,
    ⟨S2048x4096, extractStridedSlice S2048x4096 ![0, 5712] w slices_S2048x9808_S2048x4096_0_5712⟩,
    ⟨S2048x1024, extractStridedSlice S2048x1024 ![0, 4608] w slices_S2048x9808_S2048x1024_0_4608⟩,
    ⟨S2048x512, extractStridedSlice S2048x512 ![0, 4096] w slices_S2048x9808_S2048x512_0_4096⟩,
    ⟨S2048x64, extractStridedSlice S2048x64 ![0, 5632] w slices_S2048x9808_S2048x64_0_5632⟩,
    ⟨S2048x64, broadcastInDim S2048x64 ![] bcast_S_S2048x64 (constant (F := Ideal) S_ .f32 0x00000000#32)⟩,
    ⟨S2048x16, extractStridedSlice S2048x16 ![0, 5696] w slices_S2048x9808_S2048x16_0_5696⟩,
    ⟨S2048x112, broadcastInDim S2048x112 ![] bcast_S_S2048x112 (constant (F := Ideal) S_ .f32 0x00000000#32)⟩]
    concatenates_S2048x4096_S2048x4096_S2048x1024_S2048x512_S2048x64_S2048x64_S2048x16_S2048x112_S2048x9984_d1

theorem joined_apply (w : FVec Ideal S2048x9808 .f32) (k : Fin 2048) (j : Fin 9984) :
    joined w (ix2 k j) = regroup (fun j => w (ix2 k j)) j.val := by
  unfold joined regroup
  pointwise []
  repeat' split
  all_goals first | (exfalso; omega) | (refine congrArg w (congrArg (ix2 k) (Fin.ext ?_)); simp only; omega) | with_reducible rfl

/-- The weights without their leading axis. -/
theorem flat_apply (w : (⟨3, ![1, 2048, 9808]⟩ : Shape).Idx → EReal) (k : Fin 2048) (j : Fin 9808) :
    shapeCast S2048x9808 w shapeCasts_S1x2048x9808_S2048x9808 (ix2 k j) = w (ix3 0 k j) := by
  pointwise []

theorem V_v13 (c : Dev nD) : V m c main_v13
    = truncf (F := Ideal) .bf16 (joined (shapeCast S2048x9808 (m ((c : Thread nD τ).loc main_arg2)) shapeCasts_S1x2048x9808_S2048x9808)) bitsLt_bf16_f32 := by
  simp only [V]
  after_results
  rfl

theorem b13_apply (c : Dev nD) (k : Fin 2048) (j : Fin 9984) :
    b13 m c (ix2 k j) = regroup (fun j => a2 m c (ix3 0 k j)) j.val := by
  unfold b13
  rw [V_v13]
  show joined _ (ix2 k j) = _
  rw [joined_apply]
  exact congrArg (fun f => regroup f j.val) (funext fun j => flat_apply (a2 m c) k j)

/-- A point's row block and column block. -/
theorem point_lt (t : Fin cfg0.N) : t.val < 192 := lt_of_lt_of_eq t.isLt N_0
def row (t : Fin cfg0.N) (r : Fin 1024) : Fin 32768 := ⟨t.val / 6 * 1024 + r.val, by have h := point_lt t; omega⟩
def col (t : Fin cfg0.N) (l : Fin 1664) : Fin 9984 := ⟨t.val % 6 * 1664 + l.val, by omega⟩

/-- The block each window reads at a point, decided over the grid. -/
theorem idx0 : ∀ t : Fin cfg0.N, win0_0.index t 0 = t.val / 6 ∧ win0_0.index t 1 = 0 :=
  (by decide +kernel : ∀ t : Fin grid0.N, win0_0.index t 0 = t.val / 6 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = t.val % 6 :=
  (by decide +kernel : ∀ t : Fin grid0.N, win0_2.index t 0 = 0 ∧ win0_2.index t 1 = t.val % 6)
theorem idx3 : ∀ t : Fin cfg0.N, win0_3.index t 0 = t.val / 6 ∧ win0_3.index t 1 = t.val % 6 :=
  (by decide +kernel : ∀ t : Fin grid0.N, win0_3.index t 0 = t.val / 6 ∧ win0_3.index t 1 = t.val % 6)

theorem blk0 (c : Dev nD) (t : Fin cfg0.N) (r : Fin 1024) (k : Fin 2048) :
    (iblk m c 0 t : Vec Ideal S1024x2048 .f32) (ix2 r k) = b0 m c (ix2 (row t r) k) := by
  unfold iblk
  rw [View.read_apply]
  show V m c main_v0 _ = V m c main_v0 _
  refine congrArg _ (funext fun a => Fin.ext ?_)
  match a with
  | ⟨0, _⟩ => show win0_0.index t 0 * 1024 + 1 * r.val = t.val / 6 * 1024 + r.val; rw [(idx0 t).1]; omega
  | ⟨1, _⟩ => show win0_0.index t 1 * 2048 + 1 * k.val = k.val; rw [(idx0 t).2]; omega

theorem blk1 (c : Dev nD) (t : Fin cfg0.N) (k : Fin 2048) :
    (iblk m c 1 t : Vec Ideal S1x2048 .f32) (ix2 0 k) = b2 m c (ix2 0 k) := by
  unfold iblk
  rw [View.read_apply]
  show V m c main_v2 _ = V m c main_v2 _
  refine congrArg _ (funext fun a => Fin.ext ?_)
  match a with
  | ⟨0, _⟩ => show win0_1.index t 0 * 1 + 1 * 0 = 0; rw [(idx1 t).1]
  | ⟨1, _⟩ => show win0_1.index t 1 * 2048 + 1 * k.val = k.val; rw [(idx1 t).2]; omega

theorem blk2 (c : Dev nD) (t : Fin cfg0.N) (k : Fin 2048) (l : Fin 1664) :
    (iblk m c 2 t : Vec Ideal S2048x1664 .bf16) (ix2 k l) = b13 m c (ix2 k (col t l)) := by
  unfold iblk
  rw [View.read_apply]
  show V m c main_v13 _ = V m c main_v13 _
  refine congrArg _ (funext fun a => Fin.ext ?_)
  match a with
  | ⟨0, _⟩ => show win0_2.index t 0 * 2048 + 1 * k.val = k.val; rw [(idx2 t).1]; omega
  | ⟨1, _⟩ => show win0_2.index t 1 * 1664 + 1 * l.val = t.val % 6 * 1664 + l.val; rw [(idx2 t).2]; omega

/-- The normalised entry of a row of the flattened series. -/
abbrev xn (c : Dev nD) (r : Fin 32768) (k : Fin 2048) : EReal :=
  nrm (fun k => a0 m c (ix3 (rb r) (rs r) k)) (fun k => a1 m c (ix2 0 k)) k

/-- What a first point of a row of blocks keeps. -/
theorem kept_apply (c : Dev nD) (t : Fin cfg0.N) (r : Fin 1024) (k : Fin 2048) :
    k0_pay1 (iblk m c 0 t) (iblk m c 1 t) (ix2 r k) = xn m c (row t r) k := by
  rw [pay1_apply]
  exact congrArg₂ (fun f g => nrm f g k) (funext fun k => (blk0 m c t r k).trans (b0_apply m c _ k))
    (funext fun k => (blk1 m c t k).trans (b2_apply m c k))

/-- A point's product, when the rows kept are the normalised ones. -/
theorem prod_apply (c : Dev nD) (t : Fin cfg0.N) (v : Vec Ideal S1024x2048 .bf16)
    (hv : ∀ (r : Fin 1024) (k : Fin 2048), v (ix2 r k) = xn m c (row t r) k) (r : Fin 1024) (l : Fin 1664) :
    k0_pay2 v (iblk m c 2 t) (ix2 r l) = proj (a0 m c) (a1 m c) (a2 m c) (ix2 (row t r) (col t l)) := by
  rw [pay2_apply]
  unfold proj
  refine Finset.sum_congr rfl fun k _ => ?_
  rw [hv, blk2, b13_apply]
  rfl

/-- What a point leaves: its block of the projection, and the normalised rows. -/
def Left (c : Dev nD) (t : Fin cfg0.N) : Prop :=
  (∀ (r : Fin 1024) (l : Fin 1664), (outsAt0 m c t.val t.isLt).1 (ix2 r l) = proj (a0 m c) (a1 m c) (a2 m c) (ix2 (row t r) (col t l)))
  ∧ ∀ (r : Fin 1024) (k : Fin 2048), (outsAt0 m c t.val t.isLt).2 (ix2 r k) = xn m c (row t r) k

theorem left_A (c : Dev nD) (t : Fin cfg0.N) (h0 : t.val % 6 = 0) : Left m c t := by
  unfold Left
  rw [outsAt0_A m c t h0]
  dsimp only
  rw [out0_A_3_eq, sout0_A_0_eq]
  exact ⟨prod_apply m c t _ (kept_apply m c t), kept_apply m c t⟩

theorem left_B (c : Dev nD) (t : Fin cfg0.N) (h0 : ¬t.val % 6 = 0)
    (ih : Left m c ⟨t.val - 1, Nat.lt_of_le_of_lt (Nat.sub_le _ _) t.isLt⟩) : Left m c t := by
  obtain ⟨-, i⟩ := ih
  have e : ∀ r : Fin 1024, row ⟨t.val - 1, Nat.lt_of_le_of_lt (Nat.sub_le _ _) t.isLt⟩ r = row t r := fun r =>
    Fin.ext (by show (t.val - 1) / 6 * 1024 + r.val = t.val / 6 * 1024 + r.val; omega)
  simp only [e] at i
  unfold Left
  rw [outsAt0_B m c t h0]
  dsimp only
  rw [out0_B_3_eq]
  exact ⟨prod_apply m c t _ i, i⟩

theorem left_all (c : Dev nD) : ∀ (n : ℕ) (h : n < cfg0.N), Left m c ⟨n, h⟩
  | 0, h => left_A m c ⟨0, h⟩ rfl
  | n + 1, h => by
    by_cases h0 : (n + 1) % 6 = 0
    · exact left_A m c ⟨n + 1, h⟩ h0
    · exact left_B m c ⟨n + 1, h⟩ h0 (left_all c n _)

/-- The projection over a device's arguments, as contents of the result array. -/
abbrev G (c : Dev nD) : Buf (Elt Ideal) ((c : Thread nD τ).loc main_v14) := proj (a0 m c) (a1 m c) (a2 m c)

theorem flushed_eq (c : Dev nD) (t : Fin cfg0.N) (hf : (cfg0.win 3).flush t = true) :
    (dats m 0 c).flushed 3 t = ((cfg0.win 3).blk t).view.read (Elt Ideal) (G m c) := by
  rw [flushed3]
  funext j
  rw [View.read_apply]
  show (outsAt0 m c t.val t.isLt).1 j = proj _ _ _ (((cfg0.win 3).blk t).view.emb j)
  have h0 : (j 0).val < 1024 := (j 0).isLt
  have h1 : (j 1).val < 1664 := (j 1).isLt
  have e := (left_all m c t.val t.isLt).1 ⟨(j 0).val, h0⟩ ⟨(j 1).val, h1⟩
  refine Eq.trans (congrArg _ ?_) (e.trans (congrArg _ (funext fun a => Fin.ext ?_)))
  · funext a
    match a with
    | ⟨0, _⟩ => rfl
    | ⟨1, _⟩ => rfl
  · match a with
    | ⟨0, _⟩ => show t.val / 6 * 1024 + (j 0).val = win0_3.index t 0 * 1024 + 1 * (j 0).val; rw [(idx3 t).1]; omega
    | ⟨1, _⟩ => show t.val % 6 * 1664 + (j 1).val = win0_3.index t 1 * 1664 + 1 * (j 1).val; rw [(idx3 t).2]; omega

/-- The result array is the projection. -/
theorem final (c : Dev nD) : (dats m 0 c).arrAt 3 cfg0.N = G m c :=
  (dats m 0 c).arrAt_eq_of_cover 3 (G m c) (flushed_eq m c) fun i => (covered_iff3 i).2 (by
    have h0 : (i 0).val < 32768 := (i 0).isLt
    have h1 : (i 1).val < 9984 := (i 1).isLt
    omega)

end Cert.InprojIdeal.Array

end
-- ==== Proof.InprojRead.lean ====
/- The reference's input projection, read at an index: each column of the product of the normalised rows with the
   weights, in the order the layer's projections are laid out. -/
module

public import proofs.«01_k».proof.Proof.NormSpec
public import proofs.«01_k».proof.Proof.Gen.InprojReferenceIdeal.Run
public import Idealize.ShloMosaic.Lib.Pointwise
public import Idealize.ShloMosaic.Lib.IdealHost

@[expose] public section

set_option maxRecDepth 16384

noncomputable section

namespace Cert.InprojReferenceIdeal.Read

open Cert.InprojReferenceIdeal Cert.InprojReferenceIdeal.Gen Cert.InprojReferenceIdeal.Value Cert.NormSpec
  Idealize.ShloMosaic Idealize.ShloMosaic.TcCoe Idealize.SL.Sem Idealize.ShloMosaic.StableHlo
open scoped BigOperators

variable (m : (ℓ : Loc nD τ sig) → Buf (Elt Ideal) ℓ) (ρ : Dev nD → PrngReg)

/-- The arguments of a device, as arrays of extended reals. -/
abbrev a0 (c : Dev nD) : (⟨3, ![4, 8192, 2048]⟩ : Shape).Idx → EReal := m ((c.tc : Thread nD τ).loc main_arg0)
abbrev a1 (c : Dev nD) : (⟨2, ![1, 2048]⟩ : Shape).Idx → EReal := m ((c.tc : Thread nD τ).loc main_arg1)
abbrev a2 (c : Dev nD) : (⟨3, ![1, 2048, 9808]⟩ : Shape).Idx → EReal := m ((c.tc : Thread nD τ).loc main_arg2)

/-- The product of the normalised rows with the weights, as the reference computes it. -/
def product (x : FVec Ideal S4x8192x2048 .f32) (g : FVec Ideal S1x2048 .f32) (w : FVec Ideal S1x2048x9808 .f32) :
    FVec Ideal S4x8192x9808 .f32 :=
  Host.dotGeneral dot_S4x8192x2048_S2048x9808_S4x8192x9808_2_0_01_1_n_n none
    (mulf (mulf x (broadcastInDim S4x8192x2048 ![0, 1, 2] bcast_S4x8192x1_S4x8192x2048_0_1_2
        (Host.rsqrt (addf (Host.divf (broadcastInDim S4x8192x1 ![0, 1] bcast_S4x8192_S4x8192x1_0_1
              (Host.reduceAdd (mulf x x) (constant S_ .f32 0x00000000#32) reducesTo_S4x8192x2048_S4x8192_d2 h_S_))
            (broadcastInDim S4x8192x1 ![] bcast_S_S4x8192x1 (constant S_ .f32 0x45000000#32)))
          (broadcastInDim S4x8192x1 ![] bcast_S_S4x8192x1 (constant S_ .f32 0x358637BD#32))))))
      (broadcastInDim S4x8192x2048 ![0, 1, 2] bcast_S1x1x2048_S4x8192x2048_0_1_2
        (broadcastInDim S1x1x2048 ![2] bcast_S2048_S1x1x2048_2 (shapeCast S2048 g shapeCasts_S1x2048_S2048))))
    (shapeCast S2048x9808 w shapeCasts_S1x2048x9808_S2048x9808)

theorem product_apply (x : FVec Ideal S4x8192x2048 .f32) (g : FVec Ideal S1x2048 .f32) (w : FVec Ideal S1x2048x9808 .f32)
    (b : Fin 4) (s : Fin 8192) (j : Fin 9808) :
    product x g w (ix3 b s j) = ∑ k : Fin 2048, nrm (fun k => x (ix3 b s k)) (fun k => g (ix2 0 k)) k * w (ix3 0 k j) := by
  unfold product nrm rinv
  pointwise [zero_add]

/-- The projections laid side by side. -/
def joined (d : FVec Ideal S4x8192x9808 .f32) : FVec Ideal S4x8192x9984 .f32 :=
  concatenate S4x8192x9984 2 [⟨S4x8192x2048, extractStridedSlice S4x8192x2048 ![0, 0, 0] d slices_S4x8192x9808_S4x8192x2048_0_0_0⟩,
    ⟨S4x8192x2048, extractStridedSlice S4x8192x2048 ![0, 0, 2048] d slices_S4x8192x9808_S4x8192x2048_0_0_2048⟩,
    ⟨S4x8192x2048, extractStridedSlice S4x8192x2048 ![0, 0, 5712] d slices_S4x8192x9808_S4x8192x2048_0_0_5712⟩,
    ⟨S4x8192x2048, extractStridedSlice S4x8192x2048 ![0, 0, 7760] d slices_S4x8192x9808_S4x8192x2048_0_0_7760⟩,
    ⟨S4x8192x1024, extractStridedSlice S4x8192x1024 ![0, 0, 4608] d slices_S4x8192x9808_S4x8192x1024_0_0_4608⟩,
    ⟨S4x8192x512, extractStridedSlice S4x8192x512 ![0, 0, 4096] d slices_S4x8192x9808_S4x8192x512_0_0_4096⟩,
    ⟨S4x8192x64, extractStridedSlice S4x8192x64 ![0, 0, 5632] d slices_S4x8192x9808_S4x8192x64_0_0_5632⟩,
    ⟨S4x8192x64, broadcastInDim S4x8192x64 ![] bcast_S_S4x8192x64 (constant (F := Ideal) S_ .f32 0x00000000#32)⟩,
    ⟨S4x8192x16, extractStridedSlice S4x8192x16 ![0, 0, 5696] d slices_S4x8192x9808_S4x8192x16_0_0_5696⟩,
    ⟨S4x8192x112, broadcastInDim S4x8192x112 ![] bcast_S_S4x8192x112 (constant (F := Ideal) S_ .f32 0x00000000#32)⟩]
    concatenates_S4x8192x2048_S4x8192x2048_S4x8192x2048_S4x8192x2048_S4x8192x1024_S4x8192x512_S4x8192x64_S4x8192x64_S4x8192x16_S4x8192x112_S4x8192x9984_d2

set_option maxHeartbeats 2000000 in
theorem joined_apply (d : FVec Ideal S4x8192x9808 .f32) (b : Fin 4) (s : Fin 8192) (j : Fin 9984) :
    joined d (ix3 b s j) = regroup (fun j => d (ix3 b s j)) j.val := by
  unfold joined regroup
  pointwise []
  repeat' split
  all_goals first | (exfalso; omega) | (refine congrArg d (congrArg (ix3 b s) (Fin.ext ?_)); simp only; omega) | with_reducible rfl

/-- The rows of the four batches flattened. -/
theorem flat_apply (v : FVec Ideal S4x8192x9984 .f32) (r : Fin 32768) (j : Fin 9984) :
    shapeCast S32768x9984 v shapeCasts_S4x8192x9984_S32768x9984 (ix2 r j) = v (ix3 (rb r) (rs r) j) := by
  pointwise []
  rfl

theorem res_eq (c : Dev nD) : res_main_v27 m c
    = shapeCast S32768x9984 (joined (product (a0 m c) (a1 m c) (a2 m c))) shapeCasts_S4x8192x9984_S32768x9984 := rfl

theorem res_proj (c : Dev nD) : res_main_v27 m c = proj (a0 m c) (a1 m c) (a2 m c) := by
  rw [res_eq]
  funext j
  obtain ⟨r, l, rfl⟩ : ∃ (r : Fin 32768) (l : Fin 9984), j = ix2 r l := ⟨j 0, j 1, eq_ix2 j⟩
  rw [flat_apply, joined_apply]
  refine Eq.trans (congrArg (fun f => regroup f l.val) (funext fun j => product_apply _ _ _ _ _ j)) ?_
  exact regroup_sum _ (fun k j => a2 m c (ix3 0 k j)) l.val

/-- The reference leaves the projection. -/
theorem value : θ_run defs (onTc (τ := τ) (main (F := Ideal))) ⟨m, fun _ => 0, ρ⟩ fun r => ∀ c : Dev nD,
      r.2.mem ((c.tc : Thread nD τ).loc main_v27) = proj (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (res_proj m c), (h c).2⟩) (run m ρ)

end Cert.InprojReferenceIdeal.Read

end
-- ==== Proof.InprojEquation.lean ====
/- The value claim of the input projection: the kernel's result and the reference's are the same function of the
   arguments. -/
module

public import proofs.«01_k».proof.Defs
public import proofs.«01_k».proof.Proof.InprojArray
public import proofs.«01_k».proof.Proof.InprojRead

@[expose] public section

noncomputable section

namespace Cert.InprojEquation

open Idealize.ShloMosaic Idealize.SL.Sem Idealize.ShloMosaic.TcCoe Idealize.ShloMosaic.StableHlo

/-- The reference terminates and leaves its arguments as they were. -/
theorem reference_frame : Cert.quiescent_InprojReferenceIdeal (hInprojReferenceIdeal := Cert.InprojReferenceIdeal.Gen.facts) := fun m ρ _ =>
  (θ_run Cert.InprojReferenceIdeal.defs _ _).mono (fun r h => ⟨fun c => (h c).2, sem_eq_zero_of_no_sems (by decide) r.2⟩) (Cert.InprojReferenceIdeal.Value.run m ρ)

/-- The projection depends on its arguments only. -/
theorem proj_congr {x x' : (⟨3, ![4, 8192, 2048]⟩ : Shape).Idx → EReal} {g g' : (⟨2, ![1, 2048]⟩ : Shape).Idx → EReal}
    {w w' : (⟨3, ![1, 2048, 9808]⟩ : Shape).Idx → EReal} (e0 : x' = x) (e1 : g' = g) (e2 : w' = w) :
    NormSpec.proj x' g' w' = NormSpec.proj x g w := by
  subst e0 e1 e2
  rfl

/-- From the same arguments the kernel and the reference leave the same array. -/
theorem value : Cert.algebraic_InprojIdeal_InprojReferenceIdeal (hInprojIdeal := Cert.InprojIdeal.Gen.facts) (hInprojReferenceIdeal := Cert.InprojReferenceIdeal.Gen.facts) := by
  intro m ρ m' ρ' _ hag
  refine ⟨fun c => Cert.InprojIdeal.Array.G m c, ?_, ?_⟩
  · refine (θ_run _ _ _).mono (fun r h c => ?_) (Cert.InprojIdeal.Value.run_blocks m ρ)
    exact ⟨(h c).1.trans (Cert.InprojIdeal.Array.final m c), (h c).2⟩
  · refine (θ_run _ _ _).mono (fun r h c => ?_) (Cert.InprojReferenceIdeal.Read.value m' ρ')
    refine ⟨(h c).1.trans ?_, (h c).2⟩
    obtain ⟨e0, e1, e2⟩ := hag c
    unfold Cert.InprojIdeal.Array.G
    exact proj_congr e0 e1 e2

end Cert.InprojEquation

end
-- ==== Proof.MixoutArray.lean ====
/- What one grid point of the output projection leaves, and the result array: the series plus the projection of the
   gated sum of the two branches. -/
module

public import proofs.«01_k».proof.Proof.NormSpec
public import proofs.«01_k».proof.Proof.Gen.MixoutIdeal.Value
public import Idealize.ShloMosaic.Lib.Tactic
public import Idealize.ShloMosaic.Lib.Pipeline.Value
public import Idealize.ShloMosaic.Lib.StableHlo.Run
public import Idealize.ShloMosaic.Lib.Pointwise
public import Idealize.ShloMosaic.Lib.StableHlo.ReadAt

@[expose] public section

set_option maxRecDepth 16384

noncomputable section

namespace Cert.MixoutIdeal.Array

open Cert.MixoutIdeal Cert.MixoutIdeal.Gen Cert.MixoutIdeal.Value Cert.NormSpec
  Idealize.ShloMosaic Idealize.ShloMosaic.TcCoe Idealize.SL.Sem Idealize.ShloMosaic.StableHlo
open Idealize.ShloMosaic.Pipeline (Dat)
open scoped BigOperators

/-- The zero offset of a whole-block access. -/
theorem off0 : (![0, 0] : Fin 2 → Nat) = fun _ => 0 := funext fun a => by fin_cases a <;> rfl

section
variable {F : FTy → Type} [FloatOps F]

/-- The block a point writes. -/
theorem out0_A_6_eq (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S2048x2048 .bf16) (harg6 : arg6.IsWhole) (arg7 : Memref sig .tc .vmem S256x2048 .f32) (harg7 : arg7.IsWhole)
    (x0 : Vec F S256x2048 .f32) (x1 : Vec F S256x2048 .f32) (x2 : Vec F S256x2048 .f32) (x3 : Vec F S256x2048 .f32) (x4 : Vec F S256x2048 .f32) (x5 : Vec F S2048x2048 .bf16) :
    out0_A_6 c i arg1 harg1 arg2 harg2 arg3 harg3 arg4 harg4 arg5 harg5 arg6 harg6 arg7 harg7 x0 x1 x2 x3 x4 x5 = k0_pay1 x0 x2 x1 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  rw [View.canon_cons_unit_zero (S := S256x2048) off0]
  simp only [View.readAt_eq_ld, harg1.read_unread, harg2.read_unread, harg3.read_unread, harg4.read_unread, harg5.read_unread, harg6.read_unread, harg7.read_unread, View.ld_unit_zero (S := S256x2048) off0, View.ld_unit_zero (S := S2048x2048) off0]

end

variable (m : (ℓ : Loc nD τ sig) → Buf (Elt Ideal) ℓ)

/-- The arguments of a device, as arrays of extended reals. -/
abbrev a0 (c : Dev nD) : (⟨2, ![32768, 9984]⟩ : Shape).Idx → EReal := m ((c : Thread nD τ).loc main_arg0)
abbrev a1 (c : Dev nD) : (⟨2, ![32768, 2048]⟩ : Shape).Idx → EReal := m ((c : Thread nD τ).loc main_arg1)
abbrev a2 (c : Dev nD) : (⟨2, ![32768, 2048]⟩ : Shape).Idx → EReal := m ((c : Thread nD τ).loc main_arg2)
abbrev a3 (c : Dev nD) : (⟨3, ![4, 8192, 2048]⟩ : Shape).Idx → EReal := m ((c : Thread nD τ).loc main_arg3)
abbrev a4 (c : Dev nD) : (⟨3, ![1, 2048, 2048]⟩ : Shape).Idx → EReal := m ((c : Thread nD τ).loc main_arg4)

/-- A point's block at an index. -/
theorem pay1_apply (gr yr ga ya x : Vec Ideal S256x2048 .f32) (w : Vec Ideal S2048x2048 .bf16) (r : Fin 256) (l : Fin 2048) :
    k0_pay1 gr yr ga ya x w (ix2 r l) = x (ix2 r l)
      + ∑ k : Fin 2048, (Ideal.logistic (gr (ix2 r k)) * yr (ix2 r k) + Ideal.logistic (ga (ix2 r k)) * ya (ix2 r k)) * w (ix2 k l) := by
  unfold k0_pay1
  pointwise []

/-- The flattened series and the weights, as the operations before the call leave them. -/
abbrev b0 (c : Dev nD) : (⟨2, ![32768, 2048]⟩ : Shape).Idx → EReal := V m c main_v0
abbrev b2 (c : Dev nD) : (⟨2, ![2048, 2048]⟩ : Shape).Idx → EReal := V m c main_v2

theorem b0_apply (c : Dev nD) (r : Fin 32768) (k : Fin 2048) : b0 m c (ix2 r k) = a3 m c (ix3 (rb r) (rs r) k) := by
  unfold b0
  simp only [V]
  after_results
  pointwise []
  rfl

theorem b2_apply (c : Dev nD) (k l : Fin 2048) : b2 m c (ix2 k l) = a4 m c (ix3 0 k l) := by
  unfold b2
  simp only [V]
  after_results
  pointwise []

theorem point_lt (t : Fin cfg0.N) : t.val < 128 := lt_of_lt_of_eq t.isLt N_0
/-- A row of a point's block. -/
def row (t : Fin cfg0.N) (r : Fin 256) : Fin 32768 := ⟨t.val * 256 + r.val, by have h := point_lt t; omega⟩

/-- The block each window reads at a point, decided over the grid. -/
theorem idx0 : ∀ t : Fin cfg0.N, win0_0.index t 0 = t.val ∧ win0_0.index t 1 = 2 :=
  (by decide +kernel : ∀ t : Fin grid0.N, win0_0.index t 0 = t.val ∧ win0_0.index t 1 = 2)
theorem idx1 : ∀ t : Fin cfg0.N, win0_1.index t 0 = t.val ∧ win0_1.index t 1 = 3 :=
  (by decide +kernel : ∀ t : Fin grid0.N, win0_1.index t 0 = t.val ∧ win0_1.index t 1 = 3)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

theorem blk0 (c : Dev nD) (t : Fin cfg0.N) (r : Fin 256) (k : Fin 2048) :
    (X0_0 m c t : Vec Ideal S256x2048 .f32) (ix2 r k) = a0 m c (ix2 (row t r) ⟨4096 + k.val, by omega⟩) := by
  unfold X0_0 Pipeline.Window.fill
  rw [dif_pos (moved0_0 t (ix2 r k))]
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = t.val * 256 + r.val; rw [(idx0 t).1]; omega
  | ⟨1, _⟩ => show win0_0.index t 1 * 2048 + 1 * k.val = 4096 + k.val; rw [(idx0 t).2]; omega

theorem blk1 (c : Dev nD) (t : Fin cfg0.N) (r : Fin 256) (k : Fin 2048) :
    (X0_1 m c t : Vec Ideal S256x2048 .f32) (ix2 r k) = a0 m c (ix2 (row t r) ⟨6144 + k.val, by omega⟩) := by
  unfold X0_1 Pipeline.Window.fill
  rw [dif_pos (moved0_1 t (ix2 r k))]
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 256 + 1 * r.val = t.val * 256 + r.val; rw [(idx1 t).1]; omega
  | ⟨1, _⟩ => show win0_1.index t 1 * 2048 + 1 * k.val = 6144 + k.val; rw [(idx1 t).2]; omega

theorem blk2 (c : Dev nD) (t : Fin cfg0.N) (r : Fin 256) (k : Fin 2048) :
    (iblk m c 2 t : Vec Ideal S256x2048 .f32) (ix2 r k) = a1 m c (ix2 (row t r) k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t 0 * 256 + 1 * r.val = t.val * 256 + r.val; rw [(idx2 t).1]; omega
  | ⟨1, _⟩ => show win0_2.index t 1 * 2048 + 1 * k.val = k.val; rw [(idx2 t).2]; omega

theorem blk3 (c : Dev nD) (t : Fin cfg0.N) (r : Fin 256) (k : Fin 2048) :
    (iblk m c 3 t : Vec Ideal S256x2048 .f32) (ix2 r k) = a2 m c (ix2 (row t r) k) := by
  unfold iblk
  rw [View.read_apply]
  show V m c main_arg2 _ = _
  rw [V_main_arg2]
  refine congrArg (m ((c : Thread nD τ).loc main_arg2)) (funext fun a => Fin.ext ?_)
  match a with
  | ⟨0, _⟩ => show win0_3.index t 0 * 256 + 1 * r.val = t.val * 256 + r.val; rw [(idx3 t).1]; omega
  | ⟨1, _⟩ => show win0_3.index t 1 * 2048 + 1 * k.val = k.val; rw [(idx3 t).2]; omega

theorem blk4 (c : Dev nD) (t : Fin cfg0.N) (r : Fin 256) (k : Fin 2048) :
    (iblk m c 4 t : Vec Ideal S256x2048 .f32) (ix2 r k) = b0 m c (ix2 (row t r) k) := by
  unfold iblk
  rw [View.read_apply]
  show V m c main_v0 _ = _
  refine congrArg (V m c main_v0) (funext fun a => Fin.ext ?_)
  match a with
  | ⟨0, _⟩ => show win0_4.index t 0 * 256 + 1 * r.val = t.val * 256 + r.val; rw [(idx4 t).1]; omega
  | ⟨1, _⟩ => show win0_4.index t 1 * 2048 + 1 * k.val = k.val; rw [(idx4 t).2]; omega

theorem blk5 (c : Dev nD) (t : Fin cfg0.N) (k l : Fin 2048) :
    (iblk m c 5 t : Vec Ideal S2048x2048 .bf16) (ix2 k l) = b2 m c (ix2 k l) := by
  unfold iblk
  rw [View.read_apply]
  show V m c main_v2 _ = _
  refine congrArg (V m c main_v2) (funext fun a => Fin.ext ?_)
  match a with
  | ⟨0, _⟩ => show win0_5.index t 0 * 2048 + 1 * k.val = k.val; rw [(idx5 t).1]; omega
  | ⟨1, _⟩ => show win0_5.index t 1 * 2048 + 1 * l.val = l.val; rw [(idx5 t).2]; omega

/-- What a point leaves: its rows of the sum. -/
theorem left_apply (c : Dev nD) (t : Fin cfg0.N) (r : Fin 256) (l : Fin 2048) :
    outsAt0 m c t (ix2 r l) = mix (a0 m c) (a1 m c) (a2 m c) (a3 m c) (a4 m c) (ix2 (row t r) l) := by
  unfold outsAt0
  rw [out0_A_6_eq, pay1_apply]
  unfold mix gated
  refine congrArg₂ (· + ·) ((blk4 m c t r l).trans (b0_apply m c _ l)) (Finset.sum_congr rfl fun k _ => ?_)
  refine congrArg₂ (· * ·) (congrArg₂ (· + ·) (congrArg₂ (· * ·) (congrArg Ideal.logistic (blk0 m c t r k)) (blk2 m c t r k))
    (congrArg₂ (· * ·) (congrArg Ideal.logistic (blk1 m c t r k)) (blk3 m c t r k))) ((blk5 m c t k l).trans (b2_apply m c k l))

/-- The sum over a device's arguments, as contents of the result array. -/
abbrev G (c : Dev nD) : Buf (Elt Ideal) ((c : Thread nD τ).loc main_v3) := mix (a0 m c) (a1 m c) (a2 m c) (a3 m c) (a4 m c)

theorem flushed_eq (c : Dev nD) (t : Fin cfg0.N) (hf : (cfg0.win 6).flush t = true) :
    (dats m 0 c).flushed 6 t = ((cfg0.win 6).blk t).view.read (Elt Ideal) (G m c) := by
  rw [flushed6]
  funext j
  rw [View.read_apply]
  show outsAt0 m c t j = mix _ _ _ _ _ (((cfg0.win 6).blk t).view.emb j)
  have h0 : (j 0).val < 256 := (j 0).isLt
  have h1 : (j 1).val < 2048 := (j 1).isLt
  have e := left_apply m c t ⟨(j 0).val, h0⟩ ⟨(j 1).val, h1⟩
  refine Eq.trans (congrArg _ ?_) (e.trans (congrArg _ (funext fun a => Fin.ext ?_)))
  · funext a
    match a with
    | ⟨0, _⟩ => rfl
    | ⟨1, _⟩ => rfl
  · match a with
    | ⟨0, _⟩ => show t.val * 256 + (j 0).val = win0_6.index t 0 * 256 + 1 * (j 0).val; rw [(idx6 t).1]; omega
    | ⟨1, _⟩ => show (j 1).val = win0_6.index t 1 * 2048 + 1 * (j 1).val; rw [(idx6 t).2]; omega

/-- The result array is the sum. -/
theorem final (c : Dev nD) : (dats m 0 c).arrAt 6 cfg0.N = G m c :=
  (dats m 0 c).arrAt_eq_of_cover 6 (G m c) (flushed_eq m c) fun i => by
    have h0 : (i 0 : Nat) < 32768 := (i 0).isLt
    have h1 : (i 1 : Nat) < 2048 := (i 1).isLt
    let t : Fin cfg0.N := ⟨(i 0 : Nat) / 256, by rw [show cfg0.N = 128 from N_0]; omega⟩
    refine ⟨t, flush0_6 t, ?_⟩
    show i ∈ ((View.whole main_v3).slice (win0_6.rect t)).set
    rw [View.set_slice_whole, Rect.mem_set_unit]
    have e0 : win0_6.index t 0 = (i 0 : Nat) / 256 := (idx6 t).1
    have e1 : win0_6.index t 1 = 0 := (idx6 t).2
    intro a
    match a with
    | ⟨0, _⟩ =>
      show win0_6.index t 0 * 256 ≤ (i 0 : Nat) ∧ (i 0 : Nat) < win0_6.index t 0 * 256 + 256
      rw [e0]; omega
    | ⟨1, _⟩ =>
      show win0_6.index t 1 * 2048 ≤ (i 1 : Nat) ∧ (i 1 : Nat) < win0_6.index t 1 * 2048 + 2048
      rw [e1]; omega

end Cert.MixoutIdeal.Array

end
-- ==== Proof.MixoutRead.lean ====
/- The reference's output projection, read at an index. -/
module

public import proofs.«01_k».proof.Proof.NormSpec
public import proofs.«01_k».proof.Proof.Scalars
public import proofs.«01_k».proof.Proof.Gen.MixoutReferenceIdeal.Run
public import Idealize.ShloMosaic.Lib.Pointwise
public import Idealize.ShloMosaic.Lib.IdealHost

@[expose] public section

set_option maxRecDepth 16384

noncomputable section

namespace Cert.MixoutReferenceIdeal.Read

open Cert.MixoutReferenceIdeal Cert.MixoutReferenceIdeal.Gen Cert.MixoutReferenceIdeal.Value Cert.NormSpec
  Idealize.ShloMosaic Idealize.ShloMosaic.TcCoe Idealize.SL.Sem Idealize.ShloMosaic.StableHlo
open scoped BigOperators

variable (m : (ℓ : Loc nD τ sig) → Buf (Elt Ideal) ℓ) (ρ : Dev nD → PrngReg)

/-- The arguments of a device, as arrays of extended reals. -/
abbrev a0 (c : Dev nD) : (⟨2, ![32768, 9984]⟩ : Shape).Idx → EReal := m ((c.tc : Thread nD τ).loc main_arg0)
abbrev a1 (c : Dev nD) : (⟨2, ![32768, 2048]⟩ : Shape).Idx → EReal := m ((c.tc : Thread nD τ).loc main_arg1)
abbrev a2 (c : Dev nD) : (⟨2, ![32768, 2048]⟩ : Shape).Idx → EReal := m ((c.tc : Thread nD τ).loc main_arg2)
abbrev a3 (c : Dev nD) : (⟨3, ![4, 8192, 2048]⟩ : Shape).Idx → EReal := m ((c.tc : Thread nD τ).loc main_arg3)
abbrev a4 (c : Dev nD) : (⟨3, ![1, 2048, 2048]⟩ : Shape).Idx → EReal := m ((c.tc : Thread nD τ).loc main_arg4)

/-- A half of the gates' columns, through the logistic function as the reference spells it. -/
def gate (p : FVec Ideal S32768x2048 .f32) : FVec Ideal S32768x2048 .f32 :=
  Host.divf (broadcastInDim S32768x2048 ![] bcast_S_S32768x2048 (constant S_ .f32 0x3F800000#32))
    (addf (broadcastInDim S32768x2048 ![] bcast_S_S32768x2048 (constant S_ .f32 0x3F800000#32)) (Host.exp (Host.negf p)))

theorem gate_apply (p : FVec Ideal S32768x2048 .f32) (i : S32768x2048.Idx) : gate p i = Ideal.logistic (p i) := by
  unfold gate
  rw [← Scalars.logistic_eq]
  pointwise []

/-- The reference's result over its arguments. -/
def sum (p : FVec Ideal S32768x9984 .f32) (yr ya : FVec Ideal S32768x2048 .f32) (x : FVec Ideal S4x8192x2048 .f32)
    (w : FVec Ideal S1x2048x2048 .f32) : FVec Ideal S32768x2048 .f32 :=
  addf (shapeCast S32768x2048 x shapeCasts_S4x8192x2048_S32768x2048)
    (Host.dotGeneral dot_S32768x2048_S2048x2048_S32768x2048_1_0_0_1_n_n none
      (addf (mulf (gate (extractStridedSlice S32768x2048 ![0, 4096] p slices_S32768x9984_S32768x2048_0_4096)) yr)
        (mulf (gate (extractStridedSlice S32768x2048 ![0, 6144] p slices_S32768x9984_S32768x2048_0_6144)) ya))
      (shapeCast S2048x2048 w shapeCasts_S1x2048x2048_S2048x2048))

theorem sum_apply (p : FVec Ideal S32768x9984 .f32) (yr ya : FVec Ideal S32768x2048 .f32) (x : FVec Ideal S4x8192x2048 .f32)
    (w : FVec Ideal S1x2048x2048 .f32) (r : Fin 32768) (l : Fin 2048) : sum p yr ya x w (ix2 r l) = mix p yr ya x w (ix2 r l) := by
  unfold sum mix gated
  pointwise [gate_apply]
  rfl

/-- The reference leaves the series plus the projected sum. -/
theorem value : θ_run defs (onTc (τ := τ) (main (F := Ideal))) ⟨m, fun _ => 0, ρ⟩ fun r => ∀ c : Dev nD,
      r.2.mem ((c.tc : Thread nD τ).loc main_v20) = mix (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (funext fun j => by
      obtain ⟨r, l, rfl⟩ : ∃ (r : Fin 32768) (l : Fin 2048), j = ix2 r l := ⟨j 0, j 1, eq_ix2 j⟩
      exact sum_apply (a0 m c) (a1 m c) (a2 m c) (a3 m c) (a4 m c) r l), (h c).2⟩) (run m ρ)

end Cert.MixoutReferenceIdeal.Read

end
-- ==== Proof.MixoutEquation.lean ====
/- The value claim of the output projection: the kernel's result and the reference's are the same function of the
   arguments. -/
module

public import proofs.«01_k».proof.Defs
public import proofs.«01_k».proof.Proof.MixoutArray
public import proofs.«01_k».proof.Proof.MixoutRead

@[expose] public section

noncomputable section

namespace Cert.MixoutEquation

open Idealize.ShloMosaic Idealize.SL.Sem Idealize.ShloMosaic.TcCoe Idealize.ShloMosaic.StableHlo

/-- The reference terminates and leaves its arguments as they were. -/
theorem reference_frame : Cert.quiescent_MixoutReferenceIdeal (hMixoutReferenceIdeal := Cert.MixoutReferenceIdeal.Gen.facts) := fun m ρ _ =>
  (θ_run Cert.MixoutReferenceIdeal.defs _ _).mono (fun r h => ⟨fun c => (h c).2, sem_eq_zero_of_no_sems (by decide) r.2⟩) (Cert.MixoutReferenceIdeal.Value.run m ρ)

/-- The sum depends on its arguments only. -/
theorem mix_congr {p p' : (⟨2, ![32768, 9984]⟩ : Shape).Idx → EReal} {yr yr' ya ya' : (⟨2, ![32768, 2048]⟩ : Shape).Idx → EReal}
    {x x' : (⟨3, ![4, 8192, 2048]⟩ : Shape).Idx → EReal} {w w' : (⟨3, ![1, 2048, 2048]⟩ : Shape).Idx → EReal}
    (e0 : p' = p) (e1 : yr' = yr) (e2 : ya' = ya) (e3 : x' = x) (e4 : w' = w) :
    NormSpec.mix p' yr' ya' x' w' = NormSpec.mix p yr ya x w := by
  subst e0 e1 e2 e3 e4
  rfl

/-- From the same arguments the kernel and the reference leave the same array. -/
theorem value : Cert.algebraic_MixoutIdeal_MixoutReferenceIdeal (hMixoutIdeal := Cert.MixoutIdeal.Gen.facts) (hMixoutReferenceIdeal := Cert.MixoutReferenceIdeal.Gen.facts) := by
  intro m ρ m' ρ' _ hag
  refine ⟨fun c => Cert.MixoutIdeal.Array.G m c, ?_, ?_⟩
  · refine (θ_run _ _ _).mono (fun r h c => ?_) (Cert.MixoutIdeal.Value.run_blocks m ρ)
    exact ⟨(h c).1.trans (Cert.MixoutIdeal.Array.final m c), (h c).2⟩
  · refine (θ_run _ _ _).mono (fun r h c => ?_) (Cert.MixoutReferenceIdeal.Read.value m' ρ')
    refine ⟨(h c).1.trans ?_, (h c).2⟩
    obtain ⟨e0, e1, e2, e3, e4⟩ := hag c
    unfold Cert.MixoutIdeal.Array.G
    exact mix_congr e0 e1 e2 e3 e4

end Cert.MixoutEquation

end
-- ==== Proof.PeerqPoint.lean ====
/- What one grid point of the key scores leaves, and the three result arrays: the normalised rows, and each head's
   query against the two sets of keys. -/
module

public import proofs.«01_k».proof.Proof.NormSpec
public import proofs.«01_k».proof.Proof.Gen.PeerqIdeal.Value
public import Idealize.ShloMosaic.Lib.Tactic
public import Idealize.ShloMosaic.Lib.Pipeline.Value
public import Idealize.ShloMosaic.Lib.StableHlo.Run
public import Idealize.ShloMosaic.Lib.Pointwise
public import Idealize.ShloMosaic.Lib.StableHlo.ReadAt

@[expose] public section

set_option maxRecDepth 16384

noncomputable section

namespace Cert.PeerqIdeal.Array

open Cert.PeerqIdeal Cert.PeerqIdeal.Gen Cert.PeerqIdeal.Value Cert.NormSpec
  Idealize.ShloMosaic Idealize.ShloMosaic.TcCoe Idealize.SL.Sem Idealize.ShloMosaic.StableHlo
open Idealize.ShloMosaic.Pipeline (Dat)
open scoped BigOperators

/-- The zero offset of a whole-block access. -/
theorem off0 : (![0, 0] : Fin 2 → Nat) = fun _ => 0 := funext fun a => by fin_cases a <;> rfl

/-- A point's normalised rows. -/
theorem rows_apply (x : Vec Ideal S256x2048 .f32) (g : Vec Ideal S1x2048 .f32) (r : Fin 256) (k : Fin 2048) :
    k0_pay4 x g (ix2 r k) = nrm (fun k => x (ix2 r k)) (fun k => g (ix2 0 k)) k := by
  unfold k0_pay4 nrm rinv
  pointwise [zero_add]

/-- A point's queries. -/
theorem query_apply (x : Vec Ideal S256x2048 .f32) (g : Vec Ideal S1x2048 .f32) (w : Vec Ideal S2048x2048 .bf16)
    (r : Fin 256) (j : Fin 2048) :
    k0_pay5 x g w (ix2 r j) = ∑ k : Fin 2048, nrm (fun k => x (ix2 r k)) (fun k => g (ix2 0 k)) k * w (ix2 k j) := by
  unfold k0_pay5
  pointwise [rows_apply]

/-- The scores of a point's block: keys against one half of each head's queries. -/
def part (off : Fin 129) (q : FVec Ideal S256x2048 .f32) (w : Vec Ideal S128x128 .bf16) (y : S8x128x256.Idx) : EReal :=
  ∑ d : Fin 128, w (ix2 (n0 := 128) (n1 := 128) (y 1) d)
    * q (ix2 (n0 := 256) (n1 := 2048) (y 2) ⟨off.val + ((y 0).val * 256 + d.val), by have h : (y 0).val < 8 := (y 0).isLt; omega⟩)

/-- One head's slab of the scores, read off a function of the slab's own index. -/
theorem part_head (off : Fin 129) (q : FVec Ideal S256x2048 .f32) (w : Vec Ideal S128x128 .bf16) (h : Fin 8)
    (p : Fin 1 → Fin 128 → Fin 256 → EReal) (y : S8x128x256.Idx) (x : S1x128x256.Idx)
    (hp : ∀ a k r, p a k r = ∑ d : Fin 128, w (ix2 k d) * q (ix2 r ⟨(h.val * 256 + off.val) + d.val, by omega⟩))
    (e0 : (y 0).val = h.val) (e1 : (y 1).val = (x 1).val) (e2 : (y 2).val = (x 2).val) :
    p (x 0) (x 1) (x 2) = part off q w y := by
  refine (hp _ _ _).trans ?_
  unfold part
  refine Finset.sum_congr rfl fun d _ => congrArg₂ (· * ·) (congrArg w ?_) (congrArg q ?_)
  · exact congrArg (fun a => ix2 (n0 := 128) (n1 := 128) a d) (Fin.ext e1.symm)
  · refine congrArg₂ (fun a b => ix2 (n0 := 256) (n1 := 2048) a b) (Fin.ext e2.symm) (Fin.ext ?_)
    show h.val * 256 + off.val + d.val = off.val + ((y 0).val * 256 + d.val)
    rw [e0]; omega

/-- The first keys against head 0. -/
theorem first0_apply (x : Vec Ideal S256x2048 .f32) (g : Vec Ideal S1x2048 .f32) (v : Vec Ideal S2048x2048 .bf16) (w : Vec Ideal S128x128 .bf16) (a : Fin 1) (k : Fin 128) (r : Fin 256) :
    k0_pay6 x g v w (ix3 a k r) = ∑ d : Fin 128, w (ix2 k d) * k0_pay5 x g v (ix2 r ⟨0 + d.val, by omega⟩) := by
  unfold k0_pay6
  pointwise []

/-- The first keys against head 1. -/
theorem first1_apply (q : FVec Ideal S256x2048 .f32) (w : Vec Ideal S128x128 .bf16) (a : Fin 1) (k : Fin 128) (r : Fin 256) :
    k0_pay9 q w (ix3 a k r) = ∑ d : Fin 128, w (ix2 k d) * q (ix2 r ⟨256 + d.val, by omega⟩) := by
  unfold k0_pay9
  pointwise []

/-- The first keys against head 2. -/
theorem first2_apply (q : FVec Ideal S256x2048 .f32) (w : Vec Ideal S128x128 .bf16) (a : Fin 1) (k : Fin 128) (r : Fin 256) :
    k0_pay11 q w (ix3 a k r) = ∑ d : Fin 128, w (ix2 k d) * q (ix2 r ⟨512 + d.val, by omega⟩) := by
  unfold k0_pay11
  pointwise []

/-- The first keys against head 3. -/
theorem first3_apply (q : FVec Ideal S256x2048 .f32) (w : Vec Ideal S128x128 .bf16) (a : Fin 1) (k : Fin 128) (r : Fin 256) :
    k0_pay14 q w (ix3 a k r) = ∑ d : Fin 128, w (ix2 k d) * q (ix2 r ⟨768 + d.val, by omega⟩) := by
  unfold k0_pay14
  pointwise []

/-- The first keys against head 4. -/
theorem first4_apply (q : FVec Ideal S256x2048 .f32) (w : Vec Ideal S128x128 .bf16) (a : Fin 1) (k : Fin 128) (r : Fin 256) :
    k0_pay16 q w (ix3 a k r) = ∑ d : Fin 128, w (ix2 k d) * q (ix2 r ⟨1024 + d.val, by omega⟩) := by
  unfold k0_pay16
  pointwise []

/-- The first keys against head 5. -/
theorem first5_apply (q : FVec Ideal S256x2048 .f32) (w : Vec Ideal S128x128 .bf16) (a : Fin 1) (k : Fin 128) (r : Fin 256) :
    k0_pay19 q w (ix3 a k r) = ∑ d : Fin 128, w (ix2 k d) * q (ix2 r ⟨1280 + d.val, by omega⟩) := by
  unfold k0_pay19
  pointwise []

/-- The first keys against head 6. -/
theorem first6_apply (q : FVec Ideal S256x2048 .f32) (w : Vec Ideal S128x128 .bf16) (a : Fin 1) (k : Fin 128) (r : Fin 256) :
    k0_pay21 q w (ix3 a k r) = ∑ d : Fin 128, w (ix2 k d) * q (ix2 r ⟨1536 + d.val, by omega⟩) := by
  unfold k0_pay21
  pointwise []

/-- The first keys against head 7. -/
theorem first7_apply (q : FVec Ideal S256x2048 .f32) (w : Vec Ideal S128x128 .bf16) (a : Fin 1) (k : Fin 128) (r : Fin 256) :
    k0_pay2 q w (ix3 a k r) = ∑ d : Fin 128, w (ix2 k d) * q (ix2 r ⟨1792 + d.val, by omega⟩) := by
  unfold k0_pay2
  pointwise []

/-- The second keys against head 0. -/
theorem second0_apply (x : Vec Ideal S256x2048 .f32) (g : Vec Ideal S1x2048 .f32) (v : Vec Ideal S2048x2048 .bf16) (w : Vec Ideal S128x128 .bf16) (a : Fin 1) (k : Fin 128) (r : Fin 256) :
    k0_pay8 (k0_pay7 x g v w) (ix3 a k r) = ∑ d : Fin 128, w (ix2 k d) * k0_pay5 x g v (ix2 r ⟨128 + d.val, by omega⟩) := by
  unfold k0_pay8 k0_pay7
  pointwise []

/-- The second keys against head 1. -/
theorem second1_apply (q : FVec Ideal S256x2048 .f32) (w : Vec Ideal S128x128 .bf16) (a : Fin 1) (k : Fin 128) (r : Fin 256) :
    k0_pay10 q w (ix3 a k r) = ∑ d : Fin 128, w (ix2 k d) * q (ix2 r ⟨384 + d.val, by omega⟩) := by
  unfold k0_pay10
  pointwise []

/-- The second keys against head 2. -/
theorem second2_apply (q : FVec Ideal S256x2048 .f32) (w : Vec Ideal S128x128 .bf16) (a : Fin 1) (k : Fin 128) (r : Fin 256) :
    k0_pay13 (k0_pay12 q w) (ix3 a k r) = ∑ d : Fin 128, w (ix2 k d) * q (ix2 r ⟨640 + d.val, by omega⟩) := by
  unfold k0_pay13 k0_pay12
  pointwise []

/-- The second keys against head 3. -/
theorem second3_apply (q : FVec Ideal S256x2048 .f32) (w : Vec Ideal S128x128 .bf16) (a : Fin 1) (k : Fin 128) (r : Fin 256) :
    k0_pay15 q w (ix3 a k r) = ∑ d : Fin 128, w (ix2 k d) * q (ix2 r ⟨896 + d.val, by omega⟩) := by
  unfold k0_pay15
  pointwise []

/-- The second keys against head 4. -/
theorem second4_apply (q : FVec Ideal S256x2048 .f32) (w : Vec Ideal S128x128 .bf16) (a : Fin 1) (k : Fin 128) (r : Fin 256) :
    k0_pay18 (k0_pay17 q w) (ix3 a k r) = ∑ d : Fin 128, w (ix2 k d) * q (ix2 r ⟨1152 + d.val, by omega⟩) := by
  unfold k0_pay18 k0_pay17
  pointwise []

/-- The second keys against head 5. -/
theorem second5_apply (q : FVec Ideal S256x2048 .f32) (w : Vec Ideal S128x128 .bf16) (a : Fin 1) (k : Fin 128) (r : Fin 256) :
    k0_pay20 q w (ix3 a k r) = ∑ d : Fin 128, w (ix2 k d) * q (ix2 r ⟨1408 + d.val, by omega⟩) := by
  unfold k0_pay20
  pointwise []

/-- The second keys against head 6. -/
theorem second6_apply (q : FVec Ideal S256x2048 .f32) (w : Vec Ideal S128x128 .bf16) (a : Fin 1) (k : Fin 128) (r : Fin 256) :
    k0_pay1 (k0_pay22 q w) (ix3 a k r) = ∑ d : Fin 128, w (ix2 k d) * q (ix2 r ⟨1664 + d.val, by omega⟩) := by
  unfold k0_pay1 k0_pay22
  pointwise []

/-- The second keys against head 7. -/
theorem second7_apply (q : FVec Ideal S256x2048 .f32) (w : Vec Ideal S128x128 .bf16) (a : Fin 1) (k : Fin 128) (r : Fin 256) :
    k0_pay3 q w (ix3 a k r) = ∑ d : Fin 128, w (ix2 k d) * q (ix2 r ⟨1920 + d.val, by omega⟩) := by
  unfold k0_pay3
  pointwise []

/-- The first scores a point leaves. -/
theorem out0_6_eq (x0 : Vec Ideal S256x2048 .f32) (x1 : Vec Ideal S1x2048 .f32) (x2 : Vec Ideal S2048x2048 .bf16)
    (x3 x4 : Vec Ideal S128x128 .bf16) : out0_6 x0 x1 x2 x3 x4 = part 0 (k0_pay5 x0 x1 x2) x3 := by
  funext y
  unfold out0_6 k0_pay23
  simp only [View.ld_unit_zero (S := S256x2048) off0, View.ld_unit_zero (S := S1x2048) off0,
    View.ld_unit_zero (S := S2048x2048) off0, View.ld_unit_zero (S := S128x128) off0]
  refine View.canon_apply_of_pieces (Val := Elt Ideal) (e := .f32) (part 0 (k0_pay5 x0 x1 x2) x3) _ ?_ y (cover0_6 _ _ _ _ _ _ _ _ y)
  intro pc hpc
  rcases List.mem_cons.mp hpc with rfl | hpc
  · intro x
    refine (congrArg _ (eq_ix3 (n0 := 1) (n1 := 128) (n2 := 256) x)).trans (part_head 0 _ _ 7 (fun a k r => k0_pay2 (k0_pay5 x0 x1 x2) x3 (ix3 a k r)) _ x
      (first7_apply (k0_pay5 x0 x1 x2) x3) ?_ ?_ ?_)
    · show 7 + 1 * (x 0).val = 7; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 0 _ _ 6 (fun a k r => k0_pay21 (k0_pay5 x0 x1 x2) x3 (ix3 a k r)) _ x
      (first6_apply (k0_pay5 x0 x1 x2) x3) ?_ ?_ ?_)
    · show 6 + 1 * (x 0).val = 6; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 0 _ _ 5 (fun a k r => k0_pay19 (k0_pay5 x0 x1 x2) x3 (ix3 a k r)) _ x
      (first5_apply (k0_pay5 x0 x1 x2) x3) ?_ ?_ ?_)
    · show 5 + 1 * (x 0).val = 5; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 0 _ _ 4 (fun a k r => k0_pay16 (k0_pay5 x0 x1 x2) x3 (ix3 a k r)) _ x
      (first4_apply (k0_pay5 x0 x1 x2) x3) ?_ ?_ ?_)
    · show 4 + 1 * (x 0).val = 4; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 0 _ _ 3 (fun a k r => k0_pay14 (k0_pay5 x0 x1 x2) x3 (ix3 a k r)) _ x
      (first3_apply (k0_pay5 x0 x1 x2) x3) ?_ ?_ ?_)
    · show 3 + 1 * (x 0).val = 3; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 0 _ _ 2 (fun a k r => k0_pay11 (k0_pay5 x0 x1 x2) x3 (ix3 a k r)) _ x
      (first2_apply (k0_pay5 x0 x1 x2) x3) ?_ ?_ ?_)
    · show 2 + 1 * (x 0).val = 2; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 0 _ _ 1 (fun a k r => k0_pay9 (k0_pay5 x0 x1 x2) x3 (ix3 a k r)) _ x
      (first1_apply (k0_pay5 x0 x1 x2) x3) ?_ ?_ ?_)
    · show 1 + 1 * (x 0).val = 1; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 0 _ _ 0 (fun a k r => k0_pay6 x0 x1 x2 x3 (ix3 a k r)) _ x
      (first0_apply x0 x1 x2 x3) ?_ ?_ ?_)
    · show 0 + 1 * (x 0).val = 0; have h0 : (x 0).val < 1 := (x 0).isLt; omega
    · show 0 + 1 * (x 1).val = (x 1).val; omega
    · show 0 + 1 * (x 2).val = (x 2).val; omega
  nomatch hpc

/-- The second scores a point leaves. -/
theorem out0_7_eq (x0 : Vec Ideal S256x2048 .f32) (x1 : Vec Ideal S1x2048 .f32) (x2 : Vec Ideal S2048x2048 .bf16)
    (x3 x4 : Vec Ideal S128x128 .bf16) : out0_7 x0 x1 x2 x3 x4 = part 128 (k0_pay5 x0 x1 x2) x4 := by
  funext y
  unfold out0_7 k0_pay23
  simp only [View.ld_unit_zero (S := S256x2048) off0, View.ld_unit_zero (S := S1x2048) off0,
    View.ld_unit_zero (S := S2048x2048) off0, View.ld_unit_zero (S := S128x128) off0]
  refine View.canon_apply_of_pieces (Val := Elt Ideal) (e := .f32) (part 128 (k0_pay5 x0 x1 x2) x4) _ ?_ y (cover0_7 _ _ _ _ _ _ _ _ y)
  intro pc hpc
  rcases List.mem_cons.mp hpc with rfl | hpc
  · intro x
    refine (congrArg _ (eq_ix3 (n0 := 1) (n1 := 128) (n2 := 256) x)).trans (part_head 128 _ _ 7 (fun a k r => k0_pay3 (k0_pay5 x0 x1 x2) x4 (ix3 a k r)) _ x
      (second7_apply (k0_pay5 x0 x1 x2) x4) ?_ ?_ ?_)
    · show 7 + 1 * (x 0).val = 7; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 128 _ _ 6 (fun a k r => k0_pay1 (k0_pay22 (k0_pay5 x0 x1 x2) x4) (ix3 a k r)) _ x
      (second6_apply (k0_pay5 x0 x1 x2) x4) ?_ ?_ ?_)
    · show 6 + 1 * (x 0).val = 6; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 128 _ _ 5 (fun a k r => k0_pay20 (k0_pay5 x0 x1 x2) x4 (ix3 a k r)) _ x
      (second5_apply (k0_pay5 x0 x1 x2) x4) ?_ ?_ ?_)
    · show 5 + 1 * (x 0).val = 5; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 128 _ _ 4 (fun a k r => k0_pay18 (k0_pay17 (k0_pay5 x0 x1 x2) x4) (ix3 a k r)) _ x
      (second4_apply (k0_pay5 x0 x1 x2) x4) ?_ ?_ ?_)
    · show 4 + 1 * (x 0).val = 4; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 128 _ _ 3 (fun a k r => k0_pay15 (k0_pay5 x0 x1 x2) x4 (ix3 a k r)) _ x
      (second3_apply (k0_pay5 x0 x1 x2) x4) ?_ ?_ ?_)
    · show 3 + 1 * (x 0).val = 3; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 128 _ _ 2 (fun a k r => k0_pay13 (k0_pay12 (k0_pay5 x0 x1 x2) x4) (ix3 a k r)) _ x
      (second2_apply (k0_pay5 x0 x1 x2) x4) ?_ ?_ ?_)
    · show 2 + 1 * (x 0).val = 2; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 128 _ _ 1 (fun a k r => k0_pay10 (k0_pay5 x0 x1 x2) x4 (ix3 a k r)) _ x
      (second1_apply (k0_pay5 x0 x1 x2) x4) ?_ ?_ ?_)
    · show 1 + 1 * (x 0).val = 1; have h0 : (x 0).val < 1 := (x 0).isLt; omega
    · show 0 + 1 * (x 1).val = (x 1).val; omega
    · show 0 + 1 * (x 2).val = (x 2).val; omega
  rcases List.mem_cons.mp hpc with rfl | hpc
  · intro x
    refine (congrArg _ (eq_ix3 (n0 := 1) (n1 := 128) (n2 := 256) x)).trans (part_head 128 _ _ 0 (fun a k r => k0_pay8 (k0_pay7 x0 x1 x2 x4) (ix3 a k r)) _ x
      (second0_apply x0 x1 x2 x4) ?_ ?_ ?_)
    · show 0 + 1 * (x 0).val = 0; have h0 : (x 0).val < 1 := (x 0).isLt; omega
    · show 0 + 1 * (x 1).val = (x 1).val; omega
    · show 0 + 1 * (x 2).val = (x 2).val; omega
  nomatch hpc

/-- The rows a point leaves. -/
theorem out0_5_eq (x0 : Vec Ideal S256x2048 .f32) (x1 : Vec Ideal S1x2048 .f32) (x2 : Vec Ideal S2048x2048 .bf16)
    (x3 x4 : Vec Ideal S128x128 .bf16) : out0_5 x0 x1 x2 x3 x4 = k0_pay4 x0 x1 := by
  unfold out0_5
  rw [View.canon_cons_unit_zero (S := S256x2048) off0]
  simp only [View.ld_unit_zero (S := S256x2048) off0, View.ld_unit_zero (S := S1x2048) off0]

end Cert.PeerqIdeal.Array

end
-- ==== Proof.PeerqArray.lean ====
/- The three result arrays of the key scores: each point's blocks, laid out over the grid. -/
module

public import proofs.«01_k».proof.Proof.PeerqPoint

@[expose] public section

set_option maxRecDepth 16384

noncomputable section

namespace Cert.PeerqIdeal.Array

open Cert.PeerqIdeal Cert.PeerqIdeal.Gen Cert.PeerqIdeal.Value Cert.NormSpec
  Idealize.ShloMosaic Idealize.ShloMosaic.TcCoe Idealize.SL.Sem Idealize.ShloMosaic.StableHlo
open Idealize.ShloMosaic.Pipeline (Dat)
open scoped BigOperators

variable (m : (ℓ : Loc nD τ sig) → Buf (Elt Ideal) ℓ)

/-- The arguments of a device, as arrays of extended reals. -/
abbrev a0 (c : Dev nD) : (⟨2, ![32768, 2048]⟩ : Shape).Idx → EReal := m ((c : Thread nD τ).loc main_arg0)
abbrev a1 (c : Dev nD) : (⟨2, ![1, 2048]⟩ : Shape).Idx → EReal := m ((c : Thread nD τ).loc main_arg1)
abbrev a2 (c : Dev nD) : (⟨3, ![1, 2048, 2048]⟩ : Shape).Idx → EReal := m ((c : Thread nD τ).loc main_arg2)
abbrev a3 (c : Dev nD) : (⟨3, ![1, 128, 128]⟩ : Shape).Idx → EReal := m ((c : Thread nD τ).loc main_arg3)
abbrev a4 (c : Dev nD) : (⟨3, ![1, 128, 128]⟩ : Shape).Idx → EReal := m ((c : Thread nD τ).loc main_arg4)

/-- The gains, the weights and the keys, as the operations before the call leave them. -/
abbrev b1 (c : Dev nD) : (⟨2, ![1, 2048]⟩ : Shape).Idx → EReal := V m c main_v1
abbrev b2 (c : Dev nD) : (⟨2, ![2048, 2048]⟩ : Shape).Idx → EReal := V m c main_v3
abbrev b3 (c : Dev nD) : (⟨2, ![128, 128]⟩ : Shape).Idx → EReal := V m c main_v5
abbrev b4 (c : Dev nD) : (⟨2, ![128, 128]⟩ : Shape).Idx → EReal := V m c main_v7

theorem b1_apply (c : Dev nD) (k : Fin 2048) : b1 m c (ix2 0 k) = a1 m c (ix2 0 k) := by
  unfold b1
  simp only [V]
  after_results
  pointwise []

theorem b2_apply (c : Dev nD) (k l : Fin 2048) : b2 m c (ix2 k l) = a2 m c (ix3 0 k l) := by
  unfold b2
  simp only [V]
  after_results
  pointwise []

theorem b3_apply (c : Dev nD) (k l : Fin 128) : b3 m c (ix2 k l) = a3 m c (ix3 0 k l) := by
  unfold b3
  simp only [V]
  after_results
  pointwise []

theorem b4_apply (c : Dev nD) (k l : Fin 128) : b4 m c (ix2 k l) = a4 m c (ix3 0 k l) := by
  unfold b4
  simp only [V]
  after_results
  pointwise []

theorem point_lt (t : Fin cfg0.N) : t.val < 128 := lt_of_lt_of_eq t.isLt N_0
/-- A row of a point's block. -/
def row (t : Fin cfg0.N) (r : Fin 256) : Fin 32768 := ⟨t.val * 256 + r.val, by have h := point_lt t; omega⟩

/-- The block each window reads or writes at a point, decided over the grid. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 ∧ win0_6.index t 2 = t.val :=
  (by decide +kernel : ∀ t : Fin grid0.N, win0_6.index t 0 = 0 ∧ win0_6.index t 1 = 0 ∧ win0_6.index t 2 = t.val)
theorem idx7 : ∀ t : Fin cfg0.N, win0_7.index t 0 = 0 ∧ win0_7.index t 1 = 0 ∧ win0_7.index t 2 = t.val :=
  (by decide +kernel : ∀ t : Fin grid0.N, win0_7.index t 0 = 0 ∧ win0_7.index t 1 = 0 ∧ win0_7.index t 2 = t.val)

theorem blk0 (c : Dev nD) (t : Fin cfg0.N) (r : Fin 256) (k : Fin 2048) :
    (iblk m c 0 t : Vec Ideal S256x2048 .f32) (ix2 r k) = a0 m c (ix2 (row t r) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = t.val * 256 + r.val; rw [(idx0 t).1]; omega
  | ⟨1, _⟩ => show win0_0.index t 1 * 2048 + 1 * k.val = k.val; rw [(idx0 t).2]; omega

theorem blk1 (c : Dev nD) (t : Fin cfg0.N) (r : Fin 1) (k : Fin 2048) :
    (iblk m c 1 t : Vec Ideal S1x2048 .f32) (ix2 r k) = b1 m c (ix2 r k) := by
  unfold iblk
  rw [View.read_apply]
  show V m c main_v1 _ = _
  refine congrArg (V m c main_v1) (funext fun a => Fin.ext ?_)
  match a with
  | ⟨0, _⟩ => show win0_1.index t 0 * 1 + 1 * r.val = r.val; rw [(idx1 t).1]; omega
  | ⟨1, _⟩ => show win0_1.index t 1 * 2048 + 1 * k.val = k.val; rw [(idx1 t).2]; omega

theorem blk2 (c : Dev nD) (t : Fin cfg0.N) (r k : Fin 2048) :
    (iblk m c 2 t : Vec Ideal S2048x2048 .bf16) (ix2 r k) = b2 m c (ix2 r k) := by
  unfold iblk
  rw [View.read_apply]
  show V m c main_v3 _ = _
  refine congrArg (V m c main_v3) (funext fun a => Fin.ext ?_)
  match a with
  | ⟨0, _⟩ => show win0_2.index t 0 * 2048 + 1 * r.val = r.val; rw [(idx2 t).1]; omega
  | ⟨1, _⟩ => show win0_2.index t 1 * 2048 + 1 * k.val = k.val; rw [(idx2 t).2]; omega

theorem blk3 (c : Dev nD) (t : Fin cfg0.N) (r k : Fin 128) :
    (iblk m c 3 t : Vec Ideal S128x128 .bf16) (ix2 r k) = b3 m c (ix2 r k) := by
  unfold iblk
  rw [View.read_apply]
  show V m c main_v5 _ = _
  refine congrArg (V m c main_v5) (funext fun a => Fin.ext ?_)
  match a with
  | ⟨0, _⟩ => show win0_3.index t 0 * 128 + 1 * r.val = r.val; rw [(idx3 t).1]; omega
  | ⟨1, _⟩ => show win0_3.index t 1 * 128 + 1 * k.val = k.val; rw [(idx3 t).2]; omega

theorem blk4 (c : Dev nD) (t : Fin cfg0.N) (r k : Fin 128) :
    (iblk m c 4 t : Vec Ideal S128x128 .bf16) (ix2 r k) = b4 m c (ix2 r k) := by
  unfold iblk
  rw [View.read_apply]
  show V m c main_v7 _ = _
  refine congrArg (V m c main_v7) (funext fun a => Fin.ext ?_)
  match a with
  | ⟨0, _⟩ => show win0_4.index t 0 * 128 + 1 * r.val = r.val; rw [(idx4 t).1]; omega
  | ⟨1, _⟩ => show win0_4.index t 1 * 128 + 1 * k.val = k.val; rw [(idx4 t).2]; omega

/-- The normalised rows of a point's block. -/
theorem nrm_blk (c : Dev nD) (t : Fin cfg0.N) (r : Fin 256) (k : Fin 2048) :
    nrm (fun k => (iblk m c 0 t : Vec Ideal S256x2048 .f32) (ix2 r k)) (fun k => (iblk m c 1 t : Vec Ideal S1x2048 .f32) (ix2 0 k)) k
      = nrm (fun k => a0 m c (ix2 (row t r) k)) (fun k => a1 m c (ix2 0 k)) k :=
  congrArg₂ (fun u v => nrm u v k) (funext fun k => blk0 m c t r k) (funext fun k => (blk1 m c t 0 k).trans (b1_apply m c k))

/-- The queries of a point's block. -/
theorem query_blk (c : Dev nD) (t : Fin cfg0.N) (r : Fin 256) (j : Fin 2048) :
    k0_pay5 (iblk m c 0 t : Vec Ideal S256x2048 .f32) (iblk m c 1 t) (iblk m c 2 t) (ix2 r j) = query (a0 m c) (a1 m c) (a2 m c) (row t r) j := by
  rw [query_apply]
  exact Finset.sum_congr rfl fun k _ => congrArg₂ (· * ·) (nrm_blk m c t r k) ((blk2 m c t k j).trans (b2_apply m c k j))

/-- The normalised rows, and the two arrays of scores, over a device's arguments. -/
abbrev G5 (c : Dev nD) : Buf (Elt Ideal) ((c : Thread nD τ).loc main_v8_0) := rows (a0 m c) (a1 m c)
abbrev G6 (c : Dev nD) : Buf (Elt Ideal) ((c : Thread nD τ).loc main_v8_1) := scores 0 (query (a0 m c) (a1 m c) (a2 m c)) (a3 m c)
abbrev G7 (c : Dev nD) : Buf (Elt Ideal) ((c : Thread nD τ).loc main_v8_2) := scores 128 (query (a0 m c) (a1 m c) (a2 m c)) (a4 m c)

/-- What a point leaves of the rows. -/
theorem left5_apply (c : Dev nD) (t : Fin cfg0.N) (r : Fin 256) (l : Fin 2048) :
    out0_5 (iblk m c 0 t) (iblk m c 1 t) (iblk m c 2 t) (iblk m c 3 t) (iblk m c 4 t) (ix2 r l)
      = rows (a0 m c) (a1 m c) (ix2 (row t r) l) := by
  rw [out0_5_eq, rows_apply]
  exact nrm_blk m c t r l

/-- What a point leaves of the first scores. -/
theorem left6_apply (c : Dev nD) (t : Fin cfg0.N) (h : Fin 8) (k : Fin 128) (r : Fin 256) :
    out0_6 (iblk m c 0 t) (iblk m c 1 t) (iblk m c 2 t) (iblk m c 3 t) (iblk m c 4 t) (ix3 h k r)
      = scores 0 (query (a0 m c) (a1 m c) (a2 m c)) (a3 m c) (ix3 h k (row t r)) := by
  rw [out0_6_eq]
  unfold part scores
  exact Finset.sum_congr rfl fun d _ => congrArg₂ (· * ·) ((blk3 m c t k d).trans (b3_apply m c k d)) (query_blk m c t r _)

/-- What a point leaves of the second scores. -/
theorem left7_apply (c : Dev nD) (t : Fin cfg0.N) (h : Fin 8) (k : Fin 128) (r : Fin 256) :
    out0_7 (iblk m c 0 t) (iblk m c 1 t) (iblk m c 2 t) (iblk m c 3 t) (iblk m c 4 t) (ix3 h k r)
      = scores 128 (query (a0 m c) (a1 m c) (a2 m c)) (a4 m c) (ix3 h k (row t r)) := by
  rw [out0_7_eq]
  unfold part scores
  exact Finset.sum_congr rfl fun d _ => congrArg₂ (· * ·) ((blk4 m c t k d).trans (b4_apply m c k d)) (query_blk m c t r _)

theorem flushed5_eq (c : Dev nD) (t : Fin cfg0.N) (hf : (cfg0.win 5).flush t = true) :
    (dats m 0 c).flushed 5 t = ((cfg0.win 5).blk t).view.read (Elt Ideal) (G5 m c) := by
  rw [flushed5]
  funext j
  rw [View.read_apply]
  show out0_5 (iblk m c 0 t) (iblk m c 1 t) (iblk m c 2 t) (iblk m c 3 t) (iblk m c 4 t) j = rows _ _ (((cfg0.win 5).blk t).view.emb j)
  have h0 : (j 0).val < 256 := (j 0).isLt
  have h1 : (j 1).val < 2048 := (j 1).isLt
  have e := left5_apply m c t ⟨(j 0).val, h0⟩ ⟨(j 1).val, h1⟩
  refine Eq.trans (congrArg _ ?_) (e.trans (congrArg _ (funext fun a => Fin.ext ?_)))
  · funext a
    match a with
    | ⟨0, _⟩ => rfl
    | ⟨1, _⟩ => rfl
  · match a with
    | ⟨0, _⟩ => show t.val * 256 + (j 0).val = win0_5.index t 0 * 256 + 1 * (j 0).val; rw [(idx5 t).1]; omega
    | ⟨1, _⟩ => show (j 1).val = win0_5.index t 1 * 2048 + 1 * (j 1).val; rw [(idx5 t).2]; omega

/-- The first result is the normalised rows. -/
theorem final5 (c : Dev nD) : (dats m 0 c).arrAt 5 cfg0.N = G5 m c :=
  (dats m 0 c).arrAt_eq_of_cover 5 (G5 m c) (flushed5_eq m c) fun i => by
    have h0 : (i 0 : Nat) < 32768 := (i 0).isLt
    have h1 : (i 1 : Nat) < 2048 := (i 1).isLt
    let t : Fin cfg0.N := ⟨(i 0 : Nat) / 256, by rw [show cfg0.N = 128 from N_0]; omega⟩
    refine ⟨t, flush0_5 t, ?_⟩
    show i ∈ ((View.whole main_v8_0).slice (win0_5.rect t)).set
    rw [View.set_slice_whole, Rect.mem_set_unit]
    have e0 : win0_5.index t 0 = (i 0 : Nat) / 256 := (idx5 t).1
    have e1 : win0_5.index t 1 = 0 := (idx5 t).2
    intro a
    match a with
    | ⟨0, _⟩ =>
      show win0_5.index t 0 * 256 ≤ (i 0 : Nat) ∧ (i 0 : Nat) < win0_5.index t 0 * 256 + 256
      rw [e0]; omega
    | ⟨1, _⟩ =>
      show win0_5.index t 1 * 2048 ≤ (i 1 : Nat) ∧ (i 1 : Nat) < win0_5.index t 1 * 2048 + 2048
      rw [e1]; omega

theorem flushed6_eq (c : Dev nD) (t : Fin cfg0.N) (hf : (cfg0.win 6).flush t = true) :
    (dats m 0 c).flushed 6 t = ((cfg0.win 6).blk t).view.read (Elt Ideal) (G6 m c) := by
  rw [flushed6]
  funext j
  rw [View.read_apply]
  show out0_6 (iblk m c 0 t) (iblk m c 1 t) (iblk m c 2 t) (iblk m c 3 t) (iblk m c 4 t) j = scores _ _ _ (((cfg0.win 6).blk t).view.emb j)
  have h0 : (j 0).val < 8 := (j 0).isLt
  have h1 : (j 1).val < 128 := (j 1).isLt
  have h2 : (j 2).val < 256 := (j 2).isLt
  have e := left6_apply m c t ⟨(j 0).val, h0⟩ ⟨(j 1).val, h1⟩ ⟨(j 2).val, h2⟩
  refine Eq.trans (congrArg _ ?_) (e.trans (congrArg _ (funext fun a => Fin.ext ?_)))
  · funext a
    match a with
    | ⟨0, _⟩ => rfl
    | ⟨1, _⟩ => rfl
    | ⟨2, _⟩ => rfl
  · match a with
    | ⟨0, _⟩ => show (j 0).val = win0_6.index t 0 * 8 + 1 * (j 0).val; rw [(idx6 t).1]; omega
    | ⟨1, _⟩ => show (j 1).val = win0_6.index t 1 * 128 + 1 * (j 1).val; rw [(idx6 t).2.1]; omega
    | ⟨2, _⟩ => show t.val * 256 + (j 2).val = win0_6.index t 2 * 256 + 1 * (j 2).val; rw [(idx6 t).2.2]; omega

/-- The second result is the scores of the first keys. -/
theorem final6 (c : Dev nD) : (dats m 0 c).arrAt 6 cfg0.N = G6 m c :=
  (dats m 0 c).arrAt_eq_of_cover 6 (G6 m c) (flushed6_eq m c) fun i => by
    have h0 : (i 0 : Nat) < 8 := (i 0).isLt
    have h1 : (i 1 : Nat) < 128 := (i 1).isLt
    have h2 : (i 2 : Nat) < 32768 := (i 2).isLt
    let t : Fin cfg0.N := ⟨(i 2 : Nat) / 256, by rw [show cfg0.N = 128 from N_0]; omega⟩
    refine ⟨t, flush0_6 t, ?_⟩
    show i ∈ ((View.whole main_v8_1).slice (win0_6.rect t)).set
    rw [View.set_slice_whole, Rect.mem_set_unit]
    have e0 : win0_6.index t 0 = 0 := (idx6 t).1
    have e1 : win0_6.index t 1 = 0 := (idx6 t).2.1
    have e2 : win0_6.index t 2 = (i 2 : Nat) / 256 := (idx6 t).2.2
    intro a
    match a with
    | ⟨0, _⟩ =>
      show win0_6.index t 0 * 8 ≤ (i 0 : Nat) ∧ (i 0 : Nat) < win0_6.index t 0 * 8 + 8
      rw [e0]; omega
    | ⟨1, _⟩ =>
      show win0_6.index t 1 * 128 ≤ (i 1 : Nat) ∧ (i 1 : Nat) < win0_6.index t 1 * 128 + 128
      rw [e1]; omega
    | ⟨2, _⟩ =>
      show win0_6.index t 2 * 256 ≤ (i 2 : Nat) ∧ (i 2 : Nat) < win0_6.index t 2 * 256 + 256
      rw [e2]; omega

theorem flushed7_eq (c : Dev nD) (t : Fin cfg0.N) (hf : (cfg0.win 7).flush t = true) :
    (dats m 0 c).flushed 7 t = ((cfg0.win 7).blk t).view.read (Elt Ideal) (G7 m c) := by
  rw [flushed7]
  funext j
  rw [View.read_apply]
  show out0_7 (iblk m c 0 t) (iblk m c 1 t) (iblk m c 2 t) (iblk m c 3 t) (iblk m c 4 t) j = scores _ _ _ (((cfg0.win 7).blk t).view.emb j)
  have h0 : (j 0).val < 8 := (j 0).isLt
  have h1 : (j 1).val < 128 := (j 1).isLt
  have h2 : (j 2).val < 256 := (j 2).isLt
  have e := left7_apply m c t ⟨(j 0).val, h0⟩ ⟨(j 1).val, h1⟩ ⟨(j 2).val, h2⟩
  refine Eq.trans (congrArg _ ?_) (e.trans (congrArg _ (funext fun a => Fin.ext ?_)))
  · funext a
    match a with
    | ⟨0, _⟩ => rfl
    | ⟨1, _⟩ => rfl
    | ⟨2, _⟩ => rfl
  · match a with
    | ⟨0, _⟩ => show (j 0).val = win0_7.index t 0 * 8 + 1 * (j 0).val; rw [(idx7 t).1]; omega
    | ⟨1, _⟩ => show (j 1).val = win0_7.index t 1 * 128 + 1 * (j 1).val; rw [(idx7 t).2.1]; omega
    | ⟨2, _⟩ => show t.val * 256 + (j 2).val = win0_7.index t 2 * 256 + 1 * (j 2).val; rw [(idx7 t).2.2]; omega

/-- The third result is the scores of the second keys. -/
theorem final7 (c : Dev nD) : (dats m 0 c).arrAt 7 cfg0.N = G7 m c :=
  (dats m 0 c).arrAt_eq_of_cover 7 (G7 m c) (flushed7_eq m c) fun i => by
    have h0 : (i 0 : Nat) < 8 := (i 0).isLt
    have h1 : (i 1 : Nat) < 128 := (i 1).isLt
    have h2 : (i 2 : Nat) < 32768 := (i 2).isLt
    let t : Fin cfg0.N := ⟨(i 2 : Nat) / 256, by rw [show cfg0.N = 128 from N_0]; omega⟩
    refine ⟨t, flush0_7 t, ?_⟩
    show i ∈ ((View.whole main_v8_2).slice (win0_7.rect t)).set
    rw [View.set_slice_whole, Rect.mem_set_unit]
    have e0 : win0_7.index t 0 = 0 := (idx7 t).1
    have e1 : win0_7.index t 1 = 0 := (idx7 t).2.1
    have e2 : win0_7.index t 2 = (i 2 : Nat) / 256 := (idx7 t).2.2
    intro a
    match a with
    | ⟨0, _⟩ =>
      show win0_7.index t 0 * 8 ≤ (i 0 : Nat) ∧ (i 0 : Nat) < win0_7.index t 0 * 8 + 8
      rw [e0]; omega
    | ⟨1, _⟩ =>
      show win0_7.index t 1 * 128 ≤ (i 1 : Nat) ∧ (i 1 : Nat) < win0_7.index t 1 * 128 + 128
      rw [e1]; omega
    | ⟨2, _⟩ =>
      show win0_7.index t 2 * 256 ≤ (i 2 : Nat) ∧ (i 2 : Nat) < win0_7.index t 2 * 256 + 256
      rw [e2]; omega

end Cert.PeerqIdeal.Array

end
-- ==== Proof.PeerqRead.lean ====
/- The reference for the key scores, index by index: the normalised rows and both arrays of scores. -/
module

public import proofs.«01_k».proof.Proof.NormSpec
public import proofs.«01_k».proof.Proof.Scalars
public import proofs.«01_k».proof.Proof.Gen.PeerqReferenceIdeal.Run
public import Idealize.ShloMosaic.Lib.Pointwise
public import Idealize.ShloMosaic.Lib.IdealHost

@[expose] public section

set_option maxRecDepth 16384

noncomputable section

namespace Cert.PeerqReferenceIdeal.Read

open Cert.PeerqReferenceIdeal Cert.PeerqReferenceIdeal.Gen Cert.PeerqReferenceIdeal.Value Cert.NormSpec
  Idealize.ShloMosaic Idealize.ShloMosaic.TcCoe Idealize.SL.Sem Idealize.ShloMosaic.StableHlo
open scoped BigOperators

variable (m : (ℓ : Loc nD τ sig) → Buf (Elt Ideal) ℓ) (ρ : Dev nD → PrngReg)

/-- The arguments of a device, as arrays of extended reals. -/
abbrev a0 (c : Dev nD) : (⟨2, ![32768, 2048]⟩ : Shape).Idx → EReal := m ((c.tc : Thread nD τ).loc main_arg0)
abbrev a1 (c : Dev nD) : (⟨2, ![1, 2048]⟩ : Shape).Idx → EReal := m ((c.tc : Thread nD τ).loc main_arg1)
abbrev a2 (c : Dev nD) : (⟨3, ![1, 2048, 2048]⟩ : Shape).Idx → EReal := m ((c.tc : Thread nD τ).loc main_arg2)
abbrev a3 (c : Dev nD) : (⟨3, ![1, 128, 128]⟩ : Shape).Idx → EReal := m ((c.tc : Thread nD τ).loc main_arg3)
abbrev a4 (c : Dev nD) : (⟨3, ![1, 128, 128]⟩ : Shape).Idx → EReal := m ((c.tc : Thread nD τ).loc main_arg4)

/-- The normalised rows as the reference computes them. -/
def normed (x : FVec Ideal S32768x2048 .f32) (g : FVec Ideal S1x2048 .f32) : FVec Ideal S32768x2048 .f32 :=
  mulf (mulf x (broadcastInDim S32768x2048 ![0, 1] bcast_S32768x1_S32768x2048_0_1
      (Host.rsqrt (addf (Host.divf (broadcastInDim S32768x1 ![0] bcast_S32768_S32768x1_0
            (Host.reduceAdd (mulf x x) (constant S_ .f32 0x00000000#32) reducesTo_S32768x2048_S32768_d1 h_S_))
          (broadcastInDim S32768x1 ![] bcast_S_S32768x1 (constant S_ .f32 0x45000000#32)))
        (broadcastInDim S32768x1 ![] bcast_S_S32768x1 (constant S_ .f32 0x358637BD#32))))))
    (broadcastInDim S32768x2048 ![0, 1] bcast_S1x2048_S32768x2048_0_1
      (broadcastInDim S1x2048 ![1] bcast_S2048_S1x2048_1 (shapeCast S2048 g shapeCasts_S1x2048_S2048)))

theorem normed_apply (x : FVec Ideal S32768x2048 .f32) (g : FVec Ideal S1x2048 .f32) (r : Fin 32768) (k : Fin 2048) :
    normed x g (ix2 r k) = nrm (fun k => x (ix2 r k)) (fun k => g (ix2 0 k)) k := by
  unfold normed nrm rinv
  pointwise [zero_add]

/-- The queries, a row per token. -/
def queries (x : FVec Ideal S32768x2048 .f32) (g : FVec Ideal S1x2048 .f32) (w : FVec Ideal S1x2048x2048 .f32) :
    FVec Ideal S32768x2048 .f32 :=
  Host.dotGeneral dot_S32768x2048_S2048x2048_S32768x2048_1_0_0_1_n_n none (normed x g)
    (shapeCast S2048x2048 w shapeCasts_S1x2048x2048_S2048x2048)

theorem queries_apply (x : FVec Ideal S32768x2048 .f32) (g : FVec Ideal S1x2048 .f32) (w : FVec Ideal S1x2048x2048 .f32)
    (r : Fin 32768) (j : Fin 2048) : queries x g w (ix2 r j) = query x g w r j := by
  unfold queries query
  pointwise [normed_apply]

/-- The first scores over the queries. -/
def first (q : FVec Ideal S32768x2048 .f32) (w : FVec Ideal S1x128x128 .f32) : FVec Ideal S8x128x32768 .f32 :=
  transpose S8x128x32768 [1, 2, 0] (Host.dotGeneral dot_S32768x8x128_S128x128_S32768x8x128_2_1_01_0_n_n none
    (extractStridedSlice S32768x8x128 ![0, 0, 0] (shapeCast S32768x8x256 q shapeCasts_S32768x2048_S32768x8x256) slices_S32768x8x256_S32768x8x128_0_0_0)
    (shapeCast S128x128 w shapeCasts_S1x128x128_S128x128)) transposes_S32768x8x128_S8x128x32768_1_2_0

theorem first_apply (q : FVec Ideal S32768x2048 .f32) (w : FVec Ideal S1x128x128 .f32) (h : Fin 8) (k : Fin 128) (r : Fin 32768) :
    first q w (ix3 h k r) = scores 0 (fun r j => q (ix2 r j)) w (ix3 h k r) := by
  unfold first scores
  pointwise []
  refine Finset.sum_congr rfl fun d _ => (mul_comm _ _).trans (congrArg₂ (· * ·) rfl ?_)
  exact congrArg q (congrArg (ix2 r) (Fin.ext rfl))

/-- The second scores over the queries. -/
def second (q : FVec Ideal S32768x2048 .f32) (w : FVec Ideal S1x128x128 .f32) : FVec Ideal S8x128x32768 .f32 :=
  transpose S8x128x32768 [1, 2, 0] (Host.dotGeneral dot_S32768x8x128_S128x128_S32768x8x128_2_1_01_0_n_n none
    (extractStridedSlice S32768x8x128 ![0, 0, 128] (shapeCast S32768x8x256 q shapeCasts_S32768x2048_S32768x8x256) slices_S32768x8x256_S32768x8x128_0_0_128)
    (shapeCast S128x128 w shapeCasts_S1x128x128_S128x128)) transposes_S32768x8x128_S8x128x32768_1_2_0

theorem second_apply (q : FVec Ideal S32768x2048 .f32) (w : FVec Ideal S1x128x128 .f32) (h : Fin 8) (k : Fin 128) (r : Fin 32768) :
    second q w (ix3 h k r) = scores 128 (fun r j => q (ix2 r j)) w (ix3 h k r) := by
  unfold second scores
  pointwise []
  refine Finset.sum_congr rfl fun d _ => (mul_comm _ _).trans (congrArg₂ (· * ·) rfl ?_)
  refine congrArg q (congrArg (ix2 r) (Fin.ext ?_))
  show h.val * 256 + (128 + d.val) = 128 + (h.val * 256 + d.val)
  omega

/-- The reference leaves the normalised rows and the two arrays of scores. -/
theorem value : θ_run defs (onTc (τ := τ) (main (F := Ideal))) ⟨m, fun _ => 0, ρ⟩ fun r => ∀ c : Dev nD,
      r.2.mem ((c.tc : Thread nD τ).loc main_v13) = rows (a0 m c) (a1 m c)
      ∧ r.2.mem ((c.tc : Thread nD τ).loc main_v23) = scores 0 (query (a0 m c) (a1 m c) (a2 m c)) (a3 m c)
      ∧ r.2.mem ((c.tc : Thread nD τ).loc main_v24) = scores 128 (query (a0 m c) (a1 m c) (a2 m c)) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (funext fun j => by
      obtain ⟨r, l, rfl⟩ : ∃ (r : Fin 32768) (l : Fin 2048), j = ix2 r l := ⟨j 0, j 1, eq_ix2 j⟩
      exact normed_apply (a0 m c) (a1 m c) r l),
    (h c).2.1.trans (funext fun j => by
      obtain ⟨h, k, r, rfl⟩ : ∃ (h : Fin 8) (k : Fin 128) (r : Fin 32768), j = ix3 h k r := ⟨j 0, j 1, j 2, eq_ix3 j⟩
      exact (first_apply (queries (a0 m c) (a1 m c) (a2 m c)) (a3 m c) h k r).trans
        (congrArg (fun q => scores 0 q (a3 m c) (ix3 h k r)) (funext fun r => funext fun j => queries_apply (a0 m c) (a1 m c) (a2 m c) r j))),
    (h c).2.2.1.trans (funext fun j => by
      obtain ⟨h, k, r, rfl⟩ : ∃ (h : Fin 8) (k : Fin 128) (r : Fin 32768), j = ix3 h k r := ⟨j 0, j 1, j 2, eq_ix3 j⟩
      exact (second_apply (queries (a0 m c) (a1 m c) (a2 m c)) (a4 m c) h k r).trans
        (congrArg (fun q => scores 128 q (a4 m c) (ix3 h k r)) (funext fun r => funext fun j => queries_apply (a0 m c) (a1 m c) (a2 m c) r j))),
    (h c).2.2.2⟩) (run m ρ)

end Cert.PeerqReferenceIdeal.Read

end
-- ==== Proof.PeerqEquation.lean ====
/- The key scores: kernel and reference leave the same three arrays. -/
module

public import proofs.«01_k».proof.Defs
public import proofs.«01_k».proof.Proof.PeerqArray
public import proofs.«01_k».proof.Proof.PeerqRead

@[expose] public section

noncomputable section

namespace Cert.PeerqEquation

open Idealize.ShloMosaic Idealize.SL.Sem Idealize.ShloMosaic.TcCoe Idealize.ShloMosaic.StableHlo

/-- The reference terminates and leaves its arguments as they were. -/
theorem reference_frame : Cert.quiescent_PeerqReferenceIdeal (hPeerqReferenceIdeal := Cert.PeerqReferenceIdeal.Gen.facts) := fun m ρ _ =>
  (θ_run Cert.PeerqReferenceIdeal.defs _ _).mono (fun r h => ⟨fun c => (h c).2.2.2, sem_eq_zero_of_no_sems (by decide) r.2⟩) (Cert.PeerqReferenceIdeal.Value.run m ρ)

/-- The normalised rows depend on their arguments only. -/
theorem rows_congr {x x' : (⟨2, ![32768, 2048]⟩ : Shape).Idx → EReal} {g g' : (⟨2, ![1, 2048]⟩ : Shape).Idx → EReal}
    (e0 : x' = x) (e1 : g' = g) : NormSpec.rows x' g' = NormSpec.rows x g := by
  subst e0 e1
  rfl

/-- The scores depend on their arguments only. -/
theorem scores_congr (off : Fin 129) {x x' : (⟨2, ![32768, 2048]⟩ : Shape).Idx → EReal} {g g' : (⟨2, ![1, 2048]⟩ : Shape).Idx → EReal}
    {w w' : (⟨3, ![1, 2048, 2048]⟩ : Shape).Idx → EReal} {v v' : (⟨3, ![1, 128, 128]⟩ : Shape).Idx → EReal}
    (e0 : x' = x) (e1 : g' = g) (e2 : w' = w) (e3 : v' = v) :
    NormSpec.scores off (NormSpec.query x' g' w') v' = NormSpec.scores off (NormSpec.query x g w) v := by
  subst e0 e1 e2 e3
  rfl

/-- From the same arguments the kernel and the reference leave the same three arrays. -/
theorem value : Cert.algebraic_PeerqIdeal_PeerqReferenceIdeal (hPeerqIdeal := Cert.PeerqIdeal.Gen.facts) (hPeerqReferenceIdeal := Cert.PeerqReferenceIdeal.Gen.facts) := by
  intro m ρ m' ρ' _ hag
  refine ⟨fun c => Cert.PeerqIdeal.Array.G5 m c, fun c => Cert.PeerqIdeal.Array.G6 m c, fun c => Cert.PeerqIdeal.Array.G7 m c, ?_, ?_⟩
  · refine (θ_run _ _ _).mono (fun r h c => ?_) (Cert.PeerqIdeal.Value.run_blocks m ρ)
    exact ⟨(h c).1.trans (Cert.PeerqIdeal.Array.final5 m c), (h c).2.1.trans (Cert.PeerqIdeal.Array.final6 m c),
      (h c).2.2.1.trans (Cert.PeerqIdeal.Array.final7 m c), (h c).2.2.2⟩
  · refine (θ_run _ _ _).mono (fun r h c => ?_) (Cert.PeerqReferenceIdeal.Read.value m' ρ')
    obtain ⟨e0, e1, e2, e3, e4⟩ := hag c
    refine ⟨(h c).1.trans ?_, (h c).2.1.trans ?_, (h c).2.2.1.trans ?_, (h c).2.2.2⟩
    · unfold Cert.PeerqIdeal.Array.G5
      exact rows_congr e0 e1
    · unfold Cert.PeerqIdeal.Array.G6
      exact scores_congr 0 e0 e1 e2 e3
    · unfold Cert.PeerqIdeal.Array.G7
      exact scores_congr 128 e0 e1 e2 e4

end Cert.PeerqEquation

end
-- ==== Proof.PrepSpec.lean ====
/- What the call before the attention computes over the extended reals: the compressed keys divided by the root of
   their mean square, the same transposed with a row of ones and 15 rows of zeros below, the index keys with their mean
   and their variance removed, and the index weights scaled. -/
module

public import proofs.«01_k».proof.Proof.NormSpec

@[expose] public section

noncomputable section

namespace Cert.PrepSpec

open Idealize.ShloMosaic
open scoped BigOperators

/-- A row divided by the root of its mean square plus the small constant, scaled. -/
def lat (x g : Fin 512 → EReal) (l : Fin 512) : EReal :=
  x l * Ideal.rsqrt (Ideal.div (∑ k : Fin 512, x k * x k) (Ideal.ofBits .f32 0x44000000#32) + Ideal.ofBits .f32 0x358637BD#32) * g l

/-- The mean of 64 entries. -/
def mean (x : Fin 64 → EReal) : EReal := Ideal.div (∑ k : Fin 64, x k) (Ideal.ofBits .f32 0x42800000#32)

/-- A row less its mean, divided by the root of its variance plus the small constant, scaled and shifted. -/
def key (x g b : Fin 64 → EReal) (l : Fin 64) : EReal :=
  (x l - mean x) * Ideal.rsqrt (mean (fun k => (x k - mean x) * (x k - mean x)) + Ideal.ofBits .f32 0x358637BD#32) * g l + b l

/-- The row below the transposed keys: one in the first, zero in the others. -/
def tail (k : ℕ) : EReal := if k = 0 then Ideal.ofBits .f32 0x3F800000#32 else Ideal.ofBits .f32 0x00000000#32

/-- The row of the flattened series of a batch and a position. -/
def fr (b : Fin 4) (s : Fin 8192) : Fin 32768 := ⟨b.val * 8192 + s.val, by omega⟩

/-- The three groups of columns of a row that the call reads. -/
def lats (p : (⟨2, ![32768, 9984]⟩ : Shape).Idx → EReal) (r : Fin 32768) (k : Fin 512) : EReal := p (ix2 r ⟨9216 + k.val, by omega⟩)
def keys (p : (⟨2, ![32768, 9984]⟩ : Shape).Idx → EReal) (r : Fin 32768) (k : Fin 64) : EReal := p (ix2 r ⟨9728 + k.val, by omega⟩)
def wgts (p : (⟨2, ![32768, 9984]⟩ : Shape).Idx → EReal) (r : Fin 32768) (k : Fin 16) : EReal := p (ix2 r ⟨9856 + k.val, by omega⟩)

/-- The normalised compressed keys. -/
def latents (p : (⟨2, ![32768, 9984]⟩ : Shape).Idx → EReal) (g : (⟨2, ![1, 512]⟩ : Shape).Idx → EReal)
    (i : (⟨2, ![32768, 512]⟩ : Shape).Idx) : EReal := lat (lats p (i 0)) (fun k => g (ix2 0 k)) (i 1)

/-- The same by batch, transposed, with the row of ones and the rows of zeros. -/
def latentsT (p : (⟨2, ![32768, 9984]⟩ : Shape).Idx → EReal) (g : (⟨2, ![1, 512]⟩ : Shape).Idx → EReal)
    (i : (⟨3, ![4, 528, 8192]⟩ : Shape).Idx) : EReal :=
  if h : (i 1).val < 512 then lat (lats p (fr (i 0) (i 2))) (fun k => g (ix2 0 k)) ⟨(i 1).val, h⟩ else tail ((i 1).val - 512)

/-- The normalised index keys. -/
def indexKeys (p : (⟨2, ![32768, 9984]⟩ : Shape).Idx → EReal) (g b : (⟨2, ![1, 64]⟩ : Shape).Idx → EReal)
    (i : (⟨2, ![32768, 64]⟩ : Shape).Idx) : EReal := key (keys p (i 0)) (fun k => g (ix2 0 k)) (fun k => b (ix2 0 k)) (i 1)

/-- The scaled index weights by batch, transposed. -/
def weights (p : (⟨2, ![32768, 9984]⟩ : Shape).Idx → EReal) (i : (⟨3, ![4, 16, 8192]⟩ : Shape).Idx) : EReal :=
  wgts p (fr (i 0) (i 2)) (i 1) * Ideal.ofBits .f32 0x3D000000#32

/-- A quarter times an eighth is a thirty-second. -/
theorem scale_eq : Ideal.ofBits .f32 0x3E800000#32 * Ideal.ofBits .f32 0x3E000000#32 = Ideal.ofBits .f32 0x3D000000#32 := by
  have h1 : Ideal.ofBits .f32 0x3E800000#32 = ((1 / 4 : ℝ) : EReal) := by
    simp [Ideal.ofBits, Ideal.ieee, -EReal.coe_mul]; norm_num
  have h2 : Ideal.ofBits .f32 0x3E000000#32 = ((1 / 8 : ℝ) : EReal) := by
    simp [Ideal.ofBits, Ideal.ieee, -EReal.coe_mul]; norm_num
  have h3 : Ideal.ofBits .f32 0x3D000000#32 = ((1 / 32 : ℝ) : EReal) := by
    simp [Ideal.ofBits, Ideal.ieee, -EReal.coe_mul]; norm_num
  rw [h1, h2, h3, ← EReal.coe_mul]
  norm_num

end Cert.PrepSpec

end
-- ==== Proof.PrepPoint.lean ====
/- What one grid point of the call before the attention leaves, and its four result arrays. -/
module

public import proofs.«01_k».proof.Proof.PrepSpec
public import proofs.«01_k».proof.Proof.Gen.PrepIdeal.Value
public import Idealize.ShloMosaic.Lib.Tactic
public import Idealize.ShloMosaic.Lib.Pipeline.Value
public import Idealize.ShloMosaic.Lib.StableHlo.Run
public import Idealize.ShloMosaic.Lib.Pointwise
public import Idealize.ShloMosaic.Lib.StableHlo.ReadAt

@[expose] public section

set_option maxRecDepth 16384

noncomputable section

namespace Cert.PrepIdeal.Point

open Cert.PrepIdeal Cert.PrepIdeal.Gen Cert.PrepIdeal.Value Cert.PrepSpec
  Idealize.ShloMosaic Idealize.ShloMosaic.TcCoe Idealize.SL.Sem Idealize.ShloMosaic.StableHlo
open Idealize.ShloMosaic.Pipeline (Dat)
open scoped BigOperators

/-- The zero offsets of a whole-block access. -/
theorem off0 : (![0, 0] : Fin 2 → Nat) = fun _ => 0 := funext fun a => by fin_cases a <;> rfl
theorem off3 : (![0, 0, 0] : Fin 3 → Nat) = fun _ => 0 := funext fun a => by fin_cases a <;> rfl

section
variable {F : FTy → Type} [FloatOps F]

/-- The compressed keys a point leaves. -/
theorem out0_A_6_eq (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S512x512 .bf16) (harg8 : arg8.IsWhole) (arg9 : Memref sig .tc .vmem S1x528x512 .bf16) (harg9 : arg9.IsWhole) (arg10 : Memref sig .tc .vmem S512x64 .bf16) (harg10 : arg10.IsWhole) (arg11 : Memref sig .tc .vmem S1x16x512 .f32) (harg11 : arg11.IsWhole)
    (x0 : Vec F S512x512 .f32) (x1 : Vec F S512x128 .f32) (x2 : Vec F S512x128 .f32) (x3 : Vec F S1x512 .f32) (x4 : Vec F S1x64 .f32) (x5 : Vec F S1x64 .f32) :
    out0_A_6 c i arg2 harg2 arg3 harg3 arg4 harg4 arg5 harg5 arg6 harg6 arg7 harg7 arg8 harg8 arg9 harg9 arg10 harg10 arg11 harg11 x0 x1 x2 x3 x4 x5 = k0_pay4 x0 x3 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  rw [View.canon_cons_unit_zero (S := S512x512) off0]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x512) off0, View.ld_unit_zero (S := S512x128) off0, View.ld_unit_zero (S := S1x512) off0, View.ld_unit_zero (S := S1x64) off0]

/-- The index keys a point leaves. -/
theorem out0_A_8_eq (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S512x512 .bf16) (harg8 : arg8.IsWhole) (arg9 : Memref sig .tc .vmem S1x528x512 .bf16) (harg9 : arg9.IsWhole) (arg10 : Memref sig .tc .vmem S512x64 .bf16) (harg10 : arg10.IsWhole) (arg11 : Memref sig .tc .vmem S1x16x512 .f32) (harg11 : arg11.IsWhole)
    (x0 : Vec F S512x512 .f32) (x1 : Vec F S512x128 .f32) (x2 : Vec F S512x128 .f32) (x3 : Vec F S1x512 .f32) (x4 : Vec F S1x64 .f32) (x5 : Vec F S1x64 .f32) :
    out0_A_8 c i arg2 harg2 arg3 harg3 arg4 harg4 arg5 harg5 arg6 harg6 arg7 harg7 arg8 harg8 arg9 harg9 arg10 harg10 arg11 harg11 x0 x1 x2 x3 x4 x5 = k0_pay1 (k0_pay7 x1) x4 x5 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  rw [View.canon_cons_unit_zero (S := S512x64) off0]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x512) off0, View.ld_unit_zero (S := S512x128) off0, View.ld_unit_zero (S := S1x512) off0, View.ld_unit_zero (S := S1x64) off0]

/-- The index weights a point leaves. -/
theorem out0_A_9_eq (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S512x512 .bf16) (harg8 : arg8.IsWhole) (arg9 : Memref sig .tc .vmem S1x528x512 .bf16) (harg9 : arg9.IsWhole) (arg10 : Memref sig .tc .vmem S512x64 .bf16) (harg10 : arg10.IsWhole) (arg11 : Memref sig .tc .vmem S1x16x512 .f32) (harg11 : arg11.IsWhole)
    (x0 : Vec F S512x512 .f32) (x1 : Vec F S512x128 .f32) (x2 : Vec F S512x128 .f32) (x3 : Vec F S1x512 .f32) (x4 : Vec F S1x64 .f32) (x5 : Vec F S1x64 .f32) :
    out0_A_9 c i arg2 harg2 arg3 harg3 arg4 harg4 arg5 harg5 arg6 harg6 arg7 harg7 arg8 harg8 arg9 harg9 arg10 harg10 arg11 harg11 x0 x1 x2 x3 x4 x5 = k0_pay2 x2 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  rw [View.canon_cons_unit_zero (S := S1x16x512) off3]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x512) off0, View.ld_unit_zero (S := S512x128) off0, View.ld_unit_zero (S := S1x512) off0, View.ld_unit_zero (S := S1x64) off0]

end

/-- The normalised compressed keys of a block at an index. -/
theorem pay3_apply (x : Vec Ideal S512x512 .f32) (g : Vec Ideal S1x512 .f32) (r l : Fin 512) :
    k0_pay3 x g (ix2 r l) = lat (fun k => x (ix2 r k)) (fun k => g (ix2 0 k)) l := by
  unfold k0_pay3 lat
  pointwise []

theorem pay4_apply (x : Vec Ideal S512x512 .f32) (g : Vec Ideal S1x512 .f32) (r l : Fin 512) :
    k0_pay4 x g (ix2 r l) = lat (fun k => x (ix2 r k)) (fun k => g (ix2 0 k)) l := by
  unfold k0_pay4
  pointwise [pay3_apply]

/-- The same transposed. -/
theorem pay5_apply (x : Vec Ideal S512x512 .f32) (g : Vec Ideal S1x512 .f32) (a : Fin 1) (l r : Fin 512) :
    k0_pay5 x g (ix3 a l r) = lat (fun k => x (ix2 r k)) (fun k => g (ix2 0 k)) l := by
  unfold k0_pay5
  pointwise [pay3_apply]

/-- The rows below. -/
theorem pay6_apply (a : Fin 1) (l : Fin 16) (r : Fin 512) : (k0_pay6 : FVec Ideal S1x16x512 .bf16) (ix3 a l r) = tail l.val := by
  unfold k0_pay6 tail
  pointwise []
  fin_cases l <;> rfl

/-- The normalised index keys of a block at an index. -/
theorem pay1_apply (x : Vec Ideal S512x128 .f32) (g b : Vec Ideal S1x64 .f32) (r : Fin 512) (l : Fin 64) :
    k0_pay1 (k0_pay7 x) g b (ix2 r l) = key (fun k => x (ix2 r ⟨k.val, by omega⟩)) (fun k => g (ix2 0 k)) (fun k => b (ix2 0 k)) l := by
  unfold k0_pay1 k0_pay7 key mean
  pointwise []

/-- The scaled index weights of a block at an index. -/
theorem pay2_apply (x : Vec Ideal S512x128 .f32) (a : Fin 1) (h : Fin 16) (r : Fin 512) :
    k0_pay2 x (ix3 a h r) = x (ix2 r ⟨h.val, by omega⟩) * Ideal.ofBits .f32 0x3D000000#32 := by
  unfold k0_pay2
  pointwise []

/-- The block of transposed keys with the rows below. -/
def blockT (x : Vec Ideal S512x512 .f32) (g : Vec Ideal S1x512 .f32) (y : S1x528x512.Idx) : EReal :=
  if h : (y 1).val < 512 then lat (fun k => x (ix2 (y 2 : Fin 512) k)) (fun k => g (ix2 0 k)) ⟨(y 1).val, h⟩ else tail ((y 1).val - 512)

/-- The transposed keys a point leaves. -/
theorem out0_A_7_eq (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S512x512 .bf16) (harg8 : arg8.IsWhole) (arg9 : Memref sig .tc .vmem S1x528x512 .bf16) (harg9 : arg9.IsWhole) (arg10 : Memref sig .tc .vmem S512x64 .bf16) (harg10 : arg10.IsWhole) (arg11 : Memref sig .tc .vmem S1x16x512 .f32) (harg11 : arg11.IsWhole)
    (x0 : Vec Ideal S512x512 .f32) (x1 : Vec Ideal S512x128 .f32) (x2 : Vec Ideal S512x128 .f32) (x3 : Vec Ideal S1x512 .f32) (x4 : Vec Ideal S1x64 .f32) (x5 : Vec Ideal S1x64 .f32) :
    out0_A_7 c i arg2 harg2 arg3 harg3 arg4 harg4 arg5 harg5 arg6 harg6 arg7 harg7 arg8 harg8 arg9 harg9 arg10 harg10 arg11 harg11 x0 x1 x2 x3 x4 x5 = blockT x0 x3 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5)]
  have hc := cover0_A_7 c i arg2 harg2 arg3 harg3 arg4 harg4 arg5 harg5 arg6 harg6 arg7 harg7 arg8 harg8 arg9 harg9 arg10 harg10 arg11 harg11 x0 x1 x2 x3 x4 x5
  unfold kernelRun0_A at hc ⊢
  dsimp only at hc ⊢

  simp only [View.readAt_eq_ld, harg2.read_unread, harg3.read_unread, harg4.read_unread, harg5.read_unread, harg6.read_unread, harg7.read_unread, harg8.read_unread, harg9.read_unread, harg10.read_unread, harg11.read_unread, View.ld_unit_zero (S := S512x512) off0, View.ld_unit_zero (S := S512x128) off0, View.ld_unit_zero (S := S1x512) off0, View.ld_unit_zero (S := S1x64) off0] at hc ⊢
  funext y
  refine View.canon_apply_of_pieces (Val := Elt Ideal) (e := .bf16) (blockT x0 x3) _ ?_ y (hc y)
  intro pc hpc
  rcases List.mem_cons.mp hpc with rfl | hpc
  · intro x
    have h1 : (x 1).val < 16 := (x 1).isLt
    refine (congrArg _ (eq_ix3 (n0 := 1) (n1 := 16) (n2 := 512) x)).trans ((pay6_apply _ _ _).trans ?_)
    unfold blockT
    rw [dif_neg (by show ¬ (512 + 1 * (x 1).val < 512); omega)]
    refine congrArg tail ?_
    show (x 1).val = 512 + 1 * (x 1).val - 512
    omega
  rcases List.mem_cons.mp hpc with rfl | hpc
  · intro x
    have h1 : (x 1).val < 512 := (x 1).isLt
    refine (congrArg _ (eq_ix3 (n0 := 1) (n1 := 512) (n2 := 512) x)).trans ((pay5_apply _ _ _ _ _).trans ?_)
    unfold blockT
    rw [dif_pos (by show (0 + 1 * (x 1).val < 512); omega)]
    have e2 : (x 2 : Fin 512) = ⟨0 + 1 * (x 2).val, by have := (x 2).isLt; omega⟩ := Fin.ext (by show (x 2).val = 0 + 1 * (x 2).val; omega)
    have e1 : (x 1 : Fin 512) = ⟨0 + 1 * (x 1).val, by omega⟩ := Fin.ext (by show (x 1).val = 0 + 1 * (x 1).val; omega)
    exact congrArg₂ (fun a b => lat (fun k => x0 (ix2 a k)) (fun k => x3 (ix2 0 k)) b) e2 e1
  exact absurd hpc (List.not_mem_nil)

end Cert.PrepIdeal.Point

end
-- ==== Proof.PrepArray.lean ====
/- The four arrays the call before the attention leaves. -/
module

public import proofs.«01_k».proof.Proof.PrepPoint

@[expose] public section

set_option maxRecDepth 16384

noncomputable section

namespace Cert.PrepIdeal.Array

open Cert.PrepIdeal Cert.PrepIdeal.Gen Cert.PrepIdeal.Value Cert.PrepIdeal.Point Cert.PrepSpec
  Idealize.ShloMosaic Idealize.ShloMosaic.TcCoe Idealize.SL.Sem Idealize.ShloMosaic.StableHlo
open Idealize.ShloMosaic.Pipeline (Dat)
open scoped BigOperators

variable (m : (ℓ : Loc nD τ sig) → Buf (Elt Ideal) ℓ)

/-- The arguments of a device, as arrays of extended reals. -/
abbrev a0 (c : Dev nD) : (⟨2, ![32768, 9984]⟩ : Shape).Idx → EReal := m ((c : Thread nD τ).loc main_arg0)
abbrev a1 (c : Dev nD) : (⟨2, ![1, 512]⟩ : Shape).Idx → EReal := m ((c : Thread nD τ).loc main_arg1)
abbrev a2 (c : Dev nD) : (⟨2, ![1, 64]⟩ : Shape).Idx → EReal := m ((c : Thread nD τ).loc main_arg2)
abbrev a3 (c : Dev nD) : (⟨2, ![1, 64]⟩ : Shape).Idx → EReal := m ((c : Thread nD τ).loc main_arg3)

theorem point_lt (t : Fin cfg0.N) : t.val < 64 := lt_of_lt_of_eq t.isLt N_0

/-- A row of a point's block; its batch and its position. -/
def row (t : Fin cfg0.N) (r : Fin 512) : Fin 32768 := ⟨t.val * 512 + r.val, by have h := point_lt t; omega⟩
def bat (t : Fin cfg0.N) : Fin 4 := ⟨t.val / 16, by have h := point_lt t; omega⟩
def pos (t : Fin cfg0.N) (r : Fin 512) : Fin 8192 := ⟨t.val % 16 * 512 + r.val, by omega⟩

theorem row_eq (t : Fin cfg0.N) (r : Fin 512) : row t r = fr (bat t) (pos t r) :=
  Fin.ext (by show t.val * 512 + r.val = t.val / 16 * 8192 + (t.val % 16 * 512 + r.val); omega)

/-- The scales and the shift, as the operations before the call leave them. -/
abbrev b1 (c : Dev nD) : (⟨2, ![1, 512]⟩ : Shape).Idx → EReal := V m c main_v1
abbrev b3 (c : Dev nD) : (⟨2, ![1, 64]⟩ : Shape).Idx → EReal := V m c main_v3
abbrev b5 (c : Dev nD) : (⟨2, ![1, 64]⟩ : Shape).Idx → EReal := V m c main_v5

theorem b1_apply (c : Dev nD) (z : Fin 1) (k : Fin 512) : b1 m c (ix2 z k) = a1 m c (ix2 0 k) := by
  unfold b1
  simp only [V]
  after_results
  pointwise []

theorem b3_apply (c : Dev nD) (z : Fin 1) (k : Fin 64) : b3 m c (ix2 z k) = a2 m c (ix2 0 k) := by
  unfold b3
  simp only [V]
  after_results
  pointwise []

theorem b5_apply (c : Dev nD) (z : Fin 1) (k : Fin 64) : b5 m c (ix2 z k) = a3 m c (ix2 0 k) := by
  unfold b5
  simp only [V]
  after_results
  pointwise []

/-- The block each window reads or writes at a point, decided over the grid. -/
theorem idx0 : ∀ t : Fin cfg0.N, win0_0.index t 0 = t.val ∧ win0_0.index t 1 = 18 :=
  (by decide +kernel : ∀ t : Fin grid0.N, win0_0.index t 0 = t.val ∧ win0_0.index t 1 = 18)
theorem idx1 : ∀ t : Fin cfg0.N, win0_1.index t 0 = t.val ∧ win0_1.index t 1 = 76 :=
  (by decide +kernel : ∀ t : Fin grid0.N, win0_1.index t 0 = t.val ∧ win0_1.index t 1 = 76)
theorem idx2 : ∀ t : Fin cfg0.N, win0_2.index t 0 = t.val ∧ win0_2.index t 1 = 77 :=
  (by decide +kernel : ∀ t : Fin grid0.N, win0_2.index t 0 = t.val ∧ win0_2.index t 1 = 77)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val / 16 ∧ win0_7.index t 1 = 0 ∧ win0_7.index t 2 = t.val % 16 :=
  (by decide +kernel : ∀ t : Fin grid0.N, win0_7.index t 0 = t.val / 16 ∧ win0_7.index t 1 = 0 ∧ win0_7.index t 2 = t.val % 16)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val / 16 ∧ win0_9.index t 1 = 0 ∧ win0_9.index t 2 = t.val % 16 :=
  (by decide +kernel : ∀ t : Fin grid0.N, win0_9.index t 0 = t.val / 16 ∧ win0_9.index t 1 = 0 ∧ win0_9.index t 2 = t.val % 16)

theorem blk0 (c : Dev nD) (t : Fin cfg0.N) (r : Fin 512) (k : Fin 512) :
    (X0_0 m c t : Vec Ideal S512x512 .f32) (ix2 r k) = a0 m c (ix2 (row t r) ⟨9216 + k.val, by omega⟩) := by
  unfold X0_0 Pipeline.Window.fill
  rw [dif_pos (moved0_0 t (ix2 r k))]
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = t.val * 512 + r.val; rw [(idx0 t).1]; omega
  | ⟨1, _⟩ => show win0_0.index t 1 * 512 + 1 * k.val = 9216 + k.val; rw [(idx0 t).2]; omega

theorem blk1 (c : Dev nD) (t : Fin cfg0.N) (r : Fin 512) (k : Fin 128) :
    (iblk m c 1 t : Vec Ideal S512x128 .f32) (ix2 r k) = a0 m c (ix2 (row t r) ⟨9728 + k.val, by omega⟩) := by
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 512 + 1 * r.val = t.val * 512 + r.val; rw [(idx1 t).1]; omega
  | ⟨1, _⟩ => show win0_1.index t 1 * 128 + 1 * k.val = 9728 + k.val; rw [(idx1 t).2]; omega

theorem blk2 (c : Dev nD) (t : Fin cfg0.N) (r : Fin 512) (k : Fin 128) :
    (iblk m c 2 t : Vec Ideal S512x128 .f32) (ix2 r k) = a0 m c (ix2 (row t r) ⟨9856 + k.val, by omega⟩) := by
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 512 + 1 * r.val = t.val * 512 + r.val; rw [(idx2 t).1]; omega
  | ⟨1, _⟩ => show win0_2.index t 1 * 128 + 1 * k.val = 9856 + k.val; rw [(idx2 t).2]; omega

theorem blk3 (c : Dev nD) (t : Fin cfg0.N) (z : Fin 1) (k : Fin 512) :
    (iblk m c 3 t : Vec Ideal S1x512 .f32) (ix2 z k) = b1 m c (ix2 z k) := by
  unfold iblk
  rw [View.read_apply]
  show V m c main_v1 _ = _
  refine congrArg (V m c main_v1) (funext fun a => Fin.ext ?_)
  match a with
  | ⟨0, _⟩ => show win0_3.index t 0 * 1 + 1 * z.val = z.val; rw [(idx3 t).1]; omega
  | ⟨1, _⟩ => show win0_3.index t 1 * 512 + 1 * k.val = k.val; rw [(idx3 t).2]; omega

theorem blk4 (c : Dev nD) (t : Fin cfg0.N) (z : Fin 1) (k : Fin 64) :
    (iblk m c 4 t : Vec Ideal S1x64 .f32) (ix2 z k) = b3 m c (ix2 z k) := by
  unfold iblk
  rw [View.read_apply]
  show V m c main_v3 _ = _
  refine congrArg (V m c main_v3) (funext fun a => Fin.ext ?_)
  match a with
  | ⟨0, _⟩ => show win0_4.index t 0 * 1 + 1 * z.val = z.val; rw [(idx4 t).1]; omega
  | ⟨1, _⟩ => show win0_4.index t 1 * 64 + 1 * k.val = k.val; rw [(idx4 t).2]; omega

theorem blk5 (c : Dev nD) (t : Fin cfg0.N) (z : Fin 1) (k : Fin 64) :
    (iblk m c 5 t : Vec Ideal S1x64 .f32) (ix2 z k) = b5 m c (ix2 z k) := by
  unfold iblk
  rw [View.read_apply]
  show V m c main_v5 _ = _
  refine congrArg (V m c main_v5) (funext fun a => Fin.ext ?_)
  match a with
  | ⟨0, _⟩ => show win0_5.index t 0 * 1 + 1 * z.val = z.val; rw [(idx5 t).1]; omega
  | ⟨1, _⟩ => show win0_5.index t 1 * 64 + 1 * k.val = k.val; rw [(idx5 t).2]; omega

theorem lats_blk (c : Dev nD) (t : Fin cfg0.N) (r : Fin 512) :
    (fun k : Fin 512 => (X0_0 m c t : Vec Ideal S512x512 .f32) (ix2 r k)) = lats (a0 m c) (row t r) := funext fun k => blk0 m c t r k
theorem keys_blk (c : Dev nD) (t : Fin cfg0.N) (r : Fin 512) :
    (fun k : Fin 64 => (iblk m c 1 t : Vec Ideal S512x128 .f32) (ix2 r ⟨k.val, by omega⟩)) = keys (a0 m c) (row t r) :=
  funext fun k => blk1 m c t r ⟨k.val, by omega⟩
theorem g_blk (c : Dev nD) (t : Fin cfg0.N) :
    (fun k : Fin 512 => (iblk m c 3 t : Vec Ideal S1x512 .f32) (ix2 0 k)) = fun k => a1 m c (ix2 0 k) :=
  funext fun k => (blk3 m c t 0 k).trans (b1_apply m c 0 k)
theorem h_blk (c : Dev nD) (t : Fin cfg0.N) :
    (fun k : Fin 64 => (iblk m c 4 t : Vec Ideal S1x64 .f32) (ix2 0 k)) = fun k => a2 m c (ix2 0 k) :=
  funext fun k => (blk4 m c t 0 k).trans (b3_apply m c 0 k)
theorem s_blk (c : Dev nD) (t : Fin cfg0.N) :
    (fun k : Fin 64 => (iblk m c 5 t : Vec Ideal S1x64 .f32) (ix2 0 k)) = fun k => a3 m c (ix2 0 k) :=
  funext fun k => (blk5 m c t 0 k).trans (b5_apply m c 0 k)

/-- What a point leaves: its rows of the compressed keys. -/
theorem left6_apply (c : Dev nD) (t : Fin cfg0.N) (r l : Fin 512) :
    (outsAt0 m c t).1 (ix2 r l) = latents (a0 m c) (a1 m c) (ix2 (row t r) l) := by
  unfold outsAt0
  dsimp only
  rw [out0_A_6_eq, pay4_apply]
  unfold latents
  exact congrArg₂ (fun x g => lat x g l) (lats_blk m c t r) (g_blk m c t)

/-- Its columns of the transposed keys. -/
theorem left7_apply (c : Dev nD) (t : Fin cfg0.N) (a : Fin 1) (l : Fin 528) (r : Fin 512) :
    (outsAt0 m c t).2.1 (ix3 a l r) = latentsT (a0 m c) (a1 m c) (ix3 (bat t) l (pos t r)) := by
  unfold outsAt0
  dsimp only
  rw [out0_A_7_eq]
  show blockT _ _ (ix3 a l r) = _
  unfold blockT latentsT
  by_cases h : l.val < 512
  · rw [dif_pos (show (ix3 a l r 1).val < 512 from h), dif_pos (show (ix3 (bat t) l (pos t r) 1).val < 512 from h)]
    have e := (lats_blk m c t r).trans (congrArg (lats (a0 m c)) (row_eq t r))
    exact congrArg₂ (fun x g => lat x g ⟨l.val, h⟩) e (g_blk m c t)
  · rw [dif_neg (show ¬ (ix3 a l r 1).val < 512 from h), dif_neg (show ¬ (ix3 (bat t) l (pos t r) 1).val < 512 from h)]
    rfl

/-- Its rows of the index keys. -/
theorem left8_apply (c : Dev nD) (t : Fin cfg0.N) (r : Fin 512) (l : Fin 64) :
    (outsAt0 m c t).2.2.1 (ix2 r l) = indexKeys (a0 m c) (a2 m c) (a3 m c) (ix2 (row t r) l) := by
  unfold outsAt0
  dsimp only
  rw [out0_A_8_eq, pay1_apply]
  unfold indexKeys
  refine (congrArg (fun x => key x _ _ l) (keys_blk m c t r)).trans ?_
  exact congrArg₂ (fun g b => key (keys (a0 m c) (row t r)) g b l) (h_blk m c t) (s_blk m c t)

/-- Its columns of the index weights. -/
theorem left9_apply (c : Dev nD) (t : Fin cfg0.N) (a : Fin 1) (h : Fin 16) (r : Fin 512) :
    (outsAt0 m c t).2.2.2 (ix3 a h r) = weights (a0 m c) (ix3 (bat t) h (pos t r)) := by
  unfold outsAt0
  dsimp only
  rw [out0_A_9_eq, pay2_apply]
  unfold weights wgts
  refine congrArg (· * _) ((blk2 m c t r ⟨h.val, by omega⟩).trans ?_)
  exact congrArg (fun q => a0 m c (ix2 q ⟨9856 + h.val, by omega⟩)) (row_eq t r)

/-- The compressed keys over a device's arguments, as contents of their array. -/
abbrev G6 (c : Dev nD) : Buf (Elt Ideal) ((c : Thread nD τ).loc main_v6_0) := latents (a0 m c) (a1 m c)

theorem flushed6_eq (c : Dev nD) (t : Fin cfg0.N) (hf : (cfg0.win 6).flush t = true) :
    (dats m 0 c).flushed 6 t = ((cfg0.win 6).blk t).view.read (Elt Ideal) (G6 m c) := by
  rw [flushed6]
  funext j
  rw [View.read_apply]
  show (outsAt0 m c t).1 j = latents (a0 m c) (a1 m c) (((cfg0.win 6).blk t).view.emb j)
  have h0 : (j 0).val < 512 := (j 0).isLt
  have h1 : (j 1).val < 512 := (j 1).isLt
  have e := left6_apply m c t ⟨(j 0).val, h0⟩ ⟨(j 1).val, h1⟩
  refine Eq.trans (congrArg _ ?_) (e.trans (congrArg _ (funext fun a => Fin.ext ?_)))
  · funext a
    match a with
    | ⟨0, _⟩ => rfl
    | ⟨1, _⟩ => rfl
  · match a with
    | ⟨0, _⟩ => show t.val * 512 + (j 0).val = win0_6.index t 0 * 512 + 1 * (j 0).val; rw [(idx6 t).1]; omega
    | ⟨1, _⟩ => show (j 1).val = win0_6.index t 1 * 512 + 1 * (j 1).val; rw [(idx6 t).2]; omega

/-- The array of the compressed keys. -/
theorem final6 (c : Dev nD) : (dats m 0 c).arrAt 6 cfg0.N = G6 m c :=
  (dats m 0 c).arrAt_eq_of_cover 6 (G6 m c) (flushed6_eq m c) fun i => by
    have h0 : (i 0 : Nat) < 32768 := (i 0).isLt
    have h1 : (i 1 : Nat) < 512 := (i 1).isLt
    let t : Fin cfg0.N := ⟨(i 0 : Nat) / 512, by rw [show cfg0.N = 64 from N_0]; omega⟩
    refine ⟨t, flush0_6 t, ?_⟩
    show i ∈ ((View.whole main_v6_0).slice (win0_6.rect t)).set
    rw [View.set_slice_whole, Rect.mem_set_unit]
    have e0 : win0_6.index t 0 = (i 0 : Nat) / 512 := (idx6 t).1
    have e1 : win0_6.index t 1 = 0 := (idx6 t).2
    intro a
    match a with
    | ⟨0, _⟩ =>
      show win0_6.index t 0 * 512 ≤ (i 0 : Nat) ∧ (i 0 : Nat) < win0_6.index t 0 * 512 + 512
      rw [e0]; omega
    | ⟨1, _⟩ =>
      show win0_6.index t 1 * 512 ≤ (i 1 : Nat) ∧ (i 1 : Nat) < win0_6.index t 1 * 512 + 512
      rw [e1]; omega

/-- The transposed keys over a device's arguments, as contents of their array. -/
abbrev G7 (c : Dev nD) : Buf (Elt Ideal) ((c : Thread nD τ).loc main_v6_1) := latentsT (a0 m c) (a1 m c)

theorem flushed7_eq (c : Dev nD) (t : Fin cfg0.N) (hf : (cfg0.win 7).flush t = true) :
    (dats m 0 c).flushed 7 t = ((cfg0.win 7).blk t).view.read (Elt Ideal) (G7 m c) := by
  rw [flushed7]
  funext j
  rw [View.read_apply]
  show (outsAt0 m c t).2.1 j = latentsT (a0 m c) (a1 m c) (((cfg0.win 7).blk t).view.emb j)
  have h0 : (j 0).val < 1 := (j 0).isLt
  have h1 : (j 1).val < 528 := (j 1).isLt
  have h2 : (j 2).val < 512 := (j 2).isLt
  have e := left7_apply m c t ⟨(j 0).val, h0⟩ ⟨(j 1).val, h1⟩ ⟨(j 2).val, h2⟩
  refine Eq.trans (congrArg _ ?_) (e.trans (congrArg _ (funext fun a => Fin.ext ?_)))
  · funext a
    match a with
    | ⟨0, _⟩ => rfl
    | ⟨1, _⟩ => rfl
    | ⟨2, _⟩ => rfl
  · match a with
    | ⟨0, _⟩ => show t.val / 16 = win0_7.index t 0 * 1 + 1 * (j 0).val; rw [(idx7 t).1]; omega
    | ⟨1, _⟩ => show (j 1).val = win0_7.index t 1 * 528 + 1 * (j 1).val; rw [(idx7 t).2.1]; omega
    | ⟨2, _⟩ => show t.val % 16 * 512 + (j 2).val = win0_7.index t 2 * 512 + 1 * (j 2).val; rw [(idx7 t).2.2]; omega

/-- The array of the transposed keys. -/
theorem final7 (c : Dev nD) : (dats m 0 c).arrAt 7 cfg0.N = G7 m c :=
  (dats m 0 c).arrAt_eq_of_cover 7 (G7 m c) (flushed7_eq m c) fun i => by
    have h0 : (i 0 : Nat) < 4 := (i 0).isLt
    have h1 : (i 1 : Nat) < 528 := (i 1).isLt
    have h2 : (i 2 : Nat) < 8192 := (i 2).isLt
    let t : Fin cfg0.N := ⟨(i 0 : Nat) * 16 + (i 2 : Nat) / 512, by rw [show cfg0.N = 64 from N_0]; omega⟩
    refine ⟨t, flush0_7 t, ?_⟩
    show i ∈ ((View.whole main_v6_1).slice (win0_7.rect t)).set
    rw [View.set_slice_whole, Rect.mem_set_unit]
    have e0 : win0_7.index t 0 = ((i 0 : Nat) * 16 + (i 2 : Nat) / 512) / 16 := (idx7 t).1
    have e1 : win0_7.index t 1 = 0 := (idx7 t).2.1
    have e2 : win0_7.index t 2 = ((i 0 : Nat) * 16 + (i 2 : Nat) / 512) % 16 := (idx7 t).2.2
    intro a
    match a with
    | ⟨0, _⟩ =>
      show win0_7.index t 0 * 1 ≤ (i 0 : Nat) ∧ (i 0 : Nat) < win0_7.index t 0 * 1 + 1
      rw [e0]; omega
    | ⟨1, _⟩ =>
      show win0_7.index t 1 * 528 ≤ (i 1 : Nat) ∧ (i 1 : Nat) < win0_7.index t 1 * 528 + 528
      rw [e1]; omega
    | ⟨2, _⟩ =>
      show win0_7.index t 2 * 512 ≤ (i 2 : Nat) ∧ (i 2 : Nat) < win0_7.index t 2 * 512 + 512
      rw [e2]; omega

/-- The index keys over a device's arguments, as contents of their array. -/
abbrev G8 (c : Dev nD) : Buf (Elt Ideal) ((c : Thread nD τ).loc main_v6_2) := indexKeys (a0 m c) (a2 m c) (a3 m c)

theorem flushed8_eq (c : Dev nD) (t : Fin cfg0.N) (hf : (cfg0.win 8).flush t = true) :
    (dats m 0 c).flushed 8 t = ((cfg0.win 8).blk t).view.read (Elt Ideal) (G8 m c) := by
  rw [flushed8]
  funext j
  rw [View.read_apply]
  show (outsAt0 m c t).2.2.1 j = indexKeys (a0 m c) (a2 m c) (a3 m c) (((cfg0.win 8).blk t).view.emb j)
  have h0 : (j 0).val < 512 := (j 0).isLt
  have h1 : (j 1).val < 64 := (j 1).isLt
  have e := left8_apply m c t ⟨(j 0).val, h0⟩ ⟨(j 1).val, h1⟩
  refine Eq.trans (congrArg _ ?_) (e.trans (congrArg _ (funext fun a => Fin.ext ?_)))
  · funext a
    match a with
    | ⟨0, _⟩ => rfl
    | ⟨1, _⟩ => rfl
  · match a with
    | ⟨0, _⟩ => show t.val * 512 + (j 0).val = win0_8.index t 0 * 512 + 1 * (j 0).val; rw [(idx8 t).1]; omega
    | ⟨1, _⟩ => show (j 1).val = win0_8.index t 1 * 64 + 1 * (j 1).val; rw [(idx8 t).2]; omega

/-- The array of the index keys. -/
theorem final8 (c : Dev nD) : (dats m 0 c).arrAt 8 cfg0.N = G8 m c :=
  (dats m 0 c).arrAt_eq_of_cover 8 (G8 m c) (flushed8_eq m c) fun i => by
    have h0 : (i 0 : Nat) < 32768 := (i 0).isLt
    have h1 : (i 1 : Nat) < 64 := (i 1).isLt
    let t : Fin cfg0.N := ⟨(i 0 : Nat) / 512, by rw [show cfg0.N = 64 from N_0]; omega⟩
    refine ⟨t, flush0_8 t, ?_⟩
    show i ∈ ((View.whole main_v6_2).slice (win0_8.rect t)).set
    rw [View.set_slice_whole, Rect.mem_set_unit]
    have e0 : win0_8.index t 0 = (i 0 : Nat) / 512 := (idx8 t).1
    have e1 : win0_8.index t 1 = 0 := (idx8 t).2
    intro a
    match a with
    | ⟨0, _⟩ =>
      show win0_8.index t 0 * 512 ≤ (i 0 : Nat) ∧ (i 0 : Nat) < win0_8.index t 0 * 512 + 512
      rw [e0]; omega
    | ⟨1, _⟩ =>
      show win0_8.index t 1 * 64 ≤ (i 1 : Nat) ∧ (i 1 : Nat) < win0_8.index t 1 * 64 + 64
      rw [e1]; omega

/-- The index weights over a device's arguments, as contents of their array. -/
abbrev G9 (c : Dev nD) : Buf (Elt Ideal) ((c : Thread nD τ).loc main_v6_3) := weights (a0 m c)

theorem flushed9_eq (c : Dev nD) (t : Fin cfg0.N) (hf : (cfg0.win 9).flush t = true) :
    (dats m 0 c).flushed 9 t = ((cfg0.win 9).blk t).view.read (Elt Ideal) (G9 m c) := by
  rw [flushed9]
  funext j
  rw [View.read_apply]
  show (outsAt0 m c t).2.2.2 j = weights (a0 m c) (((cfg0.win 9).blk t).view.emb j)
  have h0 : (j 0).val < 1 := (j 0).isLt
  have h1 : (j 1).val < 16 := (j 1).isLt
  have h2 : (j 2).val < 512 := (j 2).isLt
  have e := left9_apply m c t ⟨(j 0).val, h0⟩ ⟨(j 1).val, h1⟩ ⟨(j 2).val, h2⟩
  refine Eq.trans (congrArg _ ?_) (e.trans (congrArg _ (funext fun a => Fin.ext ?_)))
  · funext a
    match a with
    | ⟨0, _⟩ => rfl
    | ⟨1, _⟩ => rfl
    | ⟨2, _⟩ => rfl
  · match a with
    | ⟨0, _⟩ => show t.val / 16 = win0_9.index t 0 * 1 + 1 * (j 0).val; rw [(idx9 t).1]; omega
    | ⟨1, _⟩ => show (j 1).val = win0_9.index t 1 * 16 + 1 * (j 1).val; rw [(idx9 t).2.1]; omega
    | ⟨2, _⟩ => show t.val % 16 * 512 + (j 2).val = win0_9.index t 2 * 512 + 1 * (j 2).val; rw [(idx9 t).2.2]; omega

/-- The array of the index weights. -/
theorem final9 (c : Dev nD) : (dats m 0 c).arrAt 9 cfg0.N = G9 m c :=
  (dats m 0 c).arrAt_eq_of_cover 9 (G9 m c) (flushed9_eq m c) fun i => by
    have h0 : (i 0 : Nat) < 4 := (i 0).isLt
    have h1 : (i 1 : Nat) < 16 := (i 1).isLt
    have h2 : (i 2 : Nat) < 8192 := (i 2).isLt
    let t : Fin cfg0.N := ⟨(i 0 : Nat) * 16 + (i 2 : Nat) / 512, by rw [show cfg0.N = 64 from N_0]; omega⟩
    refine ⟨t, flush0_9 t, ?_⟩
    show i ∈ ((View.whole main_v6_3).slice (win0_9.rect t)).set
    rw [View.set_slice_whole, Rect.mem_set_unit]
    have e0 : win0_9.index t 0 = ((i 0 : Nat) * 16 + (i 2 : Nat) / 512) / 16 := (idx9 t).1
    have e1 : win0_9.index t 1 = 0 := (idx9 t).2.1
    have e2 : win0_9.index t 2 = ((i 0 : Nat) * 16 + (i 2 : Nat) / 512) % 16 := (idx9 t).2.2
    intro a
    match a with
    | ⟨0, _⟩ =>
      show win0_9.index t 0 * 1 ≤ (i 0 : Nat) ∧ (i 0 : Nat) < win0_9.index t 0 * 1 + 1
      rw [e0]; omega
    | ⟨1, _⟩ =>
      show win0_9.index t 1 * 16 ≤ (i 1 : Nat) ∧ (i 1 : Nat) < win0_9.index t 1 * 16 + 16
      rw [e1]; omega
    | ⟨2, _⟩ =>
      show win0_9.index t 2 * 512 ≤ (i 2 : Nat) ∧ (i 2 : Nat) < win0_9.index t 2 * 512 + 512
      rw [e2]; omega

end Cert.PrepIdeal.Array

end
-- ==== Proof.PrepRead.lean ====
/- The reference of the call before the attention, read at an index. -/
module

public import proofs.«01_k».proof.Proof.PrepSpec
public import proofs.«01_k».proof.Proof.Gen.PrepReferenceIdeal.Run
public import Idealize.ShloMosaic.Lib.Pointwise
public import Idealize.ShloMosaic.Lib.IdealHost

@[expose] public section

set_option maxRecDepth 16384

noncomputable section

namespace Cert.PrepReferenceIdeal.Read

open Cert.PrepReferenceIdeal Cert.PrepReferenceIdeal.Gen Cert.PrepReferenceIdeal.Value Cert.PrepSpec Cert.NormSpec
  Idealize.ShloMosaic Idealize.ShloMosaic.TcCoe Idealize.SL.Sem Idealize.ShloMosaic.StableHlo
open scoped BigOperators

variable (m : (ℓ : Loc nD τ sig) → Buf (Elt Ideal) ℓ) (ρ : Dev nD → PrngReg)

/-- The arguments of a device, as arrays of extended reals. -/
abbrev a0 (c : Dev nD) : (⟨2, ![32768, 9984]⟩ : Shape).Idx → EReal := m ((c.tc : Thread nD τ).loc main_arg0)
abbrev a1 (c : Dev nD) : (⟨2, ![1, 512]⟩ : Shape).Idx → EReal := m ((c.tc : Thread nD τ).loc main_arg1)
abbrev a2 (c : Dev nD) : (⟨2, ![1, 64]⟩ : Shape).Idx → EReal := m ((c.tc : Thread nD τ).loc main_arg2)
abbrev a3 (c : Dev nD) : (⟨2, ![1, 64]⟩ : Shape).Idx → EReal := m ((c.tc : Thread nD τ).loc main_arg3)

/-- The reference's normalised compressed keys. -/
def rlat (p : FVec Ideal S32768x9984 .f32) (g : FVec Ideal S1x512 .f32) : FVec Ideal S32768x512 .f32 :=
  mulf (mulf (extractStridedSlice S32768x512 ![0, 9216] p slices_S32768x9984_S32768x512_0_9216) (broadcastInDim S32768x512 ![0, 1] bcast_S32768x1_S32768x512_0_1 (Host.rsqrt (addf (Host.divf (broadcastInDim S32768x1 ![0] bcast_S32768_S32768x1_0 (Host.reduceAdd (mulf (extractStridedSlice S32768x512 ![0, 9216] p slices_S32768x9984_S32768x512_0_9216) (extractStridedSlice S32768x512 ![0, 9216] p slices_S32768x9984_S32768x512_0_9216)) (constant S_ .f32 0x00000000#32) reducesTo_S32768x512_S32768_d1 h_S_)) (broadcastInDim S32768x1 ![] bcast_S_S32768x1 (constant S_ .f32 0x44000000#32))) (broadcastInDim S32768x1 ![] bcast_S_S32768x1 (constant S_ .f32 0x358637BD#32)))))) (broadcastInDim S32768x512 ![0, 1] bcast_S1x512_S32768x512_0_1 (broadcastInDim S1x512 ![1] bcast_S512_S1x512_1 (shapeCast _ g shapeCasts_S1x512_S512)))

theorem rlat_apply (p : FVec Ideal S32768x9984 .f32) (g : FVec Ideal S1x512 .f32) (r : Fin 32768) (l : Fin 512) :
    rlat p g (ix2 r l) = lat (lats p r) (fun k => g (ix2 0 k)) l := by
  unfold rlat lat lats
  pointwise []

/-- The reference's mean of a row. -/
def rmean (x : FVec Ideal S32768x64 .f32) : FVec Ideal S32768x1 .f32 :=
  Host.divf (broadcastInDim S32768x1 ![0] bcast_S32768_S32768x1_0 (Host.reduceAdd x (constant S_ .f32 0x00000000#32) reducesTo_S32768x64_S32768_d1 h_S_)) (broadcastInDim S32768x1 ![] bcast_S_S32768x1 (constant S_ .f32 0x42800000#32))

theorem rmean_apply (x : FVec Ideal S32768x64 .f32) (r : Fin 32768) (a : Fin 1) : rmean x (ix2 r a) = mean (fun k => x (ix2 r k)) := by
  unfold rmean mean
  pointwise []

/-- The reference's rows less their mean. -/
def rcen (p : FVec Ideal S32768x9984 .f32) : FVec Ideal S32768x64 .f32 :=
  subf (extractStridedSlice S32768x64 ![0, 9728] p slices_S32768x9984_S32768x64_0_9728) (broadcastInDim S32768x64 ![0, 1] bcast_S32768x1_S32768x64_0_1 (rmean (extractStridedSlice S32768x64 ![0, 9728] p slices_S32768x9984_S32768x64_0_9728)))

theorem rcen_apply (p : FVec Ideal S32768x9984 .f32) (r : Fin 32768) (l : Fin 64) : rcen p (ix2 r l) = keys p r l - mean (keys p r) := by
  unfold rcen keys
  pointwise [rmean_apply]

/-- The reference's normalised index keys. -/
def rkey (p : FVec Ideal S32768x9984 .f32) (g b : FVec Ideal S1x64 .f32) : FVec Ideal S32768x64 .f32 :=
  addf (mulf (mulf (rcen p) (broadcastInDim S32768x64 ![0, 1] bcast_S32768x1_S32768x64_0_1 (Host.rsqrt (addf (rmean (mulf (rcen p) (rcen p))) (broadcastInDim S32768x1 ![] bcast_S_S32768x1 (constant S_ .f32 0x358637BD#32)))))) (broadcastInDim S32768x64 ![0, 1] bcast_S1x64_S32768x64_0_1 (broadcastInDim S1x64 ![1] bcast_S64_S1x64_1 (shapeCast _ g shapeCasts_S1x64_S64)))) (broadcastInDim S32768x64 ![0, 1] bcast_S1x64_S32768x64_0_1 (broadcastInDim S1x64 ![1] bcast_S64_S1x64_1 (shapeCast _ b shapeCasts_S1x64_S64)))

theorem rkey_apply (p : FVec Ideal S32768x9984 .f32) (g b : FVec Ideal S1x64 .f32) (r : Fin 32768) (l : Fin 64) :
    rkey p g b (ix2 r l) = key (keys p r) (fun k => g (ix2 0 k)) (fun k => b (ix2 0 k)) l := by
  unfold rkey key
  pointwise [rmean_apply, rcen_apply]

/-- The reference's row of ones above its rows of zeros. -/
def rtail : FVec Ideal S4x16x8192 .f32 :=
  select (broadcastInDim S4x16x8192 ![0, 1, 2] bcast_S1x16x1_S4x16x8192_0_1_2 (broadcastInDim S1x16x1 ![1] bcast_S16_S1x16x1_1 (cmpi .eq (iotaInDim S16 32 0) (broadcastInDim S16 ![] bcast_S_S16 (constantI S_ 32 0#32))))) (broadcastInDim S4x16x8192 ![] bcast_S_S4x16x8192 (constant S_ .f32 0x3F800000#32)) (broadcastInDim S4x16x8192 ![] bcast_S_S4x16x8192 (constant S_ .f32 0x00000000#32))

theorem rtail_apply (b : Fin 4) (l : Fin 16) (s : Fin 8192) : rtail (ix3 b l s) = tail l.val := by
  unfold rtail tail
  pointwise []
  fin_cases l <;> rfl

/-- The reference's keys by batch, transposed. -/
def rT (p : FVec Ideal S32768x9984 .f32) (g : FVec Ideal S1x512 .f32) : FVec Ideal S4x512x8192 .f32 :=
  transpose S4x512x8192 [0, 2, 1] (shapeCast S4x8192x512 (rlat p g) shapeCasts_S32768x512_S4x8192x512) transposes_S4x8192x512_S4x512x8192_0_2_1

theorem rT_apply (p : FVec Ideal S32768x9984 .f32) (g : FVec Ideal S1x512 .f32) (b : Fin 4) (l : Fin 512) (s : Fin 8192) :
    rT p g (ix3 b l s) = lat (lats p (fr b s)) (fun k => g (ix2 0 k)) l := by
  unfold rT
  pointwise [rlat_apply]
  rfl

/-- The transposed keys over the rows below. -/
def rlatT (p : FVec Ideal S32768x9984 .f32) (g : FVec Ideal S1x512 .f32) : FVec Ideal S4x528x8192 .f32 :=
  concatenate S4x528x8192 1 [⟨S4x512x8192, rT p g⟩, ⟨S4x16x8192, rtail⟩] concatenates_S4x512x8192_S4x16x8192_S4x528x8192_d1

theorem rlatT_apply (p : FVec Ideal S32768x9984 .f32) (g : FVec Ideal S1x512 .f32) (b : Fin 4) (l : Fin 528) (s : Fin 8192) :
    rlatT p g (ix3 b l s) = latentsT p g (ix3 b l s) := by
  unfold rlatT latentsT
  pointwise [rT_apply, rtail_apply]

/-- The reference's index weights. -/
def rwgt (p : FVec Ideal S32768x9984 .f32) : FVec Ideal S4x16x8192 .f32 :=
  transpose S4x16x8192 [0, 2, 1] (shapeCast S4x8192x16 (mulf (mulf (extractStridedSlice S32768x16 ![0, 9856] p slices_S32768x9984_S32768x16_0_9856) (broadcastInDim S32768x16 ![] bcast_S_S32768x16 (constant S_ .f32 0x3E800000#32))) (broadcastInDim S32768x16 ![] bcast_S_S32768x16 (constant S_ .f32 0x3E000000#32))) shapeCasts_S32768x16_S4x8192x16) transposes_S4x8192x16_S4x16x8192_0_2_1

theorem rwgt_apply (p : FVec Ideal S32768x9984 .f32) (b : Fin 4) (h : Fin 16) (s : Fin 8192) :
    rwgt p (ix3 b h s) = weights p (ix3 b h s) := by
  unfold rwgt weights wgts fr
  rw [← scale_eq, ← mul_assoc]
  pointwise []

/-- The reference leaves the four arrays. -/
theorem value : θ_run defs (onTc (τ := τ) (main (F := Ideal))) ⟨m, fun _ => 0, ρ⟩ fun r => ∀ c : Dev nD,
      r.2.mem ((c.tc : Thread nD τ).loc main_v57) = latents (a0 m c) (a1 m c)
      ∧ r.2.mem ((c.tc : Thread nD τ).loc main_v58) = latentsT (a0 m c) (a1 m c)
      ∧ r.2.mem ((c.tc : Thread nD τ).loc main_v59) = indexKeys (a0 m c) (a2 m c) (a3 m c)
      ∧ r.2.mem ((c.tc : Thread nD τ).loc main_v61) = weights (a0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (funext fun j => by
      obtain ⟨r, l, rfl⟩ : ∃ (r : Fin 32768) (l : Fin 512), j = ix2 r l := ⟨j 0, j 1, eq_ix2 j⟩
      exact rlat_apply (a0 m c) (a1 m c) r l), (h c).2.1.trans (funext fun j => by
      obtain ⟨b, l, s, rfl⟩ : ∃ (b : Fin 4) (l : Fin 528) (s : Fin 8192), j = ix3 b l s := ⟨j 0, j 1, j 2, eq_ix3 j⟩
      exact rlatT_apply (a0 m c) (a1 m c) b l s), (h c).2.2.1.trans (funext fun j => by
      obtain ⟨r, l, rfl⟩ : ∃ (r : Fin 32768) (l : Fin 64), j = ix2 r l := ⟨j 0, j 1, eq_ix2 j⟩
      exact rkey_apply (a0 m c) (a2 m c) (a3 m c) r l), (h c).2.2.2.1.trans (funext fun j => by
      obtain ⟨b, h, s, rfl⟩ : ∃ (b : Fin 4) (h : Fin 16) (s : Fin 8192), j = ix3 b h s := ⟨j 0, j 1, j 2, eq_ix3 j⟩
      exact rwgt_apply (a0 m c) b h s), (h c).2.2.2.2⟩) (run m ρ)

end Cert.PrepReferenceIdeal.Read

end
-- ==== Proof.PrepEquation.lean ====
/- The value claim of the call before the attention: the kernel's results and the reference's are the same functions of
   the arguments. -/
module

public import proofs.«01_k».proof.Defs
public import proofs.«01_k».proof.Proof.PrepArray
public import proofs.«01_k».proof.Proof.PrepRead

@[expose] public section

noncomputable section

namespace Cert.PrepEquation

open Idealize.ShloMosaic Idealize.SL.Sem Idealize.ShloMosaic.TcCoe Idealize.ShloMosaic.StableHlo

/-- The reference terminates and leaves its arguments as they were. -/
theorem reference_frame : Cert.quiescent_PrepReferenceIdeal (hPrepReferenceIdeal := Cert.PrepReferenceIdeal.Gen.facts) := fun m ρ _ =>
  (θ_run Cert.PrepReferenceIdeal.defs _ _).mono (fun r h => ⟨fun c => (h c).2.2.2.2, sem_eq_zero_of_no_sems (by decide) r.2⟩) (Cert.PrepReferenceIdeal.Value.run m ρ)

/-- The four arrays depend on the arguments only. -/
theorem latents_congr {p p' : (⟨2, ![32768, 9984]⟩ : Shape).Idx → EReal} {g g' : (⟨2, ![1, 512]⟩ : Shape).Idx → EReal}
    (e0 : p' = p) (e1 : g' = g) : PrepSpec.latents p' g' = PrepSpec.latents p g := by
  subst e0 e1
  rfl
theorem latentsT_congr {p p' : (⟨2, ![32768, 9984]⟩ : Shape).Idx → EReal} {g g' : (⟨2, ![1, 512]⟩ : Shape).Idx → EReal}
    (e0 : p' = p) (e1 : g' = g) : PrepSpec.latentsT p' g' = PrepSpec.latentsT p g := by
  subst e0 e1
  rfl
theorem indexKeys_congr {p p' : (⟨2, ![32768, 9984]⟩ : Shape).Idx → EReal} {g g' b b' : (⟨2, ![1, 64]⟩ : Shape).Idx → EReal}
    (e0 : p' = p) (e1 : g' = g) (e2 : b' = b) : PrepSpec.indexKeys p' g' b' = PrepSpec.indexKeys p g b := by
  subst e0 e1 e2
  rfl
theorem weights_congr {p p' : (⟨2, ![32768, 9984]⟩ : Shape).Idx → EReal} (e0 : p' = p) : PrepSpec.weights p' = PrepSpec.weights p := by
  subst e0
  rfl

/-- From the same arguments the kernel and the reference leave the same four arrays. -/
theorem value : Cert.algebraic_PrepIdeal_PrepReferenceIdeal (hPrepIdeal := Cert.PrepIdeal.Gen.facts) (hPrepReferenceIdeal := Cert.PrepReferenceIdeal.Gen.facts) := by
  intro m ρ m' ρ' _ hag
  refine ⟨fun c => Cert.PrepIdeal.Array.G6 m c, fun c => Cert.PrepIdeal.Array.G7 m c, fun c => Cert.PrepIdeal.Array.G8 m c, fun c => Cert.PrepIdeal.Array.G9 m c, ?_, ?_⟩
  · refine (θ_run _ _ _).mono (fun r h c => ?_) (Cert.PrepIdeal.Value.run_blocks m ρ)
    exact ⟨(h c).1.trans (Cert.PrepIdeal.Array.final6 m c), (h c).2.1.trans (Cert.PrepIdeal.Array.final7 m c),
      (h c).2.2.1.trans (Cert.PrepIdeal.Array.final8 m c), (h c).2.2.2.1.trans (Cert.PrepIdeal.Array.final9 m c), (h c).2.2.2.2⟩
  · refine (θ_run _ _ _).mono (fun r h c => ?_) (Cert.PrepReferenceIdeal.Read.value m' ρ')
    obtain ⟨e0, e1, e2, e3⟩ := hag c
    refine ⟨(h c).1.trans ?_, (h c).2.1.trans ?_, (h c).2.2.1.trans ?_, (h c).2.2.2.1.trans ?_, (h c).2.2.2.2⟩
    · unfold Cert.PrepIdeal.Array.G6
      exact latents_congr e0 e1
    · unfold Cert.PrepIdeal.Array.G7
      exact latentsT_congr e0 e1
    · unfold Cert.PrepIdeal.Array.G8
      exact indexKeys_congr e0 e2 e3
    · unfold Cert.PrepIdeal.Array.G9
      exact weights_congr e0

end Cert.PrepEquation

end
-- ==== Proof.RouteVocab.lean ====
/- The steps of the routing, named: one round of taking the best score of each column, and what is made of the rounds. -/
module

public import proofs.«01_k».proof.Proof.Gen.RouteIdeal.Frame
public import Idealize.ShloMosaic.Lib.Tactic

@[expose] public section

set_option maxRecDepth 16384

noncomputable section

namespace Cert.RouteIdeal.Vocab

open Cert.RouteIdeal Cert.RouteIdeal.Gen Idealize.ShloMosaic Idealize.ShloMosaic.TcCoe Idealize.SL.Sem

variable {F : FTy → Type} [FloatOps F]

/-- The number of each row, as a float. -/
def keyPos : FVec F S128x128 .f32 := sitofp .f32 (iota .tc S128x128 32 [0] iota_S128x128_d0_w32)
/-- The flat number of each candidate pair, as a float. -/
def candPos : FVec F S80x128 .f32 :=
  let v2 : IVec S8x128 32 := iota .tc S8x128 32 [0] iota_S8x128_d0_w32
  let v3 : FVec F S8x128 .f32 := sitofp .f32 v2
  let v4 : IVec S16x128 32 := iota .tc S16x128 32 [0] iota_S16x128_d0_w32
  let v5 : FVec F S16x128 .f32 := sitofp .f32 v4
  let v6 : FVec F S8x128 .f32 := broadcast S8x128 (Scalar.ofBits .f32 0x41800000#32)
  let v7 : FVec F S8x128 .f32 := addf v3 v6
  let v8 : FVec F S8x128 .f32 := broadcast S8x128 (Scalar.ofBits .f32 0x42000000#32)
  let v9 : FVec F S8x128 .f32 := addf v3 v8
  let v10 : FVec F S8x128 .f32 := broadcast S8x128 (Scalar.ofBits .f32 0x42400000#32)
  let v11 : FVec F S8x128 .f32 := addf v3 v10
  let v12 : FVec F S8x128 .f32 := broadcast S8x128 (Scalar.ofBits .f32 0x42800000#32)
  let v13 : FVec F S8x128 .f32 := addf v3 v12
  let v14 : FVec F S8x128 .f32 := broadcast S8x128 (Scalar.ofBits .f32 0x42A00000#32)
  let v15 : FVec F S8x128 .f32 := addf v3 v14
  let v16 : FVec F S8x128 .f32 := broadcast S8x128 (Scalar.ofBits .f32 0x42C00000#32)
  let v17 : FVec F S8x128 .f32 := addf v3 v16
  let v18 : FVec F S8x128 .f32 := broadcast S8x128 (Scalar.ofBits .f32 0x42E00000#32)
  let v19 : FVec F S8x128 .f32 := addf v3 v18
  let v20 : FVec F S8x128 .f32 := broadcast S8x128 (Scalar.ofBits .f32 0x41000000#32)
  let v21 : FVec F S8x128 .f32 := addf v3 v20
  let v22 : FVec F S8x128 .f32 := broadcast S8x128 (Scalar.ofBits .f32 0x41800000#32)
  let v23 : FVec F S8x128 .f32 := mulf v21 v22
  concatenate S80x128 0 [⟨S16x128, v5⟩, ⟨S8x128, v7⟩, ⟨S8x128, v9⟩, ⟨S8x128, v11⟩, ⟨S8x128, v13⟩, ⟨S8x128, v15⟩, ⟨S8x128, v17⟩, ⟨S8x128, v19⟩, ⟨S8x128, v23⟩] concatenates_S16x128_S8x128_S8x128_S8x128_S8x128_S8x128_S8x128_S8x128_S8x128_S80x128_d0

/-- The greatest score of each column. -/
def mx (v : FVec F S128x128 .f32) : FVec F S1x128 .f32 :=
  shapeCast S1x128 (multiReduction .maximumf [0] S128 v 0xFF800000#32 reduces_S128x128_S128 (.inl rfl) rfl) shapeCasts_S128_S1x128
/-- A row beneath every row. -/
def bc (r : FVec F S1x128 .f32) : FVec F S128x128 .f32 := broadcastTo S128x128 r broadcasts_S1x128_S128x128
/-- The place of the greatest score of each column: the least of the places that hold it. -/
def ps (v : FVec F S128x128 .f32) : FVec F S1x128 .f32 :=
  shapeCast S1x128 (multiReduction .minimumf [0] S128 (select (cmpf .oeq v (bc (mx v))) keyPos (broadcast S128x128 (Scalar.ofBits .f32 0x7F800000#32)))
    0x7F800000#32 reduces_S128x128_S128 (.inl rfl) rfl) shapeCasts_S128_S1x128
/-- Where the place taken is. -/
def hit (v : FVec F S128x128 .f32) : IVec S128x128 1 := cmpf .oeq keyPos (bc (ps v))
/-- The scores with the one taken overwritten. -/
def nx (v : FVec F S128x128 .f32) : FVec F S128x128 .f32 := select (hit v) (broadcast S128x128 (Scalar.ofBits .f32 0xFF800000#32)) v
/-- The scores after `n` rounds. -/
def it (v : FVec F S128x128 .f32) (n : Nat) : FVec F S128x128 .f32 := Nat.rec v (fun _ w => nx w) n

/-- The greatest score of each column. -/
def mx' (v : FVec F S80x128 .f32) : FVec F S1x128 .f32 :=
  shapeCast S1x128 (multiReduction .maximumf [0] S128 v 0xFF800000#32 reduces_S80x128_S128 (.inl rfl) rfl) shapeCasts_S128_S1x128
/-- A row beneath every row. -/
def bc' (r : FVec F S1x128 .f32) : FVec F S80x128 .f32 := broadcastTo S80x128 r broadcasts_S1x128_S80x128
/-- The place of the greatest score of each column: the least of the places that hold it. -/
def ps' (v : FVec F S80x128 .f32) : FVec F S1x128 .f32 :=
  shapeCast S1x128 (multiReduction .minimumf [0] S128 (select (cmpf .oeq v (bc' (mx' v))) candPos (broadcast S80x128 (Scalar.ofBits .f32 0x7F800000#32)))
    0x7F800000#32 reduces_S80x128_S128 (.inl rfl) rfl) shapeCasts_S128_S1x128
/-- Where the place taken is. -/
def hit' (v : FVec F S80x128 .f32) : IVec S80x128 1 := cmpf .oeq candPos (bc' (ps' v))
/-- The scores with the one taken overwritten. -/
def nx' (v : FVec F S80x128 .f32) : FVec F S80x128 .f32 := select (hit' v) (broadcast S80x128 (Scalar.ofBits .f32 0xFF800000#32)) v
/-- The scores after `n` rounds. -/
def it' (v : FVec F S80x128 .f32) (n : Nat) : FVec F S80x128 .f32 := Nat.rec v (fun _ w => nx' w) n

/-- The number that the place taken carries. -/
def py (q : IVec S80x128 32) (v : FVec F S80x128 .f32) : IVec S1x128 32 :=
  shapeCast S1x128 (multiReductionI .add [0] S128 (select (hit' v) q (broadcast S80x128 0#32)) 0#32 reduces_S80x128_S128 rfl) shapeCasts_S128_S1x128
/-- The 16 best scores of each column. -/
def vals (v : FVec F S128x128 .f32) : FVec F S16x128 .f32 := concatenate S16x128 0 [⟨S1x128, mx (it v 0)⟩, ⟨S1x128, mx (it v 1)⟩, ⟨S1x128, mx (it v 2)⟩, ⟨S1x128, mx (it v 3)⟩, ⟨S1x128, mx (it v 4)⟩, ⟨S1x128, mx (it v 5)⟩, ⟨S1x128, mx (it v 6)⟩, ⟨S1x128, mx (it v 7)⟩, ⟨S1x128, mx (it v 8)⟩, ⟨S1x128, mx (it v 9)⟩, ⟨S1x128, mx (it v 10)⟩, ⟨S1x128, mx (it v 11)⟩, ⟨S1x128, mx (it v 12)⟩, ⟨S1x128, mx (it v 13)⟩, ⟨S1x128, mx (it v 14)⟩, ⟨S1x128, mx (it v 15)⟩] concatenates_S1x128_S1x128_S1x128_S1x128_S1x128_S1x128_S1x128_S1x128_S1x128_S1x128_S1x128_S1x128_S1x128_S1x128_S1x128_S1x128_S16x128_d0
/-- Their places. -/
def poss (v : FVec F S128x128 .f32) : FVec F S16x128 .f32 := concatenate S16x128 0 [⟨S1x128, ps (it v 0)⟩, ⟨S1x128, ps (it v 1)⟩, ⟨S1x128, ps (it v 2)⟩, ⟨S1x128, ps (it v 3)⟩, ⟨S1x128, ps (it v 4)⟩, ⟨S1x128, ps (it v 5)⟩, ⟨S1x128, ps (it v 6)⟩, ⟨S1x128, ps (it v 7)⟩, ⟨S1x128, ps (it v 8)⟩, ⟨S1x128, ps (it v 9)⟩, ⟨S1x128, ps (it v 10)⟩, ⟨S1x128, ps (it v 11)⟩, ⟨S1x128, ps (it v 12)⟩, ⟨S1x128, ps (it v 13)⟩, ⟨S1x128, ps (it v 14)⟩, ⟨S1x128, ps (it v 15)⟩] concatenates_S1x128_S1x128_S1x128_S1x128_S1x128_S1x128_S1x128_S1x128_S1x128_S1x128_S1x128_S1x128_S1x128_S1x128_S1x128_S1x128_S16x128_d0
/-- The first keys' part of an expert's number. -/
def hi (v : FVec F S128x128 .f32) : IVec S16x128 32 := muli (fptosi 32 (poss v)) (broadcast S16x128 128#32)
/-- The second keys' part. -/
def lo (v : FVec F S128x128 .f32) : IVec S16x128 32 := fptosi 32 (poss v)
/-- The sums of the candidate pairs. -/
def candS (v405 v406 : FVec F S16x128 .f32) : FVec F S80x128 .f32 :=
  let v413 : FVec F S1x128 .f32 := extractStridedSlice S1x128 ![0, 0] v405 slices_S16x128_o0_0_S1x128
  let v414 : FVec F S16x128 .f32 := broadcastTo S16x128 v413 broadcasts_S1x128_S16x128
  let v415 : FVec F S16x128 .f32 := addf v414 v406
  let v416 : FVec F S1x128 .f32 := extractStridedSlice S1x128 ![1, 0] v405 slices_S16x128_o1_0_S1x128
  let v417 : FVec F S8x128 .f32 := extractStridedSlice S8x128 ![0, 0] v406 slices_S16x128_o0_0_S8x128
  let v418 : FVec F S8x128 .f32 := broadcastTo S8x128 v416 broadcasts_S1x128_S8x128
  let v419 : FVec F S8x128 .f32 := addf v418 v417
  let v420 : FVec F S1x128 .f32 := extractStridedSlice S1x128 ![2, 0] v405 slices_S16x128_o2_0_S1x128
  let v421 : FVec F S8x128 .f32 := extractStridedSlice S8x128 ![0, 0] v406 slices_S16x128_o0_0_S8x128
  let v422 : FVec F S8x128 .f32 := broadcastTo S8x128 v420 broadcasts_S1x128_S8x128
  let v423 : FVec F S8x128 .f32 := addf v422 v421
  let v424 : FVec F S1x128 .f32 := extractStridedSlice S1x128 ![3, 0] v405 slices_S16x128_o3_0_S1x128
  let v425 : FVec F S8x128 .f32 := extractStridedSlice S8x128 ![0, 0] v406 slices_S16x128_o0_0_S8x128
  let v426 : FVec F S8x128 .f32 := broadcastTo S8x128 v424 broadcasts_S1x128_S8x128
  let v427 : FVec F S8x128 .f32 := addf v426 v425
  let v428 : FVec F S1x128 .f32 := extractStridedSlice S1x128 ![4, 0] v405 slices_S16x128_o4_0_S1x128
  let v429 : FVec F S8x128 .f32 := extractStridedSlice S8x128 ![0, 0] v406 slices_S16x128_o0_0_S8x128
  let v430 : FVec F S8x128 .f32 := broadcastTo S8x128 v428 broadcasts_S1x128_S8x128
  let v431 : FVec F S8x128 .f32 := addf v430 v429
  let v432 : FVec F S1x128 .f32 := extractStridedSlice S1x128 ![5, 0] v405 slices_S16x128_o5_0_S1x128
  let v433 : FVec F S8x128 .f32 := extractStridedSlice S8x128 ![0, 0] v406 slices_S16x128_o0_0_S8x128
  let v434 : FVec F S8x128 .f32 := broadcastTo S8x128 v432 broadcasts_S1x128_S8x128
  let v435 : FVec F S8x128 .f32 := addf v434 v433
  let v436 : FVec F S1x128 .f32 := extractStridedSlice S1x128 ![6, 0] v405 slices_S16x128_o6_0_S1x128
  let v437 : FVec F S8x128 .f32 := extractStridedSlice S8x128 ![0, 0] v406 slices_S16x128_o0_0_S8x128
  let v438 : FVec F S8x128 .f32 := broadcastTo S8x128 v436 broadcasts_S1x128_S8x128
  let v439 : FVec F S8x128 .f32 := addf v438 v437
  let v440 : FVec F S1x128 .f32 := extractStridedSlice S1x128 ![7, 0] v405 slices_S16x128_o7_0_S1x128
  let v441 : FVec F S8x128 .f32 := extractStridedSlice S8x128 ![0, 0] v406 slices_S16x128_o0_0_S8x128
  let v442 : FVec F S8x128 .f32 := broadcastTo S8x128 v440 broadcasts_S1x128_S8x128
  let v443 : FVec F S8x128 .f32 := addf v442 v441
  let v444 : FVec F S8x128 .f32 := extractStridedSlice S8x128 ![8, 0] v405 slices_S16x128_o8_0_S8x128
  let v445 : FVec F S1x128 .f32 := extractStridedSlice S1x128 ![0, 0] v406 slices_S16x128_o0_0_S1x128
  let v446 : FVec F S8x128 .f32 := broadcastTo S8x128 v445 broadcasts_S1x128_S8x128
  let v447 : FVec F S8x128 .f32 := addf v444 v446
  concatenate S80x128 0 [⟨S16x128, v415⟩, ⟨S8x128, v419⟩, ⟨S8x128, v423⟩, ⟨S8x128, v427⟩, ⟨S8x128, v431⟩, ⟨S8x128, v435⟩, ⟨S8x128, v439⟩, ⟨S8x128, v443⟩, ⟨S8x128, v447⟩] concatenates_S16x128_S8x128_S8x128_S8x128_S8x128_S8x128_S8x128_S8x128_S8x128_S80x128_d0
/-- The experts' numbers of the candidate pairs. -/
def candI (v410 v412 : IVec S16x128 32) : IVec S80x128 32 :=
  let v449 : IVec S1x128 32 := extractStridedSlice S1x128 ![0, 0] v410 slices_S16x128_o0_0_S1x128
  let v450 : IVec S16x128 32 := broadcastTo S16x128 v449 broadcasts_S1x128_S16x128
  let v451 : IVec S16x128 32 := addi v450 v412
  let v452 : IVec S1x128 32 := extractStridedSlice S1x128 ![1, 0] v410 slices_S16x128_o1_0_S1x128
  let v453 : IVec S8x128 32 := extractStridedSlice S8x128 ![0, 0] v412 slices_S16x128_o0_0_S8x128
  let v454 : IVec S8x128 32 := broadcastTo S8x128 v452 broadcasts_S1x128_S8x128
  let v455 : IVec S8x128 32 := addi v454 v453
  let v456 : IVec S1x128 32 := extractStridedSlice S1x128 ![2, 0] v410 slices_S16x128_o2_0_S1x128
  let v457 : IVec S8x128 32 := extractStridedSlice S8x128 ![0, 0] v412 slices_S16x128_o0_0_S8x128
  let v458 : IVec S8x128 32 := broadcastTo S8x128 v456 broadcasts_S1x128_S8x128
  let v459 : IVec S8x128 32 := addi v458 v457
  let v460 : IVec S1x128 32 := extractStridedSlice S1x128 ![3, 0] v410 slices_S16x128_o3_0_S1x128
  let v461 : IVec S8x128 32 := extractStridedSlice S8x128 ![0, 0] v412 slices_S16x128_o0_0_S8x128
  let v462 : IVec S8x128 32 := broadcastTo S8x128 v460 broadcasts_S1x128_S8x128
  let v463 : IVec S8x128 32 := addi v462 v461
  let v464 : IVec S1x128 32 := extractStridedSlice S1x128 ![4, 0] v410 slices_S16x128_o4_0_S1x128
  let v465 : IVec S8x128 32 := extractStridedSlice S8x128 ![0, 0] v412 slices_S16x128_o0_0_S8x128
  let v466 : IVec S8x128 32 := broadcastTo S8x128 v464 broadcasts_S1x128_S8x128
  let v467 : IVec S8x128 32 := addi v466 v465
  let v468 : IVec S1x128 32 := extractStridedSlice S1x128 ![5, 0] v410 slices_S16x128_o5_0_S1x128
  let v469 : IVec S8x128 32 := extractStridedSlice S8x128 ![0, 0] v412 slices_S16x128_o0_0_S8x128
  let v470 : IVec S8x128 32 := broadcastTo S8x128 v468 broadcasts_S1x128_S8x128
  let v471 : IVec S8x128 32 := addi v470 v469
  let v472 : IVec S1x128 32 := extractStridedSlice S1x128 ![6, 0] v410 slices_S16x128_o6_0_S1x128
  let v473 : IVec S8x128 32 := extractStridedSlice S8x128 ![0, 0] v412 slices_S16x128_o0_0_S8x128
  let v474 : IVec S8x128 32 := broadcastTo S8x128 v472 broadcasts_S1x128_S8x128
  let v475 : IVec S8x128 32 := addi v474 v473
  let v476 : IVec S1x128 32 := extractStridedSlice S1x128 ![7, 0] v410 slices_S16x128_o7_0_S1x128
  let v477 : IVec S8x128 32 := extractStridedSlice S8x128 ![0, 0] v412 slices_S16x128_o0_0_S8x128
  let v478 : IVec S8x128 32 := broadcastTo S8x128 v476 broadcasts_S1x128_S8x128
  let v479 : IVec S8x128 32 := addi v478 v477
  let v480 : IVec S8x128 32 := extractStridedSlice S8x128 ![8, 0] v410 slices_S16x128_o8_0_S8x128
  let v481 : IVec S1x128 32 := extractStridedSlice S1x128 ![0, 0] v412 slices_S16x128_o0_0_S1x128
  let v482 : IVec S8x128 32 := broadcastTo S8x128 v481 broadcasts_S1x128_S8x128
  let v483 : IVec S8x128 32 := addi v480 v482
  concatenate S80x128 0 [⟨S16x128, v451⟩, ⟨S8x128, v455⟩, ⟨S8x128, v459⟩, ⟨S8x128, v463⟩, ⟨S8x128, v467⟩, ⟨S8x128, v471⟩, ⟨S8x128, v475⟩, ⟨S8x128, v479⟩, ⟨S8x128, v483⟩] concatenates_S16x128_S8x128_S8x128_S8x128_S8x128_S8x128_S8x128_S8x128_S8x128_S80x128_d0
/-- The candidates' sums from the two blocks of scores. -/
def cs (a b : FVec F S128x128 .f32) : FVec F S80x128 .f32 := candS (vals a) (vals b)
/-- The candidates' experts from the two blocks of scores. -/
def ci (a b : FVec F S128x128 .f32) : IVec S80x128 32 := candI (hi a) (lo b)
/-- The 16 best sums. -/
def tops (v : FVec F S80x128 .f32) : FVec F S16x128 .f32 := concatenate S16x128 0 [⟨S1x128, mx' (it' v 0)⟩, ⟨S1x128, mx' (it' v 1)⟩, ⟨S1x128, mx' (it' v 2)⟩, ⟨S1x128, mx' (it' v 3)⟩, ⟨S1x128, mx' (it' v 4)⟩, ⟨S1x128, mx' (it' v 5)⟩, ⟨S1x128, mx' (it' v 6)⟩, ⟨S1x128, mx' (it' v 7)⟩, ⟨S1x128, mx' (it' v 8)⟩, ⟨S1x128, mx' (it' v 9)⟩, ⟨S1x128, mx' (it' v 10)⟩, ⟨S1x128, mx' (it' v 11)⟩, ⟨S1x128, mx' (it' v 12)⟩, ⟨S1x128, mx' (it' v 13)⟩, ⟨S1x128, mx' (it' v 14)⟩, ⟨S1x128, mx' (it' v 15)⟩] concatenates_S1x128_S1x128_S1x128_S1x128_S1x128_S1x128_S1x128_S1x128_S1x128_S1x128_S1x128_S1x128_S1x128_S1x128_S1x128_S1x128_S16x128_d0
/-- The softmax of the 16 best sums. -/
def soft (v739 : FVec F S16x128 .f32) : FVec F S16x128 .f32 :=
  let v740 : FVec F S1x128 .f32 := extractStridedSlice S1x128 ![0, 0] v739 slices_S16x128_o0_0_S1x128
  let v741 : FVec F S16x128 .f32 := broadcastTo S16x128 v740 broadcasts_S1x128_S16x128
  let v742 : FVec F S16x128 .f32 := subf v739 v741
  let v743 : FVec F S16x128 .f32 := exp v742
  let v744 : FVec F S128 .f32 := multiReduction .add [0] S128 v743 0x00000000#32 reduces_S16x128_S128 (.inl rfl) rfl
  let v745 : FVec F S1x128 .f32 := shapeCast S1x128 v744 shapeCasts_S128_S1x128
  let v746 : FVec F S16x128 .f32 := broadcastTo S16x128 v745 broadcasts_S1x128_S16x128
  divf v743 v746
/-- The experts of the 16 best sums. -/
def experts (q : IVec S80x128 32) (v : FVec F S80x128 .f32) : IVec S16x128 32 := concatenate S16x128 0 [⟨S1x128, py q (it' v 0)⟩, ⟨S1x128, py q (it' v 1)⟩, ⟨S1x128, py q (it' v 2)⟩, ⟨S1x128, py q (it' v 3)⟩, ⟨S1x128, py q (it' v 4)⟩, ⟨S1x128, py q (it' v 5)⟩, ⟨S1x128, py q (it' v 6)⟩, ⟨S1x128, py q (it' v 7)⟩, ⟨S1x128, py q (it' v 8)⟩, ⟨S1x128, py q (it' v 9)⟩, ⟨S1x128, py q (it' v 10)⟩, ⟨S1x128, py q (it' v 11)⟩, ⟨S1x128, py q (it' v 12)⟩, ⟨S1x128, py q (it' v 13)⟩, ⟨S1x128, py q (it' v 14)⟩, ⟨S1x128, py q (it' v 15)⟩] concatenates_S1x128_S1x128_S1x128_S1x128_S1x128_S1x128_S1x128_S1x128_S1x128_S1x128_S1x128_S1x128_S1x128_S1x128_S1x128_S1x128_S16x128_d0
/-- A head's rows of the experts' block. -/
def outI (a b : FVec F S128x128 .f32) : IVec S1x16x128 32 := shapeCast S1x16x128 (experts (ci a b) (cs a b)) shapeCasts_S16x128_S1x16x128
/-- A head's rows of the gates' block. -/
def outG (a b : FVec F S128x128 .f32) : FVec F S1x16x128 .f32 := shapeCast S1x16x128 (soft (tops (cs a b))) shapeCasts_S16x128_S1x16x128
/-- A head's block of scores. -/
def blk (x : Vec F S1x128x128 .f32) : FVec F S128x128 .f32 := shapeCast S128x128 x shapeCasts_S1x128x128_S128x128

end Cert.RouteIdeal.Vocab

end
-- ==== Proof.RouteFold1.lean ====
/- The values of the routing body, by its steps. -/
module

public import proofs.«01_k».proof.Proof.RouteVocab

@[expose] public section

set_option maxRecDepth 16384

noncomputable section

namespace Cert.RouteIdeal.Fold

open Cert.RouteIdeal Cert.RouteIdeal.Gen Idealize.ShloMosaic Idealize.ShloMosaic.TcCoe Idealize.SL.Sem

open Vocab

variable {F : FTy → Type} [FloatOps F]

/-- a value of the body, by its steps. -/
theorem f1460 (x0 x1 : Vec F S8x128x128 .f32) : k0_pay1460 x0 x1 = keyPos := by
  unfold k0_pay1460; rfl

/-- a value of the body, by its steps. -/
theorem f1461 (x0 x1 : Vec F S8x128x128 .f32) : k0_pay1461 x0 x1 = candPos := by
  unfold k0_pay1461; rfl

/-- Head 0: a value of the body, by its steps. -/
theorem f1462 (x0 x1 : Vec F S8x128x128 .f32) : k0_pay1462 x0 x1 = ps (it (blk (View.ld x0 r0_0)) 0) := by
  unfold k0_pay1462; rfl

/-- Head 0: a value of the body, by its steps. -/
theorem f1463 (x0 x1 : Vec F S8x128x128 .f32) : k0_pay1463 x0 x1 = it (blk (View.ld x0 r0_0)) 1 := by
  unfold k0_pay1463; rfl

/-- Head 0: a value of the body, by its steps. -/
theorem f1464 (x0 x1 : Vec F S8x128x128 .f32) : k0_pay1464 x0 x1 = bc (mx (it (blk (View.ld x0 r0_0)) 1)) := by
  unfold k0_pay1464; rfl

/-- Head 0: a value of the body, by its steps. -/
theorem f1465 (x0 x1 : Vec F S8x128x128 .f32) : k0_pay1465 x0 x1 = ps (it (blk (View.ld x0 r0_0)) 1) := by
  unfold k0_pay1465; rw [f1460, f1463, f1464]; rfl

/-- Head 0: a value of the body, by its steps. -/
theorem f1466 (x0 x1 : Vec F S8x128x128 .f32) : k0_pay1466 x0 x1 = ps (it (blk (View.ld x0 r0_0)) 2) := by
  unfold k0_pay1466; rw [f1460, f1463, f1464]; rfl

/-- Head 0: a value of the body, by its steps. -/
theorem f1467 (x0 x1 : Vec F S8x128x128 .f32) : k0_pay1467 x0 x1 = ps (it (blk (View.ld x0 r0_0)) 3) := by
  unfold k0_pay1467; rw [f1460, f1463, f1464]; rfl

/-- Head 0: a value of the body, by its steps. -/
theorem f1468 (x0 x1 : Vec F S8x128x128 .f32) : k0_pay1468 x0 x1 = ps (it (blk (View.ld x0 r0_0)) 4) := by
  unfold k0_pay1468; rw [f1460, f1463, f1464]; rfl

/-- Head 0: a value of the body, by its steps. -/
theorem f1469 (x0 x1 : Vec F S8x128x128 .f32) : k0_pay1469 x0 x1 = it (blk (View.ld x0 r0_0)) 5 := by
  unfold k0_pay1469; rw [f1460, f1463, f1464]; rfl

/-- Head 0: a value of the body, by its steps. -/
theorem f1470 (x0 x1 : Vec F S8x128x128 .f32) : k0_pay1470 x0 x1 = ps (it (blk (View.ld x0 r0_0)) 5) := by
  unfold k0_pay1470; rw [f1460, f1469]; rfl

/-- Head 0: a value of the body, by its steps. -/
theorem f1471 (x0 x1 : Vec F S8x128x128 .f32) : k0_pay1471 x0 x1 = ps (it (blk (View.ld x0 r0_0)) 6) := by
  unfold k0_pay1471; rw [f1460, f1469]; rfl

/-- Head 0: a value of the body, by its steps. -/
theorem f1472 (x0 x1 : Vec F S8x128x128 .f32) : k0_pay1472 x0 x1 = ps (it (blk (View.ld x0 r0_0)) 7) := by
  unfold k0_pay1472; rw [f1460, f1469]; rfl

/-- Head 0: a value of the body, by its steps. -/
theorem f1473 (x0 x1 : Vec F S8x128x128 .f32) : k0_pay1473 x0 x1 = it (blk (View.ld x0 r0_0)) 8 := by
  unfold k0_pay1473; rw [f1460, f1469]; rfl

/-- Head 0: a value of the body, by its steps. -/
theorem f1474 (x0 x1 : Vec F S8x128x128 .f32) : k0_pay1474 x0 x1 = ps (it (blk (View.ld x0 r0_0)) 8) := by
  unfold k0_pay1474; rw [f1460, f1469]; rfl

/-- Head 0: a value of the body, by its steps. -/
theorem f1475 (x0 x1 : Vec F S8x128x128 .f32) : k0_pay1475 x0 x1 = bc (ps (it (blk (View.ld x0 r0_0)) 8)) := by
  unfold k0_pay1475; rw [f1460, f1469]; rfl

/-- Head 0: a value of the body, by its steps. -/
theorem f1476 (x0 x1 : Vec F S8x128x128 .f32) : k0_pay1476 x0 x1 = ps (it (blk (View.ld x0 r0_0)) 9) := by
  unfold k0_pay1476; rw [f1460, f1473, f1475]; rfl

/-- Head 0: a value of the body, by its steps. -/
theorem f1477 (x0 x1 : Vec F S8x128x128 .f32) : k0_pay1477 x0 x1 = ps (it (blk (View.ld x0 r0_0)) 10) := by
  unfold k0_pay1477; rw [f1460, f1473, f1475]; rfl

/-- Head 0: a value of the body, by its steps. -/
theorem f1478 (x0 x1 : Vec F S8x128x128 .f32) : k0_pay1478 x0 x1 = ps (it (blk (View.ld x0 r0_0)) 11) := by
  unfold k0_pay1478; rw [f1460, f1473, f1475]; rfl

/-- Head 0: a value of the body, by its steps. -/
theorem f1479 (x0 x1 : Vec F S8x128x128 .f32) : k0_pay1479 x0 x1 = it (blk (View.ld x0 r0_0)) 12 := by
  unfold k0_pay1479; rw [f1460, f1473, f1475]; rfl

/-- Head 0: a value of the body, by its steps. -/
theorem f1480 (x0 x1 : Vec F S8x128x128 .f32) : k0_pay1480 x0 x1 = select (cmpf .oeq (it (blk (View.ld x0 r0_0)) 12) (bc (mx (it (blk (View.ld x0 r0_0)) 12)))) keyPos (broadcast S128x128 (Scalar.ofBits .f32 0x7F800000#32)) := by
  unfold k0_pay1480; rw [f1460, f1473, f1475]; rfl

/-- Head 0: a value of the body, by its steps. -/
theorem f1481 (x0 x1 : Vec F S8x128x128 .f32) : k0_pay1481 x0 x1 = ps (it (blk (View.ld x0 r0_0)) 12) := by
  unfold k0_pay1481; rw [f1480]; rfl

/-- Head 0: a value of the body, by its steps. -/
theorem f1482 (x0 x1 : Vec F S8x128x128 .f32) : k0_pay1482 x0 x1 = ps (it (blk (View.ld x0 r0_0)) 13) := by
  unfold k0_pay1482; rw [f1460, f1479, f1480]; rfl

/-- Head 0: a value of the body, by its steps. -/
theorem f1483 (x0 x1 : Vec F S8x128x128 .f32) : k0_pay1483 x0 x1 = ps (it (blk (View.ld x0 r0_0)) 14) := by
  unfold k0_pay1483; rw [f1460, f1479, f1480]; rfl

/-- Head 0: a value of the body, by its steps. -/
theorem f1484 (x0 x1 : Vec F S8x128x128 .f32) : k0_pay1484 x0 x1 = ps (it (blk (View.ld x0 r0_0)) 15) := by
  unfold k0_pay1484; rw [f1460, f1479, f1480]; rfl

/-- Head 0: a value of the body, by its steps. -/
theorem f1485 (x0 x1 : Vec F S8x128x128 .f32) : k0_pay1485 x0 x1 = it (blk (View.ld x1 r0_0)) 0 := by
  unfold k0_pay1485; rfl

/-- Head 0: a value of the body, by its steps. -/
theorem f1486 (x0 x1 : Vec F S8x128x128 .f32) : k0_pay1486 x0 x1 = bc (mx (it (blk (View.ld x1 r0_0)) 0)) := by
  unfold k0_pay1486; rfl

/-- Head 0: a value of the body, by its steps. -/
theorem f1487 (x0 x1 : Vec F S8x128x128 .f32) : k0_pay1487 x0 x1 = ps (it (blk (View.ld x1 r0_0)) 0) := by
  unfold k0_pay1487; rw [f1460, f1485, f1486]; rfl

/-- Head 0: a value of the body, by its steps. -/
theorem f1488 (x0 x1 : Vec F S8x128x128 .f32) : k0_pay1488 x0 x1 = ps (it (blk (View.ld x1 r0_0)) 1) := by
  unfold k0_pay1488; rw [f1460, f1485, f1486]; rfl

/-- Head 0: a value of the body, by its steps. -/
theorem f1489 (x0 x1 : Vec F S8x128x128 .f32) : k0_pay1489 x0 x1 = ps (it (blk (View.ld x1 r0_0)) 2) := by
  unfold k0_pay1489; rw [f1460, f1485, f1486]; rfl

/-- Head 0: a value of the body, by its steps. -/
theorem f1490 (x0 x1 : Vec F S8x128x128 .f32) : k0_pay1490 x0 x1 = ps (it (blk (View.ld x1 r0_0)) 3) := by
  unfold k0_pay1490; rw [f1460, f1485, f1486]; rfl

/-- Head 0: a value of the body, by its steps. -/
theorem f1491 (x0 x1 : Vec F S8x128x128 .f32) : k0_pay1491 x0 x1 = it (blk (View.ld x1 r0_0)) 4 := by
  unfold k0_pay1491; rw [f1460, f1485, f1486]; rfl

/-- Head 0: a value of the body, by its steps. -/
theorem f1492 (x0 x1 : Vec F S8x128x128 .f32) : k0_pay1492 x0 x1 = ps (it (blk (View.ld x1 r0_0)) 4) := by
  unfold k0_pay1492; rw [f1460, f1491]; rfl

/-- Head 0: a value of the body, by its steps. -/
theorem f1493 (x0 x1 : Vec F S8x128x128 .f32) : k0_pay1493 x0 x1 = ps (it (blk (View.ld x1 r0_0)) 5) := by
  unfold k0_pay1493; rw [f1460, f1491]; rfl

/-- Head 0: a value of the body, by its steps. -/
theorem f1494 (x0 x1 : Vec F S8x128x128 .f32) : k0_pay1494 x0 x1 = ps (it (blk (View.ld x1 r0_0)) 6) := by
  unfold k0_pay1494; rw [f1460, f1491]; rfl

/-- Head 0: a value of the body, by its steps. -/
theorem f1495 (x0 x1 : Vec F S8x128x128 .f32) : k0_pay1495 x0 x1 = it (blk (View.ld x1 r0_0)) 7 := by
  unfold k0_pay1495; rw [f1460, f1491]; rfl

/-- Head 0: a value of the body, by its steps. -/
theorem f1496 (x0 x1 : Vec F S8x128x128 .f32) : k0_pay1496 x0 x1 = ps (it (blk (View.ld x1 r0_0)) 7) := by
  unfold k0_pay1496; rw [f1460, f1491]; rfl

/-- Head 0: a value of the body, by its steps. -/
theorem f1497 (x0 x1 : Vec F S8x128x128 .f32) : k0_pay1497 x0 x1 = bc (ps (it (blk (View.ld x1 r0_0)) 7)) := by
  unfold k0_pay1497; rw [f1460, f1491]; rfl

/-- Head 0: a value of the body, by its steps. -/
theorem f1498 (x0 x1 : Vec F S8x128x128 .f32) : k0_pay1498 x0 x1 = ps (it (blk (View.ld x1 r0_0)) 8) := by
  unfold k0_pay1498; rw [f1460, f1495, f1497]; rfl

/-- Head 0: a value of the body, by its steps. -/
theorem f1499 (x0 x1 : Vec F S8x128x128 .f32) : k0_pay1499 x0 x1 = ps (it (blk (View.ld x1 r0_0)) 9) := by
  unfold k0_pay1499; rw [f1460, f1495, f1497]; rfl

/-- Head 0: a value of the body, by its steps. -/
theorem f1500 (x0 x1 : Vec F S8x128x128 .f32) : k0_pay1500 x0 x1 = ps (it (blk (View.ld x1 r0_0)) 10) := by
  unfold k0_pay1500; rw [f1460, f1495, f1497]; rfl

/-- Head 0: a value of the body, by its steps. -/
theorem f1501 (x0 x1 : Vec F S8x128x128 .f32) : k0_pay1501 x0 x1 = it (blk (View.ld x1 r0_0)) 11 := by
  unfold k0_pay1501; rw [f1460, f1495, f1497]; rfl

/-- Head 0: a value of the body, by its steps. -/
theorem f1502 (x0 x1 : Vec F S8x128x128 .f32) : k0_pay1502 x0 x1 = select (cmpf .oeq (it (blk (View.ld x1 r0_0)) 11) (bc (mx (it (blk (View.ld x1 r0_0)) 11)))) keyPos (broadcast S128x128 (Scalar.ofBits .f32 0x7F800000#32)) := by
  unfold k0_pay1502; rw [f1460, f1495, f1497]; rfl

/-- Head 0: a value of the body, by its steps. -/
theorem f1503 (x0 x1 : Vec F S8x128x128 .f32) : k0_pay1503 x0 x1 = ps (it (blk (View.ld x1 r0_0)) 11) := by
  unfold k0_pay1503; rw [f1502]; rfl

/-- Head 0: a value of the body, by its steps. -/
theorem f1504 (x0 x1 : Vec F S8x128x128 .f32) : k0_pay1504 x0 x1 = ps (it (blk (View.ld x1 r0_0)) 12) := by
  unfold k0_pay1504; rw [f1460, f1501, f1502]; rfl

/-- Head 0: a value of the body, by its steps. -/
theorem f1505 (x0 x1 : Vec F S8x128x128 .f32) : k0_pay1505 x0 x1 = ps (it (blk (View.ld x1 r0_0)) 13) := by
  unfold k0_pay1505; rw [f1460, f1501, f1502]; rfl

/-- Head 0: a value of the body, by its steps. -/
theorem f1506 (x0 x1 : Vec F S8x128x128 .f32) : k0_pay1506 x0 x1 = ps (it (blk (View.ld x1 r0_0)) 14) := by
  unfold k0_pay1506; rw [f1460, f1501, f1502]; rfl

/-- Head 0: a value of the body, by its steps. -/
theorem f1507 (x0 x1 : Vec F S8x128x128 .f32) : k0_pay1507 x0 x1 = it (blk (View.ld x1 r0_0)) 15 := by
  unfold k0_pay1507; rw [f1460, f1501, f1502]; rfl

/-- Head 0: a value of the body, by its steps. -/
theorem f1508 (x0 x1 : Vec F S8x128x128 .f32) : k0_pay1508 x0 x1 = bc (mx (it (blk (View.ld x1 r0_0)) 15)) := by
  unfold k0_pay1508; rw [f1460, f1501, f1502]; rfl

/-- Head 0: a value of the body, by its steps. -/
theorem f1509 (x0 x1 : Vec F S8x128x128 .f32) : k0_pay1509 x0 x1 = muli (fptosi 32 (poss (blk (View.ld x0 r0_0)))) (broadcast S16x128 (128#32)) := by
  unfold k0_pay1509; rw [f1462, f1465, f1466, f1467, f1468, f1470, f1471, f1472, f1474, f1476, f1477, f1478, f1481, f1482, f1483, f1484]; rfl

/-- Head 0: a value of the body, by its steps. -/
theorem f1510 (x0 x1 : Vec F S8x128x128 .f32) : k0_pay1510 x0 x1 = fptosi 32 (poss (blk (View.ld x1 r0_0))) := by
  unfold k0_pay1510; rw [f1460, f1487, f1488, f1489, f1490, f1492, f1493, f1494, f1496, f1498, f1499, f1500, f1503, f1504, f1505, f1506, f1507, f1508]; rfl

/-- Head 0: a value of the body, by its steps. -/
theorem f1511 (x0 x1 : Vec F S8x128x128 .f32) : k0_pay1511 x0 x1 = cs (blk (View.ld x0 r0_0)) (blk (View.ld x1 r0_0)) := by
  unfold k0_pay1511; rw [f1460, f1463, f1464, f1469, f1473, f1475, f1479, f1480, f1485, f1486, f1491, f1495, f1497, f1501, f1502]; rfl

/-- Head 0: a value of the body, by its steps. -/
theorem f1512 (x0 x1 : Vec F S8x128x128 .f32) : k0_pay1512 x0 x1 = addi (broadcastTo S16x128 (extractStridedSlice S1x128 ![0, 0] (muli (fptosi 32 (poss (blk (View.ld x0 r0_0)))) (broadcast S16x128 (128#32))) slices_S16x128_o0_0_S1x128) broadcasts_S1x128_S16x128) (fptosi 32 (poss (blk (View.ld x1 r0_0)))) := by
  unfold k0_pay1512; rw [f1460, f1462, f1465, f1466, f1467, f1468, f1470, f1471, f1472, f1474, f1476, f1477, f1478, f1481, f1482, f1483, f1484, f1487, f1488, f1489, f1490, f1492, f1493, f1494, f1496, f1498, f1499, f1500, f1503, f1504, f1505, f1506, f1507, f1508]; rfl

/-- Head 0: a value of the body, by its steps. -/
theorem f1513 (x0 x1 : Vec F S8x128x128 .f32) : k0_pay1513 x0 x1 = addi (broadcastTo S8x128 (extractStridedSlice S1x128 ![1, 0] (muli (fptosi 32 (poss (blk (View.ld x0 r0_0)))) (broadcast S16x128 (128#32))) slices_S16x128_o1_0_S1x128) broadcasts_S1x128_S8x128) (extractStridedSlice S8x128 ![0, 0] (fptosi 32 (poss (blk (View.ld x1 r0_0)))) slices_S16x128_o0_0_S8x128) := by
  unfold k0_pay1513; rw [f1460, f1462, f1465, f1466, f1467, f1468, f1470, f1471, f1472, f1474, f1476, f1477, f1478, f1481, f1482, f1483, f1484, f1487, f1488, f1489, f1490, f1492, f1493, f1494, f1496, f1498, f1499, f1500, f1503, f1504, f1505, f1506, f1507, f1508]; rfl

/-- Head 0: a value of the body, by its steps. -/
theorem f1514 (x0 x1 : Vec F S8x128x128 .f32) : k0_pay1514 x0 x1 = extractStridedSlice S1x128 ![2, 0] (muli (fptosi 32 (poss (blk (View.ld x0 r0_0)))) (broadcast S16x128 (128#32))) slices_S16x128_o2_0_S1x128 := by
  unfold k0_pay1514; rw [f1462, f1465, f1466, f1467, f1468, f1470, f1471, f1472, f1474, f1476, f1477, f1478, f1481, f1482, f1483, f1484]; rfl

/-- Head 0: a value of the body, by its steps. -/
theorem f1515 (x0 x1 : Vec F S8x128x128 .f32) : k0_pay1515 x0 x1 = ci (blk (View.ld x0 r0_0)) (blk (View.ld x1 r0_0)) := by
  unfold k0_pay1515; rw [f1509, f1510, f1512, f1513, f1514]; rfl

/-- Head 0: a value of the body, by its steps. -/
theorem f1516 (x0 x1 : Vec F S8x128x128 .f32) : k0_pay1516 x0 x1 = it' (cs (blk (View.ld x0 r0_0)) (blk (View.ld x1 r0_0))) 1 := by
  unfold k0_pay1516; rw [f1461, f1511]; rfl

/-- Head 0: a value of the body, by its steps. -/
theorem f1517 (x0 x1 : Vec F S8x128x128 .f32) : k0_pay1517 x0 x1 = multiReduction .minimumf [0] S128 (select (cmpf .oeq (it' (cs (blk (View.ld x0 r0_0)) (blk (View.ld x1 r0_0))) 1) (bc' (mx' (it' (cs (blk (View.ld x0 r0_0)) (blk (View.ld x1 r0_0))) 1)))) candPos (broadcast S80x128 (Scalar.ofBits .f32 0x7F800000#32))) 0x7F800000#32 reduces_S80x128_S128 (.inl rfl) rfl := by
  unfold k0_pay1517; rw [f1461, f1511]; rfl

/-- Head 0: a value of the body, by its steps. -/
theorem f1518 (x0 x1 : Vec F S8x128x128 .f32) : k0_pay1518 x0 x1 = it' (cs (blk (View.ld x0 r0_0)) (blk (View.ld x1 r0_0))) 4 := by
  unfold k0_pay1518; rw [f1461, f1516, f1517]; rfl

/-- Head 0: a value of the body, by its steps. -/
theorem f1519 (x0 x1 : Vec F S8x128x128 .f32) : k0_pay1519 x0 x1 = bc' (mx' (it' (cs (blk (View.ld x0 r0_0)) (blk (View.ld x1 r0_0))) 4)) := by
  unfold k0_pay1519; rw [f1461, f1516, f1517]; rfl

/-- Head 0: a value of the body, by its steps. -/
theorem f1520 (x0 x1 : Vec F S8x128x128 .f32) : k0_pay1520 x0 x1 = it' (cs (blk (View.ld x0 r0_0)) (blk (View.ld x1 r0_0))) 6 := by
  unfold k0_pay1520; rw [f1461, f1518, f1519]; rfl

/-- Head 0: a value of the body, by its steps. -/
theorem f1521 (x0 x1 : Vec F S8x128x128 .f32) : k0_pay1521 x0 x1 = hit' (it' (cs (blk (View.ld x0 r0_0)) (blk (View.ld x1 r0_0))) 6) := by
  unfold k0_pay1521; rw [f1461, f1518, f1519]; rfl

/-- Head 0: a value of the body, by its steps. -/
theorem f1522 (x0 x1 : Vec F S8x128x128 .f32) : k0_pay1522 x0 x1 = it' (cs (blk (View.ld x0 r0_0)) (blk (View.ld x1 r0_0))) 9 := by
  unfold k0_pay1522; rw [f1461, f1520, f1521]; rfl

/-- Head 0: a value of the body, by its steps. -/
theorem f1523 (x0 x1 : Vec F S8x128x128 .f32) : k0_pay1523 x0 x1 = hit' (it' (cs (blk (View.ld x0 r0_0)) (blk (View.ld x1 r0_0))) 9) := by
  unfold k0_pay1523; rw [f1461, f1520, f1521]; rfl

/-- Head 0: a value of the body, by its steps. -/
theorem f1524 (x0 x1 : Vec F S8x128x128 .f32) : k0_pay1524 x0 x1 = it' (cs (blk (View.ld x0 r0_0)) (blk (View.ld x1 r0_0))) 12 := by
  unfold k0_pay1524; rw [f1461, f1522, f1523]; rfl

/-- Head 0: a value of the body, by its steps. -/
theorem f1525 (x0 x1 : Vec F S8x128x128 .f32) : k0_pay1525 x0 x1 = select (cmpf .oeq (it' (cs (blk (View.ld x0 r0_0)) (blk (View.ld x1 r0_0))) 12) (bc' (mx' (it' (cs (blk (View.ld x0 r0_0)) (blk (View.ld x1 r0_0))) 12)))) candPos (broadcast S80x128 (Scalar.ofBits .f32 0x7F800000#32)) := by
  unfold k0_pay1525; rw [f1461, f1522, f1523]; rfl

/-- Head 0: a value of the body, by its steps. -/
theorem f1526 (x0 x1 : Vec F S8x128x128 .f32) : k0_pay1526 x0 x1 = multiReduction .maximumf [0] S128 (it' (cs (blk (View.ld x0 r0_0)) (blk (View.ld x1 r0_0))) 15) 0xFF800000#32 reduces_S80x128_S128 (.inl rfl) rfl := by
  unfold k0_pay1526; rw [f1461, f1524, f1525]; rfl

/-- Head 1: a value of the body, by its steps. -/
theorem f1527 (x0 x1 : Vec F S8x128x128 .f32) : k0_pay1527 x0 x1 = it (blk (View.ld x0 r0_2)) 0 := by
  unfold k0_pay1527; rfl

/-- Head 1: a value of the body, by its steps. -/
theorem f1528 (x0 x1 : Vec F S8x128x128 .f32) : k0_pay1528 x0 x1 = ps (it (blk (View.ld x0 r0_2)) 0) := by
  unfold k0_pay1528; rw [f1460]; rfl

/-- Head 1: a value of the body, by its steps. -/
theorem f1529 (x0 x1 : Vec F S8x128x128 .f32) : k0_pay1529 x0 x1 = hit (it (blk (View.ld x0 r0_2)) 0) := by
  unfold k0_pay1529; rw [f1460]; rfl

/-- Head 1: a value of the body, by its steps. -/
theorem f1530 (x0 x1 : Vec F S8x128x128 .f32) : k0_pay1530 x0 x1 = ps (it (blk (View.ld x0 r0_2)) 1) := by
  unfold k0_pay1530; rw [f1460, f1527, f1529]; rfl

/-- Head 1: a value of the body, by its steps. -/
theorem f1531 (x0 x1 : Vec F S8x128x128 .f32) : k0_pay1531 x0 x1 = ps (it (blk (View.ld x0 r0_2)) 2) := by
  unfold k0_pay1531; rw [f1460, f1527, f1529]; rfl

/-- Head 1: a value of the body, by its steps. -/
theorem f1532 (x0 x1 : Vec F S8x128x128 .f32) : k0_pay1532 x0 x1 = ps (it (blk (View.ld x0 r0_2)) 3) := by
  unfold k0_pay1532; rw [f1460, f1527, f1529]; rfl

/-- Head 1: a value of the body, by its steps. -/
theorem f1533 (x0 x1 : Vec F S8x128x128 .f32) : k0_pay1533 x0 x1 = it (blk (View.ld x0 r0_2)) 4 := by
  unfold k0_pay1533; rw [f1460, f1527, f1529]; rfl

/-- Head 1: a value of the body, by its steps. -/
theorem f1534 (x0 x1 : Vec F S8x128x128 .f32) : k0_pay1534 x0 x1 = select (cmpf .oeq (it (blk (View.ld x0 r0_2)) 4) (bc (mx (it (blk (View.ld x0 r0_2)) 4)))) keyPos (broadcast S128x128 (Scalar.ofBits .f32 0x7F800000#32)) := by
  unfold k0_pay1534; rw [f1460, f1527, f1529]; rfl

/-- Head 1: a value of the body, by its steps. -/
theorem f1535 (x0 x1 : Vec F S8x128x128 .f32) : k0_pay1535 x0 x1 = ps (it (blk (View.ld x0 r0_2)) 4) := by
  unfold k0_pay1535; rw [f1534]; rfl

/-- Head 1: a value of the body, by its steps. -/
theorem f1536 (x0 x1 : Vec F S8x128x128 .f32) : k0_pay1536 x0 x1 = ps (it (blk (View.ld x0 r0_2)) 5) := by
  unfold k0_pay1536; rw [f1460, f1533, f1534]; rfl

/-- Head 1: a value of the body, by its steps. -/
theorem f1537 (x0 x1 : Vec F S8x128x128 .f32) : k0_pay1537 x0 x1 = ps (it (blk (View.ld x0 r0_2)) 6) := by
  unfold k0_pay1537; rw [f1460, f1533, f1534]; rfl

/-- Head 1: a value of the body, by its steps. -/
theorem f1538 (x0 x1 : Vec F S8x128x128 .f32) : k0_pay1538 x0 x1 = ps (it (blk (View.ld x0 r0_2)) 7) := by
  unfold k0_pay1538; rw [f1460, f1533, f1534]; rfl

/-- Head 1: a value of the body, by its steps. -/
theorem f1539 (x0 x1 : Vec F S8x128x128 .f32) : k0_pay1539 x0 x1 = it (blk (View.ld x0 r0_2)) 8 := by
  unfold k0_pay1539; rw [f1460, f1533, f1534]; rfl

/-- Head 1: a value of the body, by its steps. -/
theorem f1540 (x0 x1 : Vec F S8x128x128 .f32) : k0_pay1540 x0 x1 = cmpf .oeq (it (blk (View.ld x0 r0_2)) 8) (bc (mx (it (blk (View.ld x0 r0_2)) 8))) := by
  unfold k0_pay1540; rw [f1460, f1533, f1534]; rfl

/-- Head 1: a value of the body, by its steps. -/
theorem f1541 (x0 x1 : Vec F S8x128x128 .f32) : k0_pay1541 x0 x1 = ps (it (blk (View.ld x0 r0_2)) 8) := by
  unfold k0_pay1541; rw [f1460, f1540]; rfl

/-- Head 1: a value of the body, by its steps. -/
theorem f1542 (x0 x1 : Vec F S8x128x128 .f32) : k0_pay1542 x0 x1 = ps (it (blk (View.ld x0 r0_2)) 9) := by
  unfold k0_pay1542; rw [f1460, f1539, f1540]; rfl

/-- Head 1: a value of the body, by its steps. -/
theorem f1543 (x0 x1 : Vec F S8x128x128 .f32) : k0_pay1543 x0 x1 = ps (it (blk (View.ld x0 r0_2)) 10) := by
  unfold k0_pay1543; rw [f1460, f1539, f1540]; rfl

/-- Head 1: a value of the body, by its steps. -/
theorem f1544 (x0 x1 : Vec F S8x128x128 .f32) : k0_pay1544 x0 x1 = ps (it (blk (View.ld x0 r0_2)) 11) := by
  unfold k0_pay1544; rw [f1460, f1539, f1540]; rfl

/-- Head 1: a value of the body, by its steps. -/
theorem f1545 (x0 x1 : Vec F S8x128x128 .f32) : k0_pay1545 x0 x1 = it (blk (View.ld x0 r0_2)) 12 := by
  unfold k0_pay1545; rw [f1460, f1539, f1540]; rfl

/-- Head 1: a value of the body, by its steps. -/
theorem f1546 (x0 x1 : Vec F S8x128x128 .f32) : k0_pay1546 x0 x1 = ps (it (blk (View.ld x0 r0_2)) 12) := by
  unfold k0_pay1546; rw [f1460, f1545]; rfl

/-- Head 1: a value of the body, by its steps. -/
theorem f1547 (x0 x1 : Vec F S8x128x128 .f32) : k0_pay1547 x0 x1 = ps (it (blk (View.ld x0 r0_2)) 13) := by
  unfold k0_pay1547; rw [f1460, f1545]; rfl

/-- Head 1: a value of the body, by its steps. -/
theorem f1548 (x0 x1 : Vec F S8x128x128 .f32) : k0_pay1548 x0 x1 = ps (it (blk (View.ld x0 r0_2)) 14) := by
  unfold k0_pay1548; rw [f1460, f1545]; rfl

/-- Head 1: a value of the body, by its steps. -/
theorem f1549 (x0 x1 : Vec F S8x128x128 .f32) : k0_pay1549 x0 x1 = ps (it (blk (View.ld x0 r0_2)) 15) := by
  unfold k0_pay1549; rw [f1460, f1545]; rfl

/-- Head 1: a value of the body, by its steps. -/
theorem f1550 (x0 x1 : Vec F S8x128x128 .f32) : k0_pay1550 x0 x1 = it (blk (View.ld x1 r0_2)) 3 := by
  unfold k0_pay1550; rw [f1460]; rfl

/-- Head 1: a value of the body, by its steps. -/
theorem f1551 (x0 x1 : Vec F S8x128x128 .f32) : k0_pay1551 x0 x1 = select (cmpf .oeq (it (blk (View.ld x1 r0_2)) 3) (bc (mx (it (blk (View.ld x1 r0_2)) 3)))) keyPos (broadcast S128x128 (Scalar.ofBits .f32 0x7F800000#32)) := by
  unfold k0_pay1551; rw [f1460]; rfl

/-- Head 1: a value of the body, by its steps. -/
theorem f1552 (x0 x1 : Vec F S8x128x128 .f32) : k0_pay1552 x0 x1 = it (blk (View.ld x1 r0_2)) 7 := by
  unfold k0_pay1552; rw [f1460, f1550, f1551]; rfl

/-- Head 1: a value of the body, by its steps. -/
theorem f1553 (x0 x1 : Vec F S8x128x128 .f32) : k0_pay1553 x0 x1 = cmpf .oeq (it (blk (View.ld x1 r0_2)) 7) (bc (mx (it (blk (View.ld x1 r0_2)) 7))) := by
  unfold k0_pay1553; rw [f1460, f1550, f1551]; rfl

/-- Head 1: a value of the body, by its steps. -/
theorem f1554 (x0 x1 : Vec F S8x128x128 .f32) : k0_pay1554 x0 x1 = it (blk (View.ld x1 r0_2)) 11 := by
  unfold k0_pay1554; rw [f1460, f1552, f1553]; rfl

/-- Head 1: a value of the body, by its steps. -/
theorem f1555 (x0 x1 : Vec F S8x128x128 .f32) : k0_pay1555 x0 x1 = it (blk (View.ld x1 r0_2)) 14 := by
  unfold k0_pay1555; rw [f1460, f1554]; rfl

/-- Head 1: a value of the body, by its steps. -/
theorem f1556 (x0 x1 : Vec F S8x128x128 .f32) : k0_pay1556 x0 x1 = hit (it (blk (View.ld x1 r0_2)) 14) := by
  unfold k0_pay1556; rw [f1460, f1554]; rfl

/-- Head 1: a value of the body, by its steps. -/
theorem f1557 (x0 x1 : Vec F S8x128x128 .f32) : k0_pay1557 x0 x1 = muli (fptosi 32 (poss (blk (View.ld x0 r0_2)))) (broadcast S16x128 (128#32)) := by
  unfold k0_pay1557; rw [f1528, f1530, f1531, f1532, f1535, f1536, f1537, f1538, f1541, f1542, f1543, f1544, f1546, f1547, f1548, f1549]; rfl

/-- Head 1: a value of the body, by its steps. -/
theorem f1558 (x0 x1 : Vec F S8x128x128 .f32) : k0_pay1558 x0 x1 = fptosi 32 (poss (blk (View.ld x1 r0_2))) := by
  unfold k0_pay1558; rw [f1460, f1551, f1550, f1553, f1552, f1554, f1555, f1556]; rfl

/-- Head 1: a value of the body, by its steps. -/
theorem f1559 (x0 x1 : Vec F S8x128x128 .f32) : k0_pay1559 x0 x1 = cs (blk (View.ld x0 r0_2)) (blk (View.ld x1 r0_2)) := by
  unfold k0_pay1559; rw [f1527, f1529, f1460, f1533, f1534, f1539, f1540, f1545, f1550, f1551, f1552, f1553, f1554, f1555, f1556]; rfl

/-- Head 1: a value of the body, by its steps. -/
theorem f1560 (x0 x1 : Vec F S8x128x128 .f32) : k0_pay1560 x0 x1 = extractStridedSlice S1x128 ![0, 0] (muli (fptosi 32 (poss (blk (View.ld x0 r0_2)))) (broadcast S16x128 (128#32))) slices_S16x128_o0_0_S1x128 := by
  unfold k0_pay1560; rw [f1528, f1530, f1531, f1532, f1535, f1536, f1537, f1538, f1541, f1542, f1543, f1544, f1546, f1547, f1548, f1549]; rfl

/-- Head 1: a value of the body, by its steps. -/
theorem f1561 (x0 x1 : Vec F S8x128x128 .f32) : k0_pay1561 x0 x1 = ci (blk (View.ld x0 r0_2)) (blk (View.ld x1 r0_2)) := by
  unfold k0_pay1561; rw [f1557, f1558, f1560]; rfl

/-- Head 1: a value of the body, by its steps. -/
theorem f1562 (x0 x1 : Vec F S8x128x128 .f32) : k0_pay1562 x0 x1 = it' (cs (blk (View.ld x0 r0_2)) (blk (View.ld x1 r0_2))) 1 := by
  unfold k0_pay1562; rw [f1461, f1559]; rfl

/-- Head 1: a value of the body, by its steps. -/
theorem f1563 (x0 x1 : Vec F S8x128x128 .f32) : k0_pay1563 x0 x1 = mx' (it' (cs (blk (View.ld x0 r0_2)) (blk (View.ld x1 r0_2))) 1) := by
  unfold k0_pay1563; rw [f1461, f1559]; rfl

/-- Head 1: a value of the body, by its steps. -/
theorem f1564 (x0 x1 : Vec F S8x128x128 .f32) : k0_pay1564 x0 x1 = it' (cs (blk (View.ld x0 r0_2)) (blk (View.ld x1 r0_2))) 3 := by
  unfold k0_pay1564; rw [f1461, f1562, f1563]; rfl

/-- Head 1: a value of the body, by its steps. -/
theorem f1565 (x0 x1 : Vec F S8x128x128 .f32) : k0_pay1565 x0 x1 = hit' (it' (cs (blk (View.ld x0 r0_2)) (blk (View.ld x1 r0_2))) 3) := by
  unfold k0_pay1565; rw [f1461, f1562, f1563]; rfl

/-- Head 1: a value of the body, by its steps. -/
theorem f1566 (x0 x1 : Vec F S8x128x128 .f32) : k0_pay1566 x0 x1 = it' (cs (blk (View.ld x0 r0_2)) (blk (View.ld x1 r0_2))) 6 := by
  unfold k0_pay1566; rw [f1461, f1564, f1565]; rfl

/-- Head 1: a value of the body, by its steps. -/
theorem f1567 (x0 x1 : Vec F S8x128x128 .f32) : k0_pay1567 x0 x1 = hit' (it' (cs (blk (View.ld x0 r0_2)) (blk (View.ld x1 r0_2))) 6) := by
  unfold k0_pay1567; rw [f1461, f1564, f1565]; rfl

/-- Head 1: a value of the body, by its steps. -/
theorem f1568 (x0 x1 : Vec F S8x128x128 .f32) : k0_pay1568 x0 x1 = it' (cs (blk (View.ld x0 r0_2)) (blk (View.ld x1 r0_2))) 9 := by
  unfold k0_pay1568; rw [f1461, f1566, f1567]; rfl

/-- Head 1: a value of the body, by its steps. -/
theorem f1569 (x0 x1 : Vec F S8x128x128 .f32) : k0_pay1569 x0 x1 = cmpf .oeq (it' (cs (blk (View.ld x0 r0_2)) (blk (View.ld x1 r0_2))) 9) (bc' (mx' (it' (cs (blk (View.ld x0 r0_2)) (blk (View.ld x1 r0_2))) 9))) := by
  unfold k0_pay1569; rw [f1461, f1566, f1567]; rfl

/-- a value of the body, by its steps. -/
theorem f1570 (x0 x1 : Vec F S8x128x128 .f32) : k0_pay1570 x0 x1 = broadcast S80x128 (Scalar.ofBits .f32 0x7F800000#32) := by
  unfold k0_pay1570; rfl

/-- Head 1: a value of the body, by its steps. -/
theorem f1571 (x0 x1 : Vec F S8x128x128 .f32) : k0_pay1571 x0 x1 = it' (cs (blk (View.ld x0 r0_2)) (blk (View.ld x1 r0_2))) 12 := by
  unfold k0_pay1571; rw [f1461, f1568, f1569, f1570]; rfl

/-- Head 1: a value of the body, by its steps. -/
theorem f1572 (x0 x1 : Vec F S8x128x128 .f32) : k0_pay1572 x0 x1 = it' (cs (blk (View.ld x0 r0_2)) (blk (View.ld x1 r0_2))) 14 := by
  unfold k0_pay1572; rw [f1461, f1571]; rfl

/-- Head 1: a value of the body, by its steps. -/
theorem f1573 (x0 x1 : Vec F S8x128x128 .f32) : k0_pay1573 x0 x1 = hit' (it' (cs (blk (View.ld x0 r0_2)) (blk (View.ld x1 r0_2))) 14) := by
  unfold k0_pay1573; rw [f1461, f1571]; rfl

/-- Head 2: a value of the body, by its steps. -/
theorem f1574 (x0 x1 : Vec F S8x128x128 .f32) : k0_pay1574 x0 x1 = it (blk (View.ld x0 r0_4)) 0 := by
  unfold k0_pay1574; rfl

/-- Head 2: a value of the body, by its steps. -/
theorem f1575 (x0 x1 : Vec F S8x128x128 .f32) : k0_pay1575 x0 x1 = mx (it (blk (View.ld x0 r0_4)) 0) := by
  unfold k0_pay1575; rfl

/-- Head 2: a value of the body, by its steps. -/
theorem f1576 (x0 x1 : Vec F S8x128x128 .f32) : k0_pay1576 x0 x1 = cmpf .oeq (it (blk (View.ld x0 r0_4)) 0) (bc (mx (it (blk (View.ld x0 r0_4)) 0))) := by
  unfold k0_pay1576; rfl

/-- Head 2: a value of the body, by its steps. -/
theorem f1577 (x0 x1 : Vec F S8x128x128 .f32) : k0_pay1577 x0 x1 = mx (it (blk (View.ld x0 r0_4)) 1) := by
  unfold k0_pay1577; rw [f1460, f1574, f1576]; rfl

/-- Head 2: a value of the body, by its steps. -/
theorem f1578 (x0 x1 : Vec F S8x128x128 .f32) : k0_pay1578 x0 x1 = mx (it (blk (View.ld x0 r0_4)) 2) := by
  unfold k0_pay1578; rw [f1460, f1574, f1576]; rfl

/-- Head 2: a value of the body, by its steps. -/
theorem f1579 (x0 x1 : Vec F S8x128x128 .f32) : k0_pay1579 x0 x1 = mx (it (blk (View.ld x0 r0_4)) 3) := by
  unfold k0_pay1579; rw [f1460, f1574, f1576]; rfl

/-- Head 2: a value of the body, by its steps. -/
theorem f1580 (x0 x1 : Vec F S8x128x128 .f32) : k0_pay1580 x0 x1 = it (blk (View.ld x0 r0_4)) 4 := by
  unfold k0_pay1580; rw [f1460, f1574, f1576]; rfl

/-- Head 2: a value of the body, by its steps. -/
theorem f1581 (x0 x1 : Vec F S8x128x128 .f32) : k0_pay1581 x0 x1 = multiReduction .maximumf [0] S128 (it (blk (View.ld x0 r0_4)) 4) 0xFF800000#32 reduces_S128x128_S128 (.inl rfl) rfl := by
  unfold k0_pay1581; rw [f1460, f1574, f1576]; rfl

/-- Head 2: a value of the body, by its steps. -/
theorem f1582 (x0 x1 : Vec F S8x128x128 .f32) : k0_pay1582 x0 x1 = mx (it (blk (View.ld x0 r0_4)) 4) := by
  unfold k0_pay1582; rw [f1581]; rfl

/-- Head 2: a value of the body, by its steps. -/
theorem f1583 (x0 x1 : Vec F S8x128x128 .f32) : k0_pay1583 x0 x1 = mx (it (blk (View.ld x0 r0_4)) 5) := by
  unfold k0_pay1583; rw [f1460, f1580, f1581]; rfl

/-- Head 2: a value of the body, by its steps. -/
theorem f1584 (x0 x1 : Vec F S8x128x128 .f32) : k0_pay1584 x0 x1 = mx (it (blk (View.ld x0 r0_4)) 6) := by
  unfold k0_pay1584; rw [f1460, f1580, f1581]; rfl

/-- Head 2: a value of the body, by its steps. -/
theorem f1585 (x0 x1 : Vec F S8x128x128 .f32) : k0_pay1585 x0 x1 = it (blk (View.ld x0 r0_4)) 7 := by
  unfold k0_pay1585; rw [f1460, f1580, f1581]; rfl

/-- Head 2: a value of the body, by its steps. -/
theorem f1586 (x0 x1 : Vec F S8x128x128 .f32) : k0_pay1586 x0 x1 = mx (it (blk (View.ld x0 r0_4)) 7) := by
  unfold k0_pay1586; rw [f1460, f1580, f1581]; rfl

/-- Head 2: a value of the body, by its steps. -/
theorem f1587 (x0 x1 : Vec F S8x128x128 .f32) : k0_pay1587 x0 x1 = hit (it (blk (View.ld x0 r0_4)) 7) := by
  unfold k0_pay1587; rw [f1460, f1580, f1581]; rfl

/-- Head 2: a value of the body, by its steps. -/
theorem f1588 (x0 x1 : Vec F S8x128x128 .f32) : k0_pay1588 x0 x1 = mx (it (blk (View.ld x0 r0_4)) 8) := by
  unfold k0_pay1588; rw [f1585, f1587]; rfl

/-- Head 2: a value of the body, by its steps. -/
theorem f1589 (x0 x1 : Vec F S8x128x128 .f32) : k0_pay1589 x0 x1 = mx (it (blk (View.ld x0 r0_4)) 9) := by
  unfold k0_pay1589; rw [f1460, f1585, f1587]; rfl

end Cert.RouteIdeal.Fold

end
-- ==== Proof.RouteFold2.lean ====
/- The values of the routing body, by its steps. -/
module

public import proofs.«01_k».proof.Proof.RouteFold1

@[expose] public section

set_option maxRecDepth 16384

noncomputable section

namespace Cert.RouteIdeal.Fold

open Cert.RouteIdeal Cert.RouteIdeal.Gen Idealize.ShloMosaic Idealize.ShloMosaic.TcCoe Idealize.SL.Sem

open Vocab

variable {F : FTy → Type} [FloatOps F]

/-- Head 2: a value of the body, by its steps. -/
theorem f1590 (x0 x1 : Vec F S8x128x128 .f32) : k0_pay1590 x0 x1 = mx (it (blk (View.ld x0 r0_4)) 10) := by
  unfold k0_pay1590; rw [f1460, f1585, f1587]; rfl

/-- Head 2: a value of the body, by its steps. -/
theorem f1591 (x0 x1 : Vec F S8x128x128 .f32) : k0_pay1591 x0 x1 = it (blk (View.ld x0 r0_4)) 11 := by
  unfold k0_pay1591; rw [f1460, f1585, f1587]; rfl

/-- Head 2: a value of the body, by its steps. -/
theorem f1592 (x0 x1 : Vec F S8x128x128 .f32) : k0_pay1592 x0 x1 = mx (it (blk (View.ld x0 r0_4)) 11) := by
  unfold k0_pay1592; rw [f1460, f1585, f1587]; rfl

/-- Head 2: a value of the body, by its steps. -/
theorem f1593 (x0 x1 : Vec F S8x128x128 .f32) : k0_pay1593 x0 x1 = multiReduction .minimumf [0] S128 (select (cmpf .oeq (it (blk (View.ld x0 r0_4)) 11) (bc (mx (it (blk (View.ld x0 r0_4)) 11)))) keyPos (broadcast S128x128 (Scalar.ofBits .f32 0x7F800000#32))) 0x7F800000#32 reduces_S128x128_S128 (.inl rfl) rfl := by
  unfold k0_pay1593; rw [f1460, f1585, f1587]; rfl

/-- Head 2: a value of the body, by its steps. -/
theorem f1594 (x0 x1 : Vec F S8x128x128 .f32) : k0_pay1594 x0 x1 = mx (it (blk (View.ld x0 r0_4)) 12) := by
  unfold k0_pay1594; rw [f1460, f1591, f1593]; rfl

/-- Head 2: a value of the body, by its steps. -/
theorem f1595 (x0 x1 : Vec F S8x128x128 .f32) : k0_pay1595 x0 x1 = mx (it (blk (View.ld x0 r0_4)) 13) := by
  unfold k0_pay1595; rw [f1460, f1591, f1593]; rfl

/-- Head 2: a value of the body, by its steps. -/
theorem f1596 (x0 x1 : Vec F S8x128x128 .f32) : k0_pay1596 x0 x1 = mx (it (blk (View.ld x0 r0_4)) 14) := by
  unfold k0_pay1596; rw [f1460, f1591, f1593]; rfl

/-- Head 2: a value of the body, by its steps. -/
theorem f1597 (x0 x1 : Vec F S8x128x128 .f32) : k0_pay1597 x0 x1 = mx (it (blk (View.ld x0 r0_4)) 15) := by
  unfold k0_pay1597; rw [f1460, f1591, f1593]; rfl

/-- Head 2: a value of the body, by its steps. -/
theorem f1598 (x0 x1 : Vec F S8x128x128 .f32) : k0_pay1598 x0 x1 = mx (it (blk (View.ld x1 r0_4)) 0) := by
  unfold k0_pay1598; rfl

/-- Head 2: a value of the body, by its steps. -/
theorem f1599 (x0 x1 : Vec F S8x128x128 .f32) : k0_pay1599 x0 x1 = mx (it (blk (View.ld x1 r0_4)) 1) := by
  unfold k0_pay1599; rw [f1460]; rfl

/-- Head 2: a value of the body, by its steps. -/
theorem f1600 (x0 x1 : Vec F S8x128x128 .f32) : k0_pay1600 x0 x1 = mx (it (blk (View.ld x1 r0_4)) 2) := by
  unfold k0_pay1600; rw [f1460]; rfl

/-- Head 2: a value of the body, by its steps. -/
theorem f1601 (x0 x1 : Vec F S8x128x128 .f32) : k0_pay1601 x0 x1 = it (blk (View.ld x1 r0_4)) 3 := by
  unfold k0_pay1601; rw [f1460]; rfl

/-- Head 2: a value of the body, by its steps. -/
theorem f1602 (x0 x1 : Vec F S8x128x128 .f32) : k0_pay1602 x0 x1 = multiReduction .maximumf [0] S128 (it (blk (View.ld x1 r0_4)) 3) 0xFF800000#32 reduces_S128x128_S128 (.inl rfl) rfl := by
  unfold k0_pay1602; rw [f1460]; rfl

/-- Head 2: a value of the body, by its steps. -/
theorem f1603 (x0 x1 : Vec F S8x128x128 .f32) : k0_pay1603 x0 x1 = mx (it (blk (View.ld x1 r0_4)) 3) := by
  unfold k0_pay1603; rw [f1602]; rfl

/-- Head 2: a value of the body, by its steps. -/
theorem f1604 (x0 x1 : Vec F S8x128x128 .f32) : k0_pay1604 x0 x1 = mx (it (blk (View.ld x1 r0_4)) 4) := by
  unfold k0_pay1604; rw [f1460, f1601, f1602]; rfl

/-- Head 2: a value of the body, by its steps. -/
theorem f1605 (x0 x1 : Vec F S8x128x128 .f32) : k0_pay1605 x0 x1 = mx (it (blk (View.ld x1 r0_4)) 5) := by
  unfold k0_pay1605; rw [f1460, f1601, f1602]; rfl

/-- Head 2: a value of the body, by its steps. -/
theorem f1606 (x0 x1 : Vec F S8x128x128 .f32) : k0_pay1606 x0 x1 = it (blk (View.ld x1 r0_4)) 6 := by
  unfold k0_pay1606; rw [f1460, f1601, f1602]; rfl

/-- Head 2: a value of the body, by its steps. -/
theorem f1607 (x0 x1 : Vec F S8x128x128 .f32) : k0_pay1607 x0 x1 = mx (it (blk (View.ld x1 r0_4)) 6) := by
  unfold k0_pay1607; rw [f1460, f1601, f1602]; rfl

/-- Head 2: a value of the body, by its steps. -/
theorem f1608 (x0 x1 : Vec F S8x128x128 .f32) : k0_pay1608 x0 x1 = hit (it (blk (View.ld x1 r0_4)) 6) := by
  unfold k0_pay1608; rw [f1460, f1601, f1602]; rfl

/-- Head 2: a value of the body, by its steps. -/
theorem f1609 (x0 x1 : Vec F S8x128x128 .f32) : k0_pay1609 x0 x1 = mx (it (blk (View.ld x1 r0_4)) 7) := by
  unfold k0_pay1609; rw [f1606, f1608]; rfl

/-- Head 2: a value of the body, by its steps. -/
theorem f1610 (x0 x1 : Vec F S8x128x128 .f32) : k0_pay1610 x0 x1 = mx (it (blk (View.ld x1 r0_4)) 8) := by
  unfold k0_pay1610; rw [f1460, f1606, f1608]; rfl

/-- Head 2: a value of the body, by its steps. -/
theorem f1611 (x0 x1 : Vec F S8x128x128 .f32) : k0_pay1611 x0 x1 = mx (it (blk (View.ld x1 r0_4)) 9) := by
  unfold k0_pay1611; rw [f1460, f1606, f1608]; rfl

/-- Head 2: a value of the body, by its steps. -/
theorem f1612 (x0 x1 : Vec F S8x128x128 .f32) : k0_pay1612 x0 x1 = it (blk (View.ld x1 r0_4)) 10 := by
  unfold k0_pay1612; rw [f1460, f1606, f1608]; rfl

/-- Head 2: a value of the body, by its steps. -/
theorem f1613 (x0 x1 : Vec F S8x128x128 .f32) : k0_pay1613 x0 x1 = mx (it (blk (View.ld x1 r0_4)) 10) := by
  unfold k0_pay1613; rw [f1460, f1606, f1608]; rfl

/-- Head 2: a value of the body, by its steps. -/
theorem f1614 (x0 x1 : Vec F S8x128x128 .f32) : k0_pay1614 x0 x1 = multiReduction .minimumf [0] S128 (select (cmpf .oeq (it (blk (View.ld x1 r0_4)) 10) (bc (mx (it (blk (View.ld x1 r0_4)) 10)))) keyPos (broadcast S128x128 (Scalar.ofBits .f32 0x7F800000#32))) 0x7F800000#32 reduces_S128x128_S128 (.inl rfl) rfl := by
  unfold k0_pay1614; rw [f1460, f1606, f1608]; rfl

/-- Head 2: a value of the body, by its steps. -/
theorem f1615 (x0 x1 : Vec F S8x128x128 .f32) : k0_pay1615 x0 x1 = mx (it (blk (View.ld x1 r0_4)) 11) := by
  unfold k0_pay1615; rw [f1460, f1612, f1614]; rfl

/-- Head 2: a value of the body, by its steps. -/
theorem f1616 (x0 x1 : Vec F S8x128x128 .f32) : k0_pay1616 x0 x1 = mx (it (blk (View.ld x1 r0_4)) 12) := by
  unfold k0_pay1616; rw [f1460, f1612, f1614]; rfl

/-- Head 2: a value of the body, by its steps. -/
theorem f1617 (x0 x1 : Vec F S8x128x128 .f32) : k0_pay1617 x0 x1 = mx (it (blk (View.ld x1 r0_4)) 13) := by
  unfold k0_pay1617; rw [f1460, f1612, f1614]; rfl

/-- Head 2: a value of the body, by its steps. -/
theorem f1618 (x0 x1 : Vec F S8x128x128 .f32) : k0_pay1618 x0 x1 = it (blk (View.ld x1 r0_4)) 14 := by
  unfold k0_pay1618; rw [f1460, f1612, f1614]; rfl

/-- Head 2: a value of the body, by its steps. -/
theorem f1619 (x0 x1 : Vec F S8x128x128 .f32) : k0_pay1619 x0 x1 = mx (it (blk (View.ld x1 r0_4)) 14) := by
  unfold k0_pay1619; rw [f1460, f1612, f1614]; rfl

/-- Head 2: a value of the body, by its steps. -/
theorem f1620 (x0 x1 : Vec F S8x128x128 .f32) : k0_pay1620 x0 x1 = cmpf .oeq (it (blk (View.ld x1 r0_4)) 14) (bc (mx (it (blk (View.ld x1 r0_4)) 14))) := by
  unfold k0_pay1620; rw [f1460, f1612, f1614]; rfl

/-- Head 2: a value of the body, by its steps. -/
theorem f1621 (x0 x1 : Vec F S8x128x128 .f32) : k0_pay1621 x0 x1 = vals (blk (View.ld x0 r0_4)) := by
  unfold k0_pay1621; rw [f1575, f1577, f1578, f1579, f1582, f1583, f1584, f1586, f1588, f1589, f1590, f1592, f1594, f1595, f1596, f1597]; rfl

/-- Head 2: a value of the body, by its steps. -/
theorem f1622 (x0 x1 : Vec F S8x128x128 .f32) : k0_pay1622 x0 x1 = vals (blk (View.ld x1 r0_4)) := by
  unfold k0_pay1622; rw [f1460, f1598, f1599, f1600, f1603, f1604, f1605, f1607, f1609, f1610, f1611, f1613, f1615, f1616, f1617, f1618, f1619, f1620]; rfl

/-- Head 2: a value of the body, by its steps. -/
theorem f1623 (x0 x1 : Vec F S8x128x128 .f32) : k0_pay1623 x0 x1 = muli (fptosi 32 (poss (blk (View.ld x0 r0_4)))) (broadcast S16x128 (128#32)) := by
  unfold k0_pay1623; rw [f1460, f1576, f1574, f1580, f1581, f1585, f1587, f1593, f1591]; rfl

/-- Head 2: a value of the body, by its steps. -/
theorem f1624 (x0 x1 : Vec F S8x128x128 .f32) : k0_pay1624 x0 x1 = fptosi 32 (poss (blk (View.ld x1 r0_4))) := by
  unfold k0_pay1624; rw [f1460, f1601, f1602, f1606, f1608, f1614, f1612, f1618, f1620]; rfl

/-- Head 2: a value of the body, by its steps. -/
theorem f1625 (x0 x1 : Vec F S8x128x128 .f32) : k0_pay1625 x0 x1 = addf (broadcastTo S16x128 (extractStridedSlice S1x128 ![0, 0] (vals (blk (View.ld x0 r0_4))) slices_S16x128_o0_0_S1x128) broadcasts_S1x128_S16x128) (vals (blk (View.ld x1 r0_4))) := by
  unfold k0_pay1625; rw [f1460, f1575, f1577, f1578, f1579, f1582, f1583, f1584, f1586, f1588, f1589, f1590, f1592, f1594, f1595, f1596, f1597, f1598, f1599, f1600, f1603, f1604, f1605, f1607, f1609, f1610, f1611, f1613, f1615, f1616, f1617, f1618, f1619, f1620]; rfl

/-- Head 2: a value of the body, by its steps. -/
theorem f1626 (x0 x1 : Vec F S8x128x128 .f32) : k0_pay1626 x0 x1 = addf (broadcastTo S8x128 (extractStridedSlice S1x128 ![1, 0] (vals (blk (View.ld x0 r0_4))) slices_S16x128_o1_0_S1x128) broadcasts_S1x128_S8x128) (extractStridedSlice S8x128 ![0, 0] (vals (blk (View.ld x1 r0_4))) slices_S16x128_o0_0_S8x128) := by
  unfold k0_pay1626; rw [f1460, f1575, f1577, f1578, f1579, f1582, f1583, f1584, f1586, f1588, f1589, f1590, f1592, f1594, f1595, f1596, f1597, f1598, f1599, f1600, f1603, f1604, f1605, f1607, f1609, f1610, f1611, f1613, f1615, f1616, f1617, f1618, f1619, f1620]; rfl

/-- Head 2: a value of the body, by its steps. -/
theorem f1627 (x0 x1 : Vec F S8x128x128 .f32) : k0_pay1627 x0 x1 = addf (broadcastTo S8x128 (extractStridedSlice S1x128 ![2, 0] (vals (blk (View.ld x0 r0_4))) slices_S16x128_o2_0_S1x128) broadcasts_S1x128_S8x128) (extractStridedSlice S8x128 ![0, 0] (vals (blk (View.ld x1 r0_4))) slices_S16x128_o0_0_S8x128) := by
  unfold k0_pay1627; rw [f1460, f1575, f1577, f1578, f1579, f1582, f1583, f1584, f1586, f1588, f1589, f1590, f1592, f1594, f1595, f1596, f1597, f1598, f1599, f1600, f1603, f1604, f1605, f1607, f1609, f1610, f1611, f1613, f1615, f1616, f1617, f1618, f1619, f1620]; rfl

/-- Head 2: a value of the body, by its steps. -/
theorem f1628 (x0 x1 : Vec F S8x128x128 .f32) : k0_pay1628 x0 x1 = addf (broadcastTo S8x128 (extractStridedSlice S1x128 ![3, 0] (vals (blk (View.ld x0 r0_4))) slices_S16x128_o3_0_S1x128) broadcasts_S1x128_S8x128) (extractStridedSlice S8x128 ![0, 0] (vals (blk (View.ld x1 r0_4))) slices_S16x128_o0_0_S8x128) := by
  unfold k0_pay1628; rw [f1460, f1575, f1577, f1578, f1579, f1582, f1583, f1584, f1586, f1588, f1589, f1590, f1592, f1594, f1595, f1596, f1597, f1598, f1599, f1600, f1603, f1604, f1605, f1607, f1609, f1610, f1611, f1613, f1615, f1616, f1617, f1618, f1619, f1620]; rfl

/-- Head 2: a value of the body, by its steps. -/
theorem f1629 (x0 x1 : Vec F S8x128x128 .f32) : k0_pay1629 x0 x1 = addf (broadcastTo S8x128 (extractStridedSlice S1x128 ![4, 0] (vals (blk (View.ld x0 r0_4))) slices_S16x128_o4_0_S1x128) broadcasts_S1x128_S8x128) (extractStridedSlice S8x128 ![0, 0] (vals (blk (View.ld x1 r0_4))) slices_S16x128_o0_0_S8x128) := by
  unfold k0_pay1629; rw [f1460, f1575, f1577, f1578, f1579, f1582, f1583, f1584, f1586, f1588, f1589, f1590, f1592, f1594, f1595, f1596, f1597, f1598, f1599, f1600, f1603, f1604, f1605, f1607, f1609, f1610, f1611, f1613, f1615, f1616, f1617, f1618, f1619, f1620]; rfl

/-- Head 2: a value of the body, by its steps. -/
theorem f1630 (x0 x1 : Vec F S8x128x128 .f32) : k0_pay1630 x0 x1 = addf (broadcastTo S8x128 (extractStridedSlice S1x128 ![5, 0] (vals (blk (View.ld x0 r0_4))) slices_S16x128_o5_0_S1x128) broadcasts_S1x128_S8x128) (extractStridedSlice S8x128 ![0, 0] (vals (blk (View.ld x1 r0_4))) slices_S16x128_o0_0_S8x128) := by
  unfold k0_pay1630; rw [f1460, f1575, f1577, f1578, f1579, f1582, f1583, f1584, f1586, f1588, f1589, f1590, f1592, f1594, f1595, f1596, f1597, f1598, f1599, f1600, f1603, f1604, f1605, f1607, f1609, f1610, f1611, f1613, f1615, f1616, f1617, f1618, f1619, f1620]; rfl

/-- Head 2: a value of the body, by its steps. -/
theorem f1631 (x0 x1 : Vec F S8x128x128 .f32) : k0_pay1631 x0 x1 = addf (broadcastTo S8x128 (extractStridedSlice S1x128 ![6, 0] (vals (blk (View.ld x0 r0_4))) slices_S16x128_o6_0_S1x128) broadcasts_S1x128_S8x128) (extractStridedSlice S8x128 ![0, 0] (vals (blk (View.ld x1 r0_4))) slices_S16x128_o0_0_S8x128) := by
  unfold k0_pay1631; rw [f1460, f1575, f1577, f1578, f1579, f1582, f1583, f1584, f1586, f1588, f1589, f1590, f1592, f1594, f1595, f1596, f1597, f1598, f1599, f1600, f1603, f1604, f1605, f1607, f1609, f1610, f1611, f1613, f1615, f1616, f1617, f1618, f1619, f1620]; rfl

/-- Head 2: a value of the body, by its steps. -/
theorem f1632 (x0 x1 : Vec F S8x128x128 .f32) : k0_pay1632 x0 x1 = extractStridedSlice S8x128 ![0, 0] (vals (blk (View.ld x1 r0_4))) slices_S16x128_o0_0_S8x128 := by
  unfold k0_pay1632; rw [f1460, f1598, f1599, f1600, f1603, f1604, f1605, f1607, f1609, f1610, f1611, f1613, f1615, f1616, f1617, f1618, f1619, f1620]; rfl

/-- Head 2: a value of the body, by its steps. -/
theorem f1633 (x0 x1 : Vec F S8x128x128 .f32) : k0_pay1633 x0 x1 = broadcastTo S8x128 (extractStridedSlice S1x128 ![7, 0] (vals (blk (View.ld x0 r0_4))) slices_S16x128_o7_0_S1x128) broadcasts_S1x128_S8x128 := by
  unfold k0_pay1633; rw [f1575, f1577, f1578, f1579, f1582, f1583, f1584, f1586, f1588, f1589, f1590, f1592, f1594, f1595, f1596, f1597]; rfl

/-- Head 2: a value of the body, by its steps. -/
theorem f1634 (x0 x1 : Vec F S8x128x128 .f32) : k0_pay1634 x0 x1 = cs (blk (View.ld x0 r0_4)) (blk (View.ld x1 r0_4)) := by
  unfold k0_pay1634; rw [f1621, f1622, f1625, f1626, f1627, f1628, f1629, f1630, f1631, f1632, f1633]; rfl

/-- Head 2: a value of the body, by its steps. -/
theorem f1635 (x0 x1 : Vec F S8x128x128 .f32) : k0_pay1635 x0 x1 = ci (blk (View.ld x0 r0_4)) (blk (View.ld x1 r0_4)) := by
  unfold k0_pay1635; rw [f1623, f1624]; rfl

/-- Head 2: a value of the body, by its steps. -/
theorem f1636 (x0 x1 : Vec F S8x128x128 .f32) : k0_pay1636 x0 x1 = hit' (cs (blk (View.ld x0 r0_4)) (blk (View.ld x1 r0_4))) := by
  unfold k0_pay1636; rw [f1461, f1621, f1622, f1625, f1626, f1627, f1628, f1629, f1630, f1631, f1632, f1633]; rfl

/-- Head 2: a value of the body, by its steps. -/
theorem f1637 (x0 x1 : Vec F S8x128x128 .f32) : k0_pay1637 x0 x1 = it' (cs (blk (View.ld x0 r0_4)) (blk (View.ld x1 r0_4))) 3 := by
  unfold k0_pay1637; rw [f1461, f1634, f1636]; rfl

/-- Head 2: a value of the body, by its steps. -/
theorem f1638 (x0 x1 : Vec F S8x128x128 .f32) : k0_pay1638 x0 x1 = bc' (ps' (it' (cs (blk (View.ld x0 r0_4)) (blk (View.ld x1 r0_4))) 3)) := by
  unfold k0_pay1638; rw [f1461, f1634, f1636]; rfl

/-- Head 2: a value of the body, by its steps. -/
theorem f1639 (x0 x1 : Vec F S8x128x128 .f32) : k0_pay1639 x0 x1 = it' (cs (blk (View.ld x0 r0_4)) (blk (View.ld x1 r0_4))) 6 := by
  unfold k0_pay1639; rw [f1461, f1637, f1638]; rfl

/-- Head 2: a value of the body, by its steps. -/
theorem f1640 (x0 x1 : Vec F S8x128x128 .f32) : k0_pay1640 x0 x1 = cmpf .oeq (it' (cs (blk (View.ld x0 r0_4)) (blk (View.ld x1 r0_4))) 6) (bc' (mx' (it' (cs (blk (View.ld x0 r0_4)) (blk (View.ld x1 r0_4))) 6))) := by
  unfold k0_pay1640; rw [f1461, f1637, f1638]; rfl

/-- Head 2: a value of the body, by its steps. -/
theorem f1641 (x0 x1 : Vec F S8x128x128 .f32) : k0_pay1641 x0 x1 = it' (cs (blk (View.ld x0 r0_4)) (blk (View.ld x1 r0_4))) 9 := by
  unfold k0_pay1641; rw [f1461, f1639, f1640]; rfl

/-- Head 2: a value of the body, by its steps. -/
theorem f1642 (x0 x1 : Vec F S8x128x128 .f32) : k0_pay1642 x0 x1 = it' (cs (blk (View.ld x0 r0_4)) (blk (View.ld x1 r0_4))) 11 := by
  unfold k0_pay1642; rw [f1461, f1641]; rfl

/-- Head 2: a value of the body, by its steps. -/
theorem f1643 (x0 x1 : Vec F S8x128x128 .f32) : k0_pay1643 x0 x1 = hit' (it' (cs (blk (View.ld x0 r0_4)) (blk (View.ld x1 r0_4))) 11) := by
  unfold k0_pay1643; rw [f1461, f1641]; rfl

/-- Head 2: a value of the body, by its steps. -/
theorem f1644 (x0 x1 : Vec F S8x128x128 .f32) : k0_pay1644 x0 x1 = it' (cs (blk (View.ld x0 r0_4)) (blk (View.ld x1 r0_4))) 14 := by
  unfold k0_pay1644; rw [f1461, f1642, f1643]; rfl

/-- Head 2: a value of the body, by its steps. -/
theorem f1645 (x0 x1 : Vec F S8x128x128 .f32) : k0_pay1645 x0 x1 = multiReduction .minimumf [0] S128 (select (cmpf .oeq (it' (cs (blk (View.ld x0 r0_4)) (blk (View.ld x1 r0_4))) 14) (bc' (mx' (it' (cs (blk (View.ld x0 r0_4)) (blk (View.ld x1 r0_4))) 14)))) candPos (broadcast S80x128 (Scalar.ofBits .f32 0x7F800000#32))) 0x7F800000#32 reduces_S80x128_S128 (.inl rfl) rfl := by
  unfold k0_pay1645; rw [f1461, f1642, f1643]; rfl

/-- Head 3: a value of the body, by its steps. -/
theorem f1646 (x0 x1 : Vec F S8x128x128 .f32) : k0_pay1646 x0 x1 = mx (it (blk (View.ld x0 r0_6)) 0) := by
  unfold k0_pay1646; rfl

/-- Head 3: a value of the body, by its steps. -/
theorem f1647 (x0 x1 : Vec F S8x128x128 .f32) : k0_pay1647 x0 x1 = mx (it (blk (View.ld x0 r0_6)) 1) := by
  unfold k0_pay1647; rw [f1460]; rfl

/-- Head 3: a value of the body, by its steps. -/
theorem f1648 (x0 x1 : Vec F S8x128x128 .f32) : k0_pay1648 x0 x1 = mx (it (blk (View.ld x0 r0_6)) 2) := by
  unfold k0_pay1648; rw [f1460]; rfl

/-- Head 3: a value of the body, by its steps. -/
theorem f1649 (x0 x1 : Vec F S8x128x128 .f32) : k0_pay1649 x0 x1 = it (blk (View.ld x0 r0_6)) 3 := by
  unfold k0_pay1649; rw [f1460]; rfl

/-- Head 3: a value of the body, by its steps. -/
theorem f1650 (x0 x1 : Vec F S8x128x128 .f32) : k0_pay1650 x0 x1 = mx (it (blk (View.ld x0 r0_6)) 3) := by
  unfold k0_pay1650; rw [f1460]; rfl

/-- Head 3: a value of the body, by its steps. -/
theorem f1651 (x0 x1 : Vec F S8x128x128 .f32) : k0_pay1651 x0 x1 = ps (it (blk (View.ld x0 r0_6)) 3) := by
  unfold k0_pay1651; rw [f1460]; rfl

/-- Head 3: a value of the body, by its steps. -/
theorem f1652 (x0 x1 : Vec F S8x128x128 .f32) : k0_pay1652 x0 x1 = mx (it (blk (View.ld x0 r0_6)) 4) := by
  unfold k0_pay1652; rw [f1460, f1649, f1651]; rfl

/-- Head 3: a value of the body, by its steps. -/
theorem f1653 (x0 x1 : Vec F S8x128x128 .f32) : k0_pay1653 x0 x1 = mx (it (blk (View.ld x0 r0_6)) 5) := by
  unfold k0_pay1653; rw [f1460, f1649, f1651]; rfl

/-- Head 3: a value of the body, by its steps. -/
theorem f1654 (x0 x1 : Vec F S8x128x128 .f32) : k0_pay1654 x0 x1 = mx (it (blk (View.ld x0 r0_6)) 6) := by
  unfold k0_pay1654; rw [f1460, f1649, f1651]; rfl

/-- Head 3: a value of the body, by its steps. -/
theorem f1655 (x0 x1 : Vec F S8x128x128 .f32) : k0_pay1655 x0 x1 = it (blk (View.ld x0 r0_6)) 7 := by
  unfold k0_pay1655; rw [f1460, f1649, f1651]; rfl

/-- Head 3: a value of the body, by its steps. -/
theorem f1656 (x0 x1 : Vec F S8x128x128 .f32) : k0_pay1656 x0 x1 = mx (it (blk (View.ld x0 r0_6)) 7) := by
  unfold k0_pay1656; rw [f1460, f1649, f1651]; rfl

/-- Head 3: a value of the body, by its steps. -/
theorem f1657 (x0 x1 : Vec F S8x128x128 .f32) : k0_pay1657 x0 x1 = cmpf .oeq (it (blk (View.ld x0 r0_6)) 7) (bc (mx (it (blk (View.ld x0 r0_6)) 7))) := by
  unfold k0_pay1657; rw [f1460, f1649, f1651]; rfl

/-- a value of the body, by its steps. -/
theorem f1658 (x0 x1 : Vec F S8x128x128 .f32) : k0_pay1658 x0 x1 = broadcast S128x128 (Scalar.ofBits .f32 0x7F800000#32) := by
  unfold k0_pay1658; rfl

/-- Head 3: a value of the body, by its steps. -/
theorem f1659 (x0 x1 : Vec F S8x128x128 .f32) : k0_pay1659 x0 x1 = mx (it (blk (View.ld x0 r0_6)) 8) := by
  unfold k0_pay1659; rw [f1460, f1655, f1657, f1658]; rfl

/-- Head 3: a value of the body, by its steps. -/
theorem f1660 (x0 x1 : Vec F S8x128x128 .f32) : k0_pay1660 x0 x1 = mx (it (blk (View.ld x0 r0_6)) 9) := by
  unfold k0_pay1660; rw [f1460, f1655, f1657, f1658]; rfl

/-- Head 3: a value of the body, by its steps. -/
theorem f1661 (x0 x1 : Vec F S8x128x128 .f32) : k0_pay1661 x0 x1 = mx (it (blk (View.ld x0 r0_6)) 10) := by
  unfold k0_pay1661; rw [f1460, f1655, f1657, f1658]; rfl

/-- Head 3: a value of the body, by its steps. -/
theorem f1662 (x0 x1 : Vec F S8x128x128 .f32) : k0_pay1662 x0 x1 = it (blk (View.ld x0 r0_6)) 11 := by
  unfold k0_pay1662; rw [f1460, f1655, f1657, f1658]; rfl

/-- Head 3: a value of the body, by its steps. -/
theorem f1663 (x0 x1 : Vec F S8x128x128 .f32) : k0_pay1663 x0 x1 = mx (it (blk (View.ld x0 r0_6)) 11) := by
  unfold k0_pay1663; rw [f1460, f1655, f1657, f1658]; rfl

/-- Head 3: a value of the body, by its steps. -/
theorem f1664 (x0 x1 : Vec F S8x128x128 .f32) : k0_pay1664 x0 x1 = mx (it (blk (View.ld x0 r0_6)) 12) := by
  unfold k0_pay1664; rw [f1460, f1662, f1663]; rfl

/-- Head 3: a value of the body, by its steps. -/
theorem f1665 (x0 x1 : Vec F S8x128x128 .f32) : k0_pay1665 x0 x1 = mx (it (blk (View.ld x0 r0_6)) 13) := by
  unfold k0_pay1665; rw [f1460, f1662, f1663]; rfl

/-- Head 3: a value of the body, by its steps. -/
theorem f1666 (x0 x1 : Vec F S8x128x128 .f32) : k0_pay1666 x0 x1 = it (blk (View.ld x0 r0_6)) 14 := by
  unfold k0_pay1666; rw [f1460, f1662, f1663]; rfl

/-- Head 3: a value of the body, by its steps. -/
theorem f1667 (x0 x1 : Vec F S8x128x128 .f32) : k0_pay1667 x0 x1 = mx (it (blk (View.ld x0 r0_6)) 14) := by
  unfold k0_pay1667; rw [f1460, f1662, f1663]; rfl

/-- Head 3: a value of the body, by its steps. -/
theorem f1668 (x0 x1 : Vec F S8x128x128 .f32) : k0_pay1668 x0 x1 = hit (it (blk (View.ld x0 r0_6)) 14) := by
  unfold k0_pay1668; rw [f1460, f1662, f1663]; rfl

/-- a value of the body, by its steps. -/
theorem f1669 (x0 x1 : Vec F S8x128x128 .f32) : k0_pay1669 x0 x1 = broadcast S128x128 (Scalar.ofBits .f32 0xFF800000#32) := by
  unfold k0_pay1669; rfl

/-- Head 3: a value of the body, by its steps. -/
theorem f1670 (x0 x1 : Vec F S8x128x128 .f32) : k0_pay1670 x0 x1 = mx (it (blk (View.ld x0 r0_6)) 15) := by
  unfold k0_pay1670; rw [f1666, f1668, f1669]; rfl

/-- Head 3: a value of the body, by its steps. -/
theorem f1671 (x0 x1 : Vec F S8x128x128 .f32) : k0_pay1671 x0 x1 = mx (it (blk (View.ld x1 r0_6)) 0) := by
  unfold k0_pay1671; rfl

/-- Head 3: a value of the body, by its steps. -/
theorem f1672 (x0 x1 : Vec F S8x128x128 .f32) : k0_pay1672 x0 x1 = mx (it (blk (View.ld x1 r0_6)) 1) := by
  unfold k0_pay1672; rw [f1460]; rfl

/-- Head 3: a value of the body, by its steps. -/
theorem f1673 (x0 x1 : Vec F S8x128x128 .f32) : k0_pay1673 x0 x1 = it (blk (View.ld x1 r0_6)) 2 := by
  unfold k0_pay1673; rw [f1460]; rfl

/-- Head 3: a value of the body, by its steps. -/
theorem f1674 (x0 x1 : Vec F S8x128x128 .f32) : k0_pay1674 x0 x1 = mx (it (blk (View.ld x1 r0_6)) 2) := by
  unfold k0_pay1674; rw [f1460]; rfl

/-- Head 3: a value of the body, by its steps. -/
theorem f1675 (x0 x1 : Vec F S8x128x128 .f32) : k0_pay1675 x0 x1 = ps (it (blk (View.ld x1 r0_6)) 2) := by
  unfold k0_pay1675; rw [f1460]; rfl

/-- Head 3: a value of the body, by its steps. -/
theorem f1676 (x0 x1 : Vec F S8x128x128 .f32) : k0_pay1676 x0 x1 = mx (it (blk (View.ld x1 r0_6)) 3) := by
  unfold k0_pay1676; rw [f1460, f1673, f1675]; rfl

/-- Head 3: a value of the body, by its steps. -/
theorem f1677 (x0 x1 : Vec F S8x128x128 .f32) : k0_pay1677 x0 x1 = mx (it (blk (View.ld x1 r0_6)) 4) := by
  unfold k0_pay1677; rw [f1460, f1673, f1675]; rfl

/-- Head 3: a value of the body, by its steps. -/
theorem f1678 (x0 x1 : Vec F S8x128x128 .f32) : k0_pay1678 x0 x1 = mx (it (blk (View.ld x1 r0_6)) 5) := by
  unfold k0_pay1678; rw [f1460, f1673, f1675]; rfl

/-- Head 3: a value of the body, by its steps. -/
theorem f1679 (x0 x1 : Vec F S8x128x128 .f32) : k0_pay1679 x0 x1 = it (blk (View.ld x1 r0_6)) 6 := by
  unfold k0_pay1679; rw [f1460, f1673, f1675]; rfl

/-- Head 3: a value of the body, by its steps. -/
theorem f1680 (x0 x1 : Vec F S8x128x128 .f32) : k0_pay1680 x0 x1 = mx (it (blk (View.ld x1 r0_6)) 6) := by
  unfold k0_pay1680; rw [f1460, f1673, f1675]; rfl

/-- Head 3: a value of the body, by its steps. -/
theorem f1681 (x0 x1 : Vec F S8x128x128 .f32) : k0_pay1681 x0 x1 = cmpf .oeq (it (blk (View.ld x1 r0_6)) 6) (bc (mx (it (blk (View.ld x1 r0_6)) 6))) := by
  unfold k0_pay1681; rw [f1460, f1673, f1675]; rfl

/-- a value of the body, by its steps. -/
theorem f1682 (x0 x1 : Vec F S8x128x128 .f32) : k0_pay1682 x0 x1 = broadcast S128x128 (Scalar.ofBits .f32 0x7F800000#32) := by
  unfold k0_pay1682; rfl

/-- Head 3: a value of the body, by its steps. -/
theorem f1683 (x0 x1 : Vec F S8x128x128 .f32) : k0_pay1683 x0 x1 = mx (it (blk (View.ld x1 r0_6)) 7) := by
  unfold k0_pay1683; rw [f1460, f1679, f1681, f1682]; rfl

/-- Head 3: a value of the body, by its steps. -/
theorem f1684 (x0 x1 : Vec F S8x128x128 .f32) : k0_pay1684 x0 x1 = mx (it (blk (View.ld x1 r0_6)) 8) := by
  unfold k0_pay1684; rw [f1460, f1679, f1681, f1682]; rfl

/-- Head 3: a value of the body, by its steps. -/
theorem f1685 (x0 x1 : Vec F S8x128x128 .f32) : k0_pay1685 x0 x1 = mx (it (blk (View.ld x1 r0_6)) 9) := by
  unfold k0_pay1685; rw [f1460, f1679, f1681, f1682]; rfl

/-- Head 3: a value of the body, by its steps. -/
theorem f1686 (x0 x1 : Vec F S8x128x128 .f32) : k0_pay1686 x0 x1 = it (blk (View.ld x1 r0_6)) 10 := by
  unfold k0_pay1686; rw [f1460, f1679, f1681, f1682]; rfl

/-- Head 3: a value of the body, by its steps. -/
theorem f1687 (x0 x1 : Vec F S8x128x128 .f32) : k0_pay1687 x0 x1 = mx (it (blk (View.ld x1 r0_6)) 10) := by
  unfold k0_pay1687; rw [f1460, f1679, f1681, f1682]; rfl

/-- Head 3: a value of the body, by its steps. -/
theorem f1688 (x0 x1 : Vec F S8x128x128 .f32) : k0_pay1688 x0 x1 = mx (it (blk (View.ld x1 r0_6)) 11) := by
  unfold k0_pay1688; rw [f1460, f1686, f1687]; rfl

/-- Head 3: a value of the body, by its steps. -/
theorem f1689 (x0 x1 : Vec F S8x128x128 .f32) : k0_pay1689 x0 x1 = mx (it (blk (View.ld x1 r0_6)) 12) := by
  unfold k0_pay1689; rw [f1460, f1686, f1687]; rfl

/-- Head 3: a value of the body, by its steps. -/
theorem f1690 (x0 x1 : Vec F S8x128x128 .f32) : k0_pay1690 x0 x1 = it (blk (View.ld x1 r0_6)) 13 := by
  unfold k0_pay1690; rw [f1460, f1686, f1687]; rfl

/-- Head 3: a value of the body, by its steps. -/
theorem f1691 (x0 x1 : Vec F S8x128x128 .f32) : k0_pay1691 x0 x1 = mx (it (blk (View.ld x1 r0_6)) 13) := by
  unfold k0_pay1691; rw [f1460, f1686, f1687]; rfl

/-- Head 3: a value of the body, by its steps. -/
theorem f1692 (x0 x1 : Vec F S8x128x128 .f32) : k0_pay1692 x0 x1 = hit (it (blk (View.ld x1 r0_6)) 13) := by
  unfold k0_pay1692; rw [f1460, f1686, f1687]; rfl

/-- a value of the body, by its steps. -/
theorem f1693 (x0 x1 : Vec F S8x128x128 .f32) : k0_pay1693 x0 x1 = broadcast S128x128 (Scalar.ofBits .f32 0xFF800000#32) := by
  unfold k0_pay1693; rfl

/-- Head 3: a value of the body, by its steps. -/
theorem f1694 (x0 x1 : Vec F S8x128x128 .f32) : k0_pay1694 x0 x1 = vals (blk (View.ld x0 r0_6)) := by
  unfold k0_pay1694; rw [f1646, f1647, f1648, f1650, f1652, f1653, f1654, f1656, f1659, f1660, f1661, f1663, f1664, f1665, f1667, f1670]; rfl

/-- Head 3: a value of the body, by its steps. -/
theorem f1695 (x0 x1 : Vec F S8x128x128 .f32) : k0_pay1695 x0 x1 = vals (blk (View.ld x1 r0_6)) := by
  unfold k0_pay1695; rw [f1460, f1671, f1672, f1674, f1676, f1677, f1678, f1680, f1683, f1684, f1685, f1687, f1688, f1689, f1690, f1691, f1692, f1693]; rfl

/-- Head 3: a value of the body, by its steps. -/
theorem f1696 (x0 x1 : Vec F S8x128x128 .f32) : k0_pay1696 x0 x1 = addf (broadcastTo S16x128 (extractStridedSlice S1x128 ![0, 0] (vals (blk (View.ld x0 r0_6))) slices_S16x128_o0_0_S1x128) broadcasts_S1x128_S16x128) (vals (blk (View.ld x1 r0_6))) := by
  unfold k0_pay1696; rw [f1460, f1646, f1647, f1648, f1650, f1652, f1653, f1654, f1656, f1659, f1660, f1661, f1663, f1664, f1665, f1667, f1670, f1671, f1672, f1674, f1676, f1677, f1678, f1680, f1683, f1684, f1685, f1687, f1688, f1689, f1690, f1691, f1692, f1693]; rfl

/-- Head 3: a value of the body, by its steps. -/
theorem f1697 (x0 x1 : Vec F S8x128x128 .f32) : k0_pay1697 x0 x1 = addf (broadcastTo S8x128 (extractStridedSlice S1x128 ![1, 0] (vals (blk (View.ld x0 r0_6))) slices_S16x128_o1_0_S1x128) broadcasts_S1x128_S8x128) (extractStridedSlice S8x128 ![0, 0] (vals (blk (View.ld x1 r0_6))) slices_S16x128_o0_0_S8x128) := by
  unfold k0_pay1697; rw [f1460, f1646, f1647, f1648, f1650, f1652, f1653, f1654, f1656, f1659, f1660, f1661, f1663, f1664, f1665, f1667, f1670, f1671, f1672, f1674, f1676, f1677, f1678, f1680, f1683, f1684, f1685, f1687, f1688, f1689, f1690, f1691, f1692, f1693]; rfl

/-- Head 3: a value of the body, by its steps. -/
theorem f1698 (x0 x1 : Vec F S8x128x128 .f32) : k0_pay1698 x0 x1 = addf (broadcastTo S8x128 (extractStridedSlice S1x128 ![2, 0] (vals (blk (View.ld x0 r0_6))) slices_S16x128_o2_0_S1x128) broadcasts_S1x128_S8x128) (extractStridedSlice S8x128 ![0, 0] (vals (blk (View.ld x1 r0_6))) slices_S16x128_o0_0_S8x128) := by
  unfold k0_pay1698; rw [f1460, f1646, f1647, f1648, f1650, f1652, f1653, f1654, f1656, f1659, f1660, f1661, f1663, f1664, f1665, f1667, f1670, f1671, f1672, f1674, f1676, f1677, f1678, f1680, f1683, f1684, f1685, f1687, f1688, f1689, f1690, f1691, f1692, f1693]; rfl

/-- Head 3: a value of the body, by its steps. -/
theorem f1699 (x0 x1 : Vec F S8x128x128 .f32) : k0_pay1699 x0 x1 = addf (broadcastTo S8x128 (extractStridedSlice S1x128 ![3, 0] (vals (blk (View.ld x0 r0_6))) slices_S16x128_o3_0_S1x128) broadcasts_S1x128_S8x128) (extractStridedSlice S8x128 ![0, 0] (vals (blk (View.ld x1 r0_6))) slices_S16x128_o0_0_S8x128) := by
  unfold k0_pay1699; rw [f1460, f1646, f1647, f1648, f1650, f1652, f1653, f1654, f1656, f1659, f1660, f1661, f1663, f1664, f1665, f1667, f1670, f1671, f1672, f1674, f1676, f1677, f1678, f1680, f1683, f1684, f1685, f1687, f1688, f1689, f1690, f1691, f1692, f1693]; rfl

/-- Head 3: a value of the body, by its steps. -/
theorem f1700 (x0 x1 : Vec F S8x128x128 .f32) : k0_pay1700 x0 x1 = addf (broadcastTo S8x128 (extractStridedSlice S1x128 ![4, 0] (vals (blk (View.ld x0 r0_6))) slices_S16x128_o4_0_S1x128) broadcasts_S1x128_S8x128) (extractStridedSlice S8x128 ![0, 0] (vals (blk (View.ld x1 r0_6))) slices_S16x128_o0_0_S8x128) := by
  unfold k0_pay1700; rw [f1460, f1646, f1647, f1648, f1650, f1652, f1653, f1654, f1656, f1659, f1660, f1661, f1663, f1664, f1665, f1667, f1670, f1671, f1672, f1674, f1676, f1677, f1678, f1680, f1683, f1684, f1685, f1687, f1688, f1689, f1690, f1691, f1692, f1693]; rfl

/-- Head 3: a value of the body, by its steps. -/
theorem f1701 (x0 x1 : Vec F S8x128x128 .f32) : k0_pay1701 x0 x1 = addf (broadcastTo S8x128 (extractStridedSlice S1x128 ![5, 0] (vals (blk (View.ld x0 r0_6))) slices_S16x128_o5_0_S1x128) broadcasts_S1x128_S8x128) (extractStridedSlice S8x128 ![0, 0] (vals (blk (View.ld x1 r0_6))) slices_S16x128_o0_0_S8x128) := by
  unfold k0_pay1701; rw [f1460, f1646, f1647, f1648, f1650, f1652, f1653, f1654, f1656, f1659, f1660, f1661, f1663, f1664, f1665, f1667, f1670, f1671, f1672, f1674, f1676, f1677, f1678, f1680, f1683, f1684, f1685, f1687, f1688, f1689, f1690, f1691, f1692, f1693]; rfl

/-- Head 3: a value of the body, by its steps. -/
theorem f1702 (x0 x1 : Vec F S8x128x128 .f32) : k0_pay1702 x0 x1 = cs (blk (View.ld x0 r0_6)) (blk (View.ld x1 r0_6)) := by
  unfold k0_pay1702; rw [f1694, f1695, f1696, f1697, f1698, f1699, f1700, f1701]; rfl

/-- Head 3: a value of the body, by its steps. -/
theorem f1703 (x0 x1 : Vec F S8x128x128 .f32) : k0_pay1703 x0 x1 = ci (blk (View.ld x0 r0_6)) (blk (View.ld x1 r0_6)) := by
  unfold k0_pay1703; rw [f1460, f1651, f1649, f1657, f1658, f1655, f1662, f1663, f1666, f1668, f1669, f1675, f1673, f1681, f1682, f1679, f1686, f1687, f1690, f1692, f1693]; rfl

/-- Head 3: a value of the body, by its steps. -/
theorem f1704 (x0 x1 : Vec F S8x128x128 .f32) : k0_pay1704 x0 x1 = ps' (cs (blk (View.ld x0 r0_6)) (blk (View.ld x1 r0_6))) := by
  unfold k0_pay1704; rw [f1461, f1694, f1695, f1696, f1697, f1698, f1699, f1700, f1701]; rfl

/-- Head 3: a value of the body, by its steps. -/
theorem f1705 (x0 x1 : Vec F S8x128x128 .f32) : k0_pay1705 x0 x1 = it' (cs (blk (View.ld x0 r0_6)) (blk (View.ld x1 r0_6))) 3 := by
  unfold k0_pay1705; rw [f1461, f1702, f1704]; rfl

/-- Head 3: a value of the body, by its steps. -/
theorem f1706 (x0 x1 : Vec F S8x128x128 .f32) : k0_pay1706 x0 x1 = cmpf .oeq (it' (cs (blk (View.ld x0 r0_6)) (blk (View.ld x1 r0_6))) 3) (bc' (mx' (it' (cs (blk (View.ld x0 r0_6)) (blk (View.ld x1 r0_6))) 3))) := by
  unfold k0_pay1706; rw [f1461, f1702, f1704]; rfl

/-- Head 3: a value of the body, by its steps. -/
theorem f1707 (x0 x1 : Vec F S8x128x128 .f32) : k0_pay1707 x0 x1 = it' (cs (blk (View.ld x0 r0_6)) (blk (View.ld x1 r0_6))) 5 := by
  unfold k0_pay1707; rw [f1461, f1705, f1706]; rfl

/-- Head 3: a value of the body, by its steps. -/
theorem f1708 (x0 x1 : Vec F S8x128x128 .f32) : k0_pay1708 x0 x1 = hit' (it' (cs (blk (View.ld x0 r0_6)) (blk (View.ld x1 r0_6))) 5) := by
  unfold k0_pay1708; rw [f1461, f1705, f1706]; rfl

/-- a value of the body, by its steps. -/
theorem f1709 (x0 x1 : Vec F S8x128x128 .f32) : k0_pay1709 x0 x1 = broadcast S80x128 (Scalar.ofBits .f32 0xFF800000#32) := by
  unfold k0_pay1709; rfl

/-- Head 3: a value of the body, by its steps. -/
theorem f1710 (x0 x1 : Vec F S8x128x128 .f32) : k0_pay1710 x0 x1 = it' (cs (blk (View.ld x0 r0_6)) (blk (View.ld x1 r0_6))) 8 := by
  unfold k0_pay1710; rw [f1461, f1707, f1708, f1709]; rfl

/-- Head 3: a value of the body, by its steps. -/
theorem f1711 (x0 x1 : Vec F S8x128x128 .f32) : k0_pay1711 x0 x1 = hit' (it' (cs (blk (View.ld x0 r0_6)) (blk (View.ld x1 r0_6))) 8) := by
  unfold k0_pay1711; rw [f1461, f1707, f1708, f1709]; rfl

/-- Head 3: a value of the body, by its steps. -/
theorem f1712 (x0 x1 : Vec F S8x128x128 .f32) : k0_pay1712 x0 x1 = it' (cs (blk (View.ld x0 r0_6)) (blk (View.ld x1 r0_6))) 11 := by
  unfold k0_pay1712; rw [f1461, f1710, f1711]; rfl

/-- Head 3: a value of the body, by its steps. -/
theorem f1713 (x0 x1 : Vec F S8x128x128 .f32) : k0_pay1713 x0 x1 = select (cmpf .oeq (it' (cs (blk (View.ld x0 r0_6)) (blk (View.ld x1 r0_6))) 11) (bc' (mx' (it' (cs (blk (View.ld x0 r0_6)) (blk (View.ld x1 r0_6))) 11)))) candPos (broadcast S80x128 (Scalar.ofBits .f32 0x7F800000#32)) := by
  unfold k0_pay1713; rw [f1461, f1710, f1711]; rfl

/-- Head 3: a value of the body, by its steps. -/
theorem f1714 (x0 x1 : Vec F S8x128x128 .f32) : k0_pay1714 x0 x1 = it' (cs (blk (View.ld x0 r0_6)) (blk (View.ld x1 r0_6))) 14 := by
  unfold k0_pay1714; rw [f1461, f1712, f1713]; rfl

/-- Head 3: a value of the body, by its steps. -/
theorem f1715 (x0 x1 : Vec F S8x128x128 .f32) : k0_pay1715 x0 x1 = mx' (it' (cs (blk (View.ld x0 r0_6)) (blk (View.ld x1 r0_6))) 14) := by
  unfold k0_pay1715; rw [f1461, f1712, f1713]; rfl

/-- Head 4: a value of the body, by its steps. -/
theorem f1716 (x0 x1 : Vec F S8x128x128 .f32) : k0_pay1716 x0 x1 = mx (it (blk (View.ld x0 r0_8)) 0) := by
  unfold k0_pay1716; rfl

/-- Head 4: a value of the body, by its steps. -/
theorem f1717 (x0 x1 : Vec F S8x128x128 .f32) : k0_pay1717 x0 x1 = mx (it (blk (View.ld x0 r0_8)) 1) := by
  unfold k0_pay1717; rw [f1460]; rfl

/-- Head 4: a value of the body, by its steps. -/
theorem f1718 (x0 x1 : Vec F S8x128x128 .f32) : k0_pay1718 x0 x1 = mx (it (blk (View.ld x0 r0_8)) 2) := by
  unfold k0_pay1718; rw [f1460]; rfl

/-- Head 4: a value of the body, by its steps. -/
theorem f1719 (x0 x1 : Vec F S8x128x128 .f32) : k0_pay1719 x0 x1 = it (blk (View.ld x0 r0_8)) 3 := by
  unfold k0_pay1719; rw [f1460]; rfl

end Cert.RouteIdeal.Fold

end
-- ==== Proof.RouteFold3.lean ====
/- The values of the routing body, by its steps. -/
module

public import proofs.«01_k».proof.Proof.RouteFold2

@[expose] public section

set_option maxRecDepth 16384

noncomputable section

namespace Cert.RouteIdeal.Fold

open Cert.RouteIdeal Cert.RouteIdeal.Gen Idealize.ShloMosaic Idealize.ShloMosaic.TcCoe Idealize.SL.Sem

open Vocab

variable {F : FTy → Type} [FloatOps F]

/-- Head 4: a value of the body, by its steps. -/
theorem f1720 (x0 x1 : Vec F S8x128x128 .f32) : k0_pay1720 x0 x1 = mx (it (blk (View.ld x0 r0_8)) 3) := by
  unfold k0_pay1720; rw [f1460]; rfl

/-- Head 4: a value of the body, by its steps. -/
theorem f1721 (x0 x1 : Vec F S8x128x128 .f32) : k0_pay1721 x0 x1 = bc (mx (it (blk (View.ld x0 r0_8)) 3)) := by
  unfold k0_pay1721; rw [f1460]; rfl

/-- Head 4: a value of the body, by its steps. -/
theorem f1722 (x0 x1 : Vec F S8x128x128 .f32) : k0_pay1722 x0 x1 = mx (it (blk (View.ld x0 r0_8)) 4) := by
  unfold k0_pay1722; rw [f1460, f1719, f1721]; rfl

/-- Head 4: a value of the body, by its steps. -/
theorem f1723 (x0 x1 : Vec F S8x128x128 .f32) : k0_pay1723 x0 x1 = mx (it (blk (View.ld x0 r0_8)) 5) := by
  unfold k0_pay1723; rw [f1460, f1719, f1721]; rfl

/-- Head 4: a value of the body, by its steps. -/
theorem f1724 (x0 x1 : Vec F S8x128x128 .f32) : k0_pay1724 x0 x1 = mx (it (blk (View.ld x0 r0_8)) 6) := by
  unfold k0_pay1724; rw [f1460, f1719, f1721]; rfl

/-- Head 4: a value of the body, by its steps. -/
theorem f1725 (x0 x1 : Vec F S8x128x128 .f32) : k0_pay1725 x0 x1 = it (blk (View.ld x0 r0_8)) 7 := by
  unfold k0_pay1725; rw [f1460, f1719, f1721]; rfl

/-- Head 4: a value of the body, by its steps. -/
theorem f1726 (x0 x1 : Vec F S8x128x128 .f32) : k0_pay1726 x0 x1 = mx (it (blk (View.ld x0 r0_8)) 7) := by
  unfold k0_pay1726; rw [f1725]; rfl

/-- Head 4: a value of the body, by its steps. -/
theorem f1727 (x0 x1 : Vec F S8x128x128 .f32) : k0_pay1727 x0 x1 = mx (it (blk (View.ld x0 r0_8)) 8) := by
  unfold k0_pay1727; rw [f1460, f1725]; rfl

/-- Head 4: a value of the body, by its steps. -/
theorem f1728 (x0 x1 : Vec F S8x128x128 .f32) : k0_pay1728 x0 x1 = mx (it (blk (View.ld x0 r0_8)) 9) := by
  unfold k0_pay1728; rw [f1460, f1725]; rfl

/-- Head 4: a value of the body, by its steps. -/
theorem f1729 (x0 x1 : Vec F S8x128x128 .f32) : k0_pay1729 x0 x1 = it (blk (View.ld x0 r0_8)) 10 := by
  unfold k0_pay1729; rw [f1460, f1725]; rfl

/-- Head 4: a value of the body, by its steps. -/
theorem f1730 (x0 x1 : Vec F S8x128x128 .f32) : k0_pay1730 x0 x1 = mx (it (blk (View.ld x0 r0_8)) 10) := by
  unfold k0_pay1730; rw [f1460, f1725]; rfl

/-- Head 4: a value of the body, by its steps. -/
theorem f1731 (x0 x1 : Vec F S8x128x128 .f32) : k0_pay1731 x0 x1 = bc (ps (it (blk (View.ld x0 r0_8)) 10)) := by
  unfold k0_pay1731; rw [f1460, f1725]; rfl

/-- Head 4: a value of the body, by its steps. -/
theorem f1732 (x0 x1 : Vec F S8x128x128 .f32) : k0_pay1732 x0 x1 = mx (it (blk (View.ld x0 r0_8)) 11) := by
  unfold k0_pay1732; rw [f1460, f1729, f1731]; rfl

/-- Head 4: a value of the body, by its steps. -/
theorem f1733 (x0 x1 : Vec F S8x128x128 .f32) : k0_pay1733 x0 x1 = mx (it (blk (View.ld x0 r0_8)) 12) := by
  unfold k0_pay1733; rw [f1460, f1729, f1731]; rfl

/-- Head 4: a value of the body, by its steps. -/
theorem f1734 (x0 x1 : Vec F S8x128x128 .f32) : k0_pay1734 x0 x1 = mx (it (blk (View.ld x0 r0_8)) 13) := by
  unfold k0_pay1734; rw [f1460, f1729, f1731]; rfl

/-- Head 4: a value of the body, by its steps. -/
theorem f1735 (x0 x1 : Vec F S8x128x128 .f32) : k0_pay1735 x0 x1 = it (blk (View.ld x0 r0_8)) 14 := by
  unfold k0_pay1735; rw [f1460, f1729, f1731]; rfl

/-- Head 4: a value of the body, by its steps. -/
theorem f1736 (x0 x1 : Vec F S8x128x128 .f32) : k0_pay1736 x0 x1 = mx (it (blk (View.ld x0 r0_8)) 14) := by
  unfold k0_pay1736; rw [f1460, f1729, f1731]; rfl

/-- Head 4: a value of the body, by its steps. -/
theorem f1737 (x0 x1 : Vec F S8x128x128 .f32) : k0_pay1737 x0 x1 = select (cmpf .oeq (it (blk (View.ld x0 r0_8)) 14) (bc (mx (it (blk (View.ld x0 r0_8)) 14)))) keyPos (broadcast S128x128 (Scalar.ofBits .f32 0x7F800000#32)) := by
  unfold k0_pay1737; rw [f1460, f1729, f1731]; rfl

/-- Head 4: a value of the body, by its steps. -/
theorem f1738 (x0 x1 : Vec F S8x128x128 .f32) : k0_pay1738 x0 x1 = mx (it (blk (View.ld x0 r0_8)) 15) := by
  unfold k0_pay1738; rw [f1460, f1735, f1737]; rfl

/-- Head 4: a value of the body, by its steps. -/
theorem f1739 (x0 x1 : Vec F S8x128x128 .f32) : k0_pay1739 x0 x1 = mx (it (blk (View.ld x1 r0_8)) 0) := by
  unfold k0_pay1739; rfl

/-- Head 4: a value of the body, by its steps. -/
theorem f1740 (x0 x1 : Vec F S8x128x128 .f32) : k0_pay1740 x0 x1 = mx (it (blk (View.ld x1 r0_8)) 1) := by
  unfold k0_pay1740; rw [f1460]; rfl

/-- Head 4: a value of the body, by its steps. -/
theorem f1741 (x0 x1 : Vec F S8x128x128 .f32) : k0_pay1741 x0 x1 = it (blk (View.ld x1 r0_8)) 2 := by
  unfold k0_pay1741; rw [f1460]; rfl

/-- Head 4: a value of the body, by its steps. -/
theorem f1742 (x0 x1 : Vec F S8x128x128 .f32) : k0_pay1742 x0 x1 = mx (it (blk (View.ld x1 r0_8)) 2) := by
  unfold k0_pay1742; rw [f1460]; rfl

/-- Head 4: a value of the body, by its steps. -/
theorem f1743 (x0 x1 : Vec F S8x128x128 .f32) : k0_pay1743 x0 x1 = bc (mx (it (blk (View.ld x1 r0_8)) 2)) := by
  unfold k0_pay1743; rw [f1460]; rfl

/-- Head 4: a value of the body, by its steps. -/
theorem f1744 (x0 x1 : Vec F S8x128x128 .f32) : k0_pay1744 x0 x1 = mx (it (blk (View.ld x1 r0_8)) 3) := by
  unfold k0_pay1744; rw [f1460, f1741, f1743]; rfl

/-- Head 4: a value of the body, by its steps. -/
theorem f1745 (x0 x1 : Vec F S8x128x128 .f32) : k0_pay1745 x0 x1 = mx (it (blk (View.ld x1 r0_8)) 4) := by
  unfold k0_pay1745; rw [f1460, f1741, f1743]; rfl

/-- Head 4: a value of the body, by its steps. -/
theorem f1746 (x0 x1 : Vec F S8x128x128 .f32) : k0_pay1746 x0 x1 = mx (it (blk (View.ld x1 r0_8)) 5) := by
  unfold k0_pay1746; rw [f1460, f1741, f1743]; rfl

/-- Head 4: a value of the body, by its steps. -/
theorem f1747 (x0 x1 : Vec F S8x128x128 .f32) : k0_pay1747 x0 x1 = it (blk (View.ld x1 r0_8)) 6 := by
  unfold k0_pay1747; rw [f1460, f1741, f1743]; rfl

/-- Head 4: a value of the body, by its steps. -/
theorem f1748 (x0 x1 : Vec F S8x128x128 .f32) : k0_pay1748 x0 x1 = mx (it (blk (View.ld x1 r0_8)) 6) := by
  unfold k0_pay1748; rw [f1747]; rfl

/-- Head 4: a value of the body, by its steps. -/
theorem f1749 (x0 x1 : Vec F S8x128x128 .f32) : k0_pay1749 x0 x1 = mx (it (blk (View.ld x1 r0_8)) 7) := by
  unfold k0_pay1749; rw [f1460, f1747]; rfl

/-- Head 4: a value of the body, by its steps. -/
theorem f1750 (x0 x1 : Vec F S8x128x128 .f32) : k0_pay1750 x0 x1 = mx (it (blk (View.ld x1 r0_8)) 8) := by
  unfold k0_pay1750; rw [f1460, f1747]; rfl

/-- Head 4: a value of the body, by its steps. -/
theorem f1751 (x0 x1 : Vec F S8x128x128 .f32) : k0_pay1751 x0 x1 = it (blk (View.ld x1 r0_8)) 9 := by
  unfold k0_pay1751; rw [f1460, f1747]; rfl

/-- Head 4: a value of the body, by its steps. -/
theorem f1752 (x0 x1 : Vec F S8x128x128 .f32) : k0_pay1752 x0 x1 = mx (it (blk (View.ld x1 r0_8)) 9) := by
  unfold k0_pay1752; rw [f1460, f1747]; rfl

/-- Head 4: a value of the body, by its steps. -/
theorem f1753 (x0 x1 : Vec F S8x128x128 .f32) : k0_pay1753 x0 x1 = bc (ps (it (blk (View.ld x1 r0_8)) 9)) := by
  unfold k0_pay1753; rw [f1460, f1747]; rfl

/-- Head 4: a value of the body, by its steps. -/
theorem f1754 (x0 x1 : Vec F S8x128x128 .f32) : k0_pay1754 x0 x1 = mx (it (blk (View.ld x1 r0_8)) 10) := by
  unfold k0_pay1754; rw [f1460, f1751, f1753]; rfl

/-- Head 4: a value of the body, by its steps. -/
theorem f1755 (x0 x1 : Vec F S8x128x128 .f32) : k0_pay1755 x0 x1 = mx (it (blk (View.ld x1 r0_8)) 11) := by
  unfold k0_pay1755; rw [f1460, f1751, f1753]; rfl

/-- Head 4: a value of the body, by its steps. -/
theorem f1756 (x0 x1 : Vec F S8x128x128 .f32) : k0_pay1756 x0 x1 = mx (it (blk (View.ld x1 r0_8)) 12) := by
  unfold k0_pay1756; rw [f1460, f1751, f1753]; rfl

/-- Head 4: a value of the body, by its steps. -/
theorem f1757 (x0 x1 : Vec F S8x128x128 .f32) : k0_pay1757 x0 x1 = it (blk (View.ld x1 r0_8)) 13 := by
  unfold k0_pay1757; rw [f1460, f1751, f1753]; rfl

/-- Head 4: a value of the body, by its steps. -/
theorem f1758 (x0 x1 : Vec F S8x128x128 .f32) : k0_pay1758 x0 x1 = mx (it (blk (View.ld x1 r0_8)) 13) := by
  unfold k0_pay1758; rw [f1460, f1751, f1753]; rfl

/-- Head 4: a value of the body, by its steps. -/
theorem f1759 (x0 x1 : Vec F S8x128x128 .f32) : k0_pay1759 x0 x1 = select (cmpf .oeq (it (blk (View.ld x1 r0_8)) 13) (bc (mx (it (blk (View.ld x1 r0_8)) 13)))) keyPos (broadcast S128x128 (Scalar.ofBits .f32 0x7F800000#32)) := by
  unfold k0_pay1759; rw [f1460, f1751, f1753]; rfl

/-- Head 4: a value of the body, by its steps. -/
theorem f1760 (x0 x1 : Vec F S8x128x128 .f32) : k0_pay1760 x0 x1 = vals (blk (View.ld x0 r0_8)) := by
  unfold k0_pay1760; rw [f1716, f1717, f1718, f1720, f1722, f1723, f1724, f1726, f1727, f1728, f1730, f1732, f1733, f1734, f1736, f1738]; rfl

/-- Head 4: a value of the body, by its steps. -/
theorem f1761 (x0 x1 : Vec F S8x128x128 .f32) : k0_pay1761 x0 x1 = vals (blk (View.ld x1 r0_8)) := by
  unfold k0_pay1761; rw [f1460, f1739, f1740, f1742, f1744, f1745, f1746, f1748, f1749, f1750, f1752, f1754, f1755, f1756, f1757, f1758, f1759]; rfl

/-- Head 4: a value of the body, by its steps. -/
theorem f1762 (x0 x1 : Vec F S8x128x128 .f32) : k0_pay1762 x0 x1 = addf (broadcastTo S16x128 (extractStridedSlice S1x128 ![0, 0] (vals (blk (View.ld x0 r0_8))) slices_S16x128_o0_0_S1x128) broadcasts_S1x128_S16x128) (vals (blk (View.ld x1 r0_8))) := by
  unfold k0_pay1762; rw [f1460, f1716, f1717, f1718, f1720, f1722, f1723, f1724, f1726, f1727, f1728, f1730, f1732, f1733, f1734, f1736, f1738, f1739, f1740, f1742, f1744, f1745, f1746, f1748, f1749, f1750, f1752, f1754, f1755, f1756, f1757, f1758, f1759]; rfl

/-- Head 4: a value of the body, by its steps. -/
theorem f1763 (x0 x1 : Vec F S8x128x128 .f32) : k0_pay1763 x0 x1 = addf (broadcastTo S8x128 (extractStridedSlice S1x128 ![1, 0] (vals (blk (View.ld x0 r0_8))) slices_S16x128_o1_0_S1x128) broadcasts_S1x128_S8x128) (extractStridedSlice S8x128 ![0, 0] (vals (blk (View.ld x1 r0_8))) slices_S16x128_o0_0_S8x128) := by
  unfold k0_pay1763; rw [f1460, f1716, f1717, f1718, f1720, f1722, f1723, f1724, f1726, f1727, f1728, f1730, f1732, f1733, f1734, f1736, f1738, f1739, f1740, f1742, f1744, f1745, f1746, f1748, f1749, f1750, f1752, f1754, f1755, f1756, f1757, f1758, f1759]; rfl

/-- Head 4: a value of the body, by its steps. -/
theorem f1764 (x0 x1 : Vec F S8x128x128 .f32) : k0_pay1764 x0 x1 = addf (broadcastTo S8x128 (extractStridedSlice S1x128 ![2, 0] (vals (blk (View.ld x0 r0_8))) slices_S16x128_o2_0_S1x128) broadcasts_S1x128_S8x128) (extractStridedSlice S8x128 ![0, 0] (vals (blk (View.ld x1 r0_8))) slices_S16x128_o0_0_S8x128) := by
  unfold k0_pay1764; rw [f1460, f1716, f1717, f1718, f1720, f1722, f1723, f1724, f1726, f1727, f1728, f1730, f1732, f1733, f1734, f1736, f1738, f1739, f1740, f1742, f1744, f1745, f1746, f1748, f1749, f1750, f1752, f1754, f1755, f1756, f1757, f1758, f1759]; rfl

/-- Head 4: a value of the body, by its steps. -/
theorem f1765 (x0 x1 : Vec F S8x128x128 .f32) : k0_pay1765 x0 x1 = addf (broadcastTo S8x128 (extractStridedSlice S1x128 ![3, 0] (vals (blk (View.ld x0 r0_8))) slices_S16x128_o3_0_S1x128) broadcasts_S1x128_S8x128) (extractStridedSlice S8x128 ![0, 0] (vals (blk (View.ld x1 r0_8))) slices_S16x128_o0_0_S8x128) := by
  unfold k0_pay1765; rw [f1460, f1716, f1717, f1718, f1720, f1722, f1723, f1724, f1726, f1727, f1728, f1730, f1732, f1733, f1734, f1736, f1738, f1739, f1740, f1742, f1744, f1745, f1746, f1748, f1749, f1750, f1752, f1754, f1755, f1756, f1757, f1758, f1759]; rfl

/-- Head 4: a value of the body, by its steps. -/
theorem f1766 (x0 x1 : Vec F S8x128x128 .f32) : k0_pay1766 x0 x1 = extractStridedSlice S1x128 ![4, 0] (vals (blk (View.ld x0 r0_8))) slices_S16x128_o4_0_S1x128 := by
  unfold k0_pay1766; rw [f1716, f1717, f1718, f1720, f1722, f1723, f1724, f1726, f1727, f1728, f1730, f1732, f1733, f1734, f1736, f1738]; rfl

/-- Head 4: a value of the body, by its steps. -/
theorem f1767 (x0 x1 : Vec F S8x128x128 .f32) : k0_pay1767 x0 x1 = cs (blk (View.ld x0 r0_8)) (blk (View.ld x1 r0_8)) := by
  unfold k0_pay1767; rw [f1760, f1761, f1762, f1763, f1764, f1765, f1766]; rfl

/-- Head 4: a value of the body, by its steps. -/
theorem f1768 (x0 x1 : Vec F S8x128x128 .f32) : k0_pay1768 x0 x1 = ci (blk (View.ld x0 r0_8)) (blk (View.ld x1 r0_8)) := by
  unfold k0_pay1768; rw [f1460, f1719, f1721, f1725, f1729, f1731, f1737, f1735, f1741, f1743, f1747, f1751, f1753, f1757, f1759]; rfl

/-- Head 4: a value of the body, by its steps. -/
theorem f1769 (x0 x1 : Vec F S8x128x128 .f32) : k0_pay1769 x0 x1 = bc' (mx' (cs (blk (View.ld x0 r0_8)) (blk (View.ld x1 r0_8)))) := by
  unfold k0_pay1769; rw [f1760, f1761, f1762, f1763, f1764, f1765, f1766]; rfl

/-- Head 4: a value of the body, by its steps. -/
theorem f1770 (x0 x1 : Vec F S8x128x128 .f32) : k0_pay1770 x0 x1 = it' (cs (blk (View.ld x0 r0_8)) (blk (View.ld x1 r0_8))) 2 := by
  unfold k0_pay1770; rw [f1461, f1767, f1769]; rfl

/-- Head 4: a value of the body, by its steps. -/
theorem f1771 (x0 x1 : Vec F S8x128x128 .f32) : k0_pay1771 x0 x1 = hit' (it' (cs (blk (View.ld x0 r0_8)) (blk (View.ld x1 r0_8))) 2) := by
  unfold k0_pay1771; rw [f1461, f1767, f1769]; rfl

/-- Head 4: a value of the body, by its steps. -/
theorem f1772 (x0 x1 : Vec F S8x128x128 .f32) : k0_pay1772 x0 x1 = it' (cs (blk (View.ld x0 r0_8)) (blk (View.ld x1 r0_8))) 5 := by
  unfold k0_pay1772; rw [f1461, f1770, f1771]; rfl

/-- Head 4: a value of the body, by its steps. -/
theorem f1773 (x0 x1 : Vec F S8x128x128 .f32) : k0_pay1773 x0 x1 = hit' (it' (cs (blk (View.ld x0 r0_8)) (blk (View.ld x1 r0_8))) 5) := by
  unfold k0_pay1773; rw [f1461, f1770, f1771]; rfl

/-- Head 4: a value of the body, by its steps. -/
theorem f1774 (x0 x1 : Vec F S8x128x128 .f32) : k0_pay1774 x0 x1 = it' (cs (blk (View.ld x0 r0_8)) (blk (View.ld x1 r0_8))) 8 := by
  unfold k0_pay1774; rw [f1461, f1772, f1773]; rfl

/-- Head 4: a value of the body, by its steps. -/
theorem f1775 (x0 x1 : Vec F S8x128x128 .f32) : k0_pay1775 x0 x1 = select (cmpf .oeq (it' (cs (blk (View.ld x0 r0_8)) (blk (View.ld x1 r0_8))) 8) (bc' (mx' (it' (cs (blk (View.ld x0 r0_8)) (blk (View.ld x1 r0_8))) 8)))) candPos (broadcast S80x128 (Scalar.ofBits .f32 0x7F800000#32)) := by
  unfold k0_pay1775; rw [f1461, f1772, f1773]; rfl

/-- Head 4: a value of the body, by its steps. -/
theorem f1776 (x0 x1 : Vec F S8x128x128 .f32) : k0_pay1776 x0 x1 = it' (cs (blk (View.ld x0 r0_8)) (blk (View.ld x1 r0_8))) 11 := by
  unfold k0_pay1776; rw [f1461, f1774, f1775]; rfl

/-- Head 4: a value of the body, by its steps. -/
theorem f1777 (x0 x1 : Vec F S8x128x128 .f32) : k0_pay1777 x0 x1 = multiReduction .maximumf [0] S128 (it' (cs (blk (View.ld x0 r0_8)) (blk (View.ld x1 r0_8))) 11) 0xFF800000#32 reduces_S80x128_S128 (.inl rfl) rfl := by
  unfold k0_pay1777; rw [f1461, f1774, f1775]; rfl

/-- Head 4: a value of the body, by its steps. -/
theorem f1778 (x0 x1 : Vec F S8x128x128 .f32) : k0_pay1778 x0 x1 = it' (cs (blk (View.ld x0 r0_8)) (blk (View.ld x1 r0_8))) 13 := by
  unfold k0_pay1778; rw [f1461, f1776, f1777]; rfl

/-- Head 4: a value of the body, by its steps. -/
theorem f1779 (x0 x1 : Vec F S8x128x128 .f32) : k0_pay1779 x0 x1 = hit' (it' (cs (blk (View.ld x0 r0_8)) (blk (View.ld x1 r0_8))) 13) := by
  unfold k0_pay1779; rw [f1461, f1776, f1777]; rfl

/-- Head 5: a value of the body, by its steps. -/
theorem f1780 (x0 x1 : Vec F S8x128x128 .f32) : k0_pay1780 x0 x1 = mx (it (blk (View.ld x0 r0_10)) 0) := by
  unfold k0_pay1780; rfl

/-- Head 5: a value of the body, by its steps. -/
theorem f1781 (x0 x1 : Vec F S8x128x128 .f32) : k0_pay1781 x0 x1 = mx (it (blk (View.ld x0 r0_10)) 1) := by
  unfold k0_pay1781; rw [f1460]; rfl

/-- Head 5: a value of the body, by its steps. -/
theorem f1782 (x0 x1 : Vec F S8x128x128 .f32) : k0_pay1782 x0 x1 = it (blk (View.ld x0 r0_10)) 2 := by
  unfold k0_pay1782; rw [f1460]; rfl

/-- Head 5: a value of the body, by its steps. -/
theorem f1783 (x0 x1 : Vec F S8x128x128 .f32) : k0_pay1783 x0 x1 = mx (it (blk (View.ld x0 r0_10)) 2) := by
  unfold k0_pay1783; rw [f1460]; rfl

/-- Head 5: a value of the body, by its steps. -/
theorem f1784 (x0 x1 : Vec F S8x128x128 .f32) : k0_pay1784 x0 x1 = hit (it (blk (View.ld x0 r0_10)) 2) := by
  unfold k0_pay1784; rw [f1460]; rfl

/-- Head 5: a value of the body, by its steps. -/
theorem f1785 (x0 x1 : Vec F S8x128x128 .f32) : k0_pay1785 x0 x1 = mx (it (blk (View.ld x0 r0_10)) 3) := by
  unfold k0_pay1785; rw [f1782, f1784]; rfl

/-- Head 5: a value of the body, by its steps. -/
theorem f1786 (x0 x1 : Vec F S8x128x128 .f32) : k0_pay1786 x0 x1 = mx (it (blk (View.ld x0 r0_10)) 4) := by
  unfold k0_pay1786; rw [f1460, f1782, f1784]; rfl

/-- Head 5: a value of the body, by its steps. -/
theorem f1787 (x0 x1 : Vec F S8x128x128 .f32) : k0_pay1787 x0 x1 = mx (it (blk (View.ld x0 r0_10)) 5) := by
  unfold k0_pay1787; rw [f1460, f1782, f1784]; rfl

/-- Head 5: a value of the body, by its steps. -/
theorem f1788 (x0 x1 : Vec F S8x128x128 .f32) : k0_pay1788 x0 x1 = it (blk (View.ld x0 r0_10)) 6 := by
  unfold k0_pay1788; rw [f1460, f1782, f1784]; rfl

/-- Head 5: a value of the body, by its steps. -/
theorem f1789 (x0 x1 : Vec F S8x128x128 .f32) : k0_pay1789 x0 x1 = mx (it (blk (View.ld x0 r0_10)) 6) := by
  unfold k0_pay1789; rw [f1460, f1782, f1784]; rfl

/-- Head 5: a value of the body, by its steps. -/
theorem f1790 (x0 x1 : Vec F S8x128x128 .f32) : k0_pay1790 x0 x1 = select (cmpf .oeq (it (blk (View.ld x0 r0_10)) 6) (bc (mx (it (blk (View.ld x0 r0_10)) 6)))) keyPos (broadcast S128x128 (Scalar.ofBits .f32 0x7F800000#32)) := by
  unfold k0_pay1790; rw [f1460, f1782, f1784]; rfl

/-- Head 5: a value of the body, by its steps. -/
theorem f1791 (x0 x1 : Vec F S8x128x128 .f32) : k0_pay1791 x0 x1 = mx (it (blk (View.ld x0 r0_10)) 7) := by
  unfold k0_pay1791; rw [f1460, f1788, f1790]; rfl

/-- Head 5: a value of the body, by its steps. -/
theorem f1792 (x0 x1 : Vec F S8x128x128 .f32) : k0_pay1792 x0 x1 = mx (it (blk (View.ld x0 r0_10)) 8) := by
  unfold k0_pay1792; rw [f1460, f1788, f1790]; rfl

/-- Head 5: a value of the body, by its steps. -/
theorem f1793 (x0 x1 : Vec F S8x128x128 .f32) : k0_pay1793 x0 x1 = mx (it (blk (View.ld x0 r0_10)) 9) := by
  unfold k0_pay1793; rw [f1460, f1788, f1790]; rfl

/-- Head 5: a value of the body, by its steps. -/
theorem f1794 (x0 x1 : Vec F S8x128x128 .f32) : k0_pay1794 x0 x1 = it (blk (View.ld x0 r0_10)) 10 := by
  unfold k0_pay1794; rw [f1460, f1788, f1790]; rfl

/-- Head 5: a value of the body, by its steps. -/
theorem f1795 (x0 x1 : Vec F S8x128x128 .f32) : k0_pay1795 x0 x1 = mx (it (blk (View.ld x0 r0_10)) 10) := by
  unfold k0_pay1795; rw [f1460, f1788, f1790]; rfl

/-- Head 5: a value of the body, by its steps. -/
theorem f1796 (x0 x1 : Vec F S8x128x128 .f32) : k0_pay1796 x0 x1 = cmpf .oeq (it (blk (View.ld x0 r0_10)) 10) (bc (mx (it (blk (View.ld x0 r0_10)) 10))) := by
  unfold k0_pay1796; rw [f1460, f1788, f1790]; rfl

/-- Head 5: a value of the body, by its steps. -/
theorem f1797 (x0 x1 : Vec F S8x128x128 .f32) : k0_pay1797 x0 x1 = mx (it (blk (View.ld x0 r0_10)) 11) := by
  unfold k0_pay1797; rw [f1460, f1794, f1796]; rfl

/-- Head 5: a value of the body, by its steps. -/
theorem f1798 (x0 x1 : Vec F S8x128x128 .f32) : k0_pay1798 x0 x1 = mx (it (blk (View.ld x0 r0_10)) 12) := by
  unfold k0_pay1798; rw [f1460, f1794, f1796]; rfl

/-- Head 5: a value of the body, by its steps. -/
theorem f1799 (x0 x1 : Vec F S8x128x128 .f32) : k0_pay1799 x0 x1 = mx (it (blk (View.ld x0 r0_10)) 13) := by
  unfold k0_pay1799; rw [f1460, f1794, f1796]; rfl

/-- Head 5: a value of the body, by its steps. -/
theorem f1800 (x0 x1 : Vec F S8x128x128 .f32) : k0_pay1800 x0 x1 = it (blk (View.ld x0 r0_10)) 14 := by
  unfold k0_pay1800; rw [f1460, f1794, f1796]; rfl

/-- Head 5: a value of the body, by its steps. -/
theorem f1801 (x0 x1 : Vec F S8x128x128 .f32) : k0_pay1801 x0 x1 = mx (it (blk (View.ld x0 r0_10)) 14) := by
  unfold k0_pay1801; rw [f1800]; rfl

/-- Head 5: a value of the body, by its steps. -/
theorem f1802 (x0 x1 : Vec F S8x128x128 .f32) : k0_pay1802 x0 x1 = mx (it (blk (View.ld x0 r0_10)) 15) := by
  unfold k0_pay1802; rw [f1460, f1800]; rfl

/-- Head 5: a value of the body, by its steps. -/
theorem f1803 (x0 x1 : Vec F S8x128x128 .f32) : k0_pay1803 x0 x1 = mx (it (blk (View.ld x1 r0_10)) 0) := by
  unfold k0_pay1803; rfl

/-- Head 5: a value of the body, by its steps. -/
theorem f1804 (x0 x1 : Vec F S8x128x128 .f32) : k0_pay1804 x0 x1 = it (blk (View.ld x1 r0_10)) 1 := by
  unfold k0_pay1804; rw [f1460]; rfl

/-- Head 5: a value of the body, by its steps. -/
theorem f1805 (x0 x1 : Vec F S8x128x128 .f32) : k0_pay1805 x0 x1 = mx (it (blk (View.ld x1 r0_10)) 1) := by
  unfold k0_pay1805; rw [f1460]; rfl

/-- Head 5: a value of the body, by its steps. -/
theorem f1806 (x0 x1 : Vec F S8x128x128 .f32) : k0_pay1806 x0 x1 = hit (it (blk (View.ld x1 r0_10)) 1) := by
  unfold k0_pay1806; rw [f1460]; rfl

/-- Head 5: a value of the body, by its steps. -/
theorem f1807 (x0 x1 : Vec F S8x128x128 .f32) : k0_pay1807 x0 x1 = mx (it (blk (View.ld x1 r0_10)) 2) := by
  unfold k0_pay1807; rw [f1804, f1806]; rfl

/-- Head 5: a value of the body, by its steps. -/
theorem f1808 (x0 x1 : Vec F S8x128x128 .f32) : k0_pay1808 x0 x1 = mx (it (blk (View.ld x1 r0_10)) 3) := by
  unfold k0_pay1808; rw [f1460, f1804, f1806]; rfl

/-- Head 5: a value of the body, by its steps. -/
theorem f1809 (x0 x1 : Vec F S8x128x128 .f32) : k0_pay1809 x0 x1 = mx (it (blk (View.ld x1 r0_10)) 4) := by
  unfold k0_pay1809; rw [f1460, f1804, f1806]; rfl

/-- Head 5: a value of the body, by its steps. -/
theorem f1810 (x0 x1 : Vec F S8x128x128 .f32) : k0_pay1810 x0 x1 = it (blk (View.ld x1 r0_10)) 5 := by
  unfold k0_pay1810; rw [f1460, f1804, f1806]; rfl

/-- Head 5: a value of the body, by its steps. -/
theorem f1811 (x0 x1 : Vec F S8x128x128 .f32) : k0_pay1811 x0 x1 = mx (it (blk (View.ld x1 r0_10)) 5) := by
  unfold k0_pay1811; rw [f1460, f1804, f1806]; rfl

/-- Head 5: a value of the body, by its steps. -/
theorem f1812 (x0 x1 : Vec F S8x128x128 .f32) : k0_pay1812 x0 x1 = select (cmpf .oeq (it (blk (View.ld x1 r0_10)) 5) (bc (mx (it (blk (View.ld x1 r0_10)) 5)))) keyPos (broadcast S128x128 (Scalar.ofBits .f32 0x7F800000#32)) := by
  unfold k0_pay1812; rw [f1460, f1804, f1806]; rfl

/-- Head 5: a value of the body, by its steps. -/
theorem f1813 (x0 x1 : Vec F S8x128x128 .f32) : k0_pay1813 x0 x1 = mx (it (blk (View.ld x1 r0_10)) 6) := by
  unfold k0_pay1813; rw [f1460, f1810, f1812]; rfl

/-- Head 5: a value of the body, by its steps. -/
theorem f1814 (x0 x1 : Vec F S8x128x128 .f32) : k0_pay1814 x0 x1 = mx (it (blk (View.ld x1 r0_10)) 7) := by
  unfold k0_pay1814; rw [f1460, f1810, f1812]; rfl

/-- Head 5: a value of the body, by its steps. -/
theorem f1815 (x0 x1 : Vec F S8x128x128 .f32) : k0_pay1815 x0 x1 = mx (it (blk (View.ld x1 r0_10)) 8) := by
  unfold k0_pay1815; rw [f1460, f1810, f1812]; rfl

/-- Head 5: a value of the body, by its steps. -/
theorem f1816 (x0 x1 : Vec F S8x128x128 .f32) : k0_pay1816 x0 x1 = it (blk (View.ld x1 r0_10)) 9 := by
  unfold k0_pay1816; rw [f1460, f1810, f1812]; rfl

/-- Head 5: a value of the body, by its steps. -/
theorem f1817 (x0 x1 : Vec F S8x128x128 .f32) : k0_pay1817 x0 x1 = mx (it (blk (View.ld x1 r0_10)) 9) := by
  unfold k0_pay1817; rw [f1460, f1810, f1812]; rfl

/-- Head 5: a value of the body, by its steps. -/
theorem f1818 (x0 x1 : Vec F S8x128x128 .f32) : k0_pay1818 x0 x1 = cmpf .oeq (it (blk (View.ld x1 r0_10)) 9) (bc (mx (it (blk (View.ld x1 r0_10)) 9))) := by
  unfold k0_pay1818; rw [f1460, f1810, f1812]; rfl

/-- Head 5: a value of the body, by its steps. -/
theorem f1819 (x0 x1 : Vec F S8x128x128 .f32) : k0_pay1819 x0 x1 = mx (it (blk (View.ld x1 r0_10)) 10) := by
  unfold k0_pay1819; rw [f1460, f1816, f1818]; rfl

/-- Head 5: a value of the body, by its steps. -/
theorem f1820 (x0 x1 : Vec F S8x128x128 .f32) : k0_pay1820 x0 x1 = mx (it (blk (View.ld x1 r0_10)) 11) := by
  unfold k0_pay1820; rw [f1460, f1816, f1818]; rfl

/-- Head 5: a value of the body, by its steps. -/
theorem f1821 (x0 x1 : Vec F S8x128x128 .f32) : k0_pay1821 x0 x1 = mx (it (blk (View.ld x1 r0_10)) 12) := by
  unfold k0_pay1821; rw [f1460, f1816, f1818]; rfl

/-- Head 5: a value of the body, by its steps. -/
theorem f1822 (x0 x1 : Vec F S8x128x128 .f32) : k0_pay1822 x0 x1 = it (blk (View.ld x1 r0_10)) 13 := by
  unfold k0_pay1822; rw [f1460, f1816, f1818]; rfl

/-- Head 5: a value of the body, by its steps. -/
theorem f1823 (x0 x1 : Vec F S8x128x128 .f32) : k0_pay1823 x0 x1 = muli (fptosi 32 (poss (blk (View.ld x0 r0_10)))) (broadcast S16x128 (128#32)) := by
  unfold k0_pay1823; rw [f1460, f1782, f1784, f1790, f1788, f1796, f1794, f1800]; rfl

/-- Head 5: a value of the body, by its steps. -/
theorem f1824 (x0 x1 : Vec F S8x128x128 .f32) : k0_pay1824 x0 x1 = fptosi 32 (poss (blk (View.ld x1 r0_10))) := by
  unfold k0_pay1824; rw [f1460, f1804, f1806, f1812, f1810, f1818, f1816, f1822]; rfl

/-- Head 5: a value of the body, by its steps. -/
theorem f1825 (x0 x1 : Vec F S8x128x128 .f32) : k0_pay1825 x0 x1 = cs (blk (View.ld x0 r0_10)) (blk (View.ld x1 r0_10)) := by
  unfold k0_pay1825; rw [f1780, f1781, f1783, f1785, f1786, f1787, f1789, f1791, f1792, f1793, f1795, f1797, f1798, f1799, f1801, f1802, f1460, f1803, f1805, f1807, f1808, f1809, f1811, f1813, f1814, f1815, f1817, f1819, f1820, f1821, f1822]; rfl

/-- Head 5: a value of the body, by its steps. -/
theorem f1826 (x0 x1 : Vec F S8x128x128 .f32) : k0_pay1826 x0 x1 = addi (broadcastTo S16x128 (extractStridedSlice S1x128 ![0, 0] (muli (fptosi 32 (poss (blk (View.ld x0 r0_10)))) (broadcast S16x128 (128#32))) slices_S16x128_o0_0_S1x128) broadcasts_S1x128_S16x128) (fptosi 32 (poss (blk (View.ld x1 r0_10)))) := by
  unfold k0_pay1826; rw [f1823, f1824]; rfl

/-- Head 5: a value of the body, by its steps. -/
theorem f1827 (x0 x1 : Vec F S8x128x128 .f32) : k0_pay1827 x0 x1 = addi (broadcastTo S8x128 (extractStridedSlice S1x128 ![1, 0] (muli (fptosi 32 (poss (blk (View.ld x0 r0_10)))) (broadcast S16x128 (128#32))) slices_S16x128_o1_0_S1x128) broadcasts_S1x128_S8x128) (extractStridedSlice S8x128 ![0, 0] (fptosi 32 (poss (blk (View.ld x1 r0_10)))) slices_S16x128_o0_0_S8x128) := by
  unfold k0_pay1827; rw [f1823, f1824]; rfl

/-- Head 5: a value of the body, by its steps. -/
theorem f1828 (x0 x1 : Vec F S8x128x128 .f32) : k0_pay1828 x0 x1 = addi (broadcastTo S8x128 (extractStridedSlice S1x128 ![2, 0] (muli (fptosi 32 (poss (blk (View.ld x0 r0_10)))) (broadcast S16x128 (128#32))) slices_S16x128_o2_0_S1x128) broadcasts_S1x128_S8x128) (extractStridedSlice S8x128 ![0, 0] (fptosi 32 (poss (blk (View.ld x1 r0_10)))) slices_S16x128_o0_0_S8x128) := by
  unfold k0_pay1828; rw [f1823, f1824]; rfl

/-- Head 5: a value of the body, by its steps. -/
theorem f1829 (x0 x1 : Vec F S8x128x128 .f32) : k0_pay1829 x0 x1 = addi (broadcastTo S8x128 (extractStridedSlice S1x128 ![3, 0] (muli (fptosi 32 (poss (blk (View.ld x0 r0_10)))) (broadcast S16x128 (128#32))) slices_S16x128_o3_0_S1x128) broadcasts_S1x128_S8x128) (extractStridedSlice S8x128 ![0, 0] (fptosi 32 (poss (blk (View.ld x1 r0_10)))) slices_S16x128_o0_0_S8x128) := by
  unfold k0_pay1829; rw [f1823, f1824]; rfl

/-- Head 5: a value of the body, by its steps. -/
theorem f1830 (x0 x1 : Vec F S8x128x128 .f32) : k0_pay1830 x0 x1 = addi (broadcastTo S8x128 (extractStridedSlice S1x128 ![4, 0] (muli (fptosi 32 (poss (blk (View.ld x0 r0_10)))) (broadcast S16x128 (128#32))) slices_S16x128_o4_0_S1x128) broadcasts_S1x128_S8x128) (extractStridedSlice S8x128 ![0, 0] (fptosi 32 (poss (blk (View.ld x1 r0_10)))) slices_S16x128_o0_0_S8x128) := by
  unfold k0_pay1830; rw [f1823, f1824]; rfl

/-- Head 5: a value of the body, by its steps. -/
theorem f1831 (x0 x1 : Vec F S8x128x128 .f32) : k0_pay1831 x0 x1 = addi (broadcastTo S8x128 (extractStridedSlice S1x128 ![5, 0] (muli (fptosi 32 (poss (blk (View.ld x0 r0_10)))) (broadcast S16x128 (128#32))) slices_S16x128_o5_0_S1x128) broadcasts_S1x128_S8x128) (extractStridedSlice S8x128 ![0, 0] (fptosi 32 (poss (blk (View.ld x1 r0_10)))) slices_S16x128_o0_0_S8x128) := by
  unfold k0_pay1831; rw [f1823, f1824]; rfl

/-- Head 5: a value of the body, by its steps. -/
theorem f1832 (x0 x1 : Vec F S8x128x128 .f32) : k0_pay1832 x0 x1 = addi (broadcastTo S8x128 (extractStridedSlice S1x128 ![6, 0] (muli (fptosi 32 (poss (blk (View.ld x0 r0_10)))) (broadcast S16x128 (128#32))) slices_S16x128_o6_0_S1x128) broadcasts_S1x128_S8x128) (extractStridedSlice S8x128 ![0, 0] (fptosi 32 (poss (blk (View.ld x1 r0_10)))) slices_S16x128_o0_0_S8x128) := by
  unfold k0_pay1832; rw [f1823, f1824]; rfl

/-- Head 5: a value of the body, by its steps. -/
theorem f1833 (x0 x1 : Vec F S8x128x128 .f32) : k0_pay1833 x0 x1 = addi (broadcastTo S8x128 (extractStridedSlice S1x128 ![7, 0] (muli (fptosi 32 (poss (blk (View.ld x0 r0_10)))) (broadcast S16x128 (128#32))) slices_S16x128_o7_0_S1x128) broadcasts_S1x128_S8x128) (extractStridedSlice S8x128 ![0, 0] (fptosi 32 (poss (blk (View.ld x1 r0_10)))) slices_S16x128_o0_0_S8x128) := by
  unfold k0_pay1833; rw [f1823, f1824]; rfl

/-- Head 5: a value of the body, by its steps. -/
theorem f1834 (x0 x1 : Vec F S8x128x128 .f32) : k0_pay1834 x0 x1 = extractStridedSlice S8x128 ![8, 0] (muli (fptosi 32 (poss (blk (View.ld x0 r0_10)))) (broadcast S16x128 (128#32))) slices_S16x128_o8_0_S8x128 := by
  unfold k0_pay1834; rw [f1823]; rfl

/-- Head 5: a value of the body, by its steps. -/
theorem f1835 (x0 x1 : Vec F S8x128x128 .f32) : k0_pay1835 x0 x1 = extractStridedSlice S1x128 ![0, 0] (fptosi 32 (poss (blk (View.ld x1 r0_10)))) slices_S16x128_o0_0_S1x128 := by
  unfold k0_pay1835; rw [f1824]; rfl

/-- Head 5: a value of the body, by its steps. -/
theorem f1836 (x0 x1 : Vec F S8x128x128 .f32) : k0_pay1836 x0 x1 = ci (blk (View.ld x0 r0_10)) (blk (View.ld x1 r0_10)) := by
  unfold k0_pay1836; rw [f1826, f1827, f1828, f1829, f1830, f1831, f1832, f1833, f1834, f1835]; rfl

/-- Head 5: a value of the body, by its steps. -/
theorem f1837 (x0 x1 : Vec F S8x128x128 .f32) : k0_pay1837 x0 x1 = mx' (cs (blk (View.ld x0 r0_10)) (blk (View.ld x1 r0_10))) := by
  unfold k0_pay1837; rw [f1825]; rfl

/-- Head 5: a value of the body, by its steps. -/
theorem f1838 (x0 x1 : Vec F S8x128x128 .f32) : k0_pay1838 x0 x1 = mx' (it' (cs (blk (View.ld x0 r0_10)) (blk (View.ld x1 r0_10))) 1) := by
  unfold k0_pay1838; rw [f1461, f1825]; rfl

/-- Head 5: a value of the body, by its steps. -/
theorem f1839 (x0 x1 : Vec F S8x128x128 .f32) : k0_pay1839 x0 x1 = it' (cs (blk (View.ld x0 r0_10)) (blk (View.ld x1 r0_10))) 2 := by
  unfold k0_pay1839; rw [f1461, f1825]; rfl

/-- Head 5: a value of the body, by its steps. -/
theorem f1840 (x0 x1 : Vec F S8x128x128 .f32) : k0_pay1840 x0 x1 = mx' (it' (cs (blk (View.ld x0 r0_10)) (blk (View.ld x1 r0_10))) 2) := by
  unfold k0_pay1840; rw [f1461, f1825]; rfl

/-- Head 5: a value of the body, by its steps. -/
theorem f1841 (x0 x1 : Vec F S8x128x128 .f32) : k0_pay1841 x0 x1 = hit' (it' (cs (blk (View.ld x0 r0_10)) (blk (View.ld x1 r0_10))) 2) := by
  unfold k0_pay1841; rw [f1461, f1825]; rfl

/-- Head 5: a value of the body, by its steps. -/
theorem f1842 (x0 x1 : Vec F S8x128x128 .f32) : k0_pay1842 x0 x1 = mx' (it' (cs (blk (View.ld x0 r0_10)) (blk (View.ld x1 r0_10))) 3) := by
  unfold k0_pay1842; rw [f1839, f1841]; rfl

/-- Head 5: a value of the body, by its steps. -/
theorem f1843 (x0 x1 : Vec F S8x128x128 .f32) : k0_pay1843 x0 x1 = mx' (it' (cs (blk (View.ld x0 r0_10)) (blk (View.ld x1 r0_10))) 4) := by
  unfold k0_pay1843; rw [f1461, f1839, f1841]; rfl

/-- Head 5: a value of the body, by its steps. -/
theorem f1844 (x0 x1 : Vec F S8x128x128 .f32) : k0_pay1844 x0 x1 = it' (cs (blk (View.ld x0 r0_10)) (blk (View.ld x1 r0_10))) 5 := by
  unfold k0_pay1844; rw [f1461, f1839, f1841]; rfl

/-- Head 5: a value of the body, by its steps. -/
theorem f1845 (x0 x1 : Vec F S8x128x128 .f32) : k0_pay1845 x0 x1 = mx' (it' (cs (blk (View.ld x0 r0_10)) (blk (View.ld x1 r0_10))) 5) := by
  unfold k0_pay1845; rw [f1461, f1839, f1841]; rfl

/-- Head 5: a value of the body, by its steps. -/
theorem f1846 (x0 x1 : Vec F S8x128x128 .f32) : k0_pay1846 x0 x1 = cmpf .oeq (it' (cs (blk (View.ld x0 r0_10)) (blk (View.ld x1 r0_10))) 5) (bc' (mx' (it' (cs (blk (View.ld x0 r0_10)) (blk (View.ld x1 r0_10))) 5))) := by
  unfold k0_pay1846; rw [f1461, f1839, f1841]; rfl

/-- a value of the body, by its steps. -/
theorem f1847 (x0 x1 : Vec F S8x128x128 .f32) : k0_pay1847 x0 x1 = broadcast S80x128 (Scalar.ofBits .f32 0x7F800000#32) := by
  unfold k0_pay1847; rfl

/-- Head 5: a value of the body, by its steps. -/
theorem f1848 (x0 x1 : Vec F S8x128x128 .f32) : k0_pay1848 x0 x1 = mx' (it' (cs (blk (View.ld x0 r0_10)) (blk (View.ld x1 r0_10))) 6) := by
  unfold k0_pay1848; rw [f1461, f1844, f1846, f1847]; rfl

/-- Head 5: a value of the body, by its steps. -/
theorem f1849 (x0 x1 : Vec F S8x128x128 .f32) : k0_pay1849 x0 x1 = mx' (it' (cs (blk (View.ld x0 r0_10)) (blk (View.ld x1 r0_10))) 7) := by
  unfold k0_pay1849; rw [f1461, f1844, f1846, f1847]; rfl

end Cert.RouteIdeal.Fold

end
-- ==== Proof.RouteFold4.lean ====
/- The values of the routing body, by its steps. -/
module

public import proofs.«01_k».proof.Proof.RouteFold3

@[expose] public section

set_option maxRecDepth 16384

noncomputable section

namespace Cert.RouteIdeal.Fold

open Cert.RouteIdeal Cert.RouteIdeal.Gen Idealize.ShloMosaic Idealize.ShloMosaic.TcCoe Idealize.SL.Sem

open Vocab

variable {F : FTy → Type} [FloatOps F]

/-- Head 5: a value of the body, by its steps. -/
theorem f1850 (x0 x1 : Vec F S8x128x128 .f32) : k0_pay1850 x0 x1 = it' (cs (blk (View.ld x0 r0_10)) (blk (View.ld x1 r0_10))) 8 := by
  unfold k0_pay1850; rw [f1461, f1844, f1846, f1847]; rfl

/-- Head 5: a value of the body, by its steps. -/
theorem f1851 (x0 x1 : Vec F S8x128x128 .f32) : k0_pay1851 x0 x1 = mx' (it' (cs (blk (View.ld x0 r0_10)) (blk (View.ld x1 r0_10))) 8) := by
  unfold k0_pay1851; rw [f1850]; rfl

/-- Head 5: a value of the body, by its steps. -/
theorem f1852 (x0 x1 : Vec F S8x128x128 .f32) : k0_pay1852 x0 x1 = mx' (it' (cs (blk (View.ld x0 r0_10)) (blk (View.ld x1 r0_10))) 9) := by
  unfold k0_pay1852; rw [f1461, f1850]; rfl

/-- Head 5: a value of the body, by its steps. -/
theorem f1853 (x0 x1 : Vec F S8x128x128 .f32) : k0_pay1853 x0 x1 = it' (cs (blk (View.ld x0 r0_10)) (blk (View.ld x1 r0_10))) 10 := by
  unfold k0_pay1853; rw [f1461, f1850]; rfl

/-- Head 5: a value of the body, by its steps. -/
theorem f1854 (x0 x1 : Vec F S8x128x128 .f32) : k0_pay1854 x0 x1 = mx' (it' (cs (blk (View.ld x0 r0_10)) (blk (View.ld x1 r0_10))) 10) := by
  unfold k0_pay1854; rw [f1461, f1850]; rfl

/-- Head 5: a value of the body, by its steps. -/
theorem f1855 (x0 x1 : Vec F S8x128x128 .f32) : k0_pay1855 x0 x1 = hit' (it' (cs (blk (View.ld x0 r0_10)) (blk (View.ld x1 r0_10))) 10) := by
  unfold k0_pay1855; rw [f1461, f1850]; rfl

/-- Head 5: a value of the body, by its steps. -/
theorem f1856 (x0 x1 : Vec F S8x128x128 .f32) : k0_pay1856 x0 x1 = mx' (it' (cs (blk (View.ld x0 r0_10)) (blk (View.ld x1 r0_10))) 11) := by
  unfold k0_pay1856; rw [f1853, f1855]; rfl

/-- Head 5: a value of the body, by its steps. -/
theorem f1857 (x0 x1 : Vec F S8x128x128 .f32) : k0_pay1857 x0 x1 = mx' (it' (cs (blk (View.ld x0 r0_10)) (blk (View.ld x1 r0_10))) 12) := by
  unfold k0_pay1857; rw [f1461, f1853, f1855]; rfl

/-- Head 5: a value of the body, by its steps. -/
theorem f1858 (x0 x1 : Vec F S8x128x128 .f32) : k0_pay1858 x0 x1 = it' (cs (blk (View.ld x0 r0_10)) (blk (View.ld x1 r0_10))) 13 := by
  unfold k0_pay1858; rw [f1461, f1853, f1855]; rfl

/-- Head 5: a value of the body, by its steps. -/
theorem f1859 (x0 x1 : Vec F S8x128x128 .f32) : k0_pay1859 x0 x1 = mx' (it' (cs (blk (View.ld x0 r0_10)) (blk (View.ld x1 r0_10))) 13) := by
  unfold k0_pay1859; rw [f1461, f1853, f1855]; rfl

/-- Head 5: a value of the body, by its steps. -/
theorem f1860 (x0 x1 : Vec F S8x128x128 .f32) : k0_pay1860 x0 x1 = ps' (it' (cs (blk (View.ld x0 r0_10)) (blk (View.ld x1 r0_10))) 13) := by
  unfold k0_pay1860; rw [f1461, f1853, f1855]; rfl

/-- Head 6: a value of the body, by its steps. -/
theorem f1861 (x0 x1 : Vec F S8x128x128 .f32) : k0_pay1861 x0 x1 = mx (it (blk (View.ld x0 r0_12)) 0) := by
  unfold k0_pay1861; rfl

/-- Head 6: a value of the body, by its steps. -/
theorem f1862 (x0 x1 : Vec F S8x128x128 .f32) : k0_pay1862 x0 x1 = mx (it (blk (View.ld x0 r0_12)) 1) := by
  unfold k0_pay1862; rw [f1460]; rfl

/-- Head 6: a value of the body, by its steps. -/
theorem f1863 (x0 x1 : Vec F S8x128x128 .f32) : k0_pay1863 x0 x1 = it (blk (View.ld x0 r0_12)) 2 := by
  unfold k0_pay1863; rw [f1460]; rfl

/-- Head 6: a value of the body, by its steps. -/
theorem f1864 (x0 x1 : Vec F S8x128x128 .f32) : k0_pay1864 x0 x1 = mx (it (blk (View.ld x0 r0_12)) 2) := by
  unfold k0_pay1864; rw [f1460]; rfl

/-- Head 6: a value of the body, by its steps. -/
theorem f1865 (x0 x1 : Vec F S8x128x128 .f32) : k0_pay1865 x0 x1 = cmpf .oeq (it (blk (View.ld x0 r0_12)) 2) (bc (mx (it (blk (View.ld x0 r0_12)) 2))) := by
  unfold k0_pay1865; rw [f1460]; rfl

/-- Head 6: a value of the body, by its steps. -/
theorem f1866 (x0 x1 : Vec F S8x128x128 .f32) : k0_pay1866 x0 x1 = mx (it (blk (View.ld x0 r0_12)) 3) := by
  unfold k0_pay1866; rw [f1460, f1863, f1865]; rfl

/-- Head 6: a value of the body, by its steps. -/
theorem f1867 (x0 x1 : Vec F S8x128x128 .f32) : k0_pay1867 x0 x1 = mx (it (blk (View.ld x0 r0_12)) 4) := by
  unfold k0_pay1867; rw [f1460, f1863, f1865]; rfl

/-- Head 6: a value of the body, by its steps. -/
theorem f1868 (x0 x1 : Vec F S8x128x128 .f32) : k0_pay1868 x0 x1 = mx (it (blk (View.ld x0 r0_12)) 5) := by
  unfold k0_pay1868; rw [f1460, f1863, f1865]; rfl

/-- Head 6: a value of the body, by its steps. -/
theorem f1869 (x0 x1 : Vec F S8x128x128 .f32) : k0_pay1869 x0 x1 = it (blk (View.ld x0 r0_12)) 6 := by
  unfold k0_pay1869; rw [f1460, f1863, f1865]; rfl

/-- Head 6: a value of the body, by its steps. -/
theorem f1870 (x0 x1 : Vec F S8x128x128 .f32) : k0_pay1870 x0 x1 = multiReduction .maximumf [0] S128 (it (blk (View.ld x0 r0_12)) 6) 0xFF800000#32 reduces_S128x128_S128 (.inl rfl) rfl := by
  unfold k0_pay1870; rw [f1460, f1863, f1865]; rfl

/-- Head 6: a value of the body, by its steps. -/
theorem f1871 (x0 x1 : Vec F S8x128x128 .f32) : k0_pay1871 x0 x1 = mx (it (blk (View.ld x0 r0_12)) 6) := by
  unfold k0_pay1871; rw [f1870]; rfl

/-- Head 6: a value of the body, by its steps. -/
theorem f1872 (x0 x1 : Vec F S8x128x128 .f32) : k0_pay1872 x0 x1 = mx (it (blk (View.ld x0 r0_12)) 7) := by
  unfold k0_pay1872; rw [f1460, f1869, f1870]; rfl

/-- Head 6: a value of the body, by its steps. -/
theorem f1873 (x0 x1 : Vec F S8x128x128 .f32) : k0_pay1873 x0 x1 = mx (it (blk (View.ld x0 r0_12)) 8) := by
  unfold k0_pay1873; rw [f1460, f1869, f1870]; rfl

/-- Head 6: a value of the body, by its steps. -/
theorem f1874 (x0 x1 : Vec F S8x128x128 .f32) : k0_pay1874 x0 x1 = it (blk (View.ld x0 r0_12)) 9 := by
  unfold k0_pay1874; rw [f1460, f1869, f1870]; rfl

/-- Head 6: a value of the body, by its steps. -/
theorem f1875 (x0 x1 : Vec F S8x128x128 .f32) : k0_pay1875 x0 x1 = mx (it (blk (View.ld x0 r0_12)) 9) := by
  unfold k0_pay1875; rw [f1460, f1869, f1870]; rfl

/-- Head 6: a value of the body, by its steps. -/
theorem f1876 (x0 x1 : Vec F S8x128x128 .f32) : k0_pay1876 x0 x1 = hit (it (blk (View.ld x0 r0_12)) 9) := by
  unfold k0_pay1876; rw [f1460, f1869, f1870]; rfl

/-- Head 6: a value of the body, by its steps. -/
theorem f1877 (x0 x1 : Vec F S8x128x128 .f32) : k0_pay1877 x0 x1 = mx (it (blk (View.ld x0 r0_12)) 10) := by
  unfold k0_pay1877; rw [f1874, f1876]; rfl

/-- Head 6: a value of the body, by its steps. -/
theorem f1878 (x0 x1 : Vec F S8x128x128 .f32) : k0_pay1878 x0 x1 = mx (it (blk (View.ld x0 r0_12)) 11) := by
  unfold k0_pay1878; rw [f1460, f1874, f1876]; rfl

/-- Head 6: a value of the body, by its steps. -/
theorem f1879 (x0 x1 : Vec F S8x128x128 .f32) : k0_pay1879 x0 x1 = mx (it (blk (View.ld x0 r0_12)) 12) := by
  unfold k0_pay1879; rw [f1460, f1874, f1876]; rfl

/-- Head 6: a value of the body, by its steps. -/
theorem f1880 (x0 x1 : Vec F S8x128x128 .f32) : k0_pay1880 x0 x1 = it (blk (View.ld x0 r0_12)) 13 := by
  unfold k0_pay1880; rw [f1460, f1874, f1876]; rfl

/-- Head 6: a value of the body, by its steps. -/
theorem f1881 (x0 x1 : Vec F S8x128x128 .f32) : k0_pay1881 x0 x1 = mx (it (blk (View.ld x0 r0_12)) 13) := by
  unfold k0_pay1881; rw [f1460, f1874, f1876]; rfl

/-- Head 6: a value of the body, by its steps. -/
theorem f1882 (x0 x1 : Vec F S8x128x128 .f32) : k0_pay1882 x0 x1 = multiReduction .minimumf [0] S128 (select (cmpf .oeq (it (blk (View.ld x0 r0_12)) 13) (bc (mx (it (blk (View.ld x0 r0_12)) 13)))) keyPos (broadcast S128x128 (Scalar.ofBits .f32 0x7F800000#32))) 0x7F800000#32 reduces_S128x128_S128 (.inl rfl) rfl := by
  unfold k0_pay1882; rw [f1460, f1874, f1876]; rfl

/-- Head 6: a value of the body, by its steps. -/
theorem f1883 (x0 x1 : Vec F S8x128x128 .f32) : k0_pay1883 x0 x1 = mx (it (blk (View.ld x0 r0_12)) 14) := by
  unfold k0_pay1883; rw [f1460, f1880, f1882]; rfl

/-- Head 6: a value of the body, by its steps. -/
theorem f1884 (x0 x1 : Vec F S8x128x128 .f32) : k0_pay1884 x0 x1 = mx (it (blk (View.ld x0 r0_12)) 15) := by
  unfold k0_pay1884; rw [f1460, f1880, f1882]; rfl

/-- Head 6: a value of the body, by its steps. -/
theorem f1885 (x0 x1 : Vec F S8x128x128 .f32) : k0_pay1885 x0 x1 = it (blk (View.ld x1 r0_12)) 1 := by
  unfold k0_pay1885; rw [f1460]; rfl

/-- Head 6: a value of the body, by its steps. -/
theorem f1886 (x0 x1 : Vec F S8x128x128 .f32) : k0_pay1886 x0 x1 = cmpf .oeq (it (blk (View.ld x1 r0_12)) 1) (bc (mx (it (blk (View.ld x1 r0_12)) 1))) := by
  unfold k0_pay1886; rw [f1460]; rfl

/-- Head 6: a value of the body, by its steps. -/
theorem f1887 (x0 x1 : Vec F S8x128x128 .f32) : k0_pay1887 x0 x1 = it (blk (View.ld x1 r0_12)) 5 := by
  unfold k0_pay1887; rw [f1460, f1885, f1886]; rfl

/-- Head 6: a value of the body, by its steps. -/
theorem f1888 (x0 x1 : Vec F S8x128x128 .f32) : k0_pay1888 x0 x1 = multiReduction .maximumf [0] S128 (it (blk (View.ld x1 r0_12)) 5) 0xFF800000#32 reduces_S128x128_S128 (.inl rfl) rfl := by
  unfold k0_pay1888; rw [f1460, f1885, f1886]; rfl

/-- Head 6: a value of the body, by its steps. -/
theorem f1889 (x0 x1 : Vec F S8x128x128 .f32) : k0_pay1889 x0 x1 = it (blk (View.ld x1 r0_12)) 8 := by
  unfold k0_pay1889; rw [f1460, f1887, f1888]; rfl

/-- Head 6: a value of the body, by its steps. -/
theorem f1890 (x0 x1 : Vec F S8x128x128 .f32) : k0_pay1890 x0 x1 = hit (it (blk (View.ld x1 r0_12)) 8) := by
  unfold k0_pay1890; rw [f1460, f1887, f1888]; rfl

/-- Head 6: a value of the body, by its steps. -/
theorem f1891 (x0 x1 : Vec F S8x128x128 .f32) : k0_pay1891 x0 x1 = it (blk (View.ld x1 r0_12)) 12 := by
  unfold k0_pay1891; rw [f1460, f1889, f1890]; rfl

/-- Head 6: a value of the body, by its steps. -/
theorem f1892 (x0 x1 : Vec F S8x128x128 .f32) : k0_pay1892 x0 x1 = multiReduction .minimumf [0] S128 (select (cmpf .oeq (it (blk (View.ld x1 r0_12)) 12) (bc (mx (it (blk (View.ld x1 r0_12)) 12)))) keyPos (broadcast S128x128 (Scalar.ofBits .f32 0x7F800000#32))) 0x7F800000#32 reduces_S128x128_S128 (.inl rfl) rfl := by
  unfold k0_pay1892; rw [f1460, f1889, f1890]; rfl

/-- Head 6: a value of the body, by its steps. -/
theorem f1893 (x0 x1 : Vec F S8x128x128 .f32) : k0_pay1893 x0 x1 = muli (fptosi 32 (poss (blk (View.ld x0 r0_12)))) (broadcast S16x128 (128#32)) := by
  unfold k0_pay1893; rw [f1460, f1865, f1863, f1869, f1870, f1874, f1876, f1882, f1880]; rfl

/-- Head 6: a value of the body, by its steps. -/
theorem f1894 (x0 x1 : Vec F S8x128x128 .f32) : k0_pay1894 x0 x1 = fptosi 32 (poss (blk (View.ld x1 r0_12))) := by
  unfold k0_pay1894; rw [f1460, f1886, f1885, f1887, f1888, f1889, f1890, f1891, f1892]; rfl

/-- Head 6: a value of the body, by its steps. -/
theorem f1895 (x0 x1 : Vec F S8x128x128 .f32) : k0_pay1895 x0 x1 = cs (blk (View.ld x0 r0_12)) (blk (View.ld x1 r0_12)) := by
  unfold k0_pay1895; rw [f1861, f1862, f1864, f1866, f1867, f1868, f1871, f1872, f1873, f1875, f1877, f1878, f1879, f1881, f1883, f1884, f1460, f1885, f1886, f1888, f1887, f1889, f1890, f1891, f1892]; rfl

/-- Head 6: a value of the body, by its steps. -/
theorem f1896 (x0 x1 : Vec F S8x128x128 .f32) : k0_pay1896 x0 x1 = addi (broadcastTo S16x128 (extractStridedSlice S1x128 ![0, 0] (muli (fptosi 32 (poss (blk (View.ld x0 r0_12)))) (broadcast S16x128 (128#32))) slices_S16x128_o0_0_S1x128) broadcasts_S1x128_S16x128) (fptosi 32 (poss (blk (View.ld x1 r0_12)))) := by
  unfold k0_pay1896; rw [f1893, f1894]; rfl

/-- Head 6: a value of the body, by its steps. -/
theorem f1897 (x0 x1 : Vec F S8x128x128 .f32) : k0_pay1897 x0 x1 = addi (broadcastTo S8x128 (extractStridedSlice S1x128 ![1, 0] (muli (fptosi 32 (poss (blk (View.ld x0 r0_12)))) (broadcast S16x128 (128#32))) slices_S16x128_o1_0_S1x128) broadcasts_S1x128_S8x128) (extractStridedSlice S8x128 ![0, 0] (fptosi 32 (poss (blk (View.ld x1 r0_12)))) slices_S16x128_o0_0_S8x128) := by
  unfold k0_pay1897; rw [f1893, f1894]; rfl

/-- Head 6: a value of the body, by its steps. -/
theorem f1898 (x0 x1 : Vec F S8x128x128 .f32) : k0_pay1898 x0 x1 = addi (broadcastTo S8x128 (extractStridedSlice S1x128 ![2, 0] (muli (fptosi 32 (poss (blk (View.ld x0 r0_12)))) (broadcast S16x128 (128#32))) slices_S16x128_o2_0_S1x128) broadcasts_S1x128_S8x128) (extractStridedSlice S8x128 ![0, 0] (fptosi 32 (poss (blk (View.ld x1 r0_12)))) slices_S16x128_o0_0_S8x128) := by
  unfold k0_pay1898; rw [f1893, f1894]; rfl

/-- Head 6: a value of the body, by its steps. -/
theorem f1899 (x0 x1 : Vec F S8x128x128 .f32) : k0_pay1899 x0 x1 = addi (broadcastTo S8x128 (extractStridedSlice S1x128 ![3, 0] (muli (fptosi 32 (poss (blk (View.ld x0 r0_12)))) (broadcast S16x128 (128#32))) slices_S16x128_o3_0_S1x128) broadcasts_S1x128_S8x128) (extractStridedSlice S8x128 ![0, 0] (fptosi 32 (poss (blk (View.ld x1 r0_12)))) slices_S16x128_o0_0_S8x128) := by
  unfold k0_pay1899; rw [f1893, f1894]; rfl

/-- Head 6: a value of the body, by its steps. -/
theorem f1900 (x0 x1 : Vec F S8x128x128 .f32) : k0_pay1900 x0 x1 = addi (broadcastTo S8x128 (extractStridedSlice S1x128 ![4, 0] (muli (fptosi 32 (poss (blk (View.ld x0 r0_12)))) (broadcast S16x128 (128#32))) slices_S16x128_o4_0_S1x128) broadcasts_S1x128_S8x128) (extractStridedSlice S8x128 ![0, 0] (fptosi 32 (poss (blk (View.ld x1 r0_12)))) slices_S16x128_o0_0_S8x128) := by
  unfold k0_pay1900; rw [f1893, f1894]; rfl

/-- Head 6: a value of the body, by its steps. -/
theorem f1901 (x0 x1 : Vec F S8x128x128 .f32) : k0_pay1901 x0 x1 = addi (broadcastTo S8x128 (extractStridedSlice S1x128 ![5, 0] (muli (fptosi 32 (poss (blk (View.ld x0 r0_12)))) (broadcast S16x128 (128#32))) slices_S16x128_o5_0_S1x128) broadcasts_S1x128_S8x128) (extractStridedSlice S8x128 ![0, 0] (fptosi 32 (poss (blk (View.ld x1 r0_12)))) slices_S16x128_o0_0_S8x128) := by
  unfold k0_pay1901; rw [f1893, f1894]; rfl

/-- Head 6: a value of the body, by its steps. -/
theorem f1902 (x0 x1 : Vec F S8x128x128 .f32) : k0_pay1902 x0 x1 = extractStridedSlice S8x128 ![0, 0] (fptosi 32 (poss (blk (View.ld x1 r0_12)))) slices_S16x128_o0_0_S8x128 := by
  unfold k0_pay1902; rw [f1894]; rfl

/-- Head 6: a value of the body, by its steps. -/
theorem f1903 (x0 x1 : Vec F S8x128x128 .f32) : k0_pay1903 x0 x1 = broadcastTo S8x128 (extractStridedSlice S1x128 ![6, 0] (muli (fptosi 32 (poss (blk (View.ld x0 r0_12)))) (broadcast S16x128 (128#32))) slices_S16x128_o6_0_S1x128) broadcasts_S1x128_S8x128 := by
  unfold k0_pay1903; rw [f1893]; rfl

/-- Head 6: a value of the body, by its steps. -/
theorem f1904 (x0 x1 : Vec F S8x128x128 .f32) : k0_pay1904 x0 x1 = ci (blk (View.ld x0 r0_12)) (blk (View.ld x1 r0_12)) := by
  unfold k0_pay1904; rw [f1893, f1894, f1896, f1897, f1898, f1899, f1900, f1901, f1902, f1903]; rfl

/-- Head 6: a value of the body, by its steps. -/
theorem f1905 (x0 x1 : Vec F S8x128x128 .f32) : k0_pay1905 x0 x1 = it' (cs (blk (View.ld x0 r0_12)) (blk (View.ld x1 r0_12))) 2 := by
  unfold k0_pay1905; rw [f1461, f1895]; rfl

/-- Head 6: a value of the body, by its steps. -/
theorem f1906 (x0 x1 : Vec F S8x128x128 .f32) : k0_pay1906 x0 x1 = cmpf .oeq (it' (cs (blk (View.ld x0 r0_12)) (blk (View.ld x1 r0_12))) 2) (bc' (mx' (it' (cs (blk (View.ld x0 r0_12)) (blk (View.ld x1 r0_12))) 2))) := by
  unfold k0_pay1906; rw [f1461, f1895]; rfl

/-- Head 6: a value of the body, by its steps. -/
theorem f1907 (x0 x1 : Vec F S8x128x128 .f32) : k0_pay1907 x0 x1 = it' (cs (blk (View.ld x0 r0_12)) (blk (View.ld x1 r0_12))) 5 := by
  unfold k0_pay1907; rw [f1461, f1905, f1906]; rfl

/-- Head 6: a value of the body, by its steps. -/
theorem f1908 (x0 x1 : Vec F S8x128x128 .f32) : k0_pay1908 x0 x1 = it' (cs (blk (View.ld x0 r0_12)) (blk (View.ld x1 r0_12))) 7 := by
  unfold k0_pay1908; rw [f1461, f1907]; rfl

/-- Head 6: a value of the body, by its steps. -/
theorem f1909 (x0 x1 : Vec F S8x128x128 .f32) : k0_pay1909 x0 x1 = hit' (it' (cs (blk (View.ld x0 r0_12)) (blk (View.ld x1 r0_12))) 7) := by
  unfold k0_pay1909; rw [f1461, f1907]; rfl

/-- Head 6: a value of the body, by its steps. -/
theorem f1910 (x0 x1 : Vec F S8x128x128 .f32) : k0_pay1910 x0 x1 = it' (cs (blk (View.ld x0 r0_12)) (blk (View.ld x1 r0_12))) 10 := by
  unfold k0_pay1910; rw [f1461, f1908, f1909]; rfl

/-- Head 6: a value of the body, by its steps. -/
theorem f1911 (x0 x1 : Vec F S8x128x128 .f32) : k0_pay1911 x0 x1 = multiReduction .minimumf [0] S128 (select (cmpf .oeq (it' (cs (blk (View.ld x0 r0_12)) (blk (View.ld x1 r0_12))) 10) (bc' (mx' (it' (cs (blk (View.ld x0 r0_12)) (blk (View.ld x1 r0_12))) 10)))) candPos (broadcast S80x128 (Scalar.ofBits .f32 0x7F800000#32))) 0x7F800000#32 reduces_S80x128_S128 (.inl rfl) rfl := by
  unfold k0_pay1911; rw [f1461, f1908, f1909]; rfl

/-- Head 6: a value of the body, by its steps. -/
theorem f1912 (x0 x1 : Vec F S8x128x128 .f32) : k0_pay1912 x0 x1 = it' (cs (blk (View.ld x0 r0_12)) (blk (View.ld x1 r0_12))) 13 := by
  unfold k0_pay1912; rw [f1461, f1910, f1911]; rfl

/-- Head 6: a value of the body, by its steps. -/
theorem f1913 (x0 x1 : Vec F S8x128x128 .f32) : k0_pay1913 x0 x1 = bc' (mx' (it' (cs (blk (View.ld x0 r0_12)) (blk (View.ld x1 r0_12))) 13)) := by
  unfold k0_pay1913; rw [f1461, f1910, f1911]; rfl

/-- Head 7: a value of the body, by its steps. -/
theorem f1914 (x0 x1 : Vec F S8x128x128 .f32) : k0_pay1914 x0 x1 = it (blk (View.ld x0 r0_14)) 1 := by
  unfold k0_pay1914; rw [f1460]; rfl

/-- Head 7: a value of the body, by its steps. -/
theorem f1915 (x0 x1 : Vec F S8x128x128 .f32) : k0_pay1915 x0 x1 = hit (it (blk (View.ld x0 r0_14)) 1) := by
  unfold k0_pay1915; rw [f1460]; rfl

/-- a value of the body, by its steps. -/
theorem f1916 (x0 x1 : Vec F S8x128x128 .f32) : k0_pay1916 x0 x1 = broadcast S128x128 (Scalar.ofBits .f32 0xFF800000#32) := by
  unfold k0_pay1916; rfl

/-- Head 7: a value of the body, by its steps. -/
theorem f1917 (x0 x1 : Vec F S8x128x128 .f32) : k0_pay1917 x0 x1 = it (blk (View.ld x0 r0_14)) 5 := by
  unfold k0_pay1917; rw [f1460, f1914, f1915, f1916]; rfl

/-- Head 7: a value of the body, by its steps. -/
theorem f1918 (x0 x1 : Vec F S8x128x128 .f32) : k0_pay1918 x0 x1 = ps (it (blk (View.ld x0 r0_14)) 5) := by
  unfold k0_pay1918; rw [f1460, f1914, f1915, f1916]; rfl

/-- Head 7: a value of the body, by its steps. -/
theorem f1919 (x0 x1 : Vec F S8x128x128 .f32) : k0_pay1919 x0 x1 = it (blk (View.ld x0 r0_14)) 9 := by
  unfold k0_pay1919; rw [f1460, f1917, f1918]; rfl

/-- Head 7: a value of the body, by its steps. -/
theorem f1920 (x0 x1 : Vec F S8x128x128 .f32) : k0_pay1920 x0 x1 = cmpf .oeq (it (blk (View.ld x0 r0_14)) 9) (bc (mx (it (blk (View.ld x0 r0_14)) 9))) := by
  unfold k0_pay1920; rw [f1460, f1917, f1918]; rfl

/-- a value of the body, by its steps. -/
theorem f1921 (x0 x1 : Vec F S8x128x128 .f32) : k0_pay1921 x0 x1 = broadcast S128x128 (Scalar.ofBits .f32 0x7F800000#32) := by
  unfold k0_pay1921; rfl

/-- Head 7: a value of the body, by its steps. -/
theorem f1922 (x0 x1 : Vec F S8x128x128 .f32) : k0_pay1922 x0 x1 = it (blk (View.ld x0 r0_14)) 13 := by
  unfold k0_pay1922; rw [f1460, f1919, f1920, f1921]; rfl

/-- Head 7: a value of the body, by its steps. -/
theorem f1923 (x0 x1 : Vec F S8x128x128 .f32) : k0_pay1923 x0 x1 = mx (it (blk (View.ld x0 r0_14)) 13) := by
  unfold k0_pay1923; rw [f1460, f1919, f1920, f1921]; rfl

/-- Head 7: a value of the body, by its steps. -/
theorem f1924 (x0 x1 : Vec F S8x128x128 .f32) : k0_pay1924 x0 x1 = it (blk (View.ld x1 r0_14)) 0 := by
  unfold k0_pay1924; rfl

/-- Head 7: a value of the body, by its steps. -/
theorem f1925 (x0 x1 : Vec F S8x128x128 .f32) : k0_pay1925 x0 x1 = ps (it (blk (View.ld x1 r0_14)) 0) := by
  unfold k0_pay1925; rw [f1460]; rfl

/-- Head 7: a value of the body, by its steps. -/
theorem f1926 (x0 x1 : Vec F S8x128x128 .f32) : k0_pay1926 x0 x1 = hit (it (blk (View.ld x1 r0_14)) 0) := by
  unfold k0_pay1926; rw [f1460]; rfl

/-- a value of the body, by its steps. -/
theorem f1927 (x0 x1 : Vec F S8x128x128 .f32) : k0_pay1927 x0 x1 = broadcast S128x128 (Scalar.ofBits .f32 0xFF800000#32) := by
  unfold k0_pay1927; rfl

/-- Head 7: a value of the body, by its steps. -/
theorem f1928 (x0 x1 : Vec F S8x128x128 .f32) : k0_pay1928 x0 x1 = ps (it (blk (View.ld x1 r0_14)) 1) := by
  unfold k0_pay1928; rw [f1460, f1924, f1926, f1927]; rfl

/-- Head 7: a value of the body, by its steps. -/
theorem f1929 (x0 x1 : Vec F S8x128x128 .f32) : k0_pay1929 x0 x1 = ps (it (blk (View.ld x1 r0_14)) 2) := by
  unfold k0_pay1929; rw [f1460, f1924, f1926, f1927]; rfl

/-- Head 7: a value of the body, by its steps. -/
theorem f1930 (x0 x1 : Vec F S8x128x128 .f32) : k0_pay1930 x0 x1 = ps (it (blk (View.ld x1 r0_14)) 3) := by
  unfold k0_pay1930; rw [f1460, f1924, f1926, f1927]; rfl

/-- Head 7: a value of the body, by its steps. -/
theorem f1931 (x0 x1 : Vec F S8x128x128 .f32) : k0_pay1931 x0 x1 = it (blk (View.ld x1 r0_14)) 4 := by
  unfold k0_pay1931; rw [f1460, f1924, f1926, f1927]; rfl

/-- Head 7: a value of the body, by its steps. -/
theorem f1932 (x0 x1 : Vec F S8x128x128 .f32) : k0_pay1932 x0 x1 = ps (it (blk (View.ld x1 r0_14)) 4) := by
  unfold k0_pay1932; rw [f1460, f1924, f1926, f1927]; rfl

/-- Head 7: a value of the body, by its steps. -/
theorem f1933 (x0 x1 : Vec F S8x128x128 .f32) : k0_pay1933 x0 x1 = ps (it (blk (View.ld x1 r0_14)) 5) := by
  unfold k0_pay1933; rw [f1460, f1931, f1932]; rfl

/-- Head 7: a value of the body, by its steps. -/
theorem f1934 (x0 x1 : Vec F S8x128x128 .f32) : k0_pay1934 x0 x1 = ps (it (blk (View.ld x1 r0_14)) 6) := by
  unfold k0_pay1934; rw [f1460, f1931, f1932]; rfl

/-- Head 7: a value of the body, by its steps. -/
theorem f1935 (x0 x1 : Vec F S8x128x128 .f32) : k0_pay1935 x0 x1 = ps (it (blk (View.ld x1 r0_14)) 7) := by
  unfold k0_pay1935; rw [f1460, f1931, f1932]; rfl

/-- Head 7: a value of the body, by its steps. -/
theorem f1936 (x0 x1 : Vec F S8x128x128 .f32) : k0_pay1936 x0 x1 = it (blk (View.ld x1 r0_14)) 8 := by
  unfold k0_pay1936; rw [f1460, f1931, f1932]; rfl

/-- Head 7: a value of the body, by its steps. -/
theorem f1937 (x0 x1 : Vec F S8x128x128 .f32) : k0_pay1937 x0 x1 = cmpf .oeq (it (blk (View.ld x1 r0_14)) 8) (bc (mx (it (blk (View.ld x1 r0_14)) 8))) := by
  unfold k0_pay1937; rw [f1460, f1931, f1932]; rfl

/-- a value of the body, by its steps. -/
theorem f1938 (x0 x1 : Vec F S8x128x128 .f32) : k0_pay1938 x0 x1 = broadcast S128x128 (Scalar.ofBits .f32 0x7F800000#32) := by
  unfold k0_pay1938; rfl

/-- Head 7: a value of the body, by its steps. -/
theorem f1939 (x0 x1 : Vec F S8x128x128 .f32) : k0_pay1939 x0 x1 = ps (it (blk (View.ld x1 r0_14)) 8) := by
  unfold k0_pay1939; rw [f1460, f1937, f1938]; rfl

/-- Head 7: a value of the body, by its steps. -/
theorem f1940 (x0 x1 : Vec F S8x128x128 .f32) : k0_pay1940 x0 x1 = ps (it (blk (View.ld x1 r0_14)) 9) := by
  unfold k0_pay1940; rw [f1460, f1936, f1937, f1938]; rfl

/-- Head 7: a value of the body, by its steps. -/
theorem f1941 (x0 x1 : Vec F S8x128x128 .f32) : k0_pay1941 x0 x1 = ps (it (blk (View.ld x1 r0_14)) 10) := by
  unfold k0_pay1941; rw [f1460, f1936, f1937, f1938]; rfl

/-- Head 7: a value of the body, by its steps. -/
theorem f1942 (x0 x1 : Vec F S8x128x128 .f32) : k0_pay1942 x0 x1 = ps (it (blk (View.ld x1 r0_14)) 11) := by
  unfold k0_pay1942; rw [f1460, f1936, f1937, f1938]; rfl

/-- Head 7: a value of the body, by its steps. -/
theorem f1943 (x0 x1 : Vec F S8x128x128 .f32) : k0_pay1943 x0 x1 = it (blk (View.ld x1 r0_14)) 12 := by
  unfold k0_pay1943; rw [f1460, f1936, f1937, f1938]; rfl

/-- Head 7: a value of the body, by its steps. -/
theorem f1944 (x0 x1 : Vec F S8x128x128 .f32) : k0_pay1944 x0 x1 = mx (it (blk (View.ld x1 r0_14)) 12) := by
  unfold k0_pay1944; rw [f1460, f1936, f1937, f1938]; rfl

/-- Head 7: a value of the body, by its steps. -/
theorem f1945 (x0 x1 : Vec F S8x128x128 .f32) : k0_pay1945 x0 x1 = ps (it (blk (View.ld x1 r0_14)) 12) := by
  unfold k0_pay1945; rw [f1460, f1943, f1944]; rfl

/-- Head 7: a value of the body, by its steps. -/
theorem f1946 (x0 x1 : Vec F S8x128x128 .f32) : k0_pay1946 x0 x1 = ps (it (blk (View.ld x1 r0_14)) 13) := by
  unfold k0_pay1946; rw [f1460, f1943, f1944]; rfl

/-- Head 7: a value of the body, by its steps. -/
theorem f1947 (x0 x1 : Vec F S8x128x128 .f32) : k0_pay1947 x0 x1 = ps (it (blk (View.ld x1 r0_14)) 14) := by
  unfold k0_pay1947; rw [f1460, f1943, f1944]; rfl

/-- Head 7: a value of the body, by its steps. -/
theorem f1948 (x0 x1 : Vec F S8x128x128 .f32) : k0_pay1948 x0 x1 = ps (it (blk (View.ld x1 r0_14)) 15) := by
  unfold k0_pay1948; rw [f1460, f1943, f1944]; rfl

/-- Head 7: a value of the body, by its steps. -/
theorem f1949 (x0 x1 : Vec F S8x128x128 .f32) : k0_pay1949 x0 x1 = fptosi 32 (poss (blk (View.ld x0 r0_14))) := by
  unfold k0_pay1949; rw [f1460, f1914, f1915, f1916, f1918, f1917, f1920, f1921, f1919, f1922, f1923]; rfl

/-- Head 7: a value of the body, by its steps. -/
theorem f1950 (x0 x1 : Vec F S8x128x128 .f32) : k0_pay1950 x0 x1 = muli (fptosi 32 (poss (blk (View.ld x0 r0_14)))) (broadcast S16x128 (128#32)) := by
  unfold k0_pay1950; rw [f1949]; rfl

/-- Head 7: a value of the body, by its steps. -/
theorem f1951 (x0 x1 : Vec F S8x128x128 .f32) : k0_pay1951 x0 x1 = fptosi 32 (poss (blk (View.ld x1 r0_14))) := by
  unfold k0_pay1951; rw [f1925, f1928, f1929, f1930, f1932, f1933, f1934, f1935, f1939, f1940, f1941, f1942, f1945, f1946, f1947, f1948]; rfl

/-- Head 7: a value of the body, by its steps. -/
theorem f1952 (x0 x1 : Vec F S8x128x128 .f32) : k0_pay1952 x0 x1 = cs (blk (View.ld x0 r0_14)) (blk (View.ld x1 r0_14)) := by
  unfold k0_pay1952; rw [f1460, f1914, f1915, f1916, f1917, f1918, f1919, f1920, f1921, f1923, f1922, f1924, f1926, f1927, f1931, f1932, f1936, f1937, f1938, f1943, f1944]; rfl

/-- Head 7: a value of the body, by its steps. -/
theorem f1953 (x0 x1 : Vec F S8x128x128 .f32) : k0_pay1953 x0 x1 = addi (broadcastTo S16x128 (extractStridedSlice S1x128 ![0, 0] (muli (fptosi 32 (poss (blk (View.ld x0 r0_14)))) (broadcast S16x128 (128#32))) slices_S16x128_o0_0_S1x128) broadcasts_S1x128_S16x128) (fptosi 32 (poss (blk (View.ld x1 r0_14)))) := by
  unfold k0_pay1953; rw [f1925, f1928, f1929, f1930, f1932, f1933, f1934, f1935, f1939, f1940, f1941, f1942, f1945, f1946, f1947, f1948, f1949]; rfl

/-- Head 7: a value of the body, by its steps. -/
theorem f1954 (x0 x1 : Vec F S8x128x128 .f32) : k0_pay1954 x0 x1 = addi (broadcastTo S8x128 (extractStridedSlice S1x128 ![1, 0] (muli (fptosi 32 (poss (blk (View.ld x0 r0_14)))) (broadcast S16x128 (128#32))) slices_S16x128_o1_0_S1x128) broadcasts_S1x128_S8x128) (extractStridedSlice S8x128 ![0, 0] (fptosi 32 (poss (blk (View.ld x1 r0_14)))) slices_S16x128_o0_0_S8x128) := by
  unfold k0_pay1954; rw [f1925, f1928, f1929, f1930, f1932, f1933, f1934, f1935, f1939, f1940, f1941, f1942, f1945, f1946, f1947, f1948, f1949]; rfl

/-- Head 7: a value of the body, by its steps. -/
theorem f1955 (x0 x1 : Vec F S8x128x128 .f32) : k0_pay1955 x0 x1 = addi (broadcastTo S8x128 (extractStridedSlice S1x128 ![2, 0] (muli (fptosi 32 (poss (blk (View.ld x0 r0_14)))) (broadcast S16x128 (128#32))) slices_S16x128_o2_0_S1x128) broadcasts_S1x128_S8x128) (extractStridedSlice S8x128 ![0, 0] (fptosi 32 (poss (blk (View.ld x1 r0_14)))) slices_S16x128_o0_0_S8x128) := by
  unfold k0_pay1955; rw [f1925, f1928, f1929, f1930, f1932, f1933, f1934, f1935, f1939, f1940, f1941, f1942, f1945, f1946, f1947, f1948, f1949]; rfl

/-- Head 7: a value of the body, by its steps. -/
theorem f1956 (x0 x1 : Vec F S8x128x128 .f32) : k0_pay1956 x0 x1 = addi (broadcastTo S8x128 (extractStridedSlice S1x128 ![3, 0] (muli (fptosi 32 (poss (blk (View.ld x0 r0_14)))) (broadcast S16x128 (128#32))) slices_S16x128_o3_0_S1x128) broadcasts_S1x128_S8x128) (extractStridedSlice S8x128 ![0, 0] (fptosi 32 (poss (blk (View.ld x1 r0_14)))) slices_S16x128_o0_0_S8x128) := by
  unfold k0_pay1956; rw [f1925, f1928, f1929, f1930, f1932, f1933, f1934, f1935, f1939, f1940, f1941, f1942, f1945, f1946, f1947, f1948, f1949]; rfl

/-- Head 7: a value of the body, by its steps. -/
theorem f1957 (x0 x1 : Vec F S8x128x128 .f32) : k0_pay1957 x0 x1 = addi (broadcastTo S8x128 (extractStridedSlice S1x128 ![4, 0] (muli (fptosi 32 (poss (blk (View.ld x0 r0_14)))) (broadcast S16x128 (128#32))) slices_S16x128_o4_0_S1x128) broadcasts_S1x128_S8x128) (extractStridedSlice S8x128 ![0, 0] (fptosi 32 (poss (blk (View.ld x1 r0_14)))) slices_S16x128_o0_0_S8x128) := by
  unfold k0_pay1957; rw [f1925, f1928, f1929, f1930, f1932, f1933, f1934, f1935, f1939, f1940, f1941, f1942, f1945, f1946, f1947, f1948, f1949]; rfl

/-- Head 7: a value of the body, by its steps. -/
theorem f1958 (x0 x1 : Vec F S8x128x128 .f32) : k0_pay1958 x0 x1 = ci (blk (View.ld x0 r0_14)) (blk (View.ld x1 r0_14)) := by
  unfold k0_pay1958; rw [f1950, f1951, f1953, f1954, f1955, f1956, f1957]; rfl

/-- Head 7: a value of the body, by its steps. -/
theorem f1959 (x0 x1 : Vec F S8x128x128 .f32) : k0_pay1959 x0 x1 = it' (cs (blk (View.ld x0 r0_14)) (blk (View.ld x1 r0_14))) 1 := by
  unfold k0_pay1959; rw [f1461, f1952]; rfl

/-- Head 7: a value of the body, by its steps. -/
theorem f1960 (x0 x1 : Vec F S8x128x128 .f32) : k0_pay1960 x0 x1 = hit' (it' (cs (blk (View.ld x0 r0_14)) (blk (View.ld x1 r0_14))) 1) := by
  unfold k0_pay1960; rw [f1461, f1952]; rfl

/-- a value of the body, by its steps. -/
theorem f1961 (x0 x1 : Vec F S8x128x128 .f32) : k0_pay1961 x0 x1 = broadcast S80x128 (Scalar.ofBits .f32 0xFF800000#32) := by
  unfold k0_pay1961; rfl

/-- Head 7: a value of the body, by its steps. -/
theorem f1962 (x0 x1 : Vec F S8x128x128 .f32) : k0_pay1962 x0 x1 = it' (cs (blk (View.ld x0 r0_14)) (blk (View.ld x1 r0_14))) 4 := by
  unfold k0_pay1962; rw [f1461, f1959, f1960, f1961]; rfl

/-- Head 7: a value of the body, by its steps. -/
theorem f1963 (x0 x1 : Vec F S8x128x128 .f32) : k0_pay1963 x0 x1 = hit' (it' (cs (blk (View.ld x0 r0_14)) (blk (View.ld x1 r0_14))) 4) := by
  unfold k0_pay1963; rw [f1461, f1959, f1960, f1961]; rfl

/-- Head 7: a value of the body, by its steps. -/
theorem f1964 (x0 x1 : Vec F S8x128x128 .f32) : k0_pay1964 x0 x1 = it' (cs (blk (View.ld x0 r0_14)) (blk (View.ld x1 r0_14))) 7 := by
  unfold k0_pay1964; rw [f1461, f1962, f1963]; rfl

/-- Head 7: a value of the body, by its steps. -/
theorem f1965 (x0 x1 : Vec F S8x128x128 .f32) : k0_pay1965 x0 x1 = select (cmpf .oeq (it' (cs (blk (View.ld x0 r0_14)) (blk (View.ld x1 r0_14))) 7) (bc' (mx' (it' (cs (blk (View.ld x0 r0_14)) (blk (View.ld x1 r0_14))) 7)))) candPos (broadcast S80x128 (Scalar.ofBits .f32 0x7F800000#32)) := by
  unfold k0_pay1965; rw [f1461, f1962, f1963]; rfl

/-- Head 7: a value of the body, by its steps. -/
theorem f1966 (x0 x1 : Vec F S8x128x128 .f32) : k0_pay1966 x0 x1 = it' (cs (blk (View.ld x0 r0_14)) (blk (View.ld x1 r0_14))) 10 := by
  unfold k0_pay1966; rw [f1461, f1964, f1965]; rfl

/-- Head 7: a value of the body, by its steps. -/
theorem f1967 (x0 x1 : Vec F S8x128x128 .f32) : k0_pay1967 x0 x1 = mx' (it' (cs (blk (View.ld x0 r0_14)) (blk (View.ld x1 r0_14))) 10) := by
  unfold k0_pay1967; rw [f1461, f1964, f1965]; rfl

/-- Head 7: a value of the body, by its steps. -/
theorem f1968 (x0 x1 : Vec F S8x128x128 .f32) : k0_pay1968 x0 x1 = it' (cs (blk (View.ld x0 r0_14)) (blk (View.ld x1 r0_14))) 12 := by
  unfold k0_pay1968; rw [f1461, f1966, f1967]; rfl

/-- Head 7: a value of the body, by its steps. -/
theorem f1969 (x0 x1 : Vec F S8x128x128 .f32) : k0_pay1969 x0 x1 = hit' (it' (cs (blk (View.ld x0 r0_14)) (blk (View.ld x1 r0_14))) 12) := by
  unfold k0_pay1969; rw [f1461, f1966, f1967]; rfl

end Cert.RouteIdeal.Fold

end
-- ==== Proof.RoutePiece.lean ====
/- What each head stores, as the blocks of experts and of gates of that head's scores. -/
module

public import proofs.«01_k».proof.Proof.RouteFold4

@[expose] public section

set_option maxRecDepth 16384

noncomputable section

namespace Cert.RouteIdeal.Fold

open Cert.RouteIdeal Cert.RouteIdeal.Gen Cert.RouteIdeal.Vocab Idealize.ShloMosaic Idealize.ShloMosaic.TcCoe Idealize.SL.Sem

variable {F : FTy → Type} [FloatOps F]

/-- The experts that head 0 stores. -/
theorem ids0 (x0 x1 : Vec F S8x128x128 .f32) : (k0_pay180 (k0_pay1461 x0 x1) (k0_pay1515 x0 x1) (k0_pay117 (k0_pay1461 x0 x1) (k0_pay1509 x0 x1) (k0_pay1510 x0 x1) (k0_pay1511 x0 x1) (k0_pay1512 x0 x1) (k0_pay1513 x0 x1) (k0_pay1514 x0 x1)) (k0_pay122 (k0_pay1461 x0 x1) (k0_pay1515 x0 x1) (k0_pay1517 x0 x1)) (k0_pay126 (k0_pay1461 x0 x1) (k0_pay1515 x0 x1) (k0_pay1516 x0 x1) (k0_pay1517 x0 x1)) (k0_pay130 (k0_pay1461 x0 x1) (k0_pay1515 x0 x1) (k0_pay1516 x0 x1) (k0_pay1517 x0 x1)) (k0_pay135 (k0_pay1461 x0 x1) (k0_pay1515 x0 x1) (k0_pay1518 x0 x1) (k0_pay1519 x0 x1)) (k0_pay139 (k0_pay1461 x0 x1) (k0_pay1515 x0 x1) (k0_pay1518 x0 x1) (k0_pay1519 x0 x1)) (k0_pay143 (k0_pay1461 x0 x1) (k0_pay1515 x0 x1) (k0_pay1518 x0 x1) (k0_pay1519 x0 x1)) (k0_pay147 (k0_pay1461 x0 x1) (k0_pay1515 x0 x1) (k0_pay1520 x0 x1) (k0_pay1521 x0 x1) (Scalar.ofBits .f32 0xFF800000#32)) (k0_pay151 (k0_pay1461 x0 x1) (k0_pay1515 x0 x1) (k0_pay1520 x0 x1) (k0_pay1521 x0 x1) (Scalar.ofBits .f32 0xFF800000#32)) (k0_pay155 (k0_pay1515 x0 x1) (k0_pay1523 x0 x1) 0#32) (k0_pay159 (k0_pay1461 x0 x1) (k0_pay1515 x0 x1) (k0_pay1522 x0 x1) (k0_pay1523 x0 x1)) (k0_pay163 (k0_pay1461 x0 x1) (k0_pay1515 x0 x1) (k0_pay1522 x0 x1) (k0_pay1523 x0 x1)) (k0_pay168 (k0_pay1461 x0 x1) (k0_pay1515 x0 x1) (k0_pay1525 x0 x1)) (k0_pay172 (k0_pay1461 x0 x1) (k0_pay1515 x0 x1) (k0_pay1524 x0 x1) (k0_pay1525 x0 x1)) (k0_pay176 (k0_pay1461 x0 x1) (k0_pay1515 x0 x1) (k0_pay1524 x0 x1) (k0_pay1525 x0 x1)) (k0_pay177 (k0_pay1461 x0 x1) (k0_pay1524 x0 x1) (k0_pay1525 x0 x1)) (k0_pay1526 x0 x1) : IVec S1x16x128 32) = outI (blk (View.ld x0 r0_0)) (blk (View.ld x1 r0_0)) := by
  rw [f1461, f1509, f1510, f1511, f1512, f1513, f1514, f1515, f1516, f1517, f1518, f1519, f1520, f1521, f1522, f1523, f1524, f1525, f1526]; rfl

/-- The gates that head 0 stores. -/
theorem gates0 (x0 x1 : Vec F S8x128x128 .f32) : (k0_pay181 (k0_pay115 (k0_pay1511 x0 x1)) (k0_pay119 (k0_pay1461 x0 x1) (k0_pay1511 x0 x1)) (k0_pay124 (k0_pay1461 x0 x1) (k0_pay1516 x0 x1) (k0_pay1517 x0 x1)) (k0_pay128 (k0_pay1461 x0 x1) (k0_pay1516 x0 x1) (k0_pay1517 x0 x1)) (k0_pay132 (k0_pay1461 x0 x1) (k0_pay1516 x0 x1) (k0_pay1517 x0 x1)) (k0_pay137 (k0_pay1461 x0 x1) (k0_pay1518 x0 x1) (k0_pay1519 x0 x1)) (k0_pay141 (k0_pay1461 x0 x1) (k0_pay1518 x0 x1) (k0_pay1519 x0 x1)) (k0_pay145 (k0_pay1520 x0 x1) (k0_pay1521 x0 x1) (Scalar.ofBits .f32 0xFF800000#32)) (k0_pay149 (k0_pay1461 x0 x1) (k0_pay1520 x0 x1) (k0_pay1521 x0 x1) (Scalar.ofBits .f32 0xFF800000#32)) (k0_pay153 (k0_pay1461 x0 x1) (k0_pay1520 x0 x1) (k0_pay1521 x0 x1) (Scalar.ofBits .f32 0xFF800000#32)) (k0_pay157 (k0_pay1522 x0 x1) (k0_pay1523 x0 x1)) (k0_pay161 (k0_pay1461 x0 x1) (k0_pay1522 x0 x1) (k0_pay1523 x0 x1)) (k0_pay165 (k0_pay1461 x0 x1) (k0_pay1522 x0 x1) (k0_pay1523 x0 x1)) (k0_pay170 (k0_pay1461 x0 x1) (k0_pay1524 x0 x1) (k0_pay1525 x0 x1)) (k0_pay174 (k0_pay1461 x0 x1) (k0_pay1524 x0 x1) (k0_pay1525 x0 x1)) (k0_pay1526 x0 x1) : FVec F S1x16x128 .f32) = outG (blk (View.ld x0 r0_0)) (blk (View.ld x1 r0_0)) := by
  rw [f1461, f1511, f1516, f1517, f1518, f1519, f1520, f1521, f1522, f1523, f1524, f1525, f1526]; rfl

/-- The experts that head 1 stores. -/
theorem ids1 (x0 x1 : Vec F S8x128x128 .f32) : (k0_pay351 (k0_pay1461 x0 x1) (k0_pay1561 x0 x1) (k0_pay290 (k0_pay1461 x0 x1) (k0_pay1557 x0 x1) (k0_pay1558 x0 x1) (k0_pay1559 x0 x1) (k0_pay1560 x0 x1)) (k0_pay294 (k0_pay1461 x0 x1) (k0_pay1561 x0 x1) (k0_pay1562 x0 x1) (k0_pay1563 x0 x1)) (k0_pay298 (k0_pay1461 x0 x1) (k0_pay1561 x0 x1) (k0_pay1562 x0 x1) (k0_pay1563 x0 x1)) (k0_pay302 (k0_pay1461 x0 x1) (k0_pay1561 x0 x1) (k0_pay1562 x0 x1) (k0_pay1563 x0 x1)) (k0_pay306 (k0_pay1461 x0 x1) (k0_pay1561 x0 x1) (k0_pay1564 x0 x1) (k0_pay1565 x0 x1)) (k0_pay310 (k0_pay1461 x0 x1) (k0_pay1561 x0 x1) (k0_pay1564 x0 x1) (k0_pay1565 x0 x1)) (k0_pay314 (k0_pay1561 x0 x1) (k0_pay1567 x0 x1)) (k0_pay318 (k0_pay1461 x0 x1) (k0_pay1561 x0 x1) (k0_pay1566 x0 x1) (k0_pay1567 x0 x1)) (k0_pay322 (k0_pay1461 x0 x1) (k0_pay1561 x0 x1) (k0_pay1566 x0 x1) (k0_pay1567 x0 x1)) (k0_pay328 (k0_pay1461 x0 x1) (k0_pay1561 x0 x1) (k0_pay1569 x0 x1) (k0_pay1570 x0 x1)) (k0_pay332 (k0_pay1461 x0 x1) (k0_pay1561 x0 x1) (k0_pay1568 x0 x1) (k0_pay1569 x0 x1) (k0_pay1570 x0 x1)) (k0_pay336 (k0_pay1461 x0 x1) (k0_pay1561 x0 x1) (k0_pay1568 x0 x1) (k0_pay1569 x0 x1) (k0_pay1570 x0 x1)) (k0_pay340 (k0_pay1461 x0 x1) (k0_pay1561 x0 x1) (k0_pay1571 x0 x1)) (k0_pay344 (k0_pay1461 x0 x1) (k0_pay1561 x0 x1) (k0_pay1571 x0 x1)) (k0_pay1572 x0 x1) (k0_pay1573 x0 x1) (k0_pay348 (k0_pay1461 x0 x1) (k0_pay1561 x0 x1) (k0_pay1571 x0 x1)) : IVec S1x16x128 32) = outI (blk (View.ld x0 r0_2)) (blk (View.ld x1 r0_2)) := by
  rw [f1461, f1557, f1558, f1559, f1560, f1561, f1562, f1563, f1564, f1565, f1566, f1567, f1568, f1569, f1570, f1571, f1572, f1573]; rfl

/-- The gates that head 1 stores. -/
theorem gates1 (x0 x1 : Vec F S8x128x128 .f32) : (k0_pay352 (k0_pay288 (k0_pay1559 x0 x1)) (k0_pay1563 x0 x1) (k0_pay296 (k0_pay1461 x0 x1) (k0_pay1562 x0 x1) (k0_pay1563 x0 x1)) (k0_pay300 (k0_pay1461 x0 x1) (k0_pay1562 x0 x1) (k0_pay1563 x0 x1)) (k0_pay304 (k0_pay1564 x0 x1) (k0_pay1565 x0 x1)) (k0_pay308 (k0_pay1461 x0 x1) (k0_pay1564 x0 x1) (k0_pay1565 x0 x1)) (k0_pay312 (k0_pay1461 x0 x1) (k0_pay1564 x0 x1) (k0_pay1565 x0 x1)) (k0_pay316 (k0_pay1566 x0 x1) (k0_pay1567 x0 x1)) (k0_pay320 (k0_pay1461 x0 x1) (k0_pay1566 x0 x1) (k0_pay1567 x0 x1)) (k0_pay324 (k0_pay1461 x0 x1) (k0_pay1566 x0 x1) (k0_pay1567 x0 x1)) (k0_pay330 (k0_pay1461 x0 x1) (k0_pay1568 x0 x1) (k0_pay1569 x0 x1) (k0_pay1570 x0 x1)) (k0_pay334 (k0_pay1461 x0 x1) (k0_pay1568 x0 x1) (k0_pay1569 x0 x1) (k0_pay1570 x0 x1)) (k0_pay338 (k0_pay1571 x0 x1)) (k0_pay342 (k0_pay1461 x0 x1) (k0_pay1571 x0 x1)) (k0_pay1572 x0 x1) (k0_pay346 (k0_pay1461 x0 x1) (k0_pay1571 x0 x1)) (k0_pay1573 x0 x1) : FVec F S1x16x128 .f32) = outG (blk (View.ld x0 r0_2)) (blk (View.ld x1 r0_2)) := by
  rw [f1461, f1559, f1562, f1563, f1564, f1565, f1566, f1567, f1568, f1569, f1570, f1571, f1572, f1573]; rfl

/-- The experts that head 2 stores. -/
theorem ids2 (x0 x1 : Vec F S8x128x128 .f32) : (k0_pay537 (k0_pay1461 x0 x1) (k0_pay1635 x0 x1) (k0_pay475 (k0_pay474 (k0_pay1461 x0 x1) (k0_pay1621 x0 x1) (k0_pay1622 x0 x1) (k0_pay1623 x0 x1) (k0_pay1624 x0 x1) (k0_pay1625 x0 x1) (k0_pay1626 x0 x1) (k0_pay1627 x0 x1) (k0_pay1628 x0 x1) (k0_pay1629 x0 x1) (k0_pay1630 x0 x1) (k0_pay1631 x0 x1) (k0_pay1632 x0 x1) (k0_pay1633 x0 x1))) (k0_pay479 (k0_pay1461 x0 x1) (k0_pay1634 x0 x1) (k0_pay1635 x0 x1) (k0_pay1636 x0 x1)) (k0_pay483 (k0_pay1461 x0 x1) (k0_pay1634 x0 x1) (k0_pay1635 x0 x1) (k0_pay1636 x0 x1)) (k0_pay488 (k0_pay1461 x0 x1) (k0_pay1635 x0 x1) (k0_pay1638 x0 x1)) (k0_pay492 (k0_pay1461 x0 x1) (k0_pay1635 x0 x1) (k0_pay1637 x0 x1) (k0_pay1638 x0 x1)) (k0_pay496 (k0_pay1461 x0 x1) (k0_pay1635 x0 x1) (k0_pay1637 x0 x1) (k0_pay1638 x0 x1)) (k0_pay501 (k0_pay1461 x0 x1) (k0_pay1635 x0 x1) (k0_pay1640 x0 x1) (Scalar.ofBits .f32 0x7F800000#32)) (k0_pay505 (k0_pay1461 x0 x1) (k0_pay1635 x0 x1) (k0_pay1639 x0 x1) (k0_pay1640 x0 x1) (Scalar.ofBits .f32 0x7F800000#32)) (k0_pay509 (k0_pay1461 x0 x1) (k0_pay1635 x0 x1) (k0_pay1639 x0 x1) (k0_pay1640 x0 x1) (Scalar.ofBits .f32 0x7F800000#32)) (k0_pay513 (k0_pay1461 x0 x1) (k0_pay1635 x0 x1) (k0_pay1641 x0 x1)) (k0_pay517 (k0_pay1461 x0 x1) (k0_pay1635 x0 x1) (k0_pay1641 x0 x1)) (k0_pay522 (k0_pay521 (k0_pay1461 x0 x1) (k0_pay1635 x0 x1) (k0_pay1641 x0 x1))) (k0_pay526 (k0_pay1461 x0 x1) (k0_pay1635 x0 x1) (k0_pay1642 x0 x1) (k0_pay1643 x0 x1)) (k0_pay530 (k0_pay1461 x0 x1) (k0_pay1635 x0 x1) (k0_pay1642 x0 x1) (k0_pay1643 x0 x1)) (k0_pay1644 x0 x1) (k0_pay1645 x0 x1) : IVec S1x16x128 32) = outI (blk (View.ld x0 r0_4)) (blk (View.ld x1 r0_4)) := by
  rw [f1461, f1621, f1622, f1623, f1624, f1625, f1626, f1627, f1628, f1629, f1630, f1631, f1632, f1633, f1634, f1635, f1636, f1637, f1638, f1639, f1640, f1641, f1642, f1643, f1644, f1645]; rfl

/-- The gates that head 2 stores. -/
theorem gates2 (x0 x1 : Vec F S8x128x128 .f32) : (k0_pay538 (k0_pay1461 x0 x1) (k0_pay472 (k0_pay1621 x0 x1) (k0_pay1622 x0 x1) (k0_pay1625 x0 x1) (k0_pay1626 x0 x1) (k0_pay1627 x0 x1) (k0_pay1628 x0 x1) (k0_pay1629 x0 x1) (k0_pay1630 x0 x1) (k0_pay1631 x0 x1) (k0_pay1632 x0 x1) (k0_pay1633 x0 x1)) (k0_pay477 (k0_pay1634 x0 x1) (k0_pay1636 x0 x1)) (k0_pay481 (k0_pay1461 x0 x1) (k0_pay1634 x0 x1) (k0_pay1636 x0 x1)) (k0_pay485 (k0_pay1461 x0 x1) (k0_pay1634 x0 x1) (k0_pay1636 x0 x1)) (k0_pay490 (k0_pay1461 x0 x1) (k0_pay1637 x0 x1) (k0_pay1638 x0 x1)) (k0_pay494 (k0_pay1461 x0 x1) (k0_pay1637 x0 x1) (k0_pay1638 x0 x1)) (k0_pay498 (k0_pay1461 x0 x1) (k0_pay1637 x0 x1) (k0_pay1638 x0 x1)) (k0_pay503 (k0_pay1461 x0 x1) (k0_pay1639 x0 x1) (k0_pay1640 x0 x1) (Scalar.ofBits .f32 0x7F800000#32)) (k0_pay507 (k0_pay1461 x0 x1) (k0_pay1639 x0 x1) (k0_pay1640 x0 x1) (Scalar.ofBits .f32 0x7F800000#32)) (k0_pay511 (k0_pay1641 x0 x1)) (k0_pay515 (k0_pay1461 x0 x1) (k0_pay1641 x0 x1)) (k0_pay519 (k0_pay1461 x0 x1) (k0_pay1641 x0 x1)) (k0_pay524 (k0_pay1642 x0 x1) (k0_pay1643 x0 x1)) (k0_pay528 (k0_pay1461 x0 x1) (k0_pay1642 x0 x1) (k0_pay1643 x0 x1)) (k0_pay1644 x0 x1) (k0_pay532 (k0_pay1461 x0 x1) (k0_pay1642 x0 x1) (k0_pay1643 x0 x1)) (k0_pay1645 x0 x1) : FVec F S1x16x128 .f32) = outG (blk (View.ld x0 r0_4)) (blk (View.ld x1 r0_4)) := by
  rw [f1461, f1621, f1622, f1625, f1626, f1627, f1628, f1629, f1630, f1631, f1632, f1633, f1634, f1636, f1637, f1638, f1639, f1640, f1641, f1642, f1643, f1644, f1645]; rfl

/-- The experts that head 3 stores. -/
theorem ids3 (x0 x1 : Vec F S8x128x128 .f32) : (k0_pay720 (k0_pay1461 x0 x1) (k0_pay1703 x0 x1) (k0_pay657 (k0_pay1461 x0 x1) (k0_pay1703 x0 x1) (k0_pay1704 x0 x1)) (k0_pay661 (k0_pay1461 x0 x1) (k0_pay1702 x0 x1) (k0_pay1703 x0 x1) (k0_pay1704 x0 x1)) (k0_pay665 (k0_pay1461 x0 x1) (k0_pay1702 x0 x1) (k0_pay1703 x0 x1) (k0_pay1704 x0 x1)) (k0_pay670 (k0_pay1461 x0 x1) (k0_pay1703 x0 x1) (k0_pay1706 x0 x1)) (k0_pay674 (k0_pay1461 x0 x1) (k0_pay1703 x0 x1) (k0_pay1705 x0 x1) (k0_pay1706 x0 x1)) (k0_pay678 (k0_pay1461 x0 x1) (k0_pay1703 x0 x1) (k0_pay1705 x0 x1) (k0_pay1706 x0 x1)) (k0_pay683 (k0_pay1461 x0 x1) (k0_pay1703 x0 x1) (k0_pay1707 x0 x1) (k0_pay1708 x0 x1) (k0_pay1709 x0 x1)) (k0_pay687 (k0_pay1461 x0 x1) (k0_pay1703 x0 x1) (k0_pay1707 x0 x1) (k0_pay1708 x0 x1) (k0_pay1709 x0 x1)) (k0_pay692 (k0_pay1703 x0 x1) (k0_pay1711 x0 x1) k0_pay691) (k0_pay696 (k0_pay1461 x0 x1) (k0_pay1703 x0 x1) (k0_pay1710 x0 x1) (k0_pay1711 x0 x1)) (k0_pay700 (k0_pay1461 x0 x1) (k0_pay1703 x0 x1) (k0_pay1710 x0 x1) (k0_pay1711 x0 x1)) (k0_pay705 (k0_pay1461 x0 x1) (k0_pay1703 x0 x1) (k0_pay1713 x0 x1)) (k0_pay709 (k0_pay1461 x0 x1) (k0_pay1703 x0 x1) (k0_pay1712 x0 x1) (k0_pay1713 x0 x1)) (k0_pay713 (k0_pay1461 x0 x1) (k0_pay1703 x0 x1) (k0_pay1712 x0 x1) (k0_pay1713 x0 x1)) (k0_pay1714 x0 x1) (k0_pay1715 x0 x1) : IVec S1x16x128 32) = outI (blk (View.ld x0 r0_6)) (blk (View.ld x1 r0_6)) := by
  rw [f1461, f1702, f1703, f1704, f1705, f1706, f1707, f1708, f1709, f1710, f1711, f1712, f1713, f1714, f1715]; rfl

/-- The gates that head 3 stores. -/
theorem gates3 (x0 x1 : Vec F S8x128x128 .f32) : (k0_pay721 (k0_pay719 (k0_pay1461 x0 x1) (k0_pay654 (k0_pay1694 x0 x1) (k0_pay1695 x0 x1) (k0_pay1696 x0 x1) (k0_pay1697 x0 x1) (k0_pay1698 x0 x1) (k0_pay1699 x0 x1) (k0_pay1700 x0 x1) (k0_pay1701 x0 x1)) (k0_pay659 (k0_pay1461 x0 x1) (k0_pay1702 x0 x1) (k0_pay1704 x0 x1)) (k0_pay663 (k0_pay1461 x0 x1) (k0_pay1702 x0 x1) (k0_pay1704 x0 x1)) (k0_pay667 (k0_pay1461 x0 x1) (k0_pay1702 x0 x1) (k0_pay1704 x0 x1)) (k0_pay672 (k0_pay1461 x0 x1) (k0_pay1705 x0 x1) (k0_pay1706 x0 x1)) (k0_pay676 (k0_pay1461 x0 x1) (k0_pay1705 x0 x1) (k0_pay1706 x0 x1)) (k0_pay681 (k0_pay1707 x0 x1) (k0_pay1708 x0 x1) (k0_pay1709 x0 x1)) (k0_pay685 (k0_pay1461 x0 x1) (k0_pay1707 x0 x1) (k0_pay1708 x0 x1) (k0_pay1709 x0 x1)) (k0_pay689 (k0_pay1461 x0 x1) (k0_pay1707 x0 x1) (k0_pay1708 x0 x1) (k0_pay1709 x0 x1)) (k0_pay694 (k0_pay1710 x0 x1) (k0_pay1711 x0 x1)) (k0_pay698 (k0_pay1461 x0 x1) (k0_pay1710 x0 x1) (k0_pay1711 x0 x1)) (k0_pay702 (k0_pay1461 x0 x1) (k0_pay1710 x0 x1) (k0_pay1711 x0 x1)) (k0_pay707 (k0_pay1461 x0 x1) (k0_pay1712 x0 x1) (k0_pay1713 x0 x1)) (k0_pay711 (k0_pay1461 x0 x1) (k0_pay1712 x0 x1) (k0_pay1713 x0 x1)) (k0_pay1714 x0 x1) (k0_pay1715 x0 x1)) : FVec F S1x16x128 .f32) = outG (blk (View.ld x0 r0_6)) (blk (View.ld x1 r0_6)) := by
  rw [f1461, f1694, f1695, f1696, f1697, f1698, f1699, f1700, f1701, f1702, f1704, f1705, f1706, f1707, f1708, f1709, f1710, f1711, f1712, f1713, f1714, f1715]; rfl

/-- The experts that head 4 stores. -/
theorem ids4 (x0 x1 : Vec F S8x128x128 .f32) : (k0_pay899 (k0_pay898 (k0_pay1461 x0 x1) (k0_pay1768 x0 x1) (k0_pay837 (k0_pay1461 x0 x1) (k0_pay1767 x0 x1) (k0_pay1768 x0 x1) (k0_pay1769 x0 x1)) (k0_pay841 (k0_pay1461 x0 x1) (k0_pay1767 x0 x1) (k0_pay1768 x0 x1) (k0_pay1769 x0 x1)) (k0_pay845 (k0_pay1461 x0 x1) (k0_pay1767 x0 x1) (k0_pay1768 x0 x1) (k0_pay1769 x0 x1)) (k0_pay849 (k0_pay1461 x0 x1) (k0_pay1768 x0 x1) (k0_pay1770 x0 x1) (k0_pay1771 x0 x1) (Scalar.ofBits .f32 0xFF800000#32)) (k0_pay853 (k0_pay1461 x0 x1) (k0_pay1768 x0 x1) (k0_pay1770 x0 x1) (k0_pay1771 x0 x1) (Scalar.ofBits .f32 0xFF800000#32)) (k0_pay857 (k0_pay1768 x0 x1) (k0_pay1773 x0 x1) 0#32) (k0_pay861 (k0_pay1461 x0 x1) (k0_pay1768 x0 x1) (k0_pay1772 x0 x1) (k0_pay1773 x0 x1)) (k0_pay865 (k0_pay1461 x0 x1) (k0_pay1768 x0 x1) (k0_pay1772 x0 x1) (k0_pay1773 x0 x1)) (k0_pay870 (k0_pay1461 x0 x1) (k0_pay1768 x0 x1) (k0_pay1775 x0 x1)) (k0_pay874 (k0_pay1461 x0 x1) (k0_pay1768 x0 x1) (k0_pay1774 x0 x1) (k0_pay1775 x0 x1)) (k0_pay878 (k0_pay1461 x0 x1) (k0_pay1768 x0 x1) (k0_pay1774 x0 x1) (k0_pay1775 x0 x1)) (k0_pay883 (k0_pay1461 x0 x1) (k0_pay1768 x0 x1) (k0_pay1776 x0 x1) (k0_pay1777 x0 x1)) (k0_pay887 (k0_pay1461 x0 x1) (k0_pay1768 x0 x1) (k0_pay1776 x0 x1) (k0_pay1777 x0 x1)) (k0_pay1778 x0 x1) (k0_pay1779 x0 x1) (k0_pay891 (k0_pay1461 x0 x1) (k0_pay1768 x0 x1) (k0_pay1776 x0 x1) (k0_pay1777 x0 x1))) : IVec S1x16x128 32) = outI (blk (View.ld x0 r0_8)) (blk (View.ld x1 r0_8)) := by
  rw [f1461, f1767, f1768, f1769, f1770, f1771, f1772, f1773, f1774, f1775, f1776, f1777, f1778, f1779]; rfl

/-- The gates that head 4 stores. -/
theorem gates4 (x0 x1 : Vec F S8x128x128 .f32) : (k0_pay900 (k0_pay897 (k0_pay1461 x0 x1) (k0_pay834 (k0_pay1760 x0 x1) (k0_pay1761 x0 x1) (k0_pay1762 x0 x1) (k0_pay1763 x0 x1) (k0_pay1764 x0 x1) (k0_pay1765 x0 x1) (k0_pay1766 x0 x1)) (k0_pay839 (k0_pay1461 x0 x1) (k0_pay1767 x0 x1) (k0_pay1769 x0 x1)) (k0_pay843 (k0_pay1461 x0 x1) (k0_pay1767 x0 x1) (k0_pay1769 x0 x1)) (k0_pay847 (k0_pay1770 x0 x1) (k0_pay1771 x0 x1) (Scalar.ofBits .f32 0xFF800000#32)) (k0_pay851 (k0_pay1461 x0 x1) (k0_pay1770 x0 x1) (k0_pay1771 x0 x1) (Scalar.ofBits .f32 0xFF800000#32)) (k0_pay855 (k0_pay1461 x0 x1) (k0_pay1770 x0 x1) (k0_pay1771 x0 x1) (Scalar.ofBits .f32 0xFF800000#32)) (k0_pay859 (k0_pay1772 x0 x1) (k0_pay1773 x0 x1)) (k0_pay863 (k0_pay1461 x0 x1) (k0_pay1772 x0 x1) (k0_pay1773 x0 x1)) (k0_pay867 (k0_pay1461 x0 x1) (k0_pay1772 x0 x1) (k0_pay1773 x0 x1)) (k0_pay872 (k0_pay1461 x0 x1) (k0_pay1774 x0 x1) (k0_pay1775 x0 x1)) (k0_pay876 (k0_pay1461 x0 x1) (k0_pay1774 x0 x1) (k0_pay1775 x0 x1)) (k0_pay881 (k0_pay1777 x0 x1)) (k0_pay885 (k0_pay1461 x0 x1) (k0_pay1776 x0 x1) (k0_pay1777 x0 x1)) (k0_pay1778 x0 x1) (k0_pay889 (k0_pay1461 x0 x1) (k0_pay1776 x0 x1) (k0_pay1777 x0 x1)) (k0_pay1779 x0 x1)) : FVec F S1x16x128 .f32) = outG (blk (View.ld x0 r0_8)) (blk (View.ld x1 r0_8)) := by
  rw [f1461, f1760, f1761, f1762, f1763, f1764, f1765, f1766, f1767, f1769, f1770, f1771, f1772, f1773, f1774, f1775, f1776, f1777, f1778, f1779]; rfl

/-- The experts that head 5 stores. -/
theorem ids5 (x0 x1 : Vec F S8x128x128 .f32) : (k0_pay1090 (k0_pay1024 (k0_pay1461 x0 x1) (k0_pay1825 x0 x1) (k0_pay1826 x0 x1) (k0_pay1827 x0 x1) (k0_pay1828 x0 x1) (k0_pay1829 x0 x1) (k0_pay1830 x0 x1) (k0_pay1831 x0 x1) (k0_pay1832 x0 x1) (k0_pay1833 x0 x1) (k0_pay1834 x0 x1) (k0_pay1835 x0 x1)) (k0_pay1028 (k0_pay1461 x0 x1) (k0_pay1825 x0 x1) (k0_pay1826 x0 x1) (k0_pay1827 x0 x1) (k0_pay1828 x0 x1) (k0_pay1829 x0 x1) (k0_pay1830 x0 x1) (k0_pay1831 x0 x1) (k0_pay1832 x0 x1) (k0_pay1833 x0 x1) (k0_pay1834 x0 x1) (k0_pay1835 x0 x1)) (k0_pay1032 (k0_pay1836 x0 x1) (k0_pay1841 x0 x1)) (k0_pay1036 (k0_pay1461 x0 x1) (k0_pay1836 x0 x1) (k0_pay1839 x0 x1) (k0_pay1841 x0 x1)) (k0_pay1040 (k0_pay1461 x0 x1) (k0_pay1836 x0 x1) (k0_pay1839 x0 x1) (k0_pay1841 x0 x1)) (k0_pay1046 (k0_pay1461 x0 x1) (k0_pay1836 x0 x1) (k0_pay1846 x0 x1) (k0_pay1847 x0 x1)) (k0_pay1050 (k0_pay1461 x0 x1) (k0_pay1836 x0 x1) (k0_pay1844 x0 x1) (k0_pay1846 x0 x1) (k0_pay1847 x0 x1)) (k0_pay1054 (k0_pay1461 x0 x1) (k0_pay1836 x0 x1) (k0_pay1844 x0 x1) (k0_pay1846 x0 x1) (k0_pay1847 x0 x1)) (k0_pay1058 (k0_pay1461 x0 x1) (k0_pay1836 x0 x1) (k0_pay1850 x0 x1)) (k0_pay1062 (k0_pay1461 x0 x1) (k0_pay1836 x0 x1) (k0_pay1850 x0 x1)) (k0_pay1067 (k0_pay1066 (k0_pay1461 x0 x1) (k0_pay1836 x0 x1) (k0_pay1850 x0 x1))) (k0_pay1071 (k0_pay1461 x0 x1) (k0_pay1836 x0 x1) (k0_pay1853 x0 x1) (k0_pay1855 x0 x1)) (k0_pay1075 (k0_pay1461 x0 x1) (k0_pay1836 x0 x1) (k0_pay1853 x0 x1) (k0_pay1855 x0 x1)) (k0_pay1080 (k0_pay1461 x0 x1) (k0_pay1836 x0 x1) (k0_pay1860 x0 x1)) (k0_pay1084 (k0_pay1461 x0 x1) (k0_pay1836 x0 x1) (k0_pay1858 x0 x1) (k0_pay1860 x0 x1)) (k0_pay1087 (k0_pay1461 x0 x1) (k0_pay1836 x0 x1) (k0_pay1858 x0 x1) (k0_pay1860 x0 x1)) : IVec S1x16x128 32) = outI (blk (View.ld x0 r0_10)) (blk (View.ld x1 r0_10)) := by
  rw [f1461, f1825, f1826, f1827, f1828, f1829, f1830, f1831, f1832, f1833, f1834, f1835, f1836, f1839, f1841, f1844, f1846, f1847, f1850, f1853, f1855, f1858, f1860]; rfl

/-- The gates that head 5 stores. -/
theorem gates5 (x0 x1 : Vec F S8x128x128 .f32) : (k0_pay1091 (k0_pay1088 (k0_pay1461 x0 x1) (k0_pay1837 x0 x1) (k0_pay1838 x0 x1) (k0_pay1840 x0 x1) (k0_pay1842 x0 x1) (k0_pay1843 x0 x1) (k0_pay1845 x0 x1) (k0_pay1848 x0 x1) (k0_pay1849 x0 x1) (k0_pay1851 x0 x1) (k0_pay1852 x0 x1) (k0_pay1854 x0 x1) (k0_pay1856 x0 x1) (k0_pay1857 x0 x1) (k0_pay1858 x0 x1) (k0_pay1859 x0 x1) (k0_pay1860 x0 x1)) (k0_pay1089 (k0_pay1461 x0 x1) (k0_pay1837 x0 x1) (k0_pay1838 x0 x1) (k0_pay1840 x0 x1) (k0_pay1842 x0 x1) (k0_pay1843 x0 x1) (k0_pay1845 x0 x1) (k0_pay1848 x0 x1) (k0_pay1849 x0 x1) (k0_pay1851 x0 x1) (k0_pay1852 x0 x1) (k0_pay1854 x0 x1) (k0_pay1856 x0 x1) (k0_pay1857 x0 x1) (k0_pay1858 x0 x1) (k0_pay1859 x0 x1) (k0_pay1860 x0 x1)) : FVec F S1x16x128 .f32) = outG (blk (View.ld x0 r0_10)) (blk (View.ld x1 r0_10)) := by
  rw [f1461, f1837, f1838, f1840, f1842, f1843, f1845, f1848, f1849, f1851, f1852, f1854, f1856, f1857, f1858, f1859, f1860]; rfl

/-- The experts that head 6 stores. -/
theorem ids6 (x0 x1 : Vec F S8x128x128 .f32) : (k0_pay1277 (k0_pay1212 (k0_pay1461 x0 x1) (k0_pay1893 x0 x1) (k0_pay1894 x0 x1) (k0_pay1895 x0 x1) (k0_pay1896 x0 x1) (k0_pay1897 x0 x1) (k0_pay1898 x0 x1) (k0_pay1899 x0 x1) (k0_pay1900 x0 x1) (k0_pay1901 x0 x1) (k0_pay1902 x0 x1) (k0_pay1903 x0 x1)) (k0_pay1216 (k0_pay1461 x0 x1) (k0_pay1893 x0 x1) (k0_pay1894 x0 x1) (k0_pay1895 x0 x1) (k0_pay1896 x0 x1) (k0_pay1897 x0 x1) (k0_pay1898 x0 x1) (k0_pay1899 x0 x1) (k0_pay1900 x0 x1) (k0_pay1901 x0 x1) (k0_pay1902 x0 x1) (k0_pay1903 x0 x1)) (k0_pay1221 (k0_pay1461 x0 x1) (k0_pay1904 x0 x1) (k0_pay1906 x0 x1) (Scalar.ofBits .f32 0x7F800000#32)) (k0_pay1225 (k0_pay1461 x0 x1) (k0_pay1904 x0 x1) (k0_pay1905 x0 x1) (k0_pay1906 x0 x1) (Scalar.ofBits .f32 0x7F800000#32)) (k0_pay1229 (k0_pay1461 x0 x1) (k0_pay1904 x0 x1) (k0_pay1905 x0 x1) (k0_pay1906 x0 x1) (Scalar.ofBits .f32 0x7F800000#32)) (k0_pay1233 (k0_pay1461 x0 x1) (k0_pay1904 x0 x1) (k0_pay1907 x0 x1)) (k0_pay1237 (k0_pay1461 x0 x1) (k0_pay1904 x0 x1) (k0_pay1907 x0 x1)) (k0_pay1242 (k0_pay1241 (k0_pay1461 x0 x1) (k0_pay1904 x0 x1) (k0_pay1907 x0 x1))) (k0_pay1246 (k0_pay1461 x0 x1) (k0_pay1904 x0 x1) (k0_pay1908 x0 x1) (k0_pay1909 x0 x1)) (k0_pay1250 (k0_pay1461 x0 x1) (k0_pay1904 x0 x1) (k0_pay1908 x0 x1) (k0_pay1909 x0 x1)) (k0_pay1255 (k0_pay1461 x0 x1) (k0_pay1904 x0 x1) (k0_pay1911 x0 x1)) (k0_pay1259 (k0_pay1461 x0 x1) (k0_pay1904 x0 x1) (k0_pay1910 x0 x1) (k0_pay1911 x0 x1)) (k0_pay1263 (k0_pay1461 x0 x1) (k0_pay1904 x0 x1) (k0_pay1910 x0 x1) (k0_pay1911 x0 x1)) (k0_pay1268 (k0_pay1461 x0 x1) (k0_pay1904 x0 x1) (k0_pay1912 x0 x1) (k0_pay1913 x0 x1)) (k0_pay1272 (k0_pay1461 x0 x1) (k0_pay1904 x0 x1) (k0_pay1912 x0 x1) (k0_pay1913 x0 x1)) (k0_pay1275 (k0_pay1461 x0 x1) (k0_pay1904 x0 x1) (k0_pay1912 x0 x1) (k0_pay1913 x0 x1)) : IVec S1x16x128 32) = outI (blk (View.ld x0 r0_12)) (blk (View.ld x1 r0_12)) := by
  rw [f1461, f1893, f1894, f1895, f1896, f1897, f1898, f1899, f1900, f1901, f1902, f1903, f1904, f1905, f1906, f1907, f1908, f1909, f1910, f1911, f1912, f1913]; rfl

/-- The gates that head 6 stores. -/
theorem gates6 (x0 x1 : Vec F S8x128x128 .f32) : (k0_pay1278 (k0_pay1276 (k0_pay1461 x0 x1) (k0_pay1210 (k0_pay1895 x0 x1)) (k0_pay1214 (k0_pay1461 x0 x1) (k0_pay1895 x0 x1)) (k0_pay1218 (k0_pay1461 x0 x1) (k0_pay1895 x0 x1)) (k0_pay1223 (k0_pay1461 x0 x1) (k0_pay1905 x0 x1) (k0_pay1906 x0 x1) (Scalar.ofBits .f32 0x7F800000#32)) (k0_pay1227 (k0_pay1461 x0 x1) (k0_pay1905 x0 x1) (k0_pay1906 x0 x1) (Scalar.ofBits .f32 0x7F800000#32)) (k0_pay1231 (k0_pay1907 x0 x1)) (k0_pay1235 (k0_pay1461 x0 x1) (k0_pay1907 x0 x1)) (k0_pay1239 (k0_pay1461 x0 x1) (k0_pay1907 x0 x1)) (k0_pay1244 (k0_pay1908 x0 x1) (k0_pay1909 x0 x1)) (k0_pay1248 (k0_pay1461 x0 x1) (k0_pay1908 x0 x1) (k0_pay1909 x0 x1)) (k0_pay1252 (k0_pay1461 x0 x1) (k0_pay1908 x0 x1) (k0_pay1909 x0 x1)) (k0_pay1257 (k0_pay1461 x0 x1) (k0_pay1910 x0 x1) (k0_pay1911 x0 x1)) (k0_pay1261 (k0_pay1461 x0 x1) (k0_pay1910 x0 x1) (k0_pay1911 x0 x1)) (k0_pay1912 x0 x1) (k0_pay1265 (k0_pay1461 x0 x1) (k0_pay1910 x0 x1) (k0_pay1911 x0 x1)) (k0_pay1913 x0 x1)) : FVec F S1x16x128 .f32) = outG (blk (View.ld x0 r0_12)) (blk (View.ld x1 r0_12)) := by
  rw [f1461, f1895, f1905, f1906, f1907, f1908, f1909, f1910, f1911, f1912, f1913]; rfl

/-- The experts that head 7 stores. -/
theorem ids7 (x0 x1 : Vec F S8x128x128 .f32) : (k0_pay2 (k0_pay1397 (k0_pay1461 x0 x1) (k0_pay1950 x0 x1) (k0_pay1951 x0 x1) (k0_pay1952 x0 x1) (k0_pay1953 x0 x1) (k0_pay1954 x0 x1) (k0_pay1955 x0 x1) (k0_pay1956 x0 x1) (k0_pay1957 x0 x1)) (k0_pay1401 (k0_pay1461 x0 x1) (k0_pay1950 x0 x1) (k0_pay1951 x0 x1) (k0_pay1952 x0 x1) (k0_pay1953 x0 x1) (k0_pay1954 x0 x1) (k0_pay1955 x0 x1) (k0_pay1956 x0 x1) (k0_pay1957 x0 x1)) (k0_pay1406 (k0_pay1461 x0 x1) (k0_pay1958 x0 x1) (k0_pay1959 x0 x1) (k0_pay1960 x0 x1) (k0_pay1961 x0 x1)) (k0_pay1410 (k0_pay1461 x0 x1) (k0_pay1958 x0 x1) (k0_pay1959 x0 x1) (k0_pay1960 x0 x1) (k0_pay1961 x0 x1)) (k0_pay1415 (k0_pay1958 x0 x1) (k0_pay1963 x0 x1) k0_pay1414) (k0_pay1419 (k0_pay1461 x0 x1) (k0_pay1958 x0 x1) (k0_pay1962 x0 x1) (k0_pay1963 x0 x1)) (k0_pay1423 (k0_pay1461 x0 x1) (k0_pay1958 x0 x1) (k0_pay1962 x0 x1) (k0_pay1963 x0 x1)) (k0_pay1428 (k0_pay1461 x0 x1) (k0_pay1958 x0 x1) (k0_pay1965 x0 x1)) (k0_pay1432 (k0_pay1461 x0 x1) (k0_pay1958 x0 x1) (k0_pay1964 x0 x1) (k0_pay1965 x0 x1)) (k0_pay1436 (k0_pay1461 x0 x1) (k0_pay1958 x0 x1) (k0_pay1964 x0 x1) (k0_pay1965 x0 x1)) (k0_pay1440 (k0_pay1461 x0 x1) (k0_pay1958 x0 x1) (k0_pay1966 x0 x1) (k0_pay1967 x0 x1)) (k0_pay1444 (k0_pay1461 x0 x1) (k0_pay1958 x0 x1) (k0_pay1966 x0 x1) (k0_pay1967 x0 x1)) (k0_pay1448 (k0_pay1461 x0 x1) (k0_pay1958 x0 x1) (k0_pay1966 x0 x1) (k0_pay1967 x0 x1)) (k0_pay1452 (k0_pay1461 x0 x1) (k0_pay1958 x0 x1) (k0_pay1968 x0 x1) (k0_pay1969 x0 x1)) (k0_pay1456 (k0_pay1461 x0 x1) (k0_pay1958 x0 x1) (k0_pay1968 x0 x1) (k0_pay1969 x0 x1)) (k0_pay1 (k0_pay1958 x0 x1) (k0_pay1459 (k0_pay1461 x0 x1) (k0_pay1968 x0 x1) (k0_pay1969 x0 x1))) : IVec S1x16x128 32) = outI (blk (View.ld x0 r0_14)) (blk (View.ld x1 r0_14)) := by
  rw [f1461, f1950, f1951, f1952, f1953, f1954, f1955, f1956, f1957, f1958, f1959, f1960, f1961, f1962, f1963, f1964, f1965, f1966, f1967, f1968, f1969]; rfl

/-- The gates that head 7 stores. -/
theorem gates7 (x0 x1 : Vec F S8x128x128 .f32) : (k0_pay3 (k0_pay1395 (k0_pay1952 x0 x1)) (k0_pay1399 (k0_pay1461 x0 x1) (k0_pay1952 x0 x1)) (k0_pay1404 (k0_pay1959 x0 x1) (k0_pay1960 x0 x1) (k0_pay1961 x0 x1)) (k0_pay1408 (k0_pay1461 x0 x1) (k0_pay1959 x0 x1) (k0_pay1960 x0 x1) (k0_pay1961 x0 x1)) (k0_pay1412 (k0_pay1461 x0 x1) (k0_pay1959 x0 x1) (k0_pay1960 x0 x1) (k0_pay1961 x0 x1)) (k0_pay1417 (k0_pay1962 x0 x1) (k0_pay1963 x0 x1)) (k0_pay1421 (k0_pay1461 x0 x1) (k0_pay1962 x0 x1) (k0_pay1963 x0 x1)) (k0_pay1425 (k0_pay1461 x0 x1) (k0_pay1962 x0 x1) (k0_pay1963 x0 x1)) (k0_pay1430 (k0_pay1461 x0 x1) (k0_pay1964 x0 x1) (k0_pay1965 x0 x1)) (k0_pay1434 (k0_pay1461 x0 x1) (k0_pay1964 x0 x1) (k0_pay1965 x0 x1)) (k0_pay1967 x0 x1) (k0_pay1442 (k0_pay1461 x0 x1) (k0_pay1966 x0 x1) (k0_pay1967 x0 x1)) (k0_pay1446 (k0_pay1461 x0 x1) (k0_pay1966 x0 x1) (k0_pay1967 x0 x1)) (k0_pay1450 (k0_pay1968 x0 x1) (k0_pay1969 x0 x1)) (k0_pay1454 (k0_pay1461 x0 x1) (k0_pay1968 x0 x1) (k0_pay1969 x0 x1)) (k0_pay1458 (k0_pay1461 x0 x1) (k0_pay1968 x0 x1) (k0_pay1969 x0 x1)) : FVec F S1x16x128 .f32) = outG (blk (View.ld x0 r0_14)) (blk (View.ld x1 r0_14)) := by
  rw [f1461, f1952, f1959, f1960, f1961, f1962, f1963, f1964, f1965, f1966, f1967, f1968, f1969]; rfl

end Cert.RouteIdeal.Fold

end
-- ==== Proof.RouteRank.lean ====
/- The order of a top-k: the greater entry first, and of equal entries the one at the lower place. The rounds of a repeated maximum and
the pruning of the candidate pairs, both against that order. -/
module

public import Idealize.ShloMosaic.Lib.SortFacts
public import Idealize.ShloMosaic.Lib.SortPrefix
public import Mathlib.Data.EReal.Operations
public import Mathlib.Order.CompleteLattice.Finset

@[expose] public section

noncomputable section

namespace Cert.Rank

open Idealize.ShloMosaic

variable {n : Nat}

/-- One place comes before another: its entry is greater, or is equal at a lower place. -/
def First (x : Fin n → EReal) (p q : Fin n) : Prop := x q < x p ∨ x p = x q ∧ p < q

/-- The same as a truth value. -/
def first (x : Fin n → EReal) (p q : Fin n) : Bool := by classical exact decide (First x p q)

theorem first_iff (x : Fin n → EReal) (p q : Fin n) : first x p q = true ↔ First x p q := by
  unfold first; simp

theorem first_false (x : Fin n → EReal) (p q : Fin n) : first x p q = false ↔ ¬ First x p q := by
  unfold first; simp

theorem First.trans {x : Fin n → EReal} {a b c : Fin n} (h : First x a b) (k : First x b c) : First x a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

theorem First.irrefl (x : Fin n → EReal) (a : Fin n) : ¬ First x a a := by
  rintro (h | ⟨-, h⟩)
  · exact lt_irrefl _ h
  · exact lt_irrefl _ h

/-- It is a strict total order. -/
theorem first_total (x : Fin n → EReal) : StrictTotalBefore (first x) where
  irrefl a := (first_false x a a).mpr (First.irrefl x a)
  trans a b c h k := (first_iff x a c).mpr (((first_iff x a b).mp h).trans ((first_iff x b c).mp k))
  total a b h := by
    rw [first_iff, first_iff]
    rcases lt_trichotomy (x a) (x b) with e | e | e
    · exact Or.inr (Or.inl e)
    · rcases lt_or_gt_of_ne h with l | l
      · exact Or.inl (Or.inr ⟨e, l⟩)
      · exact Or.inr (Or.inr ⟨e.symm, l⟩)
    · exact Or.inl (Or.inl e)

/-- The place of rank `r`. -/
def at' (x : Fin n → EReal) (r : Fin n) : Fin n := sortedFrom (first x) r

/-- The lower rank comes before. -/
theorem at_first (x : Fin n → EReal) {i j : Fin n} (h : i < j) : First x (at' x i) (at' x j) := by
  have hB := first_total x
  have hn := sortedFrom_noInversion (first x) (first x) (fun a b k => hB.asymm a b k) (fun a b k => k)
    (fun a b c k l => by
      rw [first_false] at *
      intro w
      by_cases e : a = b
      · subst e; exact l w
      · rcases hB.total a b e with t | t
        · exact k ((first_iff x a b).mp t)
        · exact l (((first_iff x b a).mp t).trans w)) i j h
  rcases hB.total (at' x i) (at' x j) (fun e => (ne_of_lt h) (sortedFrom_injective (first x) e)) with t | t
  · exact (first_iff _ _ _).mp t
  · exact absurd ((first_iff _ _ _).mp t) ((first_false _ _ _).mp hn)

theorem at_inj (x : Fin n → EReal) : Function.Injective (at' x) := sortedFrom_injective (first x)
theorem at_surj (x : Fin n → EReal) : Function.Surjective (at' x) := sortedFrom_surjective (first x)

/-- The entries fall along the ranks. -/
theorem at_anti (x : Fin n → EReal) {i j : Fin n} (h : i ≤ j) : x (at' x j) ≤ x (at' x i) := by
  rcases h.lt_or_eq with h | h
  · rcases at_first x h with k | ⟨k, -⟩
    · exact k.le
    · exact k.ge
  · rw [h]

theorem rank_lt (x : Fin n → EReal) {i j : Fin n} (h : First x (at' x i) (at' x j)) : i < j := by
  rcases lt_trichotomy i j with k | k | k
  · exact k
  · subst k; exact absurd h (First.irrefl _ _)
  · exact absurd (h.trans (at_first x k)) (First.irrefl _ _)

/-- Inserting a place lower than all of a list keeps its order. -/
theorem insert_ordered (x : Fin n → EReal) (a : Fin n) (l : List (Fin n)) (ha : ∀ b ∈ l, a < b) (hl : l.Pairwise (First x)) :
    (insertBefore (fun p q => decide (x q < x p)) a l).Pairwise (First x) := by
  induction l with
  | nil => exact List.pairwise_singleton _ _
  | cons b l ih =>
    obtain ⟨hb, hl'⟩ := List.pairwise_cons.mp hl
    rw [insertBefore]
    split
    · rename_i h
      have h : x a < x b := by simpa using h
      refine List.pairwise_cons.mpr ⟨fun y hy => ?_, ih (fun c hc => ha c (List.mem_cons_of_mem _ hc)) hl'⟩
      have : y = a ∨ y ∈ l := by
        have hp : (insertBefore (fun p q => decide (x q < x p)) a l).Perm (a :: l) := by
          clear ih hl hl' hb ha hy h
          induction l with
          | nil => exact List.Perm.refl _
          | cons c l ih =>
            rw [insertBefore]
            split
            · exact (ih.cons c).trans (List.Perm.swap a c l)
            · exact List.Perm.refl _
        simpa using hp.mem_iff.mp hy
      rcases this with rfl | hy
      · exact Or.inl h
      · exact hb y hy
    · rename_i h
      have h : x b ≤ x a := by simpa using h
      have hab : First x a b := h.lt_or_eq.elim Or.inl fun e => Or.inr ⟨e.symm, ha b (by simp)⟩
      refine List.pairwise_cons.mpr ⟨fun y hy => ?_, hl⟩
      rcases List.mem_cons.mp hy with rfl | hy
      · exact hab
      · exact hab.trans (hb y hy)

/-- A stable sort by the greater entry leaves the places in this order. -/
theorem sort_ordered (x : Fin n → EReal) (l : List (Fin n)) (hl : l.Pairwise (· < ·)) :
    (stableSort (fun p q => decide (x q < x p)) l).Pairwise (First x) := by
  induction l with
  | nil => exact List.Pairwise.nil
  | cons a l ih =>
    obtain ⟨ha, hl'⟩ := List.pairwise_cons.mp hl
    rw [stableSort]
    exact insert_ordered x a _ (fun b hb => ha b ((perm_stableSort _ l).mem_iff.mp hb)) (ih hl')

/-- So a stable sort by the greater entry finds the place of each rank. -/
theorem sorted_greater (x : Fin n → EReal) (r : Fin n) : sortedFrom (fun p q => decide (x q < x p)) r = at' x r := by
  have e : sortPositions n (fun p q => decide (x q < x p)) = sortPositions n (first x) := by
    refine (first_total x).eq_stableSort_of_sorted (perm_sortPositions n _) ?_
    exact (sort_ordered x _ (List.pairwise_lt_finRange n)).imp fun {a b} h =>
      (first_false _ _ _).mpr fun k => First.irrefl _ _ (h.trans k)
  have get (L L' : List (Fin n)) (h : L = L') (k : Fin L.length) (k' : Fin L'.length) (hk : k.val = k'.val) : L.get k = L'.get k' := by
    subst h
    exact congrArg _ (Fin.ext hk)
  exact get _ _ e _ _ rfl

/-! ### Rounds -/

/-- The entries once the places of the first `r` ranks are overwritten. -/
def after (x : Fin n → EReal) (r : Nat) (p : Fin n) : EReal := by
  classical exact if ∃ i : Fin n, i.val < r ∧ at' x i = p then ⊥ else x p

theorem after_zero (x : Fin n → EReal) : after x 0 = x := by
  funext p; unfold after; simp

theorem after_at (x : Fin n → EReal) (r : Fin n) : after x r (at' x r) = x (at' x r) := by
  unfold after
  rw [if_neg]
  rintro ⟨i, hi, e⟩
  rw [at_inj x e] at hi
  exact lt_irrefl _ hi

theorem after_cases (x : Fin n → EReal) (r : Nat) (i : Fin n) : after x r (at' x i) = if i.val < r then ⊥ else x (at' x i) := by
  unfold after
  by_cases h : i.val < r
  · rw [if_pos ⟨i, h, rfl⟩, if_pos h]
  · rw [if_neg, if_neg h]
    rintro ⟨j, hj, e⟩
    rw [at_inj x e] at hj
    exact h hj

/-- The greatest entry left is the one of rank `r`. -/
theorem after_sup (x : Fin n → EReal) (r : Fin n) : (Finset.univ.sup fun p => after x r p) = x (at' x r) := by
  refine le_antisymm (Finset.sup_le fun p _ => ?_) ((after_at x r).ge.trans (Finset.le_sup (f := fun p => after x r p) (Finset.mem_univ _)))
  obtain ⟨i, rfl⟩ := at_surj x p
  rw [after_cases]
  split
  · exact bot_le
  · exact at_anti x (by rename_i h; exact Fin.le_def.mpr (not_lt.mp h))

/-- Its place is the least among the places that hold it. -/
theorem after_inf (x : Fin n → EReal) (hx : ∀ p, ⊥ < x p) (r : Fin n) (f : Fin n → EReal) (hf : ∀ p q, p < q → f p < f q)
    (ht : ∀ p, f p < ⊤) :
    (Finset.univ.inf fun p => if after x r p = x (at' x r) then f p else ⊤) = f (at' x r) := by
  refine le_antisymm ((Finset.inf_le (Finset.mem_univ (at' x r))).trans (by rw [if_pos (after_at x r)])) (Finset.le_inf fun p _ => ?_)
  split
  · rename_i h
    obtain ⟨i, rfl⟩ := at_surj x p
    rw [after_cases] at h
    split at h
    · exact absurd h (ne_of_lt (hx _))
    · rename_i k
      rcases (Fin.le_def.mpr (not_lt.mp k)).lt_or_eq with l | l
      · rcases at_first x l with m | ⟨-, m⟩
        · exact absurd h (ne_of_lt m)
        · exact (hf _ _ m).le
      · rw [l]
  · exact le_top

/-- A round overwrites the place of rank `r`. -/
theorem after_succ (x : Fin n → EReal) (r : Fin n) (p : Fin n) :
    after x (r.val + 1) p = if p = at' x r then ⊥ else after x r p := by
  obtain ⟨i, rfl⟩ := at_surj x p
  rw [after_cases, after_cases]
  by_cases h : i = r
  · subst h; simp
  · rw [if_neg fun e => h (at_inj x e)]
    have : i.val ≠ r.val := fun e => h (Fin.ext e)
    by_cases k : i.val < r.val
    · rw [if_pos k, if_pos (by omega)]
    · rw [if_neg k, if_neg (by omega)]

/-! ### Pruning -/

/-- The pairs kept: those that fewer than 16 pairs can precede. -/
def kept (c : Fin 80) : Fin 256 :=
  ⟨if c.val < 16 then c.val else if c.val < 72 then 16 * ((c.val - 16) / 8 + 1) + (c.val - 16) % 8 else 16 * (c.val - 64), by
    have := c.isLt; split_ifs <;> omega⟩

theorem kept_lt (c d : Fin 80) (h : c < d) : kept c < kept d := by
  have h : c.val < d.val := h
  show (kept c).val < (kept d).val
  unfold kept
  simp only
  split_ifs <;> omega

theorem kept_inj : Function.Injective kept := fun c d h => by
  rcases lt_trichotomy c d with k | k | k
  · exact absurd h (ne_of_lt (kept_lt c d k))
  · exact k
  · exact absurd h (ne_of_gt (kept_lt d c k))

theorem kept_of (a b : Nat) (ha : a < 16) (hb : b < 16) (h : (a + 1) * (b + 1) ≤ 16) : ∃ c : Fin 80, (kept c).val = 16 * a + b := by
  by_cases h0 : a = 0
  · subst h0
    exact ⟨⟨b, by omega⟩, by unfold kept; simp [hb]⟩
  · by_cases h8 : a < 8
    · have : b < 8 := by
        by_contra k
        have := Nat.mul_le_mul (show 2 ≤ a + 1 by omega) (show 9 ≤ b + 1 by omega)
        omega
      refine ⟨⟨16 + 8 * (a - 1) + b, by omega⟩, ?_⟩
      unfold kept; simp only
      rw [if_neg (by omega), if_pos (by omega)]
      omega
    · have : b = 0 := by
        by_contra k
        have := Nat.mul_le_mul (show 9 ≤ a + 1 by omega) (show 2 ≤ b + 1 by omega)
        omega
      refine ⟨⟨64 + a, by omega⟩, ?_⟩
      unfold kept; simp only
      rw [if_neg (by omega), if_neg (by omega)]
      omega

section
variable (v w : Fin 16 → EReal) (hv : ∀ i j, i ≤ j → v j ≤ v i) (hw : ∀ i j, i ≤ j → w j ≤ w i)

/-- The first entry of a pair. -/
def fst (p : Fin 256) : Fin 16 := ⟨p.val / 16, by have := p.isLt; omega⟩
/-- The second entry of a pair. -/
def snd (p : Fin 256) : Fin 16 := ⟨p.val % 16, by omega⟩
/-- The sums of the pairs. -/
def sums (p : Fin 256) : EReal := v (fst p) + w (snd p)

include hv hw in
/-- A place of rank below 16 is kept. -/
theorem kept_top (r : Fin 256) (hr : r.val < 16) : ∃ c, kept c = at' (sums v w) r := by
  let y := sums v w
  let P := at' y r
  have key : (fst P + 1 : Nat) * (snd P + 1) ≤ r.val + 1 := by
    have hcard : Fintype.card (Fin (fst P + 1) × Fin (snd P + 1)) ≤ Fintype.card (Fin (r.val + 1)) := by
      let q (ab : Fin (fst P + 1) × Fin (snd P + 1)) : Fin 256 :=
        ⟨16 * ab.1.val + ab.2.val, by have := ab.1.isLt; have := ab.2.isLt; have := (fst P).isLt; have := (snd P).isLt; omega⟩
      have hq : ∀ ab, ∃ i : Fin 256, at' y i = q ab ∧ i.val < r.val + 1 := fun ab => by
        obtain ⟨i, hi⟩ := at_surj y (q ab)
        refine ⟨i, hi, Nat.lt_succ_of_le ?_⟩
        have h1 := ab.1.isLt
        have h2 := ab.2.isLt
        have hs := (snd P).isLt
        have hfq : fst (q ab) ≤ fst P := by
          show (16 * ab.1.val + ab.2.val) / 16 ≤ (fst P).val
          omega
        have hsq : snd (q ab) ≤ snd P := by
          show (16 * ab.1.val + ab.2.val) % 16 ≤ (snd P).val
          omega
        have hle : y P ≤ y (q ab) := add_le_add (hv _ _ hfq) (hw _ _ hsq)
        by_cases e : q ab = P
        · rw [at_inj y (hi.trans e)]
        · refine le_of_lt (Fin.lt_def.mp (rank_lt y ?_))
          rw [hi]
          rcases hle.lt_or_eq with l | l
          · exact Or.inl l
          · refine Or.inr ⟨l.symm, lt_of_le_of_ne ?_ e⟩
            show 16 * ab.1.val + ab.2.val ≤ P.val
            have : P.val = 16 * (fst P).val + (snd P).val := by
              show P.val = 16 * (P.val / 16) + P.val % 16
              omega
            omega
      choose f hf hlt using hq
      refine Fintype.card_le_of_injective (fun ab => ⟨(f ab).val, hlt ab⟩) fun ab cd h => ?_
      have hfe : f ab = f cd := Fin.ext (by simpa using h)
      have he : q ab = q cd := by rw [← hf ab, ← hf cd, hfe]
      have he : 16 * ab.1.val + ab.2.val = 16 * cd.1.val + cd.2.val := congrArg Fin.val he
      have h1 := ab.2.isLt
      have h2 := cd.2.isLt
      have hs := (snd P).isLt
      exact Prod.ext (Fin.ext (by omega)) (Fin.ext (by omega))
    simpa using hcard
  obtain ⟨c, hc⟩ := kept_of (fst P).val (snd P).val (fst P).isLt (snd P).isLt (by omega)
  refine ⟨c, Fin.ext (hc.trans ?_)⟩
  show 16 * (P.val / 16) + P.val % 16 = P.val
  omega

include hv hw in
/-- The first 16 ranks among the pairs kept are the first 16 ranks among all. -/
theorem kept_at (r : Fin 16) : kept (at' (fun c => sums v w (kept c)) (r.castLE (by omega))) = at' (sums v w) (r.castLE (by omega)) := by
  let y := sums v w
  choose τ hτ using fun r : Fin 16 => kept_top v w hv hw (r.castLE (by omega)) r.isLt
  have hmono : ∀ p q : Fin 80, First (fun c => y (kept c)) p q ↔ First y (kept p) (kept q) := fun p q => by
    unfold First
    refine or_congr Iff.rfl (and_congr Iff.rfl ⟨kept_lt p q, fun h => ?_⟩)
    rcases lt_trichotomy p q with k | k | k
    · exact k
    · subst k; exact absurd h (lt_irrefl _)
    · exact absurd (h.trans (kept_lt q p k)) (lt_irrefl _)
  have h := (first_total fun c => y (kept c)).sortedFrom_eq_of_prefix (by omega : 16 ≤ 80) τ
    (fun i j e => by
      have : at' y (i.castLE (by omega)) = at' y (j.castLE (by omega)) := by rw [← hτ i, ← hτ j, e]
      exact Fin.ext (Fin.mk.inj_iff.mp (at_inj y this)))
    (fun i j hij => by
      rw [first_false, hmono, hτ, hτ]
      exact fun k => First.irrefl _ _ (k.trans (at_first y (Fin.lt_def.mpr hij))))
    (fun i p hp => by
      rw [first_false, hmono, hτ]
      intro k
      obtain ⟨j, hj⟩ := at_surj y (kept p)
      rw [← hj] at k
      have hlt : j.val < i.val := rank_lt y k
      refine hp ⟨j.val, by have := i.isLt; omega⟩ (kept_inj ?_)
      rw [hτ, ← hj]
      rfl) r
  show kept (sortedFrom _ _) = _
  rw [h, hτ]

end

end Cert.Rank

end
-- ==== Proof.RouteColumn.lean ====
/- The steps of the routing, read at one column: rounds over a column are the rounds of the order by rank. -/
module

public import Idealize.ShloMosaic.Lib.IdealHost
public import Idealize.ShloMosaic.Lib.Pointwise
public import proofs.«01_k».proof.Proof.RouteVocab
public import proofs.«01_k».proof.Proof.RouteRank

@[expose] public section

set_option maxRecDepth 16384

noncomputable section

namespace Cert.RouteIdeal.Column

open Cert.RouteIdeal Cert.RouteIdeal.Gen Cert.RouteIdeal.Vocab Cert.Rank Idealize.ShloMosaic Idealize.ShloMosaic.TcCoe Idealize.SL.Sem

theorem ninf : Ideal.ofBits .f32 0xFF800000#32 = ⊥ := by simp [Ideal.ofBits, Ideal.ieee]
theorem pinf : Ideal.ofBits .f32 0x7F800000#32 = ⊤ := by simp [Ideal.ofBits, Ideal.ieee]

/-- A small word read as a number. -/
theorem word (k : Nat) (h : k < 2 ^ 31) : (FloatOps.sitofp .f32 (BitVec.ofNat 32 k) : Ideal .f32) = ((k : ℝ) : EReal) := by
  show (((BitVec.ofNat 32 k).toInt : ℝ) : EReal) = _
  rw [show (BitVec.ofNat 32 k).toInt = (k : Int) by
    rw [BitVec.toInt_eq_toNat_cond, BitVec.toNat_ofNat, Nat.mod_eq_of_lt (by omega), if_pos (by omega)]]
  norm_num

/-- A number read back as a word. -/
theorem unword (k : Nat) (h : k < 2 ^ 31) : Ideal.fptosi 32 ((k : ℝ) : EReal) = BitVec.ofNat 32 k := by
  have h0 : (0 : ℝ) ≤ (k : ℝ) := Nat.cast_nonneg k
  show BitVec.ofInt 32 (max (-(2 ^ 31 : Nat) : Int) (min ((2 ^ 31 : Nat) - 1 : Int) (if 0 ≤ (k : ℝ) then ⌊(k : ℝ)⌋ else ⌈(k : ℝ)⌉))) = _
  rw [if_pos h0, Int.floor_natCast, min_eq_right (by omega), max_eq_right (by omega)]
  exact BitVec.ofInt_natCast 32 k

theorem keyPos_apply (p l : Fin 128) : (keyPos : FVec Ideal S128x128 .f32) (ix2 p l) = ((p.val : ℝ) : EReal) := by
  unfold keyPos
  pointwise []
  exact word _ (by omega)

theorem c8 : Ideal.ofBits .f32 0x41000000#32 = ((8 : ℝ) : EReal) := by simp [Ideal.ofBits, Ideal.ieee, -EReal.coe_mul]; norm_num
theorem c16 : Ideal.ofBits .f32 0x41800000#32 = ((16 : ℝ) : EReal) := by simp [Ideal.ofBits, Ideal.ieee, -EReal.coe_mul]; norm_num
theorem c32 : Ideal.ofBits .f32 0x42000000#32 = ((32 : ℝ) : EReal) := by simp [Ideal.ofBits, Ideal.ieee, -EReal.coe_mul]; norm_num
theorem c48 : Ideal.ofBits .f32 0x42400000#32 = ((48 : ℝ) : EReal) := by simp [Ideal.ofBits, Ideal.ieee, -EReal.coe_mul]; norm_num
theorem c64 : Ideal.ofBits .f32 0x42800000#32 = ((64 : ℝ) : EReal) := by simp [Ideal.ofBits, Ideal.ieee, -EReal.coe_mul]; norm_num
theorem c80 : Ideal.ofBits .f32 0x42A00000#32 = ((80 : ℝ) : EReal) := by simp [Ideal.ofBits, Ideal.ieee, -EReal.coe_mul]; norm_num
theorem c96 : Ideal.ofBits .f32 0x42C00000#32 = ((96 : ℝ) : EReal) := by simp [Ideal.ofBits, Ideal.ieee, -EReal.coe_mul]; norm_num
theorem c112 : Ideal.ofBits .f32 0x42E00000#32 = ((112 : ℝ) : EReal) := by simp [Ideal.ofBits, Ideal.ieee, -EReal.coe_mul]; norm_num

theorem s0 : (FloatOps.sitofp .f32 0#32 : Ideal .f32) = ((0 : ℝ) : EReal) := by simpa using word 0 (by norm_num)
theorem s1 : (FloatOps.sitofp .f32 1#32 : Ideal .f32) = ((1 : ℝ) : EReal) := by simpa using word 1 (by norm_num)
theorem s2 : (FloatOps.sitofp .f32 2#32 : Ideal .f32) = ((2 : ℝ) : EReal) := by simpa using word 2 (by norm_num)
theorem s3 : (FloatOps.sitofp .f32 3#32 : Ideal .f32) = ((3 : ℝ) : EReal) := by simpa using word 3 (by norm_num)
theorem s4 : (FloatOps.sitofp .f32 4#32 : Ideal .f32) = ((4 : ℝ) : EReal) := by simpa using word 4 (by norm_num)
theorem s5 : (FloatOps.sitofp .f32 5#32 : Ideal .f32) = ((5 : ℝ) : EReal) := by simpa using word 5 (by norm_num)
theorem s6 : (FloatOps.sitofp .f32 6#32 : Ideal .f32) = ((6 : ℝ) : EReal) := by simpa using word 6 (by norm_num)
theorem s7 : (FloatOps.sitofp .f32 7#32 : Ideal .f32) = ((7 : ℝ) : EReal) := by simpa using word 7 (by norm_num)
theorem s8 : (FloatOps.sitofp .f32 8#32 : Ideal .f32) = ((8 : ℝ) : EReal) := by simpa using word 8 (by norm_num)
theorem s9 : (FloatOps.sitofp .f32 9#32 : Ideal .f32) = ((9 : ℝ) : EReal) := by simpa using word 9 (by norm_num)
theorem s10 : (FloatOps.sitofp .f32 10#32 : Ideal .f32) = ((10 : ℝ) : EReal) := by simpa using word 10 (by norm_num)
theorem s11 : (FloatOps.sitofp .f32 11#32 : Ideal .f32) = ((11 : ℝ) : EReal) := by simpa using word 11 (by norm_num)
theorem s12 : (FloatOps.sitofp .f32 12#32 : Ideal .f32) = ((12 : ℝ) : EReal) := by simpa using word 12 (by norm_num)
theorem s13 : (FloatOps.sitofp .f32 13#32 : Ideal .f32) = ((13 : ℝ) : EReal) := by simpa using word 13 (by norm_num)
theorem s14 : (FloatOps.sitofp .f32 14#32 : Ideal .f32) = ((14 : ℝ) : EReal) := by simpa using word 14 (by norm_num)
theorem s15 : (FloatOps.sitofp .f32 15#32 : Ideal .f32) = ((15 : ℝ) : EReal) := by simpa using word 15 (by norm_num)

theorem candPos_apply (l : Fin 128) (c : Fin 80) : (candPos : FVec Ideal S80x128 .f32) (ix2 c l) = (((kept c).val : ℝ) : EReal) := by
  unfold candPos
  fin_cases c <;> pointwise [] <;> (try simp only [c8, c16, c32, c48, c64, c80, c96, c112]) <;>
    simp only [s0, s1, s2, s3, s4, s5, s6, s7, s8, s9, s10, s11, s12, s13, s14, s15, ← EReal.coe_add, ← EReal.coe_mul] <;>
    refine congrArg _ ?_ <;> simp [kept] <;> norm_num

/-- A sum of words with one term that counts. -/
theorem one_word {n : Nat} (q : Fin n → BitVec 32) (a : Fin n) (s : Finset (Fin n)) :
    s.fold IntOp.addi 0#32 (fun x => if x = a then q x else 0#32) = if a ∈ s then q a else 0#32 := by
  induction s using Finset.induction with
  | empty => simp
  | insert b s hb ih =>
    rw [Finset.fold_insert hb, ih]
    show (if b = a then q b else 0#32) + (if a ∈ s then q a else 0#32) = _
    by_cases h : b = a
    · subst h; simp [hb]
    · simp [h, Ne.symm h, show a ≠ b from Ne.symm h]

section keys
variable (v : FVec Ideal S128x128 .f32) (l : Fin 128)

/-- A column of scores. -/
def col (p : Fin 128) : EReal := v (ix2 p l)

theorem mx_apply : mx v (ix2 0 l) = Finset.univ.sup (col v l) := by
  unfold mx
  pointwise [ninf]
  rfl

theorem ps_apply : ps v (ix2 0 l) = Finset.univ.inf fun p => if col v l p = Finset.univ.sup (col v l) then ((p.val : ℝ) : EReal) else ⊤ := by
  unfold ps bc
  pointwise [pinf, keyPos_apply, mx_apply]
  rfl

theorem nx_apply (p : Fin 128) : col (nx v) l p = if ((p.val : ℝ) : EReal) = ps v (ix2 0 l) then ⊥ else col v l p := by
  unfold col nx hit bc
  pointwise [ninf, keyPos_apply]
  try rfl

variable (hv : ∀ p, ⊥ < col v l p)

theorem place_lt {n : Nat} (p q : Fin n) (h : p < q) : ((p.val : ℝ) : EReal) < ((q.val : ℝ) : EReal) :=
  EReal.coe_lt_coe_iff.mpr (Nat.cast_lt.mpr h)
theorem place_eq {n : Nat} (p q : Fin n) : ((p.val : ℝ) : EReal) = ((q.val : ℝ) : EReal) ↔ p = q := by
  rw [EReal.coe_eq_coe_iff, Nat.cast_inj, Fin.ext_iff]

include hv in
/-- A round of the column after `r` rounds. -/
theorem round (r : Fin 128) (w : FVec Ideal S128x128 .f32) (hw : col w l = after (col v l) r) :
    mx w (ix2 0 l) = col v l (at' (col v l) r) ∧ ps w (ix2 0 l) = (((at' (col v l) r).val : ℝ) : EReal)
      ∧ col (nx w) l = after (col v l) (r.val + 1) := by
  have h1 : mx w (ix2 0 l) = col v l (at' (col v l) r) := by rw [mx_apply, hw]; exact after_sup _ r
  have h2 : ps w (ix2 0 l) = (((at' (col v l) r).val : ℝ) : EReal) := by
    rw [ps_apply, ← mx_apply, h1, hw]
    exact after_inf _ hv r (fun p => ((p.val : ℝ) : EReal)) (fun p q h => place_lt p q h) (fun p => EReal.coe_lt_top _)
  refine ⟨h1, h2, funext fun p => ?_⟩
  rw [nx_apply, h2, after_succ, hw]
  simp only [place_eq]

include hv in
theorem it_apply (n : Nat) (hn : n ≤ 128) : col (it v n) l = after (col v l) n := by
  induction n with
  | zero => exact (after_zero _).symm
  | succ n ih => exact (round v l hv ⟨n, by omega⟩ (it v n) (ih (by omega))).2.2

include hv in
theorem mx_it (n : Nat) (hn : n < 128) : mx (it v n) (ix2 0 l) = col v l (at' (col v l) ⟨n, hn⟩) :=
  (round v l hv ⟨n, hn⟩ _ (it_apply v l hv n hn.le)).1

include hv in
theorem ps_it (n : Nat) (hn : n < 128) : ps (it v n) (ix2 0 l) = (((at' (col v l) ⟨n, hn⟩).val : ℝ) : EReal) :=
  (round v l hv ⟨n, hn⟩ _ (it_apply v l hv n hn.le)).2.1

end keys

section pairs
variable (v : FVec Ideal S80x128 .f32) (l : Fin 128)

/-- A column of the pairs' sums. -/
def col' (p : Fin 80) : EReal := v (ix2 p l)

theorem mx'_apply : mx' v (ix2 0 l) = Finset.univ.sup (col' v l) := by
  unfold mx'
  pointwise [ninf]
  rfl

theorem ps'_apply : ps' v (ix2 0 l) = Finset.univ.inf fun p => if col' v l p = Finset.univ.sup (col' v l) then (((kept p).val : ℝ) : EReal) else ⊤ := by
  unfold ps' bc'
  pointwise [pinf, candPos_apply, mx'_apply]
  rfl

theorem nx'_apply (p : Fin 80) : col' (nx' v) l p = if (((kept p).val : ℝ) : EReal) = ps' v (ix2 0 l) then ⊥ else col' v l p := by
  unfold col' nx' hit' bc'
  pointwise [ninf, candPos_apply]
  try rfl

theorem py_apply (q : IVec S80x128 32) : py q v (ix2 0 l)
    = Finset.univ.fold IntOp.addi 0#32 fun p : Fin 80 => if (((kept p).val : ℝ) : EReal) = ps' v (ix2 0 l) then q (ix2 p l) else 0#32 := by
  unfold py hit' bc'
  pointwise [candPos_apply]

variable (hv : ∀ p, ⊥ < col' v l p)

theorem kept_eq (p q : Fin 80) : (((kept p).val : ℝ) : EReal) = (((kept q).val : ℝ) : EReal) ↔ p = q :=
  (place_eq (kept p) (kept q)).trans ⟨fun h => kept_inj h, fun h => h ▸ rfl⟩

include hv in
/-- A round of the column after `r` rounds. -/
theorem round' (r : Fin 80) (w : FVec Ideal S80x128 .f32) (hw : col' w l = after (col' v l) r) :
    mx' w (ix2 0 l) = col' v l (at' (col' v l) r) ∧ (∀ q, py q w (ix2 0 l) = q (ix2 (at' (col' v l) r) l))
      ∧ col' (nx' w) l = after (col' v l) (r.val + 1) := by
  have h1 : mx' w (ix2 0 l) = col' v l (at' (col' v l) r) := by rw [mx'_apply, hw]; exact after_sup _ r
  have h2 : ps' w (ix2 0 l) = (((kept (at' (col' v l) r)).val : ℝ) : EReal) := by
    rw [ps'_apply, ← mx'_apply, h1, hw]
    exact after_inf _ hv r (fun p => (((kept p).val : ℝ) : EReal)) (fun p q h => place_lt _ _ (kept_lt p q h)) (fun p => EReal.coe_lt_top _)
  refine ⟨h1, fun q => ?_, funext fun p => ?_⟩
  · rw [py_apply, h2]
    simp only [kept_eq]
    rw [one_word (fun p => q (ix2 p l)) (at' (col' v l) r) Finset.univ, if_pos (Finset.mem_univ _)]
  · rw [nx'_apply, h2, after_succ, hw]
    simp only [kept_eq]

include hv in
theorem it'_apply (n : Nat) (hn : n ≤ 80) : col' (it' v n) l = after (col' v l) n := by
  induction n with
  | zero => exact (after_zero _).symm
  | succ n ih => exact (round' v l hv ⟨n, by omega⟩ (it' v n) (ih (by omega))).2.2

include hv in
theorem mx'_it (n : Nat) (hn : n < 80) : mx' (it' v n) (ix2 0 l) = col' v l (at' (col' v l) ⟨n, hn⟩) :=
  (round' v l hv ⟨n, hn⟩ _ (it'_apply v l hv n hn.le)).1

include hv in
theorem py_it (q : IVec S80x128 32) (n : Nat) (hn : n < 80) : py q (it' v n) (ix2 0 l) = q (ix2 (at' (col' v l) ⟨n, hn⟩) l) :=
  (round' v l hv ⟨n, hn⟩ _ (it'_apply v l hv n hn.le)).2.1 q

end pairs

end Cert.RouteIdeal.Column

end
-- ==== Proof.RouteSpec.lean ====
/- The selection as a function of the two columns of scores: the pairs of best sums, their experts and their gates. -/
module

public import Idealize.ShloMosaic.Lib.IdealHost
public import Idealize.ShloMosaic.Lib.Pointwise
public import proofs.«01_k».proof.Proof.RouteRank

@[expose] public section

set_option maxRecDepth 16384

noncomputable section

namespace Cert.Rank

open Idealize.ShloMosaic
open scoped BigOperators

/-- The place of the `i`-th best score. -/
def place (x : Fin 128 → EReal) (i : Fin 16) : Fin 128 := at' x (i.castLE (by omega))
/-- The `i`-th best score. -/
def best (x : Fin 128 → EReal) (i : Fin 16) : EReal := x (place x i)
/-- The sums of the pairs of best scores. -/
def total (x y : Fin 128 → EReal) : Fin 256 → EReal := sums (best x) (best y)
/-- The pair of the `j`-th best sum. -/
def pick (x y : Fin 128 → EReal) (j : Fin 16) : Fin 256 := at' (total x y) (j.castLE (by omega))
/-- The expert of a pair. -/
def expertOf (x y : Fin 128 → EReal) (p : Fin 256) : BitVec 32 :=
  BitVec.ofNat 32 (place x (fst p)).val * 128#32 + BitVec.ofNat 32 (place y (snd p)).val
/-- The `j`-th best sum's weight before it is divided. -/
def weight (x y : Fin 128 → EReal) (j : Fin 16) : EReal := Ideal.exp (total x y (pick x y j) - total x y (pick x y 0))
/-- The `j`-th gate. -/
def gate (x y : Fin 128 → EReal) (j : Fin 16) : EReal := Ideal.div (weight x y j) (∑ k, weight x y k)

theorem best_anti (x : Fin 128 → EReal) (i j : Fin 16) (h : i ≤ j) : best x j ≤ best x i := at_anti x (Fin.le_def.mpr (Fin.le_def.mp h))

end Cert.Rank

end
-- ==== Proof.RouteSelect.lean ====
/- The selection at one column: the 16 best of each block of scores, the 16 best pairs of them, and their softmax. -/
module

public import Idealize.ShloMosaic.Lib.IdealHost
public import Idealize.ShloMosaic.Lib.Pointwise
public import proofs.«01_k».proof.Proof.RouteColumn
public import proofs.«01_k».proof.Proof.RouteSpec

@[expose] public section

set_option maxRecDepth 16384

noncomputable section

namespace Cert.RouteIdeal.Select

open Cert.RouteIdeal Cert.RouteIdeal.Gen Cert.RouteIdeal.Vocab Cert.RouteIdeal.Column Cert.Rank Idealize.ShloMosaic Idealize.ShloMosaic.TcCoe Idealize.SL.Sem

section
variable (v : FVec Ideal S128x128 .f32) (l : Fin 128) (hv : ∀ p, ⊥ < col v l p)

include hv in
theorem vals_apply (i : Fin 16) : vals v (ix2 i l) = best (col v l) i := by
  have h (n : Nat) (hn : n < 128) := mx_it v l hv n hn
  unfold vals
  fin_cases i <;> pointwise [] <;> exact h _ _

include hv in
theorem poss_apply (i : Fin 16) : poss v (ix2 i l) = (((place (col v l) i).val : ℝ) : EReal) := by
  have h (n : Nat) (hn : n < 128) := ps_it v l hv n hn
  unfold poss
  fin_cases i <;> pointwise [] <;> exact h _ _

include hv in
theorem lo_apply (i : Fin 16) : lo v (ix2 i l) = BitVec.ofNat 32 (place (col v l) i).val := by
  unfold lo
  pointwise [poss_apply v l hv]
  exact unword _ (by have := (place (col v l) i).isLt; omega)

include hv in
theorem hi_apply (i : Fin 16) : hi v (ix2 i l) = BitVec.ofNat 32 (place (col v l) i).val * 128#32 := by
  unfold hi
  pointwise [poss_apply v l hv]
  exact congrArg (· * 128#32) (unword _ (by have := (place (col v l) i).isLt; omega))

end

theorem candS_apply (v w : FVec Ideal S16x128 .f32) (c : Fin 80) (l : Fin 128) :
    candS v w (ix2 c l) = v (ix2 (fst (kept c)) l) + w (ix2 (snd (kept c)) l) := by
  unfold candS
  fin_cases c <;> pointwise [] <;> rfl

theorem candI_apply (v w : IVec S16x128 32) (c : Fin 80) (l : Fin 128) :
    candI v w (ix2 c l) = v (ix2 (fst (kept c)) l) + w (ix2 (snd (kept c)) l) := by
  unfold candI
  fin_cases c <;> pointwise [] <;> rfl

section
variable (a b : FVec Ideal S128x128 .f32) (l : Fin 128) (ha : ∀ p, ⊥ < col a l p) (hb : ∀ p, ⊥ < col b l p)

include ha hb in
theorem cs_apply (c : Fin 80) : cs a b (ix2 c l) = total (col a l) (col b l) (kept c) := by
  unfold cs
  rw [candS_apply, vals_apply a l ha, vals_apply b l hb]
  rfl

include ha hb in
theorem ci_apply (c : Fin 80) : ci a b (ix2 c l) = expertOf (col a l) (col b l) (kept c) := by
  unfold ci
  rw [candI_apply, hi_apply a l ha, lo_apply b l hb]
  rfl

include ha hb in
theorem cs_col : col' (cs a b) l = fun c => total (col a l) (col b l) (kept c) := funext fun c => cs_apply a b l ha hb c

include ha hb in
theorem cs_above (c : Fin 80) : ⊥ < col' (cs a b) l c := by
  rw [cs_col a b l ha hb]
  exact EReal.bot_lt_add_iff.mpr ⟨ha _, hb _⟩

include ha hb in
/-- The place of a pair kept, by rank. -/
theorem kept_pick (j : Fin 16) : kept (at' (col' (cs a b) l) (j.castLE (by omega))) = pick (col a l) (col b l) j := by
  rw [cs_col a b l ha hb]
  exact kept_at (best (col a l)) (best (col b l)) (best_anti _) (best_anti _) j

include ha hb in
theorem tops_apply (j : Fin 16) : tops (cs a b) (ix2 j l) = total (col a l) (col b l) (pick (col a l) (col b l) j) := by
  have h (n : Nat) (hn : n < 80) := mx'_it (cs a b) l (cs_above a b l ha hb) n hn
  rw [← kept_pick a b l ha hb, ← cs_apply a b l ha hb]
  unfold tops
  fin_cases j <;> pointwise [] <;> exact h _ _

include ha hb in
theorem experts_apply (j : Fin 16) : experts (ci a b) (cs a b) (ix2 j l) = expertOf (col a l) (col b l) (pick (col a l) (col b l) j) := by
  have h (n : Nat) (hn : n < 80) := py_it (cs a b) l (cs_above a b l ha hb) (ci a b) n hn
  rw [← kept_pick a b l ha hb, ← ci_apply a b l ha hb]
  unfold experts
  fin_cases j <;> pointwise [] <;> exact h _ _

include ha hb in
theorem soft_apply (j : Fin 16) : soft (tops (cs a b)) (ix2 j l) = gate (col a l) (col b l) j := by
  unfold soft
  pointwise [tops_apply a b l ha hb]
  unfold gate weight
  rfl

theorem outI_apply (j : Fin 16) : outI a b (ix3 0 j l) = experts (ci a b) (cs a b) (ix2 j l) := by
  unfold outI
  pointwise []

theorem outG_apply (j : Fin 16) : outG a b (ix3 0 j l) = soft (tops (cs a b)) (ix2 j l) := by
  unfold outG
  pointwise []

end

end Cert.RouteIdeal.Select

end
-- ==== Proof.RoutePoint.lean ====
/- What one grid point of the routing leaves: each head's experts and gates, from that head's scores. -/
module

public import Idealize.ShloMosaic.Lib.IdealHost
public import Idealize.ShloMosaic.Lib.Pointwise
public import Idealize.ShloMosaic.Lib.Pipeline.Value
public import proofs.«01_k».proof.Proof.RoutePiece
public import proofs.«01_k».proof.Proof.RouteSelect

@[expose] public section

set_option maxRecDepth 16384

noncomputable section

namespace Cert.RouteIdeal.Point

open Cert.RouteIdeal Cert.RouteIdeal.Gen Cert.RouteIdeal.Vocab Cert.RouteIdeal.Column Cert.RouteIdeal.Select Cert.RouteIdeal.Fold Cert.Rank
  Idealize.ShloMosaic Idealize.ShloMosaic.TcCoe Idealize.SL.Sem

/-- A head's scores in a point's block. -/
def slab (x : Vec Ideal S8x128x128 .f32) (h : Fin 8) : FVec Ideal S128x128 .f32 := fun i => x (ix3 h (i 0) (i 1))
/-- A row's head. -/
def headAt (r : Fin 128) : Fin 8 := ⟨r.val / 16, by omega⟩
/-- A row's place among its head's. -/
def rankAt (r : Fin 128) : Fin 16 := ⟨r.val % 16, by omega⟩

/-- The experts a point leaves. -/
def rowsI (x0 x1 : Vec Ideal S8x128x128 .f32) (y : S1x128x128.Idx) : BitVec 32 :=
  outI (slab x0 (headAt (y 1))) (slab x1 (headAt (y 1))) (ix3 0 (rankAt (y 1)) (y 2))
/-- The gates a point leaves. -/
def rowsG (x0 x1 : Vec Ideal S8x128x128 .f32) (y : S1x128x128.Idx) : EReal :=
  outG (slab x0 (headAt (y 1))) (slab x1 (headAt (y 1))) (ix3 0 (rankAt (y 1)) (y 2))

/-- A row of one head's slab, among all the rows. -/
theorem place_row (h : Fin 8) (x : S1x16x128.Idx) (y : S1x128x128.Idx) (e1 : (y 1).val = h.val * 16 + (x 1).val) (e2 : (y 2).val = (x 2).val) :
    headAt (y 1) = h ∧ (ix3 (n0 := 1) (n1 := 16) (n2 := 128) 0 (rankAt (y 1)) (y 2)) = x := by
  have h1 : (x 1).val < 16 := (x 1).isLt
  have h0 : (x 0).val < 1 := (x 0).isLt
  refine ⟨Fin.ext ?_, funext fun a => Fin.ext ?_⟩
  · show (y 1).val / 16 = h.val
    omega
  · match a with
    | ⟨0, _⟩ => show 0 = (x 0).val; omega
    | ⟨1, _⟩ => show (y 1).val % 16 = (x 1).val; omega
    | ⟨2, _⟩ => exact e2

theorem rowsI_head (x0 x1 : Vec Ideal S8x128x128 .f32) (h : Fin 8) (x : S1x16x128.Idx) (y : S1x128x128.Idx)
    (e1 : (y 1).val = h.val * 16 + (x 1).val) (e2 : (y 2).val = (x 2).val) : outI (slab x0 h) (slab x1 h) x = rowsI x0 x1 y := by
  obtain ⟨a, b⟩ := place_row h x y e1 e2
  unfold rowsI
  rw [a, b]

theorem rowsG_head (x0 x1 : Vec Ideal S8x128x128 .f32) (h : Fin 8) (x : S1x16x128.Idx) (y : S1x128x128.Idx)
    (e1 : (y 1).val = h.val * 16 + (x 1).val) (e2 : (y 2).val = (x 2).val) : outG (slab x0 h) (slab x1 h) x = rowsG x0 x1 y := by
  obtain ⟨a, b⟩ := place_row h x y e1 e2
  unfold rowsG
  rw [a, b]

/-- The block loaded for head 0. -/
theorem slab0 (x : Vec Ideal S8x128x128 .f32) : blk (View.ld x r0_0) = slab x 0 := by
  funext i
  rw [eq_ix2 (n0 := 128) (n1 := 128) i]
  unfold blk
  pointwise []
  rfl

/-- The block loaded for head 1. -/
theorem slab1 (x : Vec Ideal S8x128x128 .f32) : blk (View.ld x r0_2) = slab x 1 := by
  funext i
  rw [eq_ix2 (n0 := 128) (n1 := 128) i]
  unfold blk
  pointwise []
  rfl

/-- The block loaded for head 2. -/
theorem slab2 (x : Vec Ideal S8x128x128 .f32) : blk (View.ld x r0_4) = slab x 2 := by
  funext i
  rw [eq_ix2 (n0 := 128) (n1 := 128) i]
  unfold blk
  pointwise []
  rfl

/-- The block loaded for head 3. -/
theorem slab3 (x : Vec Ideal S8x128x128 .f32) : blk (View.ld x r0_6) = slab x 3 := by
  funext i
  rw [eq_ix2 (n0 := 128) (n1 := 128) i]
  unfold blk
  pointwise []
  rfl

/-- The block loaded for head 4. -/
theorem slab4 (x : Vec Ideal S8x128x128 .f32) : blk (View.ld x r0_8) = slab x 4 := by
  funext i
  rw [eq_ix2 (n0 := 128) (n1 := 128) i]
  unfold blk
  pointwise []
  rfl

/-- The block loaded for head 5. -/
theorem slab5 (x : Vec Ideal S8x128x128 .f32) : blk (View.ld x r0_10) = slab x 5 := by
  funext i
  rw [eq_ix2 (n0 := 128) (n1 := 128) i]
  unfold blk
  pointwise []
  rfl

/-- The block loaded for head 6. -/
theorem slab6 (x : Vec Ideal S8x128x128 .f32) : blk (View.ld x r0_12) = slab x 6 := by
  funext i
  rw [eq_ix2 (n0 := 128) (n1 := 128) i]
  unfold blk
  pointwise []
  rfl

/-- The block loaded for head 7. -/
theorem slab7 (x : Vec Ideal S8x128x128 .f32) : blk (View.ld x r0_14) = slab x 7 := by
  funext i
  rw [eq_ix2 (n0 := 128) (n1 := 128) i]
  unfold blk
  pointwise []
  rfl

/-- The experts a point leaves, whole. -/
theorem out0_2_eq (x0 x1 : Vec Ideal S8x128x128 .f32) : out0_2 x0 x1 = rowsI x0 x1 := by
  funext y
  unfold out0_2
  refine View.canon_apply_of_pieces (Val := Elt Ideal) (e := .i32) (rowsI x0 x1) _ ?_ y (cover0_2 _ _ _ _ _ _ _ _ y)
  intro pc hpc
  rcases List.mem_cons.mp hpc with rfl | hpc
  · intro x
    refine (congrFun (ids7 x0 x1) x).trans ?_
    rw [slab7, slab7]
    refine rowsI_head x0 x1 7 x _ ?_ ?_
    · show 112 + 1 * (x 1).val = 7 * 16 + (x 1).val; omega
    · show 0 + 1 * (x 2).val = (x 2).val; omega
  rcases List.mem_cons.mp hpc with rfl | hpc
  · intro x
    refine (congrFun (ids6 x0 x1) x).trans ?_
    rw [slab6, slab6]
    refine rowsI_head x0 x1 6 x _ ?_ ?_
    · show 96 + 1 * (x 1).val = 6 * 16 + (x 1).val; omega
    · show 0 + 1 * (x 2).val = (x 2).val; omega
  rcases List.mem_cons.mp hpc with rfl | hpc
  · intro x
    refine (congrFun (ids5 x0 x1) x).trans ?_
    rw [slab5, slab5]
    refine rowsI_head x0 x1 5 x _ ?_ ?_
    · show 80 + 1 * (x 1).val = 5 * 16 + (x 1).val; omega
    · show 0 + 1 * (x 2).val = (x 2).val; omega
  rcases List.mem_cons.mp hpc with rfl | hpc
  · intro x
    refine (congrFun (ids4 x0 x1) x).trans ?_
    rw [slab4, slab4]
    refine rowsI_head x0 x1 4 x _ ?_ ?_
    · show 64 + 1 * (x 1).val = 4 * 16 + (x 1).val; omega
    · show 0 + 1 * (x 2).val = (x 2).val; omega
  rcases List.mem_cons.mp hpc with rfl | hpc
  · intro x
    refine (congrFun (ids3 x0 x1) x).trans ?_
    rw [slab3, slab3]
    refine rowsI_head x0 x1 3 x _ ?_ ?_
    · show 48 + 1 * (x 1).val = 3 * 16 + (x 1).val; omega
    · show 0 + 1 * (x 2).val = (x 2).val; omega
  rcases List.mem_cons.mp hpc with rfl | hpc
  · intro x
    refine (congrFun (ids2 x0 x1) x).trans ?_
    rw [slab2, slab2]
    refine rowsI_head x0 x1 2 x _ ?_ ?_
    · show 32 + 1 * (x 1).val = 2 * 16 + (x 1).val; omega
    · show 0 + 1 * (x 2).val = (x 2).val; omega
  rcases List.mem_cons.mp hpc with rfl | hpc
  · intro x
    refine (congrFun (ids1 x0 x1) x).trans ?_
    rw [slab1, slab1]
    refine rowsI_head x0 x1 1 x _ ?_ ?_
    · show 16 + 1 * (x 1).val = 1 * 16 + (x 1).val; omega
    · show 0 + 1 * (x 2).val = (x 2).val; omega
  rcases List.mem_cons.mp hpc with rfl | hpc
  · intro x
    refine (congrFun (ids0 x0 x1) x).trans ?_
    rw [slab0, slab0]
    refine rowsI_head x0 x1 0 x _ ?_ ?_
    · show 0 + 1 * (x 1).val = 0 * 16 + (x 1).val; omega
    · show 0 + 1 * (x 2).val = (x 2).val; omega
  nomatch hpc

/-- The gates a point leaves, whole. -/
theorem out0_3_eq (x0 x1 : Vec Ideal S8x128x128 .f32) : out0_3 x0 x1 = rowsG x0 x1 := by
  funext y
  unfold out0_3
  refine View.canon_apply_of_pieces (Val := Elt Ideal) (e := .f32) (rowsG x0 x1) _ ?_ y (cover0_3 _ _ _ _ _ _ _ _ y)
  intro pc hpc
  rcases List.mem_cons.mp hpc with rfl | hpc
  · intro x
    refine (congrFun (gates7 x0 x1) x).trans ?_
    rw [slab7, slab7]
    refine rowsG_head x0 x1 7 x _ ?_ ?_
    · show 112 + 1 * (x 1).val = 7 * 16 + (x 1).val; omega
    · show 0 + 1 * (x 2).val = (x 2).val; omega
  rcases List.mem_cons.mp hpc with rfl | hpc
  · intro x
    refine (congrFun (gates6 x0 x1) x).trans ?_
    rw [slab6, slab6]
    refine rowsG_head x0 x1 6 x _ ?_ ?_
    · show 96 + 1 * (x 1).val = 6 * 16 + (x 1).val; omega
    · show 0 + 1 * (x 2).val = (x 2).val; omega
  rcases List.mem_cons.mp hpc with rfl | hpc
  · intro x
    refine (congrFun (gates5 x0 x1) x).trans ?_
    rw [slab5, slab5]
    refine rowsG_head x0 x1 5 x _ ?_ ?_
    · show 80 + 1 * (x 1).val = 5 * 16 + (x 1).val; omega
    · show 0 + 1 * (x 2).val = (x 2).val; omega
  rcases List.mem_cons.mp hpc with rfl | hpc
  · intro x
    refine (congrFun (gates4 x0 x1) x).trans ?_
    rw [slab4, slab4]
    refine rowsG_head x0 x1 4 x _ ?_ ?_
    · show 64 + 1 * (x 1).val = 4 * 16 + (x 1).val; omega
    · show 0 + 1 * (x 2).val = (x 2).val; omega
  rcases List.mem_cons.mp hpc with rfl | hpc
  · intro x
    refine (congrFun (gates3 x0 x1) x).trans ?_
    rw [slab3, slab3]
    refine rowsG_head x0 x1 3 x _ ?_ ?_
    · show 48 + 1 * (x 1).val = 3 * 16 + (x 1).val; omega
    · show 0 + 1 * (x 2).val = (x 2).val; omega
  rcases List.mem_cons.mp hpc with rfl | hpc
  · intro x
    refine (congrFun (gates2 x0 x1) x).trans ?_
    rw [slab2, slab2]
    refine rowsG_head x0 x1 2 x _ ?_ ?_
    · show 32 + 1 * (x 1).val = 2 * 16 + (x 1).val; omega
    · show 0 + 1 * (x 2).val = (x 2).val; omega
  rcases List.mem_cons.mp hpc with rfl | hpc
  · intro x
    refine (congrFun (gates1 x0 x1) x).trans ?_
    rw [slab1, slab1]
    refine rowsG_head x0 x1 1 x _ ?_ ?_
    · show 16 + 1 * (x 1).val = 1 * 16 + (x 1).val; omega
    · show 0 + 1 * (x 2).val = (x 2).val; omega
  rcases List.mem_cons.mp hpc with rfl | hpc
  · intro x
    refine (congrFun (gates0 x0 x1) x).trans ?_
    rw [slab0, slab0]
    refine rowsG_head x0 x1 0 x _ ?_ ?_
    · show 0 + 1 * (x 1).val = 0 * 16 + (x 1).val; omega
    · show 0 + 1 * (x 2).val = (x 2).val; omega
  nomatch hpc

variable (x0 x1 : Vec Ideal S8x128x128 .f32) (h0 : ∀ i, ⊥ < x0 i) (h1 : ∀ i, ⊥ < x1 i)

include h0 h1 in
theorem rowsI_apply (r l : Fin 128) : rowsI x0 x1 (ix3 0 r l)
    = expertOf (fun p => x0 (ix3 (headAt r) p l)) (fun p => x1 (ix3 (headAt r) p l)) (pick (fun p => x0 (ix3 (headAt r) p l)) (fun p => x1 (ix3 (headAt r) p l)) (rankAt r)) :=
  (outI_apply _ _ l (rankAt r)).trans (experts_apply (slab x0 (headAt r)) (slab x1 (headAt r)) l (fun p => h0 _) (fun p => h1 _) (rankAt r))

include h0 h1 in
theorem rowsG_apply (r l : Fin 128) : rowsG x0 x1 (ix3 0 r l)
    = gate (fun p => x0 (ix3 (headAt r) p l)) (fun p => x1 (ix3 (headAt r) p l)) (rankAt r) :=
  (outG_apply _ _ l (rankAt r)).trans (soft_apply (slab x0 (headAt r)) (slab x1 (headAt r)) l (fun p => h0 _) (fun p => h1 _) (rankAt r))

end Cert.RouteIdeal.Point

end
-- ==== Proof.RouteArray.lean ====
/- The arrays the routing leaves: at each token and head, the experts of the best pairs and their gates. -/
module

public import proofs.«01_k».proof.Proof.RoutePoint
public import proofs.«01_k».proof.Proof.Gen.RouteIdeal.Value
public import Idealize.ShloMosaic.Lib.Tactic
public import Idealize.ShloMosaic.Lib.Pipeline.Value
public import Idealize.ShloMosaic.Lib.StableHlo.Run
public import Idealize.ShloMosaic.Lib.StableHlo.ReadAt

@[expose] public section

set_option maxRecDepth 16384

noncomputable section

namespace Cert.RouteIdeal.Array

open Cert.RouteIdeal Cert.RouteIdeal.Gen Cert.RouteIdeal.Value Cert.RouteIdeal.Point Cert.Rank
  Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The arguments of a device, as arrays of extended reals. -/
abbrev a0 (c : Dev nD) : (⟨3, ![8, 128, 32768]⟩ : Shape).Idx → EReal := m ((c : Thread nD τ).loc main_arg0)
abbrev a1 (c : Dev nD) : (⟨3, ![8, 128, 32768]⟩ : Shape).Idx → EReal := m ((c : Thread nD τ).loc main_arg1)

/-- A lane's token. -/
def tokenAt (g : Fin 256) (l : Fin 128) : Fin 32768 := ⟨g.val * 128 + l.val, by omega⟩
/-- One head's scores of one token. -/
def scoresOf (x : (⟨3, ![8, 128, 32768]⟩ : Shape).Idx → EReal) (h : Fin 8) (t : Fin 32768) (p : Fin 128) : EReal := x (ix3 h p t)

theorem point_lt (t : Fin cfg0.N) : t.val < 256 := lt_of_lt_of_eq t.isLt N_0
/-- A point's block of tokens. -/
def group (t : Fin cfg0.N) : Fin 256 := ⟨t.val, point_lt t⟩

/-- The block each window reads or writes at a point, decided over the grid. -/
theorem idx0 : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)
theorem idx1 : ∀ t : Fin cfg0.N, win0_1.index t 0 = 0 ∧ win0_1.index t 1 = 0 ∧ win0_1.index t 2 = t.val :=
  (by decide +kernel : ∀ t : Fin grid0.N, win0_1.index t 0 = 0 ∧ win0_1.index t 1 = 0 ∧ win0_1.index t 2 = t.val)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem blk0 (c : Dev nD) (t : Fin cfg0.N) (h : Fin 8) (p l : Fin 128) :
    (iblk m c 0 t : Vec Ideal S8x128x128 .f32) (ix3 h p l) = a0 m c (ix3 h p (tokenAt (group t) l)) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 8 + 1 * h.val = h.val; rw [(idx0 t).1]; omega
  | ⟨1, _⟩ => show win0_0.index t 1 * 128 + 1 * p.val = p.val; rw [(idx0 t).2.1]; omega
  | ⟨2, _⟩ => show win0_0.index t 2 * 128 + 1 * l.val = t.val * 128 + l.val; rw [(idx0 t).2.2]; omega

theorem blk1 (c : Dev nD) (t : Fin cfg0.N) (h : Fin 8) (p l : Fin 128) :
    (iblk m c 1 t : Vec Ideal S8x128x128 .f32) (ix3 h p l) = a1 m c (ix3 h p (tokenAt (group t) l)) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 8 + 1 * h.val = h.val; rw [(idx1 t).1]; omega
  | ⟨1, _⟩ => show win0_1.index t 1 * 128 + 1 * p.val = p.val; rw [(idx1 t).2.1]; omega
  | ⟨2, _⟩ => show win0_1.index t 2 * 128 + 1 * l.val = t.val * 128 + l.val; rw [(idx1 t).2.2]; omega

/-- The experts, as one array of the scores. -/
def expertsOf (x y : (⟨3, ![8, 128, 32768]⟩ : Shape).Idx → EReal) (i : (⟨3, ![256, 128, 128]⟩ : Shape).Idx) : BitVec 32 :=
  expertOf (scoresOf x (headAt (i 1)) (tokenAt (i 0) (i 2))) (scoresOf y (headAt (i 1)) (tokenAt (i 0) (i 2)))
    (pick (scoresOf x (headAt (i 1)) (tokenAt (i 0) (i 2))) (scoresOf y (headAt (i 1)) (tokenAt (i 0) (i 2))) (rankAt (i 1)))
/-- The gates, as one array of the scores. -/
def gatesOf (x y : (⟨3, ![8, 128, 32768]⟩ : Shape).Idx → EReal) (i : (⟨3, ![256, 128, 128]⟩ : Shape).Idx) : EReal :=
  gate (scoresOf x (headAt (i 1)) (tokenAt (i 0) (i 2))) (scoresOf y (headAt (i 1)) (tokenAt (i 0) (i 2))) (rankAt (i 1))

/-- The two results. -/
abbrev G2 (c : Dev nD) : (⟨3, ![256, 128, 128]⟩ : Shape).Idx → BitVec 32 := expertsOf (a0 m c) (a1 m c)
abbrev G3 (c : Dev nD) : (⟨3, ![256, 128, 128]⟩ : Shape).Idx → EReal := gatesOf (a0 m c) (a1 m c)

/-- The two blocks a point reads. -/
abbrev b0 (c : Dev nD) (t : Fin cfg0.N) : S8x128x128.Idx → EReal := iblk m c 0 t
abbrev b1 (c : Dev nD) (t : Fin cfg0.N) : S8x128x128.Idx → EReal := iblk m c 1 t

variable (c : Dev nD) (h0 : ∀ i, ⊥ < a0 m c i) (h1 : ∀ i, ⊥ < a1 m c i)

include h0 in
theorem above0 (t : Fin cfg0.N) (i : S8x128x128.Idx) : ⊥ < b0 m c t i := by
  rw [eq_ix3 (n0 := 8) (n1 := 128) (n2 := 128) i]
  exact lt_of_lt_of_eq (h0 _) (blk0 m c t _ _ _).symm

include h1 in
theorem above1 (t : Fin cfg0.N) (i : S8x128x128.Idx) : ⊥ < b1 m c t i := by
  rw [eq_ix3 (n0 := 8) (n1 := 128) (n2 := 128) i]
  exact lt_of_lt_of_eq (h1 _) (blk1 m c t _ _ _).symm

theorem col0 (t : Fin cfg0.N) (r l : Fin 128) :
    (fun p => (iblk m c 0 t : Vec Ideal S8x128x128 .f32) (ix3 (headAt r) p l)) = scoresOf (a0 m c) (headAt r) (tokenAt (group t) l) :=
  funext fun p => blk0 m c t _ _ _
theorem col1 (t : Fin cfg0.N) (r l : Fin 128) :
    (fun p => (iblk m c 1 t : Vec Ideal S8x128x128 .f32) (ix3 (headAt r) p l)) = scoresOf (a1 m c) (headAt r) (tokenAt (group t) l) :=
  funext fun p => blk1 m c t _ _ _

include h0 h1 in
theorem left2_apply (t : Fin cfg0.N) (r l : Fin 128) :
    out0_2 (iblk m c 0 t) (iblk m c 1 t) (ix3 0 r l) = G2 m c (ix3 (group t) r l) := by
  rw [out0_2_eq]
  refine (rowsI_apply _ _ (above0 m c h0 t) (above1 m c h1 t) r l).trans ?_
  rw [col0, col1]
  rfl

include h0 h1 in
theorem left3_apply (t : Fin cfg0.N) (r l : Fin 128) :
    out0_3 (iblk m c 0 t) (iblk m c 1 t) (ix3 0 r l) = G3 m c (ix3 (group t) r l) := by
  rw [out0_3_eq]
  refine (rowsG_apply _ _ (above0 m c h0 t) (above1 m c h1 t) r l).trans ?_
  rw [col0, col1]
  rfl

include h0 h1 in
theorem flushed2_eq (t : Fin cfg0.N) (hf : (cfg0.win 2).flush t = true) :
    (dats m 0 c).flushed 2 t = ((cfg0.win 2).blk t).view.read (Elt Ideal) (G2 m c) := by
  rw [flushed2]
  funext j
  rw [View.read_apply]
  show out0_2 (iblk m c 0 t) (iblk m c 1 t) j = expertsOf _ _ (((cfg0.win 2).blk t).view.emb j)
  have k0 : (j 0).val < 1 := (j 0).isLt
  have k1 : (j 1).val < 128 := (j 1).isLt
  have k2 : (j 2).val < 128 := (j 2).isLt
  have e := left2_apply m c h0 h1 t ⟨(j 1).val, k1⟩ ⟨(j 2).val, k2⟩
  refine Eq.trans (congrArg _ ?_) (e.trans (congrArg _ (funext fun a => Fin.ext ?_)))
  · funext a
    match a with
    | ⟨0, _⟩ => exact Fin.ext (show (j 0).val = 0 by omega)
    | ⟨1, _⟩ => rfl
    | ⟨2, _⟩ => rfl
  · match a with
    | ⟨0, _⟩ => show t.val = win0_2.index t 0 * 1 + 1 * (j 0).val; rw [(idx2 t).1]; omega
    | ⟨1, _⟩ => show (j 1).val = win0_2.index t 1 * 128 + 1 * (j 1).val; rw [(idx2 t).2.1]; omega
    | ⟨2, _⟩ => show (j 2).val = win0_2.index t 2 * 128 + 1 * (j 2).val; rw [(idx2 t).2.2]; omega

include h0 h1 in
/-- The first result is the experts of the best pairs. -/
theorem final2 : (dats m 0 c).arrAt 2 cfg0.N = G2 m c :=
  (dats m 0 c).arrAt_eq_of_cover 2 (G2 m c) (flushed2_eq m c h0 h1) fun i => by
    have k0 : (i 0 : Nat) < 256 := (i 0).isLt
    have k1 : (i 1 : Nat) < 128 := (i 1).isLt
    have k2 : (i 2 : Nat) < 128 := (i 2).isLt
    let t : Fin cfg0.N := ⟨(i 0 : Nat), by rw [show cfg0.N = 256 from N_0]; omega⟩
    refine ⟨t, flush0_2 t, ?_⟩
    show i ∈ ((View.whole main_v0_0).slice (win0_2.rect t)).set
    rw [View.set_slice_whole, Rect.mem_set_unit]
    have e0 : win0_2.index t 0 = (i 0 : Nat) := (idx2 t).1
    have e1 : win0_2.index t 1 = 0 := (idx2 t).2.1
    have e2 : win0_2.index t 2 = 0 := (idx2 t).2.2
    intro a
    match a with
    | ⟨0, _⟩ =>
      show win0_2.index t 0 * 1 ≤ (i 0 : Nat) ∧ (i 0 : Nat) < win0_2.index t 0 * 1 + 1
      rw [e0]; omega
    | ⟨1, _⟩ =>
      show win0_2.index t 1 * 128 ≤ (i 1 : Nat) ∧ (i 1 : Nat) < win0_2.index t 1 * 128 + 128
      rw [e1]; omega
    | ⟨2, _⟩ =>
      show win0_2.index t 2 * 128 ≤ (i 2 : Nat) ∧ (i 2 : Nat) < win0_2.index t 2 * 128 + 128
      rw [e2]; omega

include h0 h1 in
theorem flushed3_eq (t : Fin cfg0.N) (hf : (cfg0.win 3).flush t = true) :
    (dats m 0 c).flushed 3 t = ((cfg0.win 3).blk t).view.read (Elt Ideal) (G3 m c) := by
  rw [flushed3]
  funext j
  rw [View.read_apply]
  show out0_3 (iblk m c 0 t) (iblk m c 1 t) j = gatesOf _ _ (((cfg0.win 3).blk t).view.emb j)
  have k0 : (j 0).val < 1 := (j 0).isLt
  have k1 : (j 1).val < 128 := (j 1).isLt
  have k2 : (j 2).val < 128 := (j 2).isLt
  have e := left3_apply m c h0 h1 t ⟨(j 1).val, k1⟩ ⟨(j 2).val, k2⟩
  refine Eq.trans (congrArg _ ?_) (e.trans (congrArg _ (funext fun a => Fin.ext ?_)))
  · funext a
    match a with
    | ⟨0, _⟩ => exact Fin.ext (show (j 0).val = 0 by omega)
    | ⟨1, _⟩ => rfl
    | ⟨2, _⟩ => rfl
  · match a with
    | ⟨0, _⟩ => show t.val = win0_3.index t 0 * 1 + 1 * (j 0).val; rw [(idx3 t).1]; omega
    | ⟨1, _⟩ => show (j 1).val = win0_3.index t 1 * 128 + 1 * (j 1).val; rw [(idx3 t).2.1]; omega
    | ⟨2, _⟩ => show (j 2).val = win0_3.index t 2 * 128 + 1 * (j 2).val; rw [(idx3 t).2.2]; omega

include h0 h1 in
/-- The second result is the gates of the best pairs. -/
theorem final3 : (dats m 0 c).arrAt 3 cfg0.N = G3 m c :=
  (dats m 0 c).arrAt_eq_of_cover 3 (G3 m c) (flushed3_eq m c h0 h1) fun i => by
    have k0 : (i 0 : Nat) < 256 := (i 0).isLt
    have k1 : (i 1 : Nat) < 128 := (i 1).isLt
    have k2 : (i 2 : Nat) < 128 := (i 2).isLt
    let t : Fin cfg0.N := ⟨(i 0 : Nat), by rw [show cfg0.N = 256 from N_0]; omega⟩
    refine ⟨t, flush0_3 t, ?_⟩
    show i ∈ ((View.whole main_v0_1).slice (win0_3.rect t)).set
    rw [View.set_slice_whole, Rect.mem_set_unit]
    have e0 : win0_3.index t 0 = (i 0 : Nat) := (idx3 t).1
    have e1 : win0_3.index t 1 = 0 := (idx3 t).2.1
    have e2 : win0_3.index t 2 = 0 := (idx3 t).2.2
    intro a
    match a with
    | ⟨0, _⟩ =>
      show win0_3.index t 0 * 1 ≤ (i 0 : Nat) ∧ (i 0 : Nat) < win0_3.index t 0 * 1 + 1
      rw [e0]; omega
    | ⟨1, _⟩ =>
      show win0_3.index t 1 * 128 ≤ (i 1 : Nat) ∧ (i 1 : Nat) < win0_3.index t 1 * 128 + 128
      rw [e1]; omega
    | ⟨2, _⟩ =>
      show win0_3.index t 2 * 128 ≤ (i 2 : Nat) ∧ (i 2 : Nat) < win0_3.index t 2 * 128 + 128
      rw [e2]; omega

end Cert.RouteIdeal.Array

end
-- ==== Proof.RouteTopK.lean ====
/- A top-k of the last axis, at an index: the entries by rank. -/
module

public import Idealize.ShloMosaic.Lib.IdealHost
public import Idealize.ShloMosaic.Lib.Pointwise
public import proofs.«01_k».proof.Proof.RouteSpec

@[expose] public section

set_option maxRecDepth 16384

noncomputable section

namespace Cert.Rank

open Idealize.ShloMosaic
open scoped BigOperators

/-- A top-k along the last axis takes the places by rank. -/
theorem topK_apply {A B N K : Nat} (hK : K ≤ N) (x : FVec Ideal ⟨3, ![A, B, N]⟩ .f32)
    (h : (⟨3, ![A, B, N]⟩ : Shape).Slices (fun _ => 0) ⟨3, ![A, B, K]⟩) (a : Fin A) (b : Fin B) (i : Fin K) :
    (Host.topK ⟨3, ![A, B, K]⟩ 2 (FloatOps.cmpfTotal .gt) x h).1 (ix3 a b i)
        = x (ix3 a b (at' (fun p => x (ix3 a b p)) (i.castLE hK)))
      ∧ (Host.topK ⟨3, ![A, B, K]⟩ 2 (FloatOps.cmpfTotal .gt) x h).2 (ix3 a b i)
        = BitVec.ofNat 32 (at' (fun p => x (ix3 a b p)) (i.castLE hK)).val := by
  have al (k : Fin N) : (Shape.Idx.along (s := ⟨3, ![A, B, N]⟩) (ix3 a b (i.castLE hK)) (2 : Fin 3) k) = ix3 a b k := by
    funext d
    fin_cases d <;> rfl
  have key : sortedFrom (n := N) (fun k k' : Fin N => FloatOps.cmpfTotal .gt
        (x (Shape.Idx.along (s := ⟨3, ![A, B, N]⟩) (ix3 a b (i.castLE hK)) (2 : Fin 3) k))
        (x (Shape.Idx.along (s := ⟨3, ![A, B, N]⟩) (ix3 a b (i.castLE hK)) (2 : Fin 3) k')) == 1#1) (i.castLE hK)
      = at' (fun p => x (ix3 a b p)) (i.castLE hK) := by
    rw [← sorted_greater]
    congr 1
    funext k k'
    rw [al, al]
    show (BitVec.ofBool (decide (x (ix3 a b k') < x (ix3 a b k))) == 1#1) = decide (x (ix3 a b k') < x (ix3 a b k))
    cases decide (x (ix3 a b k') < x (ix3 a b k)) <;> rfl
  have sl {α : Type} (w : (⟨3, ![A, B, N]⟩ : Shape).Idx → α) :
      extractStridedSlice ⟨3, ![A, B, K]⟩ (fun _ => 0) w h (ix3 a b i) = w (ix3 a b (i.castLE hK)) := by
    refine congrArg w (funext fun d => Fin.ext ?_)
    fin_cases d
    · exact Nat.zero_add _
    · exact Nat.zero_add _
    · exact Nat.zero_add _
  have fin (k : Fin N) (e : k = at' (fun p => x (ix3 a b p)) (i.castLE hK)) :
      Shape.Idx.along (s := ⟨3, ![A, B, N]⟩) (ix3 a b (i.castLE hK)) (2 : Fin 3) k = ix3 a b (at' (fun p => x (ix3 a b p)) (i.castLE hK)) :=
    (al k).trans (congrArg (ix3 a b) e)
  constructor
  · unfold Host.topK
    dsimp only
    rw [sl]
    exact congrArg x (fin _ key)
  · unfold Host.topK
    dsimp only
    rw [sl]
    exact congrArg (iotaInDim ⟨3, ![A, B, N]⟩ 32 (2 : Fin 3)) (fin _ key)

end Cert.Rank

end
-- ==== Proof.RouteTop.lean ====
/- The greatest sum of each token and head, as the reference broadcasts it. -/
module

public import Idealize.ShloMosaic.Lib.IdealHost
public import Idealize.ShloMosaic.Lib.Pointwise
public import proofs.«01_k».proof.Proof.RouteTopK
public import proofs.«01_k».proof.Proof.Gen.RouteReferenceIdeal.Run

@[expose] public section

set_option maxRecDepth 16384

noncomputable section

namespace Cert.RouteReferenceIdeal.Read

open Cert.RouteReferenceIdeal Cert.RouteReferenceIdeal.Gen Cert.RouteReferenceIdeal.Value Cert.Rank
  Idealize.ShloMosaic Idealize.ShloMosaic.TcCoe Idealize.SL.Sem Idealize.ShloMosaic.StableHlo
open scoped BigOperators

/-- The greatest entry of each token and head. -/
def greatest (v : FVec Ideal S32768x8x16 .f32) : FVec Ideal S32768x8 .f32 :=
  Host.reduce FloatOps.maximumf v (constant S_ .f32 0xFF800000#32) reducesTo_S32768x8x16_S32768x8_d2 h_S_

theorem greatest_fold (v : FVec Ideal S32768x8x16 .f32) (t : Fin 32768) (h : Fin 8) :
    greatest v (ix2 t h) = Finset.univ.fold max (Ideal.ofBits .f32 0xFF800000#32) fun k : Fin 16 => v (ix3 t h k) := by
  unfold greatest
  pointwise []

/-- An entry of each token and head, under each place. -/
def spread (v : FVec Ideal S32768x8 .f32) : FVec Ideal S32768x8x16 .f32 :=
  broadcastInDim S32768x8x16 ![0, 1, 2] bcast_S32768x8x1_S32768x8x16_0_1_2 (broadcastInDim S32768x8x1 ![0, 1] bcast_S32768x8_S32768x8x1_0_1 (maximumf (broadcastInDim S32768x8 ![] bcast_S_S32768x8 (constant S_ .f32 0xFF800000#32)) v))

theorem spread_apply (v : FVec Ideal S32768x8 .f32) (t : Fin 32768) (h : Fin 8) (j : Fin 16) :
    spread v (ix3 t h j) = max (Ideal.ofBits .f32 0xFF800000#32) (v (ix2 t h)) := by
  unfold spread
  pointwise []

/-- The greatest entry under each place of one array. -/
def topOf (v : FVec Ideal S32768x8x16 .f32) : FVec Ideal S32768x8x16 .f32 := spread (greatest v)

/-- The greatest of entries that come in falling order is the first. -/
theorem fold_first (f : Fin 16 → EReal) (hf : Antitone f) : max ⊥ (Finset.univ.fold max ⊥ f) = f 0 := by
  rw [max_eq_right bot_le]
  exact le_antisymm (Finset.sup_le (s := Finset.univ) fun k _ => hf (Fin.zero_le k)) (Finset.le_sup (s := Finset.univ) (f := f) (Finset.mem_univ 0))

/-- Where the entries come in falling order, the greatest is the first. -/
theorem topOf_apply (v : FVec Ideal S32768x8x16 .f32) (t : Fin 32768) (h : Fin 8) (j : Fin 16) (hf : Antitone fun k : Fin 16 => v (ix3 t h k)) :
    topOf v (ix3 t h j) = v (ix3 t h 0) := by
  rw [topOf, spread_apply, greatest_fold, show Ideal.ofBits .f32 0xFF800000#32 = (⊥ : EReal) by simp [Ideal.ofBits, Ideal.ieee]]
  exact fold_first _ hf

end Cert.RouteReferenceIdeal.Read

end
-- ==== Proof.RouteRead.lean ====
/- The reference for the routing, index by index. -/
module

public import Idealize.ShloMosaic.Lib.IdealHost
public import Idealize.ShloMosaic.Lib.Pointwise
public import proofs.«01_k».proof.Proof.RouteTopK
public import proofs.«01_k».proof.Proof.RouteTop
public import proofs.«01_k».proof.Proof.Gen.RouteReferenceIdeal.Run

@[expose] public section

set_option maxRecDepth 16384

noncomputable section

namespace Cert.RouteReferenceIdeal.Read

open Cert.RouteReferenceIdeal Cert.RouteReferenceIdeal.Gen Cert.RouteReferenceIdeal.Value Cert.Rank
  Idealize.ShloMosaic Idealize.ShloMosaic.TcCoe Idealize.SL.Sem Idealize.ShloMosaic.StableHlo
open scoped BigOperators

variable (x y : FVec Ideal S8x128x32768 .f32)

/-- A token's column of scores for a head. -/
def column (x : FVec Ideal S8x128x32768 .f32) (h : Fin 8) (t : Fin 32768) (p : Fin 128) : EReal := x (ix3 h p t)

/-- The best scores of a token and head, with their places. -/
def tk (x : FVec Ideal S8x128x32768 .f32) : FVec Ideal S32768x8x16 .f32 × IVec S32768x8x16 32 :=
  Host.topK S32768x8x16 2 (FloatOps.cmpfTotal .gt) (transpose S32768x8x128 [2, 0, 1] x transposes_S8x128x32768_S32768x8x128_2_0_1) sliceFits_S32768x8x128_S32768x8x16

theorem tk_apply (t : Fin 32768) (h : Fin 8) (i : Fin 16) :
    (tk x).1 (ix3 t h i) = best (column x h t) i ∧ (tk x).2 (ix3 t h i) = BitVec.ofNat 32 (place (column x h t) i).val := by
  have e : (fun p => transpose S32768x8x128 [2, 0, 1] x transposes_S8x128x32768_S32768x8x128_2_0_1 (ix3 t h p)) = column x h t := by
    funext p
    unfold column
    pointwise []
  have k := topK_apply (by decide : 16 ≤ 128) (transpose S32768x8x128 [2, 0, 1] x transposes_S8x128x32768_S32768x8x128_2_0_1)
    sliceFits_S32768x8x128_S32768x8x16 t h i
  rw [e] at k
  exact ⟨k.1.trans (congrFun e _), k.2⟩

/-- The sums of the pairs. -/
def cs : FVec Ideal S32768x8x256 .f32 :=
  shapeCast S32768x8x256 (addf (broadcastInDim S32768x8x16x16 ![0, 1, 2, 3] bcast_S32768x8x16x1_S32768x8x16x16_0_1_2_3 (broadcastInDim S32768x8x16x1 ![0, 1, 2] bcast_S32768x8x16_S32768x8x16x1_0_1_2 ((tk x).1))) (broadcastInDim S32768x8x16x16 ![0, 1, 2, 3] bcast_S32768x8x1x16_S32768x8x16x16_0_1_2_3 (broadcastInDim S32768x8x1x16 ![0, 1, 3] bcast_S32768x8x16_S32768x8x1x16_0_1_3 ((tk y).1)))) shapeCasts_S32768x8x16x16_S32768x8x256

theorem cs_apply (t : Fin 32768) (h : Fin 8) (p : Fin 256) : cs x y (ix3 t h p) = total (column x h t) (column y h t) p := by
  unfold cs
  pointwise []
  rw [(tk_apply x _ _ _).1, (tk_apply y _ _ _).1]
  rfl

/-- The experts of the pairs. -/
def ci : IVec S32768x8x256 32 :=
  shapeCast S32768x8x256 (addi (broadcastInDim S32768x8x16x16 ![0, 1, 2, 3] bcast_S32768x8x16x1_S32768x8x16x16_0_1_2_3 (muli (broadcastInDim S32768x8x16x1 ![0, 1, 2] bcast_S32768x8x16_S32768x8x16x1_0_1_2 ((tk x).2)) (broadcastInDim S32768x8x16x1 ![] bcast_S_S32768x8x16x1 (constantI S_ 32 128#32)))) (broadcastInDim S32768x8x16x16 ![0, 1, 2, 3] bcast_S32768x8x1x16_S32768x8x16x16_0_1_2_3 (broadcastInDim S32768x8x1x16 ![0, 1, 3] bcast_S32768x8x16_S32768x8x1x16_0_1_3 ((tk y).2)))) shapeCasts_S32768x8x16x16_S32768x8x256

theorem ci_apply (t : Fin 32768) (h : Fin 8) (p : Fin 256) : ci x y (ix3 t h p) = expertOf (column x h t) (column y h t) p := by
  unfold ci
  pointwise []
  rw [(tk_apply x _ _ _).2, (tk_apply y _ _ _).2]
  rfl

/-- The best sums, with their places. -/
def tt : FVec Ideal S32768x8x16 .f32 × IVec S32768x8x16 32 :=
  Host.topK S32768x8x16 2 (FloatOps.cmpfTotal .gt) (cs x y) sliceFits_S32768x8x256_S32768x8x16

theorem tt_apply (t : Fin 32768) (h : Fin 8) (j : Fin 16) :
    (tt x y).1 (ix3 t h j) = total (column x h t) (column y h t) (pick (column x h t) (column y h t) j)
      ∧ (tt x y).2 (ix3 t h j) = BitVec.ofNat 32 (pick (column x h t) (column y h t) j).val := by
  have k := topK_apply (by decide : 16 ≤ 256) (cs x y) sliceFits_S32768x8x256_S32768x8x16 t h j
  rw [show (fun p => cs x y (ix3 t h p)) = total (column x h t) (column y h t) from funext fun p => cs_apply x y t h p] at k
  exact ⟨k.1.trans (cs_apply x y t h _), k.2⟩

theorem below : ∀ n : Fin 256, IntOp.cmpi .slt (BitVec.ofNat 32 n.val) 0#32 = 0#1 := by decide +kernel
theorem inside : ∀ n : Fin 256, IntOp.andi (IntOp.andi (IntOp.cmpi .sge (BitVec.ofNat 32 n.val) 0#32) (IntOp.cmpi .sle (BitVec.ofNat 32 n.val) 255#32)) 1#1 = 1#1 := by
  decide +kernel
theorem start : ∀ n : Fin 256, min (BitVec.ofNat 32 n.val).toInt.toNat (256 - 1) = n.val := by decide +kernel

/-- The gather along the pairs takes the pair that the place names. -/
theorem gather_apply (w : IVec S32768x8x16x1 32) (t : Fin 32768) (h : Fin 8) (j : Fin 16) (n : Fin 256)
    (hw : w (ix4 t h j 0) = BitVec.ofNat 32 n.val) :
    Host.gather gather_S32768x8x256_S32768x8x16x1_S32768x8x16_n_2_01_01_2_3_111 (ci x y) w (ix3 t h j) = ci x y (ix3 t h n) := by
  refine congrArg (ci x y) (funext fun a => Fin.ext ?_)
  have e : gather_S32768x8x256_S32768x8x16x1_S32768x8x16_n_2_01_01_2_3_111.start (ix3 t h j) w 2 = n.val := by
    refine Eq.trans ?_ (start n)
    rw [← hw]
    refine Eq.trans (dif_pos (List.mem_singleton.mpr rfl)) ?_
    refine congrArg (fun v : BitVec 32 => min v.toInt.toNat (256 - 1)) (congrArg w (funext fun b => ?_))
    fin_cases b <;> rfl
  fin_cases a
  · have e1 : gather_S32768x8x256_S32768x8x16x1_S32768x8x16_n_2_01_01_2_3_111.batchCoord (ix3 t h j) 0 = t.val := rfl
    exact (congrArg (fun k => 0 + k + 0) e1).trans (Nat.zero_add _)
  · have e1 : gather_S32768x8x256_S32768x8x16x1_S32768x8x16_n_2_01_01_2_3_111.batchCoord (ix3 t h j) 1 = h.val := rfl
    exact (congrArg (fun k => 0 + k + 0) e1).trans (Nat.zero_add _)
  · exact e

/-- The places as a gather takes them. -/
def wr : IVec S32768x8x16x1 32 :=
  shapeCast S32768x8x16x1 (select (cmpi .slt ((tt x y).2) (broadcastInDim S32768x8x16 ![] bcast_S_S32768x8x16 (constantI S_ 32 0#32))) (addi ((tt x y).2) (broadcastInDim S32768x8x16 ![] bcast_S_S32768x8x16 (constantI S_ 32 256#32))) ((tt x y).2)) shapeCasts_S32768x8x16_S32768x8x16x1

theorem wr_apply (t : Fin 32768) (h : Fin 8) (j : Fin 16) :
    wr x y (ix4 t h j 0) = BitVec.ofNat 32 (pick (column x h t) (column y h t) j).val := by
  unfold wr
  pointwise [(tt_apply x y t h j).2]
  rw [below]
  rfl

/-- The experts picked. -/
def picked : IVec S32768x8x16 32 :=
  select (Host.reduce IntOp.andi (andi (cmpi .sge (wr x y) (broadcastInDim S32768x8x16x1 ![] bcast_S_S32768x8x16x1 (constantI S_ 32 0#32))) (cmpi .sle (wr x y) (broadcastInDim S32768x8x16x1 ![0, 1, 2, 3] bcast_S1x1x1x1_S32768x8x16x1_0_1_2_3 (broadcastInDim S1x1x1x1 ![3] bcast_S1_S1x1x1x1_3 (constantI S1 32 255#32))))) (constantI S_ 1 1#1) reducesTo_S32768x8x16x1_S32768x8x16_d3 h_S_) (Host.gather gather_S32768x8x256_S32768x8x16x1_S32768x8x16_n_2_01_01_2_3_111 (ci x y) (wr x y)) (broadcastInDim S32768x8x16 ![] bcast_S_S32768x8x16 (constantI S_ 32 2147483648#32))

theorem picked_apply (t : Fin 32768) (h : Fin 8) (j : Fin 16) :
    picked x y (ix3 t h j) = expertOf (column x h t) (column y h t) (pick (column x h t) (column y h t) j) := by
  unfold picked
  pointwise []
  rw [show (Finset.univ : Finset (Fin 1)) = {0} from rfl, Finset.fold_singleton, wr_apply, inside, gather_apply x y _ t h j (pick (column x h t) (column y h t) j) (wr_apply x y t h j),
    ci_apply]
  rfl

/-- The greatest sum under each place. -/
def top : FVec Ideal S32768x8x16 .f32 := topOf ((tt x y).1)

theorem top_apply (t : Fin 32768) (h : Fin 8) (j : Fin 16) :
    top x y (ix3 t h j) = total (column x h t) (column y h t) (pick (column x h t) (column y h t) 0) := by
  refine (topOf_apply ((tt x y).1) t h j fun i k hik => ?_).trans (tt_apply x y t h 0).1
  show (tt x y).1 (ix3 t h k) ≤ (tt x y).1 (ix3 t h i)
  rw [(tt_apply x y t h i).1, (tt_apply x y t h k).1]
  exact at_anti (total (column x h t) (column y h t)) hik

/-- The weights before they are divided. -/
def ex : FVec Ideal S32768x8x16 .f32 :=
  Host.exp (subf ((tt x y).1) (top x y))

theorem ex_apply (t : Fin 32768) (h : Fin 8) (j : Fin 16) : ex x y (ix3 t h j) = weight (column x h t) (column y h t) j := by
  unfold ex weight
  pointwise [(tt_apply x y t h j).1, top_apply]

/-- The gates. -/
def gates : FVec Ideal S32768x8x16 .f32 :=
  Host.divf (ex x y) (broadcastInDim S32768x8x16 ![0, 1, 2] bcast_S32768x8x1_S32768x8x16_0_1_2 (broadcastInDim S32768x8x1 ![0, 1] bcast_S32768x8_S32768x8x1_0_1 (Host.reduceAdd (ex x y) (constant S_ .f32 0x00000000#32) reducesTo_S32768x8x16_S32768x8_d2 h_S_)))

theorem gates_apply (t : Fin 32768) (h : Fin 8) (j : Fin 16) : gates x y (ix3 t h j) = gate (column x h t) (column y h t) j := by
  unfold gates gate
  pointwise [ex_apply]

variable (m : (ℓ : Loc nD τ sig) → Buf (Elt Ideal) ℓ)

/-- The arguments of a device, as arrays of extended reals. -/
abbrev a0 (c : Dev nD) : FVec Ideal S8x128x32768 .f32 := m ((c.tc : Thread nD τ).loc main_arg0)
abbrev a1 (c : Dev nD) : FVec Ideal S8x128x32768 .f32 := m ((c.tc : Thread nD τ).loc main_arg1)

theorem ids_eq (c : Dev nD) : res_main_v31 m c = transpose S256x128x128 [0, 2, 1] (shapeCast S256x128x128 (shapeCast S32768x128 (picked (a0 m c) (a1 m c)) shapeCasts_S32768x8x16_S32768x128) shapeCasts_S32768x128_S256x128x128) transposes_S256x128x128_S256x128x128_0_2_1 := rfl
theorem gates_eq (c : Dev nD) : res_main_v33 m c = transpose S256x128x128 [0, 2, 1] (shapeCast S256x128x128 (shapeCast S32768x128 (gates (a0 m c) (a1 m c)) shapeCasts_S32768x8x16_S32768x128) shapeCasts_S32768x128_S256x128x128) transposes_S256x128x128_S256x128x128_0_2_1 := rfl

/-- A lane's token. -/
def token (g : Fin 256) (l : Fin 128) : Fin 32768 := ⟨g.val * 128 + l.val, by omega⟩
/-- A row's head. -/
def headOf (r : Fin 128) : Fin 8 := ⟨r.val / 16, by omega⟩
/-- A row's place among its head's. -/
def rankOf (r : Fin 128) : Fin 16 := ⟨r.val % 16, by omega⟩

theorem ids_apply (c : Dev nD) (g : Fin 256) (r l : Fin 128) : (res_main_v31 m c : S256x128x128.Idx → BitVec 32) (ix3 g r l)
    = picked (a0 m c) (a1 m c) (ix3 (token g l) (headOf r) (rankOf r)) := by
  rw [ids_eq]
  pointwise []
  rfl

theorem gatesRes_apply (c : Dev nD) (g : Fin 256) (r l : Fin 128) : (res_main_v33 m c : S256x128x128.Idx → EReal) (ix3 g r l)
    = gates (a0 m c) (a1 m c) (ix3 (token g l) (headOf r) (rankOf r)) := by
  rw [gates_eq]
  pointwise []
  rfl

end Cert.RouteReferenceIdeal.Read

end
-- ==== Proof.RouteEquation.lean ====
/- The routing and its reference leave the same experts and the same gates. -/
module

public import proofs.«01_k».proof.Defs
public import proofs.«01_k».proof.Proof.RouteArray
public import proofs.«01_k».proof.Proof.RouteRead
public import Idealize.ShloMosaic.Adequacy
public import Idealize.ShloMosaic.Init

@[expose] public section

set_option maxRecDepth 16384

noncomputable section

namespace Cert.RouteEquation

open Idealize.ShloMosaic Idealize.SL.Sem Idealize.ShloMosaic.TcCoe Idealize.ShloMosaic.StableHlo

/-- What the precondition's statement takes for granted of its shapes. -/
instance above_facts : Cert.Pre_scores_above.Facts := ⟨by decide⟩

/-- The reference terminates and leaves its arguments as they were. -/
theorem reference_frame : Cert.quiescent_RouteReferenceIdeal (hRouteReferenceIdeal := Cert.RouteReferenceIdeal.Gen.facts) := fun m ρ _ =>
  (θ_run Cert.RouteReferenceIdeal.defs _ _).mono (fun r h => ⟨fun c => (h c).2.2, sem_eq_zero_of_no_sems (by decide) r.2⟩) (Cert.RouteReferenceIdeal.Value.run m ρ)

/-- One bit of a conjunction of two comparisons with the least number. -/
theorem both_above (a b : EReal) (h : IntOp.andi (FloatOps.cmpf (F := Ideal) (φ := .f32) .ogt a (Ideal.ofBits .f32 0xFF800000#32)) (FloatOps.cmpf (F := Ideal) (φ := .f32) .ogt b (Ideal.ofBits .f32 0xFF800000#32)) = 1#1) :
    ⊥ < a ∧ ⊥ < b := by
  rw [show Ideal.ofBits .f32 0xFF800000#32 = (⊥ : EReal) by simp [Ideal.ofBits, Ideal.ieee]] at h
  have e (c : EReal) : FloatOps.cmpf (F := Ideal) (φ := .f32) .ogt c (⊥ : EReal) = if ⊥ < c then 1#1 else 0#1 := by
    pointwise []
    by_cases hc : ⊥ < c <;> simp [hc]
  rw [e, e] at h
  by_cases ha : ⊥ < a <;> by_cases hb : ⊥ < b
  · exact ⟨ha, hb⟩
  · rw [if_pos ha, if_neg hb] at h; exact absurd h (by decide)
  · rw [if_neg ha, if_pos hb] at h; exact absurd h (by decide)
  · rw [if_neg ha, if_neg hb] at h; exact absurd h (by decide)

/-- The precondition says that no score is the least number. -/
theorem above (x y : FVec Ideal Cert.Pre_scores_above.S8x128x32768 .f32) (h : Cert.Pre_scores_above.fn (F := Ideal) x y = fun _ => 1#1)
    (i : Cert.Pre_scores_above.S8x128x32768.Idx) : ⊥ < (x i : EReal) ∧ ⊥ < (y i : EReal) :=
  both_above _ _ (congrFun h i)

variable (m : (ℓ : Loc Cert.RouteReferenceIdeal.nD Cert.RouteReferenceIdeal.τ Cert.RouteReferenceIdeal.sig) → Buf (Elt Ideal) ℓ)

/-- The reference's experts, as one array of the scores. -/
theorem reference_ids (c : Dev Cert.RouteReferenceIdeal.nD) : Cert.RouteReferenceIdeal.Value.res_main_v31 m c
    = Cert.RouteIdeal.Array.expertsOf (Cert.RouteReferenceIdeal.Read.a0 m c) (Cert.RouteReferenceIdeal.Read.a1 m c) := by
  funext i
  obtain ⟨g, r, l, rfl⟩ : ∃ (g : Fin 256) (r l : Fin 128), i = ix3 g r l := ⟨i 0, i 1, i 2, eq_ix3 i⟩
  exact (Cert.RouteReferenceIdeal.Read.ids_apply m c g r l).trans (Cert.RouteReferenceIdeal.Read.picked_apply _ _ _ _ _)

/-- The reference's gates, as one array of the scores. -/
theorem reference_gates (c : Dev Cert.RouteReferenceIdeal.nD) : Cert.RouteReferenceIdeal.Value.res_main_v33 m c
    = Cert.RouteIdeal.Array.gatesOf (Cert.RouteReferenceIdeal.Read.a0 m c) (Cert.RouteReferenceIdeal.Read.a1 m c) := by
  funext i
  obtain ⟨g, r, l, rfl⟩ : ∃ (g : Fin 256) (r l : Fin 128), i = ix3 g r l := ⟨i 0, i 1, i 2, eq_ix3 i⟩
  exact (Cert.RouteReferenceIdeal.Read.gatesRes_apply m c g r l).trans (Cert.RouteReferenceIdeal.Read.gates_apply _ _ _ _ _)

/-- From the same scores, none of them the least number, the routing and its reference leave the same experts and the same gates. -/
theorem value : Cert.algebraic_RouteIdeal_RouteReferenceIdeal_pre_scores_above (hRouteIdeal := Cert.RouteIdeal.Gen.facts)
    (hRouteReferenceIdeal := Cert.RouteReferenceIdeal.Gen.facts) (hPre_scores_above := above_facts) := by
  intro m ρ m' ρ' hp hag
  refine ⟨fun c => Cert.RouteIdeal.Array.G2 m c, fun c => Cert.RouteIdeal.Array.G3 m c, ?_, ?_⟩
  · refine (θ_run _ _ _).mono (fun r h c => ?_) (Cert.RouteIdeal.Value.run_blocks m ρ)
    have h0 := fun i => (above _ _ (hp c) i).1
    have h1 := fun i => (above _ _ (hp c) i).2
    exact ⟨(h c).1.trans (Cert.RouteIdeal.Array.final2 m c h0 h1), (h c).2.1.trans (Cert.RouteIdeal.Array.final3 m c h0 h1), (h c).2.2⟩
  · refine (θ_run _ _ _).mono (fun r h c => ?_) (Cert.RouteReferenceIdeal.Value.run m' ρ')
    obtain ⟨e0, e1⟩ := hag c
    refine ⟨((h c).1.trans (reference_ids m' c)).trans ?_, ((h c).2.1.trans (reference_gates m' c)).trans ?_, (h c).2.2⟩
    · exact congrArg₂ Cert.RouteIdeal.Array.expertsOf e0 e1
    · exact congrArg₂ Cert.RouteIdeal.Array.gatesOf e0 e1

end Cert.RouteEquation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init
public import proofs.«01_k».proof.Proof.Gen.Inproj.Frame
public import proofs.«01_k».proof.Proof.Gen.InprojIdeal.Frame
public import proofs.«01_k».proof.Proof.Gen.InprojIdeal.Value
public import proofs.«01_k».proof.Proof.Gen.InprojReferenceIdeal.Run
public import proofs.«01_k».proof.Proof.Gen.Mixout.Frame
public import proofs.«01_k».proof.Proof.Gen.MixoutIdeal.Frame
public import proofs.«01_k».proof.Proof.Gen.MixoutIdeal.Value
public import proofs.«01_k».proof.Proof.Gen.MixoutReferenceIdeal.Run
public import proofs.«01_k».proof.Proof.Gen.Peerq.Frame
public import proofs.«01_k».proof.Proof.Gen.PeerqIdeal.Frame
public import proofs.«01_k».proof.Proof.Gen.PeerqIdeal.Value
public import proofs.«01_k».proof.Proof.Gen.PeerqReferenceIdeal.Run
public import proofs.«01_k».proof.Proof.Gen.Prep.Frame
public import proofs.«01_k».proof.Proof.Gen.PrepIdeal.Frame
public import proofs.«01_k».proof.Proof.Gen.PrepIdeal.Value
public import proofs.«01_k».proof.Proof.Gen.PrepReferenceIdeal.Run
public import proofs.«01_k».proof.Proof.DsaFrame
public import proofs.«01_k».proof.Proof.Gen.Route.Frame
public import proofs.«01_k».proof.Proof.Gen.RouteIdeal.Frame
public import proofs.«01_k».proof.Proof.Gen.RouteIdeal.Value
public import proofs.«01_k».proof.Proof.Gen.RouteReferenceIdeal.Run
public import proofs.«01_k».proof.Proof.Equation
public import proofs.«01_k».proof.Proof.InprojEquation
public import proofs.«01_k».proof.Proof.MixoutEquation
public import proofs.«01_k».proof.Proof.PeerqEquation
public import proofs.«01_k».proof.Proof.PrepEquation
public import proofs.«01_k».proof.Proof.RouteEquation

@[expose] public section

noncomputable section

namespace Cert.Proof

open Idealize.ShloMosaic Idealize.SL.Sem Cert.Kernel

/-- Every claim of every program: the recurrence, the projections, the output projection, the key scores and
    the preparation of the keys, and the routing where no score is the least number; and the frame of the
    attention. -/
theorem claim : Cert.Claim := ⟨Cert.Kernel.Gen.facts, Cert.KernelIdeal.Gen.facts, Cert.ReferenceIdeal.Gen.facts,
  Cert.Inproj.Gen.facts, Cert.InprojIdeal.Gen.facts, Cert.InprojReferenceIdeal.Gen.facts,
  Cert.Mixout.Gen.facts, Cert.MixoutIdeal.Gen.facts, Cert.MixoutReferenceIdeal.Gen.facts,
  Cert.Peerq.Gen.facts, Cert.PeerqIdeal.Gen.facts, Cert.PeerqReferenceIdeal.Gen.facts,
  Cert.Prep.Gen.facts, Cert.PrepIdeal.Gen.facts, Cert.PrepReferenceIdeal.Gen.facts,
  Cert.Dsa.Gen.facts,
  Cert.Route.Gen.facts, Cert.RouteIdeal.Gen.facts, Cert.RouteReferenceIdeal.Gen.facts, Cert.RouteEquation.above_facts,
  fun m ρ _ => Cert.Kernel.Gen.frame m ρ, fun m ρ _ => Cert.KernelIdeal.Gen.frame m ρ, Cert.Equation.reference_frame,
  fun m ρ _ => Cert.Inproj.Gen.frame m ρ, fun m ρ _ => Cert.InprojIdeal.Gen.frame m ρ, Cert.InprojEquation.reference_frame,
  fun m ρ _ => Cert.Mixout.Gen.frame m ρ, fun m ρ _ => Cert.MixoutIdeal.Gen.frame m ρ, Cert.MixoutEquation.reference_frame,
  fun m ρ _ => Cert.Peerq.Gen.frame m ρ, fun m ρ _ => Cert.PeerqIdeal.Gen.frame m ρ, Cert.PeerqEquation.reference_frame,
  fun m ρ _ => Cert.Prep.Gen.frame m ρ, fun m ρ _ => Cert.PrepIdeal.Gen.frame m ρ, Cert.PrepEquation.reference_frame,
  fun m ρ _ => Cert.DsaFrame.arguments_kept m ρ,
  fun m ρ _ => Cert.Route.Gen.frame m ρ, fun m ρ _ => Cert.RouteIdeal.Gen.frame m ρ, fun m ρ _ => Cert.RouteIdeal.Gen.frame m ρ,
  Cert.RouteEquation.reference_frame, fun m ρ _ => Cert.RouteEquation.reference_frame m ρ trivial,
  trivial, Cert.Equation.value,
  trivial, Cert.InprojEquation.value,
  trivial, Cert.MixoutEquation.value,
  trivial, Cert.PeerqEquation.value,
  trivial, Cert.PrepEquation.value,
  trivial, Cert.RouteEquation.value⟩

end Cert.Proof

end
